-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v28)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v28) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v62) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v30_0)) (v1 : (c : Dev Cert.Kernel14Ideal.nD) → Buf (Elt Ideal) ((c.tc : Thread Cert.Kernel14Ideal.nD Cert.Kernel14Ideal.τ).loc Cert.Kernel14Ideal.main_v30_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v30_0) = v0 c
          ∧ r.2.mem ((c.tc : Thread Cert.Kernel14Ideal.nD Cert.Kernel14Ideal.τ).loc Cert.Kernel14Ideal.main_v30_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v61) = v0 c
          ∧ r.2.mem ((c.tc : Thread Cert.Reference14Ideal.nD Cert.Reference14Ideal.τ).loc Cert.Reference14Ideal.main_v63) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2x8192x4096 : Shape := ⟨3, ![2, 8192, 4096]⟩
abbrev S2x8192x2048 : Shape := ⟨3, ![2, 8192, 2048]⟩
abbrev S_ : Shape := ⟨0, ![]⟩

class Facts : Prop where
  bitsLt_bf16_f32 : FTy.bits .bf16 < FTy.bits .f32
  bcast_S_S2x8192x4096 : S_.BroadcastsInDim S2x8192x4096 (![] : Fin 0 → Fin S2x8192x4096.rank)

variable [Facts]

def fn {F : FTy → Type} [FloatOps F] (main_arg0 : FVec F S2x8192x4096 .bf16) (main_arg1 : FVec F S2x8192x4096 .bf16) (main_arg2 : FVec F S2x8192x2048 .bf16) : IVec S2x8192x4096 1 × IVec S2x8192x4096 1 :=
  let main_v0 : FVec F S2x8192x4096 .f32 := (extf .f32 · bitsLt_bf16_f32) main_arg0
  let main_v1 : FVec F S2x8192x4096 .f32 := Host.absf main_v0
  let main_cst : FVec F S_ .f32 := constant S_ .f32 0x7F800000#32
  let main_v2 : FVec F S2x8192x4096 .f32 := broadcastInDim S2x8192x4096 ![] bcast_S_S2x8192x4096 main_cst
  let main_v3 : IVec S2x8192x4096 1 := cmpf .olt main_v1 main_v2
  let main_v4 : FVec F S2x8192x4096 .f32 := (extf .f32 · bitsLt_bf16_f32) main_arg1
  let main_v5 : FVec F S2x8192x4096 .f32 := Host.absf main_v4
  let main_cst_0 : FVec F S_ .f32 := constant S_ .f32 0x7F800000#32
  let main_v6 : FVec F S2x8192x4096 .f32 := broadcastInDim S2x8192x4096 ![] bcast_S_S2x8192x4096 main_cst_0
  let main_v7 : IVec S2x8192x4096 1 := cmpf .olt main_v5 main_v6
  (main_v3, main_v7)
-- ==== Kernel.lean ====
abbrev S2x8192x4096 : Shape := ⟨3, ![2, 8192, 4096]⟩
abbrev S2x8192x2048 : Shape := ⟨3, ![2, 8192, 2048]⟩
abbrev S1x1024x1024 : Shape := ⟨3, ![1, 1024, 1024]⟩
abbrev S1x8192x1024 : Shape := ⟨3, ![1, 8192, 1024]⟩
abbrev S1x8192x512 : Shape := ⟨3, ![1, 8192, 512]⟩
abbrev S1x1024x512 : Shape := ⟨3, ![1, 1024, 512]⟩
abbrev S4096x128 : Shape := ⟨2, ![4096, 128]⟩
abbrev S1x1024x256 : Shape := ⟨3, ![1, 1024, 256]⟩
abbrev S1024x256 : Shape := ⟨2, ![1024, 256]⟩
abbrev S1024x1024 : Shape := ⟨2, ![1024, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x768x256 : Shape := ⟨3, ![1, 768, 256]⟩
abbrev S768x256 : Shape := ⟨2, ![768, 256]⟩
abbrev S768x128 : Shape := ⟨2, ![768, 128]⟩
abbrev S768 : Shape := ⟨1, ![768]⟩
abbrev S768x1 : Shape := ⟨2, ![768, 1]⟩
abbrev S1x512x256 : Shape := ⟨3, ![1, 512, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x2048, .bf16⟩
  | .hbm, ⟨3, _⟩ => ⟨S2x8192x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x8192x1024, .bf16⟩
  | .local _ .vmem, ⟨3, _⟩ => ⟨S1x8192x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_9 : BitVec 32 := 1#32
  ⟨c0_i32_7, v17, c1_i32_9⟩
def k0_mult1 (i : grid0.Coords) (k0_t1 : Fin (k0_t1_loop i).trips) : BitVec 32 :=
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  v886
def k0_off1 (i : grid0.Coords) (k0_t1 : Fin (k0_t1_loop i).trips) : Fin 3 → Nat :=
  let c0_434 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v890 : Index := Scalar.indexCast v887
  let c0_435 : Index := 0#32
  ![0, v890.toNat, 0]
def k0_off2 (i : grid0.Coords) (k0_t1 : Fin (k0_t1_loop i).trips) : Fin 3 → Nat :=
  let c0_437 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v894 : Index := Scalar.indexCast v887
  let c0_438 : Index := 0#32
  ![0, v894.toNat, 0]
def k0_off3 (i : grid0.Coords) (k0_t1 : Fin (k0_t1_loop i).trips) : Fin 3 → Nat :=
  let c0_456 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v962 : Index := Scalar.indexCast v887
  let c256_457 : Index := 256#32
  ![0, v962.toNat, 256]
def k0_off4 (i : grid0.Coords) (k0_t1 : Fin (k0_t1_loop i).trips) : Fin 3 → Nat :=
  let c0_459 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v966 : Index := Scalar.indexCast v887
  let c128_460 : Index := 128#32
  ![0, v966.toNat, 128]
def k0_off5 (i : grid0.Coords) (k0_t1 : Fin (k0_t1_loop i).trips) : Fin 3 → Nat :=
  let c0_478 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v1034 : Index := Scalar.indexCast v887
  let c512_479 : Index := 512#32
  ![0, v1034.toNat, 512]
def k0_off6 (i : grid0.Coords) (k0_t1 : Fin (k0_t1_loop i).trips) : Fin 3 → Nat :=
  let c0_481 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v1038 : Index := Scalar.indexCast v887
  let c256_482 : Index := 256#32
  ![0, v1038.toNat, 256]
def k0_off7 (i : grid0.Coords) (k0_t1 : Fin (k0_t1_loop i).trips) : Fin 3 → Nat :=
  let c0_500 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v1106 : Index := Scalar.indexCast v887
  let c768_501 : Index := 768#32
  ![0, v1106.toNat, 768]
def k0_off8 (i : grid0.Coords) (k0_t1 : Fin (k0_t1_loop i).trips) : Fin 3 → Nat :=
  let c0_503 : Index := 0#32
  let c0_i32_7 : BitVec 32 := 0#32
  let c1_i32_9 : BitVec 32 := 1#32
  let arg10 : BitVec 32 := Scf.iv c0_i32_7 c1_i32_9 k0_t1
  let c1024_i32_430 : BitVec 32 := 1024#32
  let v886 : BitVec 32 := Scalar.muli arg10 c1024_i32_430
  let v887 : BitVec 32 := v886
  let v1110 : Index := Scalar.indexCast v887
  let c384_504 : Index := 384#32
  ![0, v1110.toNat, 384]
@[reducible] def k0_t2_loop (i : grid0.Coords) : Scf.Loop 32 :=
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let v14 : BitVec 32 := Scalar.addi c0_i32_7 v13
  let c1_i32_10 : BitVec 32 := 1#32
  ⟨v17, v14, c1_i32_10⟩
def k0_mult2 (i : grid0.Coords) (k0_t2 : Fin (k0_t2_loop i).trips) : BitVec 32 :=
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  v886
def k0_off9 (i : grid0.Coords) (k0_t2 : Fin (k0_t2_loop i).trips) : Fin 3 → Nat :=
  let c0_434 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v890 : Index := Scalar.indexCast v887
  let c0_435 : Index := 0#32
  ![0, v890.toNat, 0]
def k0_off10 (i : grid0.Coords) (k0_t2 : Fin (k0_t2_loop i).trips) : Fin 3 → Nat :=
  let c0_437 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v894 : Index := Scalar.indexCast v887
  let c0_438 : Index := 0#32
  ![0, v894.toNat, 0]
def k0_off11 (i : grid0.Coords) (k0_t2 : Fin (k0_t2_loop i).trips) : Fin 3 → Nat :=
  let c0_456 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v962 : Index := Scalar.indexCast v887
  let c256_457 : Index := 256#32
  ![0, v962.toNat, 256]
def k0_off12 (i : grid0.Coords) (k0_t2 : Fin (k0_t2_loop i).trips) : Fin 3 → Nat :=
  let c0_459 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v966 : Index := Scalar.indexCast v887
  let c128_460 : Index := 128#32
  ![0, v966.toNat, 128]
def k0_off13 (i : grid0.Coords) (k0_t2 : Fin (k0_t2_loop i).trips) : Fin 3 → Nat :=
  let c0_478 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v1034 : Index := Scalar.indexCast v887
  let c512_479 : Index := 512#32
  ![0, v1034.toNat, 512]
def k0_off14 (i : grid0.Coords) (k0_t2 : Fin (k0_t2_loop i).trips) : Fin 3 → Nat :=
  let c0_481 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v1038 : Index := Scalar.indexCast v887
  let c256_482 : Index := 256#32
  ![0, v1038.toNat, 256]
def k0_off15 (i : grid0.Coords) (k0_t2 : Fin (k0_t2_loop i).trips) : Fin 3 → Nat :=
  let c0_500 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v1106 : Index := Scalar.indexCast v887
  let c768_501 : Index := 768#32
  ![0, v1106.toNat, 768]
def k0_off16 (i : grid0.Coords) (k0_t2 : Fin (k0_t2_loop i).trips) : Fin 3 → Nat :=
  let c0_503 : Index := 0#32
  let c0_i32_7 : BitVec 32 := 0#32
  let arg2 : BitVec 32 := BitVec.ofNat 32 (i 2).val
  let c1_i32 : BitVec 32 := 1#32
  let v12 : BitVec 32 := Scalar.muli arg2 c1_i32
  let v13 : BitVec 32 := Scalar.subi v12 c0_i32_7
  let c1_i32_8 : BitVec 32 := 1#32
  let v15 : BitVec 32 := Scalar.divsi v13 c1_i32_8
  let v16 : BitVec 32 := Scalar.muli v15 c1_i32_8
  let v17 : BitVec 32 := Scalar.addi c0_i32_7 v16
  let c1_i32_10 : BitVec 32 := 1#32
  let arg10 : BitVec 32 := Scf.iv v17 c1_i32_10 k0_t2
  let c1024_i32_430 : BitVec 32 := 1024#32
  let v886 : BitVec 32 := Scalar.muli arg10 c1024_i32_430
  let v887 : BitVec 32 := v886
  let v1110 : Index := Scalar.indexCast v887
  let c384_504 : Index := 384#32
  ![0, v1110.toNat, 384]
def k0_mult3 (i : grid0.Coords) : BitVec 32 :=
  let arg2 : BitVec 32 := BitVec.ofNat 32 (i 2).val
  let c1024_i32 : BitVec 32 := 1024#32
  let v18 : BitVec 32 := Scalar.muli arg2 c1024_i32
  let c0_i32_11 : BitVec 32 := 0#32
  let v19 : BitVec 32 := Scalar.addi v18 c0_i32_11
  v19
def k0_off17 (i : grid0.Coords) (c0_i32_11 : BitVec 32) : Fin 3 → Nat :=
  let c0_15 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v23 : Index := Scalar.indexCast v20
  let c0_16 : Index := 0#32
  ![0, v23.toNat, 0]
def k0_off18 (i : grid0.Coords) (c0_i32_11 : BitVec 32) : Fin 3 → Nat :=
  let c0_21 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v36 : Index := Scalar.indexCast v20
  let c0_22 : Index := 0#32
  ![0, v36.toNat, 0]
def k0_off19 (i : grid0.Coords) (c0_i32_11 : BitVec 32) : Fin 3 → Nat :=
  let c0_39 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v74 : Index := Scalar.indexCast v20
  let c256_40 : Index := 256#32
  ![0, v74.toNat, 256]
def k0_off20 (i : grid0.Coords) (c0_i32_11 : BitVec 32) : Fin 3 → Nat :=
  let c0_45 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v87 : Index := Scalar.indexCast v20
  let c128 : Index := 128#32
  ![0, v87.toNat, 128]
def k0_off21 (i : grid0.Coords) (c0_i32_11 : BitVec 32) : Fin 3 → Nat :=
  let c0_61 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v125 : Index := Scalar.indexCast v20
  let c512_62 : Index := 512#32
  ![0, v125.toNat, 512]
def k0_off22 (i : grid0.Coords) (c0_i32_11 : BitVec 32) : Fin 3 → Nat :=
  let c0_67 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v138 : Index := Scalar.indexCast v20
  let c256_68 : Index := 256#32
  ![0, v138.toNat, 256]
def k0_off23 (i : grid0.Coords) (c0_i32_11 : BitVec 32) : Fin 3 → Nat :=
  let c0_84 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v176 : Index := Scalar.indexCast v20
  let c768_85 : Index := 768#32
  ![0, v176.toNat, 768]
def k0_off24 (i : grid0.Coords) (c0_i32_11 : BitVec 32) : Fin 3 → Nat :=
  let c0_90 : Index := 0#32
  let arg2 : BitVec 32 := BitVec.ofNat 32 (i 2).val
  let c1024_i32 : BitVec 32 := 1024#32
  let v18 : BitVec 32 := Scalar.muli arg2 c1024_i32
  let v19 : BitVec 32 := Scalar.addi v18 c0_i32_11
  let v20 : BitVec 32 := v19
  let v189 : Index := Scalar.indexCast v20
  let c384 : Index := 384#32
  ![0, v189.toNat, 384]
def k0_mult4 (i : grid0.Coords) : BitVec 32 :=
  let arg2 : BitVec 32 := BitVec.ofNat 32 (i 2).val
  let c1024_i32_104 : BitVec 32 := 1024#32
  let v225 : BitVec 32 := Scalar.muli arg2 c1024_i32_104
  let c256_i32 : BitVec 32 := 256#32
  let v226 : BitVec 32 := Scalar.addi v225 c256_i32
  v226
def k0_mult5 (i : grid0.Coords) : BitVec 32 :=
  let arg2 : BitVec 32 := BitVec.ofNat 32 (i 2).val
  let c1024_i32_202 : BitVec 32 := 1024#32
  let v432 : BitVec 32 := Scalar.muli arg2 c1024_i32_202
  let c512_i32 : BitVec 32 := 512#32
  let v433 : BitVec 32 := Scalar.addi v432 c512_i32
  v433
def k0_mult6 (i : grid0.Coords) : BitVec 32 :=
  let arg2 : BitVec 32 := BitVec.ofNat 32 (i 2).val
  let c1024_i32_300 : BitVec 32 := 1024#32
  let v639 : BitVec 32 := Scalar.muli arg2 c1024_i32_300
  let c768_i32 : BitVec 32 := 768#32
  let v640 : BitVec 32 := Scalar.addi v639 c768_i32
  v640
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x4096 : Shape := ⟨3, ![2, 8192, 4096]⟩
abbrev S2x8192x2048 : Shape := ⟨3, ![2, 8192, 2048]⟩
abbrev S2x8192x16x256 : Shape := ⟨4, ![2, 8192, 16, 256]⟩
abbrev S2x8192x16x128 : Shape := ⟨4, ![2, 8192, 16, 128]⟩
abbrev S2x16x8192x8192 : Shape := ⟨4, ![2, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x16x128x8192 : Shape := ⟨4, ![2, 16, 128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x2048, .bf16⟩
  | .hbm, ⟨3, _⟩ => ⟨S2x8192x4096, .f32⟩
  | .hbm, ⟨4, _⟩ => ⟨S2x8192x16x256, .f32⟩
  | .hbm, ⟨5, _⟩ => ⟨S2x8192x4096, .f32⟩
  | .hbm, ⟨6, _⟩ => ⟨S2x8192x16x256, .f32⟩
  | .hbm, ⟨7, _⟩ => ⟨S2x8192x2048, .f32⟩
  | .hbm, ⟨8, _⟩ => ⟨S2x8192x16x128, .f32⟩
  | .hbm, ⟨9, _⟩ => ⟨S2x16x8192x8192, .f32⟩
  | .hbm, ⟨10, _⟩ => ⟨S_, .f32⟩
  | .hbm, ⟨11, _⟩ => ⟨S_, .f32⟩
  | .hbm, ⟨12, _⟩ => ⟨S2x16x8192x8192, .f32⟩
  | .hbm, ⟨13, _⟩ => ⟨S2x16x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x1x8192x8192, .i1⟩
  | .hbm, ⟨21, _⟩ => ⟨S_, .f32⟩
  | .hbm, ⟨22, _⟩ => ⟨S_, .f32⟩
  | .hbm, ⟨23, _⟩ => ⟨S2x16x8192x8192, .i1⟩
  | .hbm, ⟨24, _⟩ => ⟨S2x16x8192x8192, .f32⟩
  | .hbm, ⟨25, _⟩ => ⟨S2x16x8192x8192, .f32⟩
  | .hbm, ⟨26, _⟩ => ⟨S_, .f32⟩
  | .hbm, ⟨27, _⟩ => ⟨S2x16x8192, .f32⟩
  | .hbm, ⟨28, _⟩ => ⟨S_, .f32⟩
  | .hbm, ⟨29, _⟩ => ⟨S2x16x8192, .f32⟩
  | .hbm, ⟨30, _⟩ => ⟨S2x16x8192, .f32⟩
  | .hbm, ⟨31, _⟩ => ⟨S2x16x8192x1, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S_, .f32⟩
  | .hbm, ⟨36, _⟩ => ⟨S2x16x8192, .f32⟩
  | .hbm, ⟨37, _⟩ => ⟨S2x16x8192x1, .f32⟩
  | .hbm, ⟨38, _⟩ => ⟨S2x16x8192x8192, .f32⟩
  | .hbm, ⟨39, _⟩ => ⟨S2x16x8192x8192, .f32⟩
  | .hbm, ⟨40, _⟩ => ⟨S2x16x128x8192, .f32⟩
  | .hbm, ⟨41, _⟩ => ⟨S2x8192x16x128, .f32⟩
  | .hbm, ⟨42, _⟩ => ⟨S2x8192x2048, .f32⟩
  | .hbm, ⟨43, _⟩ => ⟨S2x8192x2048, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

def κ : String → Option EReal := fun
  | "mask" => some ⊥
  | _ => none
-- ==== Kernel2.lean ====
abbrev S16384x2048 : Shape := ⟨2, ![16384, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S2048x11264 : Shape := ⟨2, ![2048, 11264]⟩
abbrev S3x11264 : Shape := ⟨2, ![3, 11264]⟩
abbrev S11264 : Shape := ⟨1, ![11264]⟩
abbrev S16384x5632 : Shape := ⟨2, ![16384, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S8x512 : Shape := ⟨2, ![8, 512]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S2048x11264, .f32⟩
  | .hbm, ⟨5, _⟩ => ⟨S2048x11264, .bf16⟩
  | .hbm, ⟨6, _⟩ => ⟨S3x11264, .f32⟩
  | .hbm, ⟨7, _⟩ => ⟨S11264, .f32⟩
  | .hbm, ⟨8, _⟩ => ⟨S1x11264, .f32⟩
  | .hbm, ⟨9, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x2048 : Shape := ⟨2, ![16384, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S2x8192x2048 : Shape := ⟨3, ![2, 8192, 2048]⟩
abbrev S2048x11264 : Shape := ⟨2, ![2048, 11264]⟩
abbrev S2x8192x11264 : Shape := ⟨3, ![2, 8192, 11264]⟩
abbrev S3x11264 : Shape := ⟨2, ![3, 11264]⟩
abbrev S11264 : Shape := ⟨1, ![11264]⟩
abbrev S_ : Shape := ⟨0, ![]⟩
abbrev S2x8194x11264 : Shape := ⟨3, ![2, 8194, 11264]⟩
abbrev S1x1x11264 : Shape := ⟨3, ![1, 1, 11264]⟩
abbrev S2x8192x5632 : Shape := ⟨3, ![2, 8192, 5632]⟩
abbrev S16384x5632 : Shape := ⟨2, ![16384, 5632]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x3x11264, .f32⟩
  | .hbm, ⟨3, _⟩ => ⟨S1x11264, .f32⟩
  | .hbm, ⟨4, _⟩ => ⟨S16384x2048, .f32⟩
  | .hbm, ⟨5, _⟩ => ⟨S2x8192x2048, .f32⟩
  | .hbm, ⟨6, _⟩ => ⟨S2048x11264, .f32⟩
  | .hbm, ⟨7, _⟩ => ⟨S2x8192x11264, .f32⟩
  | .hbm, ⟨8, _⟩ => ⟨S3x11264, .f32⟩
  | .hbm, ⟨9, _⟩ => ⟨S11264, .f32⟩
  | .hbm, ⟨10, _⟩ => ⟨S_, .i32⟩
  | .hbm, ⟨11, _⟩ => ⟨S_, .f32⟩
  | .hbm, ⟨12, _⟩ => ⟨S2x8194x11264, .f32⟩
  | .hbm, ⟨13, _⟩ => ⟨S2x8192x11264, .f32⟩
  | .hbm, ⟨14, _⟩ => ⟨S1x11264, .f32⟩
  | .hbm, ⟨15, _⟩ => ⟨S11264, .f32⟩
  | .hbm, ⟨16, _⟩ => ⟨S1x1x11264, .f32⟩
  | .hbm, ⟨17, _⟩ => ⟨S2x8192x11264, .f32⟩
  | .hbm, ⟨18, _⟩ => ⟨S2x8192x11264, .f32⟩
  | .hbm, ⟨19, _⟩ => ⟨S2x8192x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S2x8192x11264, .f32⟩
  | .hbm, ⟨24, _⟩ => ⟨S2x8192x11264, .f32⟩
  | .hbm, ⟨25, _⟩ => ⟨S2x8192x11264, .f32⟩
  | .hbm, ⟨26, _⟩ => ⟨S2x8192x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S2x8192x11264, .f32⟩
  | .hbm, ⟨31, _⟩ => ⟨S2x8192x11264, .f32⟩
  | .hbm, ⟨32, _⟩ => ⟨S2x8192x11264, .f32⟩
  | .hbm, ⟨33, _⟩ => ⟨S1x1x11264, .f32⟩
  | .hbm, ⟨34, _⟩ => ⟨S2x8192x11264, .f32⟩
  | .hbm, ⟨35, _⟩ => ⟨S2x8192x11264, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S_, .f32⟩
  | .hbm, ⟨41, _⟩ => ⟨S2x8192x5632, .f32⟩
  | .hbm, ⟨42, _⟩ => ⟨S2x8192x5632, .f32⟩
  | .hbm, ⟨43, _⟩ => ⟨S_, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S16384x5632, .f32⟩
  | .hbm, ⟨49, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel3.lean ====
abbrev S16384x2048 : Shape := ⟨2, ![16384, 2048]⟩
abbrev S16384x5632 : Shape := ⟨2, ![16384, 5632]⟩
abbrev S1x5632x2048 : Shape := ⟨3, ![1, 5632, 2048]⟩
abbrev S1x2048 : Shape := ⟨2, ![1, 2048]⟩
abbrev S5632x2048 : Shape := ⟨2, ![5632, 2048]⟩
abbrev S2048 : Shape := ⟨1, ![2048]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S1x5632x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S5632x2048, .f32⟩
  | .hbm, ⟨7, _⟩ => ⟨S5632x2048, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x5632, .bf16⟩
  | .local _ .vmem, ⟨3, _⟩ => ⟨S256x5632, .bf16⟩
  | .local _ .vmem, ⟨4, _⟩ => ⟨S5632x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S16384x5632 : Shape := ⟨2, ![16384, 5632]⟩
abbrev S1x5632x2048 : Shape := ⟨3, ![1, 5632, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S1x5632x2048, .f32⟩
  | .hbm, ⟨3, _⟩ => ⟨S16384x2048, .f32⟩
  | .hbm, ⟨4, _⟩ => ⟨S1x2048, .f32⟩
  | .hbm, ⟨5, _⟩ => ⟨S1x2048, .f32⟩
  | .hbm, ⟨6, _⟩ => ⟨S16384x5632, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S16384x2048, .f32⟩
  | .hbm, ⟨44, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x2048x2048 : Shape := ⟨3, ![1, 2048, 2048]⟩
abbrev S16384x4096 : Shape := ⟨2, ![16384, 4096]⟩
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S1x2048x2048, .f32⟩
  | .hbm, ⟨3, _⟩ => ⟨S1x2048x2048, .f32⟩
  | .hbm, ⟨4, _⟩ => ⟨S16384x4096, .f32⟩
  | .hbm, ⟨5, _⟩ => ⟨S16384x2048, .bf16⟩
  | .hbm, ⟨6, _⟩ => ⟨S16384x2048, .bf16⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x8192x2048 : Shape := ⟨3, ![2, 8192, 2048]⟩
abbrev S1x2048x2048 : Shape := ⟨3, ![1, 2048, 2048]⟩
abbrev S16384x4096 : Shape := ⟨2, ![16384, 4096]⟩
abbrev S2x8192x2x2048 : Shape := ⟨4, ![2, 8192, 2, 2048]⟩
abbrev S2x8192x1x2048 : Shape := ⟨4, ![2, 8192, 1, 2048]⟩
abbrev S2048x2048 : Shape := ⟨2, ![2048, 2048]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S1x2048x2048, .f32⟩
  | .hbm, ⟨3, _⟩ => ⟨S1x2048x2048, .f32⟩
  | .hbm, ⟨4, _⟩ => ⟨S16384x4096, .f32⟩
  | .hbm, ⟨5, _⟩ => ⟨S2x8192x2x2048, .f32⟩
  | .hbm, ⟨6, _⟩ => ⟨S2x8192x1x2048, .f32⟩
  | .hbm, ⟨7, _⟩ => ⟨S2x8192x2048, .f32⟩
  | .hbm, ⟨8, _⟩ => ⟨S2x8192x2048, .f32⟩
  | .hbm, ⟨9, _⟩ => ⟨S2048x2048, .f32⟩
  | .hbm, ⟨10, _⟩ => ⟨S2x8192x2048, .f32⟩
  | .hbm, ⟨11, _⟩ => ⟨S2x8192x2048, .f32⟩
  | .hbm, ⟨12, _⟩ => ⟨S2x8192x1x2048, .f32⟩
  | .hbm, ⟨13, _⟩ => ⟨S2x8192x2048, .f32⟩
  | .hbm, ⟨14, _⟩ => ⟨S2x8192x2048, .f32⟩
  | .hbm, ⟨15, _⟩ => ⟨S2048x2048, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S16384x2048, .f32⟩
  | .hbm, ⟨20, _⟩ => ⟨S16384x2048, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S16384x2048 : Shape := ⟨2, ![16384, 2048]⟩
abbrev S1x2x8192x256 : Shape := ⟨4, ![1, 2, 8192, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2x8192x256 : Shape := ⟨3, ![2, 8192, 256]⟩
abbrev S16384x256 : Shape := ⟨2, ![16384, 256]⟩
abbrev S2048x2048 : Shape := ⟨2, ![2048, 2048]⟩
abbrev S2048 : Shape := ⟨1, ![2048]⟩
abbrev S256x2048 : Shape := ⟨2, ![256, 2048]⟩
abbrev S1024x2048 : Shape := ⟨2, ![1024, 2048]⟩
abbrev S1024x256 : Shape := ⟨2, ![1024, 256]⟩
abbrev S2048x1024 : Shape := ⟨2, ![2048, 1024]⟩
abbrev S1x1024 : Shape := ⟨2, ![1, 1024]⟩
abbrev S256x1024 : Shape := ⟨2, ![256, 1024]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S1x2x8192x256, .f32⟩
  | .hbm, ⟨2, _⟩ => ⟨S1x2048x2048, .f32⟩
  | .hbm, ⟨3, _⟩ => ⟨S1x2048, .f32⟩
  | .hbm, ⟨4, _⟩ => ⟨S1x256x2048, .f32⟩
  | .hbm, ⟨5, _⟩ => ⟨S2x8192x256, .f32⟩
  | .hbm, ⟨6, _⟩ => ⟨S16384x256, .f32⟩
  | .hbm, ⟨7, _⟩ => ⟨S16384x256, .bf16⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S256x2048, .f32⟩
  | .hbm, ⟨13, _⟩ => ⟨S256x2048, .bf16⟩
  | .hbm, ⟨14, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .bf16⟩
  | .local _ .vmem, ⟨3, _⟩ => ⟨S1024x256, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x2048 : Shape := ⟨2, ![16384, 2048]⟩
abbrev S1x2x8192x256 : Shape := ⟨4, ![1, 2, 8192, 256]⟩
abbrev S1x2048x2048 : Shape := ⟨3, ![1, 2048, 2048]⟩
abbrev S1x2048 : Shape := ⟨2, ![1, 2048]⟩
abbrev S1x256x2048 : Shape := ⟨3, ![1, 256, 2048]⟩
abbrev S2x8192x2048 : Shape := ⟨3, ![2, 8192, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S2x8192x256 : Shape := ⟨3, ![2, 8192, 256]⟩
abbrev S256x2048 : Shape := ⟨2, ![256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2x8192x256, .f32⟩
  | .hbm, ⟨2, _⟩ => ⟨S1x2048x2048, .f32⟩
  | .hbm, ⟨3, _⟩ => ⟨S1x2048, .f32⟩
  | .hbm, ⟨4, _⟩ => ⟨S1x256x2048, .f32⟩
  | .hbm, ⟨5, _⟩ => ⟨S16384x2048, .f32⟩
  | .hbm, ⟨6, _⟩ => ⟨S2x8192x2048, .f32⟩
  | .hbm, ⟨7, _⟩ => ⟨S2048x2048, .f32⟩
  | .hbm, ⟨8, _⟩ => ⟨S2x8192x2048, .f32⟩
  | .hbm, ⟨9, _⟩ => ⟨S2048, .f32⟩
  | .hbm, ⟨10, _⟩ => ⟨S1x1x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S_, .f32⟩
  | .hbm, ⟨19, _⟩ => ⟨S2x8192x2048, .f32⟩
  | .hbm, ⟨20, _⟩ => ⟨S2x8192x2048, .f32⟩
  | .hbm, ⟨21, _⟩ => ⟨S2x8192x256, .f32⟩
  | .hbm, ⟨22, _⟩ => ⟨S256x2048, .f32⟩
  | .hbm, ⟨23, _⟩ => ⟨S2x8192x2048, .f32⟩
  | .hbm, ⟨24, _⟩ => ⟨S2x8192x2048, .f32⟩
  | .hbm, ⟨25, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel6.lean ====
abbrev S2x8192x2048 : Shape := ⟨3, ![2, 8192, 2048]⟩
abbrev S16384x2048 : Shape := ⟨2, ![16384, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x8192x2048 : Shape := ⟨3, ![2, 8192, 2048]⟩
abbrev S16384x2048 : Shape := ⟨2, ![16384, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .bf16⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S2x8192x2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S2048x2048, .f32⟩
  | .hbm, ⟨11, _⟩ => ⟨S2x8192x2048, .f32⟩
  | .hbm, ⟨12, _⟩ => ⟨S2x8192x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x2048, .f32⟩
  | .hbm, ⟨31, _⟩ => ⟨S2x8192x2048, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x2048, .f32⟩
  | .hbm, ⟨37, _⟩ => ⟨S2x8192x2048, .f32⟩
  | .hbm, ⟨38, _⟩ => ⟨S1x1x2048, .f32⟩
  | .hbm, ⟨39, _⟩ => ⟨S2x8192x2048, .f32⟩
  | .hbm, ⟨40, _⟩ => ⟨S2x8192x2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S16384x2048, .f32⟩
  | .hbm, ⟨45, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x4096 : Shape := ⟨2, ![2048, 4096]⟩
abbrev S16384x2048 : Shape := ⟨2, ![16384, 2048]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x4096, .f32⟩
  | .hbm, ⟨4, _⟩ => ⟨S2048x4096, .bf16⟩
  | .hbm, ⟨5, _⟩ => ⟨S16384x2048, .f32⟩
  | .hbm, ⟨6, _⟩ => ⟨S16384x2048, .bf16⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S2x8192x4096 : Shape := ⟨3, ![2, 8192, 4096]⟩
abbrev S_ : Shape := ⟨0, ![]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x4096, .f32⟩
  | .hbm, ⟨5, _⟩ => ⟨S2x8192x4096, .f32⟩
  | .hbm, ⟨6, _⟩ => ⟨S2x8192x4096, .f32⟩
  | .hbm, ⟨7, _⟩ => ⟨S_, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192x4096, .f32⟩
  | .hbm, ⟨12, _⟩ => ⟨S2x8192x4096, .f32⟩
  | .hbm, ⟨13, _⟩ => ⟨S16384x4096, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x2048 : Shape := ⟨2, ![2048, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S16384x2048, .bf16⟩
  | .hbm, ⟨7, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S_ : Shape := ⟨0, ![]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x2048, .f32⟩
  | .hbm, ⟨5, _⟩ => ⟨S_, .f32⟩
  | .hbm, ⟨6, _⟩ => ⟨S2x8192x2048, .f32⟩
  | .hbm, ⟨7, _⟩ => ⟨S2x8192x2048, .f32⟩
  | .hbm, ⟨8, _⟩ => ⟨S16384x2048, .f32⟩
  | .hbm, ⟨9, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x1024 : Shape := ⟨2, ![2048, 1024]⟩
abbrev S16384x2048 : Shape := ⟨2, ![16384, 2048]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x1024, .f32⟩
  | .hbm, ⟨4, _⟩ => ⟨S2048x1024, .bf16⟩
  | .hbm, ⟨5, _⟩ => ⟨S16384x2048, .f32⟩
  | .hbm, ⟨6, _⟩ => ⟨S16384x2048, .bf16⟩
  | .hbm, ⟨7, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S2x8192x1024 : Shape := ⟨3, ![2, 8192, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x1024, .f32⟩
  | .hbm, ⟨5, _⟩ => ⟨S16384x1024, .f32⟩
  | .hbm, ⟨6, _⟩ => ⟨S16384x1024, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x1088 : Shape := ⟨2, ![2048, 1088]⟩
abbrev S_ : Shape := ⟨0, ![]⟩
abbrev S2048x1152 : Shape := ⟨2, ![2048, 1152]⟩
abbrev S16384x2048 : Shape := ⟨2, ![16384, 2048]⟩
abbrev S16384x1152 : Shape := ⟨2, ![16384, 1152]⟩
abbrev S1024x2048 : Shape := ⟨2, ![1024, 2048]⟩
abbrev S1024x1152 : Shape := ⟨2, ![1024, 1152]⟩

abbrev nBuf : Space → Nat
  | .hbm => 11
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x1088, .f32⟩
  | .hbm, ⟨4, _⟩ => ⟨S_, .i32⟩
  | .hbm, ⟨5, _⟩ => ⟨S_, .f32⟩
  | .hbm, ⟨6, _⟩ => ⟨S2048x1152, .f32⟩
  | .hbm, ⟨7, _⟩ => ⟨S2048x1152, .bf16⟩
  | .hbm, ⟨8, _⟩ => ⟨S16384x2048, .f32⟩
  | .hbm, ⟨9, _⟩ => ⟨S16384x2048, .bf16⟩
  | .hbm, ⟨10, _⟩ => ⟨S16384x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S2x8192x1088 : Shape := ⟨3, ![2, 8192, 1088]⟩
abbrev S16384x1088 : Shape := ⟨2, ![16384, 1088]⟩
abbrev S_ : Shape := ⟨0, ![]⟩
abbrev S16384x1152 : Shape := ⟨2, ![16384, 1152]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x1088, .f32⟩
  | .hbm, ⟨5, _⟩ => ⟨S16384x1088, .f32⟩
  | .hbm, ⟨6, _⟩ => ⟨S_, .i32⟩
  | .hbm, ⟨7, _⟩ => ⟨S_, .f32⟩
  | .hbm, ⟨8, _⟩ => ⟨S16384x1152, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x256 : Shape := ⟨2, ![2048, 256]⟩
abbrev S16384x2048 : Shape := ⟨2, ![16384, 2048]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x256, .f32⟩
  | .hbm, ⟨4, _⟩ => ⟨S2048x256, .bf16⟩
  | .hbm, ⟨5, _⟩ => ⟨S16384x2048, .f32⟩
  | .hbm, ⟨6, _⟩ => ⟨S16384x2048, .bf16⟩
  | .hbm, ⟨7, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .bf16⟩
  | .local _ .vmem, ⟨4, _⟩ => ⟨S1024x256, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S2x8192x256 : Shape := ⟨3, ![2, 8192, 256]⟩
abbrev S16384x256 : Shape := ⟨2, ![16384, 256]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x256, .f32⟩
  | .hbm, ⟨5, _⟩ => ⟨S16384x256, .f32⟩
  | .hbm, ⟨6, _⟩ => ⟨S16384x256, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2048x80 : Shape := ⟨2, ![2048, 80]⟩
abbrev S_ : Shape := ⟨0, ![]⟩
abbrev S2048x128 : Shape := ⟨2, ![2048, 128]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2048x80, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S16384x2048, .f32⟩
  | .hbm, ⟨9, _⟩ => ⟨S16384x2048, .bf16⟩
  | .hbm, ⟨10, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2x8192x2048 : Shape := ⟨3, ![2, 8192, 2048]⟩
abbrev S1x2048x8592 : Shape := ⟨3, ![1, 2048, 8592]⟩
abbrev S2048x8592 : Shape := ⟨2, ![2048, 8592]⟩
abbrev S2x8192x8592 : Shape := ⟨3, ![2, 8192, 8592]⟩
abbrev S2x8192x80 : Shape := ⟨3, ![2, 8192, 80]⟩
abbrev S16384x80 : Shape := ⟨2, ![16384, 80]⟩
abbrev S_ : Shape := ⟨0, ![]⟩
abbrev S16384x128 : Shape := ⟨2, ![16384, 128]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8592, .f32⟩
  | .hbm, ⟨2, _⟩ => ⟨S2048x8592, .f32⟩
  | .hbm, ⟨3, _⟩ => ⟨S2x8192x8592, .f32⟩
  | .hbm, ⟨4, _⟩ => ⟨S2x8192x80, .f32⟩
  | .hbm, ⟨5, _⟩ => ⟨S16384x80, .f32⟩
  | .hbm, ⟨6, _⟩ => ⟨S_, .i32⟩
  | .hbm, ⟨7, _⟩ => ⟨S_, .f32⟩
  | .hbm, ⟨8, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S16384x1152 : Shape := ⟨2, ![16384, 1152]⟩
abbrev S1x512 : Shape := ⟨2, ![1, 512]⟩
abbrev S1x512x16x192 : Shape := ⟨4, ![1, 512, 16, 192]⟩
abbrev S512x16x192 : Shape := ⟨3, ![512, 16, 192]⟩
abbrev S_ : Shape := ⟨0, ![]⟩
abbrev S512x16x256 : Shape := ⟨3, ![512, 16, 256]⟩
abbrev S512x4096 : Shape := ⟨2, ![512, 4096]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S512 : Shape := ⟨1, ![512]⟩
abbrev S16384x4096 : Shape := ⟨2, ![16384, 4096]⟩
abbrev S512x512 : Shape := ⟨2, ![512, 512]⟩
abbrev S512x128 : Shape := ⟨2, ![512, 128]⟩
abbrev S512x1 : Shape := ⟨2, ![512, 1]⟩

abbrev nBuf : Space → Nat
  | .hbm => 39
  | .vmem => 10
  | .smem => 0
  | _ => 0

abbrev bufTy : (tb : Table) → Fin (tcTables nBuf tb) → BufTy
  | .hbm, ⟨0, _⟩ => ⟨S16384x1152, .f32⟩
  | .hbm, ⟨1, _⟩ => ⟨S1x512, .f32⟩
  | .hbm, ⟨2, _⟩ => ⟨S1x512x16x192, .f32⟩
  | .hbm, ⟨3, _⟩ => ⟨S512x16x192, .f32⟩
  | .hbm, ⟨4, _⟩ => ⟨S_, .i32⟩
  | .hbm, ⟨5, _⟩ => ⟨S_, .f32⟩
  | .hbm, ⟨6, _⟩ => ⟨S512x16x256, .f32⟩
  | .hbm, ⟨7, _⟩ => ⟨S512x4096, .f32⟩
  | .hbm, ⟨8, _⟩ => ⟨S512x4096, .bf16⟩
  | .hbm, ⟨9, _⟩ => ⟨S8192, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S_, .f32⟩
  | .hbm, ⟨32, _⟩ => ⟨S8192x64, .f32⟩
  | .hbm, ⟨33, _⟩ => ⟨S8192x128, .f32⟩
  | .hbm, ⟨34, _⟩ => ⟨S8192x32, .f32⟩
  | .hbm, ⟨35, _⟩ => ⟨S8192x128, .f32⟩
  | .hbm, ⟨36, _⟩ => ⟨S512, .f32⟩
  | .hbm, ⟨37, _⟩ => ⟨S1x512, .f32⟩
  | .hbm, ⟨38, _⟩ => ⟨S16384x4096, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S512x4096, .bf16⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S16384x1152 : Shape := ⟨2, ![16384, 1152]⟩
abbrev S1x512 : Shape := ⟨2, ![1, 512]⟩
abbrev S1x512x16x192 : Shape := ⟨4, ![1, 512, 16, 192]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S2x8192x1152 : Shape := ⟨3, ![2, 8192, 1152]⟩
abbrev S2x8192x512 : Shape := ⟨3, ![2, 8192, 512]⟩
abbrev S512 : Shape := ⟨1, ![512]⟩
abbrev S2x8192 : Shape := ⟨2, ![2, 8192]⟩
abbrev S2x8192x1 : Shape := ⟨3, ![2, 8192, 1]⟩
abbrev S1x1x512 : Shape := ⟨3, ![1, 1, 512]⟩
abbrev S512x16x192 : Shape := ⟨3, ![512, 16, 192]⟩
abbrev S2x8192x16x192 : Shape := ⟨4, ![2, 8192, 16, 192]⟩
abbrev S2x8192x16x128 : Shape := ⟨4, ![2, 8192, 16, 128]⟩
abbrev S2x8192x16x64 : Shape := ⟨4, ![2, 8192, 16, 64]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x16x256 : Shape := ⟨4, ![2, 8192, 16, 256]⟩
abbrev S16384x4096 : Shape := ⟨2, ![16384, 4096]⟩

abbrev nBuf : Space → Nat
  | .hbm => 76
  | .vmem => 0
  | .smem => 0
  | _ => 0

abbrev bufTy : (tb : Table) → Fin (tcTables nBuf tb) → BufTy
  | .hbm, ⟨0, _⟩ => ⟨S16384x1152, .f32⟩
  | .hbm, ⟨1, _⟩ => ⟨S1x512, .f32⟩
  | .hbm, ⟨2, _⟩ => ⟨S1x512x16x192, .f32⟩
  | .hbm, ⟨3, _⟩ => ⟨S8192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S2x8192x1152, .f32⟩
  | .hbm, ⟨26, _⟩ => ⟨S2x8192x512, .f32⟩
  | .hbm, ⟨27, _⟩ => ⟨S512, .f32⟩
  | .hbm, ⟨28, _⟩ => ⟨S2x8192x512, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x512, .f32⟩
  | .hbm, ⟨40, _⟩ => ⟨S2x8192x512, .f32⟩
  | .hbm, ⟨41, _⟩ => ⟨S1x1x512, .f32⟩
  | .hbm, ⟨42, _⟩ => ⟨S2x8192x512, .f32⟩
  | .hbm, ⟨43, _⟩ => ⟨S2x8192x512, .f32⟩
  | .hbm, ⟨44, _⟩ => ⟨S512x16x192, .f32⟩
  | .hbm, ⟨45, _⟩ => ⟨S2x8192x16x192, .f32⟩
  | .hbm, ⟨46, _⟩ => ⟨S2x8192x16x128, .f32⟩
  | .hbm, ⟨47, _⟩ => ⟨S2x8192x16x64, .f32⟩
  | .hbm, ⟨48, _⟩ => ⟨S8192x1x32, .f32⟩
  | .hbm, ⟨49, _⟩ => ⟨S8192x1x32, .f32⟩
  | .hbm, ⟨50, _⟩ => ⟨S2x8192x16x32, .f32⟩
  | .hbm, ⟨51, _⟩ => ⟨S2x8192x16x32, .f32⟩
  | .hbm, ⟨52, _⟩ => ⟨S1x8192x1x32, .f32⟩
  | .hbm, ⟨53, _⟩ => ⟨S2x8192x16x32, .f32⟩
  | .hbm, ⟨54, _⟩ => ⟨S2x8192x16x32, .f32⟩
  | .hbm, ⟨55, _⟩ => ⟨S1x8192x1x32, .f32⟩
  | .hbm, ⟨56, _⟩ => ⟨S2x8192x16x32, .f32⟩
  | .hbm, ⟨57, _⟩ => ⟨S2x8192x16x32, .f32⟩
  | .hbm, ⟨58, _⟩ => ⟨S2x8192x16x32, .f32⟩
  | .hbm, ⟨59, _⟩ => ⟨S1x8192x1x32, .f32⟩
  | .hbm, ⟨60, _⟩ => ⟨S2x8192x16x32, .f32⟩
  | .hbm, ⟨61, _⟩ => ⟨S2x8192x16x32, .f32⟩
  | .hbm, ⟨62, _⟩ => ⟨S1x8192x1x32, .f32⟩
  | .hbm, ⟨63, _⟩ => ⟨S2x8192x16x32, .f32⟩
  | .hbm, ⟨64, _⟩ => ⟨S2x8192x16x32, .f32⟩
  | .hbm, ⟨65, _⟩ => ⟨S2x8192x16x32, .f32⟩
  | .hbm, ⟨66, _⟩ => ⟨S2x8192x16x64, .f32⟩
  | .hbm, ⟨67, _⟩ => ⟨S2x8192x16x192, .f32⟩
  | .hbm, ⟨68, _⟩ => ⟨S_, .f32⟩
  | .hbm, ⟨69, _⟩ => ⟨S2x8192x16x192, .f32⟩
  | .hbm, ⟨70, _⟩ => ⟨S2x8192x16x192, .f32⟩
  | .hbm, ⟨71, _⟩ => ⟨S_, .i32⟩
  | .hbm, ⟨72, _⟩ => ⟨S_, .f32⟩
  | .hbm, ⟨73, _⟩ => ⟨S2x8192x16x256, .f32⟩
  | .hbm, ⟨74, _⟩ => ⟨S16384x4096, .f32⟩
  | .hbm, ⟨75, _⟩ => ⟨S16384x4096, .bf16⟩
  | _, _ => ⟨S16384x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_c : Ref sig .tc := ⟨.hbm, 71, rfl⟩
abbrev main_call0_v0 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩

abbrev nD : Nat := 1
abbrev τ : Topo := Topo.v7x

variable {F : FTy → Type} [FloatOps F]
-- ==== Kernel14.lean ====
abbrev S16384x1152 : Shape := ⟨2, ![16384, 1152]⟩
abbrev S1x512 : Shape := ⟨2, ![1, 512]⟩
abbrev S1x512x16x128 : Shape := ⟨4, ![1, 512, 16, 128]⟩
abbrev S512x16x128 : Shape := ⟨3, ![512, 16, 128]⟩
abbrev S512x2048 : Shape := ⟨2, ![512, 2048]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S512 : Shape := ⟨1, ![512]⟩
abbrev S16384x4096 : Shape := ⟨2, ![16384, 4096]⟩
abbrev S16384x2048 : Shape := ⟨2, ![16384, 2048]⟩
abbrev S512x512 : Shape := ⟨2, ![512, 512]⟩
abbrev S512x128 : Shape := ⟨2, ![512, 128]⟩
abbrev S512x4096 : Shape := ⟨2, ![512, 4096]⟩
abbrev S512x1 : Shape := ⟨2, ![512, 1]⟩

abbrev nBuf : Space → Nat
  | .hbm => 41
  | .vmem => 15
  | .smem => 0
  | _ => 0

abbrev bufTy : (tb : Table) → Fin (tcTables nBuf tb) → BufTy
  | .hbm, ⟨0, _⟩ => ⟨S16384x1152, .f32⟩
  | .hbm, ⟨1, _⟩ => ⟨S1x512, .f32⟩
  | .hbm, ⟨2, _⟩ => ⟨S1x512x16x128, .f32⟩
  | .hbm, ⟨3, _⟩ => ⟨S1x512x16x128, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S512x16x128, .f32⟩
  | .hbm, ⟨8, _⟩ => ⟨S512x2048, .f32⟩
  | .hbm, ⟨9, _⟩ => ⟨S512x2048, .bf16⟩
  | .hbm, ⟨10, _⟩ => ⟨S8192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x64, .f32⟩
  | .hbm, ⟨34, _⟩ => ⟨S8192x128, .f32⟩
  | .hbm, ⟨35, _⟩ => ⟨S8192x32, .f32⟩
  | .hbm, ⟨36, _⟩ => ⟨S8192x128, .f32⟩
  | .hbm, ⟨37, _⟩ => ⟨S512, .f32⟩
  | .hbm, ⟨38, _⟩ => ⟨S1x512, .f32⟩
  | .hbm, ⟨39, _⟩ => ⟨S16384x4096, .bf16⟩
  | .hbm, ⟨40, _⟩ => ⟨S16384x2048, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | .local _ .vmem, ⟨13, _⟩ => ⟨S512x2048, .bf16⟩
  | .local _ .vmem, ⟨14, _⟩ => ⟨S512x2048, .bf16⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S16384x1152 : Shape := ⟨2, ![16384, 1152]⟩
abbrev S1x512 : Shape := ⟨2, ![1, 512]⟩
abbrev S1x512x16x128 : Shape := ⟨4, ![1, 512, 16, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S2x8192x1152 : Shape := ⟨3, ![2, 8192, 1152]⟩
abbrev S2x8192x64 : Shape := ⟨3, ![2, 8192, 64]⟩
abbrev S2x8192x32 : Shape := ⟨3, ![2, 8192, 32]⟩
abbrev S1x8192x32 : Shape := ⟨3, ![1, 8192, 32]⟩
abbrev S2x8192x512 : Shape := ⟨3, ![2, 8192, 512]⟩
abbrev S512 : Shape := ⟨1, ![512]⟩
abbrev S2x8192 : Shape := ⟨2, ![2, 8192]⟩
abbrev S2x8192x1 : Shape := ⟨3, ![2, 8192, 1]⟩
abbrev S1x1x512 : Shape := ⟨3, ![1, 1, 512]⟩
abbrev S512x16x128 : Shape := ⟨3, ![512, 16, 128]⟩
abbrev S2x8192x16x128 : Shape := ⟨4, ![2, 8192, 16, 128]⟩
abbrev S2x8192x1x64 : Shape := ⟨4, ![2, 8192, 1, 64]⟩
abbrev S2x8192x16x64 : Shape := ⟨4, ![2, 8192, 16, 64]⟩
abbrev S2x8192x16x192 : Shape := ⟨4, ![2, 8192, 16, 192]⟩
abbrev S2x8192x16x256 : Shape := ⟨4, ![2, 8192, 16, 256]⟩
abbrev S16384x4096 : Shape := ⟨2, ![16384, 4096]⟩
abbrev S16384x2048 : Shape := ⟨2, ![16384, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16384x1152, .f32⟩
  | .hbm, ⟨1, _⟩ => ⟨S1x512, .f32⟩
  | .hbm, ⟨2, _⟩ => ⟨S1x512x16x128, .f32⟩
  | .hbm, ⟨3, _⟩ => ⟨S1x512x16x128, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S2x8192x1152, .f32⟩
  | .hbm, ⟨27, _⟩ => ⟨S2x8192x64, .f32⟩
  | .hbm, ⟨28, _⟩ => ⟨S2x8192x32, .f32⟩
  | .hbm, ⟨29, _⟩ => ⟨S2x8192x32, .f32⟩
  | .hbm, ⟨30, _⟩ => ⟨S1x8192x32, .f32⟩
  | .hbm, ⟨31, _⟩ => ⟨S2x8192x32, .f32⟩
  | .hbm, ⟨32, _⟩ => ⟨S2x8192x32, .f32⟩
  | .hbm, ⟨33, _⟩ => ⟨S1x8192x32, .f32⟩
  | .hbm, ⟨34, _⟩ => ⟨S2x8192x32, .f32⟩
  | .hbm, ⟨35, _⟩ => ⟨S2x8192x32, .f32⟩
  | .hbm, ⟨36, _⟩ => ⟨S2x8192x32, .f32⟩
  | .hbm, ⟨37, _⟩ => ⟨S1x8192x32, .f32⟩
  | .hbm, ⟨38, _⟩ => ⟨S2x8192x32, .f32⟩
  | .hbm, ⟨39, _⟩ => ⟨S2x8192x32, .f32⟩
  | .hbm, ⟨40, _⟩ => ⟨S1x8192x32, .f32⟩
  | .hbm, ⟨41, _⟩ => ⟨S2x8192x32, .f32⟩
  | .hbm, ⟨42, _⟩ => ⟨S2x8192x32, .f32⟩
  | .hbm, ⟨43, _⟩ => ⟨S2x8192x32, .f32⟩
  | .hbm, ⟨44, _⟩ => ⟨S2x8192x64, .f32⟩
  | .hbm, ⟨45, _⟩ => ⟨S2x8192x512, .f32⟩
  | .hbm, ⟨46, _⟩ => ⟨S512, .f32⟩
  | .hbm, ⟨47, _⟩ => ⟨S2x8192x512, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x512, .f32⟩
  | .hbm, ⟨59, _⟩ => ⟨S2x8192x512, .f32⟩
  | .hbm, ⟨60, _⟩ => ⟨S1x1x512, .f32⟩
  | .hbm, ⟨61, _⟩ => ⟨S2x8192x512, .f32⟩
  | .hbm, ⟨62, _⟩ => ⟨S2x8192x512, .f32⟩
  | .hbm, ⟨63, _⟩ => ⟨S512x16x128, .f32⟩
  | .hbm, ⟨64, _⟩ => ⟨S2x8192x16x128, .f32⟩
  | .hbm, ⟨65, _⟩ => ⟨S512x16x128, .f32⟩
  | .hbm, ⟨66, _⟩ => ⟨S2x8192x16x128, .f32⟩
  | .hbm, ⟨67, _⟩ => ⟨S2x8192x1x64, .f32⟩
  | .hbm, ⟨68, _⟩ => ⟨S2x8192x16x64, .f32⟩
  | .hbm, ⟨69, _⟩ => ⟨S2x8192x16x192, .f32⟩
  | .hbm, ⟨70, _⟩ => ⟨S_, .i32⟩
  | .hbm, ⟨71, _⟩ => ⟨S_, .f32⟩
  | .hbm, ⟨72, _⟩ => ⟨S2x8192x16x256, .f32⟩
  | .hbm, ⟨73, _⟩ => ⟨S16384x4096, .f32⟩
  | .hbm, ⟨74, _⟩ => ⟨S16384x4096, .bf16⟩
  | .hbm, ⟨75, _⟩ => ⟨S16384x2048, .f32⟩
  | .hbm, ⟨76, _⟩ => ⟨S16384x2048, .bf16⟩
  | _, _ => ⟨S16384x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c : Ref sig .tc := ⟨.hbm, 70, rfl⟩
abbrev main_call0_v0 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Proof.Flash.lean ====
/-
  The mathematics of one row of attention computed block by block, over the extended reals.

  A row has scores `s : ℕ → EReal` (`⊥` where the column is masked) and values `v : ℕ → EReal`.
  After the first `n` columns the running maximum is `rowM s n` and the running weighted sum is
  `rowA s v n`; the running normaliser is kept in 128 partial sums, lane `a` of which is
  `rowA s (lane a) n`.
-/
module

public import Idealize.ShloMosaic.PureOps.Ideal

@[expose] public section

noncomputable section

namespace Cert.Flash

open Idealize.ShloMosaic

/-! ### The base-two exponential of the ideal reading -/

/-- The exponential is nowhere negative. -/
theorem exp2_nonneg (x : EReal) : 0 ≤ Ideal.exp2 x := by
  induction x with
  | bot => simp
  | top => simp
  | coe r =>
    rw [Ideal.exp2_coe]
    exact_mod_cast Real.rpow_nonneg (by norm_num) r

/-- Away from `⊤` the exponential is finite. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- A difference whose right side is at least its left side is not `⊤`. -/
theorem sub_ne_top {m m' : EReal} (h : m ≤ m') : m - m' ≠ ⊤ := by
  induction m' with
  | bot =>
    obtain rfl : m = ⊥ := le_bot_iff.mp h
    simp
  | top => simp [sub_eq_add_neg]
  | coe r =>
    induction m with
    | bot => simp
    | top => simp at h
    | coe t => exact_mod_cast EReal.coe_ne_top (t - r)

/-- Moving a weight from the maximum `m` to a larger maximum `m'`. -/
theorem rescale {a m m' : EReal} (ham : a ≤ m) (hm : m ≤ m') :
    Ideal.exp2 (m - m') * Ideal.exp2 (a - m) = Ideal.exp2 (a - m') := by
  induction m' with
  | bot =>
    obtain rfl : m = ⊥ := le_bot_iff.mp hm
    obtain rfl : a = ⊥ := le_bot_iff.mp ham
    simp
  | top => simp [sub_eq_add_neg]
  | coe r =>
    induction m with
    | bot =>
      obtain rfl : a = ⊥ := le_bot_iff.mp ham
      simp
    | top => simp at hm
    | coe t =>
      induction a with
      | bot => simp
      | top => simp at ham
      | coe u =>
        rw [← EReal.coe_sub, ← EReal.coe_sub, ← EReal.coe_sub, Ideal.exp2_coe, Ideal.exp2_coe,
          Ideal.exp2_coe, ← EReal.coe_mul]
        congr 1
        show (2 : ℝ) ^ (t - r) * (2 : ℝ) ^ (u - t) = (2 : ℝ) ^ (u - r)
        rw [← Real.rpow_add (by norm_num)]
        congr 1
        ring

/-- A nonnegative finite factor goes into a finite sum. -/
theorem mul_sum_of_nonneg {ι : Type*} (c : EReal) (h0 : 0 ≤ c) (hT : c ≠ ⊤) (S : Finset ι)
    (f : ι → EReal) : c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 hT, ih]

/-! ### The running quantities -/

/-- The maximum of the first `n` scores. -/
def rowM (s : ℕ → EReal) (n : ℕ) : EReal := (Finset.range n).sup s

/-- The weighted sum of the first `n` values, the weights taken against the maximum so far. -/
def rowA (s v : ℕ → EReal) (n : ℕ) : EReal :=
  ∑ j ∈ Finset.range n, Ideal.exp2 (s j - rowM s n) * v j

/-- The indicator of the columns of lane `a`. -/
def lane (a : ℕ) (j : ℕ) : EReal := if j % 128 = a then 1 else 0

theorem rowM_zero (s : ℕ → EReal) : rowM s 0 = ⊥ := by simp [rowM]

theorem rowA_zero (s v : ℕ → EReal) : rowA s v 0 = 0 := by simp [rowA]

/-- The maximum over `n + W` columns joins that of the first `n` with that of the next `W`. -/
theorem rowM_add (s : ℕ → EReal) (n W : ℕ) :
    rowM s (n + W) = max (rowM s n) ((Finset.range W).sup fun b => s (n + b)) := by
  apply le_antisymm
  · refine Finset.sup_le fun j hj => ?_
    rw [Finset.mem_range] at hj
    by_cases h : j < n
    · exact le_max_of_le_left (Finset.le_sup (f := s) (Finset.mem_range.mpr h))
    · refine le_max_of_le_right ?_
      have := Finset.le_sup (f := fun b => s (n + b)) (Finset.mem_range.mpr (show j - n < W by omega))
      simpa [show n + (j - n) = j by omega] using this
  · refine max_le ?_ ?_
    · exact Finset.sup_mono (by intro j; simp only [Finset.mem_range]; omega)
    · refine Finset.sup_le fun b hb => ?_
      rw [Finset.mem_range] at hb
      exact Finset.le_sup (f := s) (Finset.mem_range.mpr (by omega))

theorem rowM_mono (s : ℕ → EReal) (n W : ℕ) : rowM s n ≤ rowM s (n + W) := by
  rw [rowM_add]; exact le_max_left _ _

/-- One block of `W` columns: the old sum is rescaled to the new maximum and the block is added. -/
theorem rowA_add (s v : ℕ → EReal) (n W : ℕ) :
    rowA s v (n + W)
      = Ideal.exp2 (rowM s n - rowM s (n + W)) * rowA s v n
        + ∑ b ∈ Finset.range W, Ideal.exp2 (s (n + b) - rowM s (n + W)) * v (n + b) := by
  conv_lhs => rw [rowA, Finset.sum_range_add]
  congr 1
  rw [rowA, mul_sum_of_nonneg _ (exp2_nonneg _) (exp2_ne_top (sub_ne_top (rowM_mono s n W)))]
  refine Finset.sum_congr rfl fun j hj => ?_
  rw [← mul_assoc, rescale (show s j ≤ rowM s n from Finset.le_sup (f := s) hj) (rowM_mono s n W)]

/-- One lane's share of a block made of `K` groups of 128 columns. -/
theorem sum_lane (f : ℕ → EReal) (n K a : ℕ) (hn : n % 128 = 0) (ha : a < 128) :
    ∑ b ∈ Finset.range (K * 128), f b * lane a (n + b)
      = ∑ t ∈ Finset.range K, f (t * 128 + a) := by
  induction K with
  | zero => simp
  | succ K ih =>
    rw [Finset.sum_range_succ, ← ih, Nat.succ_mul, Finset.sum_range_add]
    congr 1
    rw [Finset.sum_eq_single a]
    · rw [lane, if_pos (by omega), mul_one]
    · intro b hb hne
      rw [Finset.mem_range] at hb
      rw [lane, if_neg (by omega), mul_zero]
    · intro h
      exact absurd (Finset.mem_range.mpr ha) h

/-- One block of the normaliser, in lane `a`. -/
theorem rowL_add (s : ℕ → EReal) (n K a : ℕ) (hn : n % 128 = 0) (ha : a < 128) :
    rowA s (lane a) (n + K * 128)
      = Ideal.exp2 (rowM s n - rowM s (n + K * 128)) * rowA s (lane a) n
        + ∑ t ∈ Finset.range K, Ideal.exp2 (s (n + (t * 128 + a)) - rowM s (n + K * 128)) := by
  rw [rowA_add, sum_lane (fun b => Ideal.exp2 (s (n + b) - rowM s (n + K * 128))) n K a hn ha]

/-- The 128 lanes of the normaliser add up to the sum of all weights. -/
theorem sum_rowL (s : ℕ → EReal) (n : ℕ) :
    ∑ a ∈ Finset.range 128, rowA s (lane a) n
      = ∑ j ∈ Finset.range n, Ideal.exp2 (s j - rowM s n) := by
  simp only [rowA]
  rw [Finset.sum_comm]
  refine Finset.sum_congr rfl fun j _ => ?_
  rw [Finset.sum_eq_single (j % 128)]
  · rw [lane, if_pos rfl, mul_one]
  · intro b _ hne
    rw [lane, if_neg (Ne.symm hne), mul_zero]
  · intro h
    exact absurd (Finset.mem_range.mpr (Nat.mod_lt _ (by norm_num))) h

/-- Columns that are masked do not change the maximum. -/
theorem rowM_masked (s : ℕ → EReal) (n W : ℕ) (h : ∀ j, n ≤ j → s j = ⊥) :
    rowM s (n + W) = rowM s n := by
  rw [rowM_add]
  refine max_eq_left ?_
  exact Finset.sup_le fun b _ => by rw [h _ (by omega)]; exact bot_le

/-- Columns that are masked do not change a weighted sum. -/
theorem rowA_masked (s v : ℕ → EReal) (n W : ℕ) (h : ∀ j, n ≤ j → s j = ⊥) :
    rowA s v (n + W) = rowA s v n := by
  rw [rowA, Finset.sum_range_add, rowM_masked s n W h]
  rw [Finset.sum_eq_zero (s := Finset.range W), add_zero]
  · rfl
  · intro b _
    rw [h _ (by omega)]
    simp

/-! ### The quotient -/

/-- The ordinary exponential of `x · ln 2` is the base-two exponential of `x`. -/
theorem exp_mul_log_two (x : EReal) :
    Ideal.exp (x * ((Real.log 2 : ℝ) : EReal)) = Ideal.exp2 x := by
  have h2 : (0 : ℝ) < Real.log 2 := Real.log_pos (by norm_num)
  induction x with
  | bot => rw [EReal.bot_mul_coe_of_pos h2]; rfl
  | top => rw [EReal.top_mul_coe_of_pos h2]; rfl
  | coe r =>
    rw [← EReal.coe_mul, Ideal.exp2_coe]
    show ((Real.exp (r * Real.log 2) : ℝ) : EReal) = (((2 : ℝ) ^ r : ℝ) : EReal)
    rw [Real.rpow_def_of_pos (by norm_num), mul_comm]

/-- A positive real factor distributes over a difference. -/
theorem sub_mul_log_two (x y : EReal) :
    x * ((Real.log 2 : ℝ) : EReal) - y * ((Real.log 2 : ℝ) : EReal)
      = (x - y) * ((Real.log 2 : ℝ) : EReal) := by
  have h2 : (0 : ℝ) < Real.log 2 := Real.log_pos (by norm_num)
  rw [sub_eq_add_neg, sub_eq_add_neg, EReal.right_distrib_of_nonneg_of_ne_top
    (by exact_mod_cast h2.le) (EReal.coe_ne_top _), EReal.neg_mul]

/-- The largest of the scores times `ln 2` is the largest score, times `ln 2`. -/
theorem sup_mul_log_two (s : ℕ → EReal) (n : ℕ) :
    ((Finset.range n).sup fun j => s j * ((Real.log 2 : ℝ) : EReal))
      = rowM s n * ((Real.log 2 : ℝ) : EReal) := by
  have h2 : (0 : ℝ) < Real.log 2 := Real.log_pos (by norm_num)
  have hg : Monotone fun x : EReal => x * ((Real.log 2 : ℝ) : EReal) := fun a b hab =>
    mul_le_mul_of_nonneg_right hab (by exact_mod_cast h2.le)
  rw [rowM, Finset.comp_sup_eq_sup_comp_of_is_total
    (g := fun x : EReal => x * ((Real.log 2 : ℝ) : EReal)) hg (EReal.bot_mul_coe_of_pos h2)]
  rfl

/-- The largest of finitely many scores below `⊤` is below `⊤`. -/
theorem rowM_ne_top (s : ℕ → EReal) (n : ℕ) (h : ∀ j < n, s j ≠ ⊤) : rowM s n ≠ ⊤ := by
  refine ne_of_lt ((Finset.sup_lt_iff (by simp)).mpr fun j hj => ?_)
  exact lt_top_iff_ne_top.mpr (h j (Finset.mem_range.mp hj))

/-- With a finite score among them, and none `⊤`, the weights do not add up to zero. -/
theorem sum_exp2_ne_zero (s : ℕ → EReal) (n : ℕ) (h : ∀ j < n, s j ≠ ⊤) (j₀ : ℕ) (hj : j₀ < n)
    (hb : s j₀ ≠ ⊥) : ∑ j ∈ Finset.range n, Ideal.exp2 (s j - rowM s n) ≠ 0 := by
  have hle : s j₀ ≤ rowM s n := Finset.le_sup (f := s) (Finset.mem_range.mpr hj)
  have hM := rowM_ne_top s n h
  have hMb : rowM s n ≠ ⊥ := fun e => hb (le_bot_iff.mp (e ▸ hle))
  have hpos : 0 < Ideal.exp2 (s j₀ - rowM s n) := by
    lift s j₀ to ℝ using ⟨h j₀ hj, hb⟩ with a
    lift rowM s n to ℝ using ⟨hM, hMb⟩ with b
    rw [← EReal.coe_sub, Ideal.exp2_coe]
    exact_mod_cast Real.rpow_pos_of_pos (by norm_num) _
  have := Finset.single_le_sum (f := fun j => Ideal.exp2 (s j - rowM s n))
    (fun j _ => exp2_nonneg _) (Finset.mem_range.mpr hj)
  exact ne_of_gt (lt_of_lt_of_le hpos this)

/-- Dividing a weighted sum by a nonzero nonnegative normaliser divides every weight. -/
theorem div_sum {ι : Type*} (S : Finset ι) (p v : ι → EReal) (L : EReal) (h0 : 0 ≤ L) (hL : L ≠ 0) :
    Ideal.div (∑ j ∈ S, p j * v j) L = ∑ j ∈ S, Ideal.div (p j) L * v j := by
  have hinv : 0 ≤ L⁻¹ := EReal.inv_nonneg_of_nonneg h0
  have hT : L⁻¹ ≠ ⊤ := by
    induction L with
    | bot => simp
    | top => simp
    | coe r => rw [← EReal.coe_inv]; exact EReal.coe_ne_top _
  simp only [Ideal.div, if_neg hL]
  rw [mul_comm, mul_sum_of_nonneg _ hinv hT]
  refine Finset.sum_congr rfl fun j _ => ?_
  rw [← mul_assoc, mul_comm (L⁻¹) (p j)]

/-- The blocked computation's quotient is the softmax-weighted sum of the values.  The columns from
`n` on are masked, so the blocked computation may stop at `n` where the softmax runs over all
`n + W` columns. -/
theorem quotient_eq (s v : ℕ → EReal) (n W : ℕ) (hmask : ∀ j, n ≤ j → s j = ⊥)
    (hT : ∀ j, s j ≠ ⊤) (j₀ : ℕ) (hj : j₀ < n) (hb : s j₀ ≠ ⊥) :
    Ideal.div (rowA s v n) (∑ a ∈ Finset.range 128, rowA s (lane a) n)
      = ∑ j ∈ Finset.range (n + W),
          Ideal.div
            (Ideal.exp (s j * ((Real.log 2 : ℝ) : EReal)
              - (Finset.range (n + W)).sup fun j => s j * ((Real.log 2 : ℝ) : EReal)))
            (∑ j ∈ Finset.range (n + W),
              Ideal.exp (s j * ((Real.log 2 : ℝ) : EReal)
                - (Finset.range (n + W)).sup fun j => s j * ((Real.log 2 : ℝ) : EReal)))
          * v j := by
  simp only [sup_mul_log_two, sub_mul_log_two, exp_mul_log_two]
  rw [← div_sum _ _ _ _ (Finset.sum_nonneg fun j _ => exp2_nonneg _)
    (sum_exp2_ne_zero s (n + W) (fun j _ => hT j) j₀ (by omega) hb)]
  have hL : ∑ a ∈ Finset.range 128, rowA s (lane a) n
      = ∑ j ∈ Finset.range (n + W), Ideal.exp2 (s j - rowM s (n + W)) := by
    rw [← sum_rowL]
    exact Finset.sum_congr rfl fun a _ => (rowA_masked s (lane a) n W hmask).symm
  rw [hL, ← rowA_masked s v n W hmask]
  rfl

end Cert.Flash
-- ==== Proof.Tile.lean ====
/-
  One block of the attention's running update, as vector operations, read at an index.

  A block has `H` query rows and `W` key columns, `W` a multiple of 128.  `tM`, `tL2`/`tL8` and
  `tA2`/`tA8` are the new running maximum, the new normaliser and the new accumulator, written with
  the vector operations the kernel uses (the columns cut in 2 or in 8 groups of 128).
-/
module

public import proofs.«01_k».proof.Proof.Flash
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

set_option maxRecDepth 16384

noncomputable section

namespace Cert.Tile

open Idealize.ShloMosaic Idealize.ShloMosaic.ValueIdx Cert.Flash

/-- A matrix shape. -/
abbrev Sh2 (a b : ℕ) : Shape := ⟨2, ![a, b]⟩

/-- The shape facts of a block of `H` rows and `W = 128 · K` columns. -/
structure Ev (H W K : ℕ) : Prop where
  red : (Sh2 H W).Reduces [1] ⟨1, ![H]⟩
  col : (⟨1, ![H]⟩ : Shape).ShapeCasts (Sh2 H 1)
  bc : (Sh2 H 1).Broadcasts (Sh2 H 128)
  self : (Sh2 H 128).ShapeCasts (Sh2 H 128)
  sl : ∀ t : Fin K, (Sh2 H W).Slices ![0, 128 * t.val] (Sh2 H 128)
  cat : Shape.Concatenates (List.replicate K (Sh2 H 128)) (Sh2 H W) 1
  castq : (⟨3, ![1, H, 256]⟩ : Shape).ShapeCasts (Sh2 H 256)
  castk : (⟨3, ![1, W, 256]⟩ : Shape).ShapeCasts (Sh2 W 256)
  castv : (⟨3, ![1, W, 128]⟩ : Shape).ShapeCasts (Sh2 W 128)
  bits : FTy.bits .bf16 < FTy.bits .f32

variable {H W K : ℕ}

/-- The scores of a block: every query row against every key row. -/
def tS (ev : Ev H W K) (q : Vec Ideal ⟨3, ![1, H, 256]⟩ .bf16) (k : Vec Ideal ⟨3, ![1, W, 256]⟩ .bf16) :
    FVec Ideal (Sh2 H W) .f32 :=
  FloatOps.matmul (DotDims.transposedRhs H 256 W) none
    (shapeCast (Sh2 H 256) q ev.castq : FVec Ideal (Sh2 H 256) .bf16)
    (shapeCast (Sh2 W 256) k ev.castk : FVec Ideal (Sh2 W 256) .bf16)
    (constant (F := Ideal) (Sh2 H W) .f32 0x00000000#32)

/-- Scores with the columns after the row's own position replaced by `neg`; the row and column
positions count from `rr` and `cc`. -/
def tMask (h1 : (Sh2 H W).Iotas .tc 32 [1]) (h0 : (Sh2 H W).Iotas .tc 32 [0]) (cc rr : BitVec 32)
    (neg : Ideal .f32) (s : FVec Ideal (Sh2 H W) .f32) : FVec Ideal (Sh2 H W) .f32 :=
  select (cmpi .sle (addi (iota .tc (Sh2 H W) 32 [1] h1) (broadcast (Sh2 H W) cc))
    (addi (iota .tc (Sh2 H W) 32 [0] h0) (broadcast (Sh2 H W) rr))) s (broadcast (Sh2 H W) neg)

/-- The new running maximum. -/
def tM (ev : Ev H W K) (s : FVec Ideal (Sh2 H W) .f32) (m : FVec Ideal (Sh2 H 128) .f32) :
    FVec Ideal (Sh2 H 128) .f32 :=
  maximumf m (broadcastTo (Sh2 H 128)
    (shapeCast (Sh2 H 1) (multiReduction .maximumf [1] ⟨1, ![H]⟩ s 0xFF800000#32 ev.red (.inl rfl) rfl
      : FVec Ideal ⟨1, ![H]⟩ .f32) ev.col : FVec Ideal (Sh2 H 1) .f32) ev.bc)

/-- The weights of the `t`-th group of 128 columns. -/
def tP (ev : Ev H W K) (s : FVec Ideal (Sh2 H W) .f32) (m : FVec Ideal (Sh2 H 128) .f32) (t : Fin K) :
    FVec Ideal (Sh2 H 128) .f32 :=
  exp2 (subf (extractStridedSlice (Sh2 H 128) ![0, 128 * t.val] s (ev.sl t)) (tM ev s m))

/-- The factor that rescales what was accumulated before. -/
def tAlpha (ev : Ev H W K) (s : FVec Ideal (Sh2 H W) .f32) (m : FVec Ideal (Sh2 H 128) .f32) :
    FVec Ideal (Sh2 H 128) .f32 :=
  exp2 (subf m (tM ev s m))

/-- The new normaliser, two groups of columns. -/
def tL2 (ev : Ev H W 2) (s : FVec Ideal (Sh2 H W) .f32) (m l : FVec Ideal (Sh2 H 128) .f32) :
    FVec Ideal (Sh2 H 128) .f32 :=
  addf (mulf (tAlpha ev s m) l) (addf (tP ev s m 0) (tP ev s m 1))

/-- The new normaliser, eight groups of columns. -/
def tL8 (ev : Ev H W 8) (s : FVec Ideal (Sh2 H W) .f32) (m l : FVec Ideal (Sh2 H 128) .f32) :
    FVec Ideal (Sh2 H 128) .f32 :=
  addf (mulf (tAlpha ev s m) l) (addf (addf (addf (addf (addf (addf (addf (tP ev s m 0) (tP ev s m 1))
    (tP ev s m 2)) (tP ev s m 3)) (tP ev s m 4)) (tP ev s m 5)) (tP ev s m 6)) (tP ev s m 7))

/-- The rescaled accumulator plus the product of a row of weights with the values. -/
def tA (ev : Ev H W K) (s : FVec Ideal (Sh2 H W) .f32) (p : FVec Ideal (Sh2 H W) .bf16)
    (v : Vec Ideal ⟨3, ![1, W, 128]⟩ .bf16) (m a : FVec Ideal (Sh2 H 128) .f32) :
    FVec Ideal (Sh2 H 128) .f32 :=
  addf (mulf (tAlpha ev s m) a)
    (FloatOps.matmul (DotDims.plain H W 128) none p
      (shapeCast (Sh2 W 128) v ev.castv : FVec Ideal (Sh2 W 128) .bf16)
      (constant (F := Ideal) (Sh2 H 128) .f32 0x00000000#32))

/-- The `t`-th group of weights in the format of the product. -/
def tPb (ev : Ev H W K) (s : FVec Ideal (Sh2 H W) .f32) (m : FVec Ideal (Sh2 H 128) .f32) (t : Fin K) :
    FVec Ideal (Sh2 H 128) .bf16 :=
  truncf .bf16 (tP ev s m t) ev.bits

/-- The new accumulator, two groups of columns. -/
def tA2 (ev : Ev H W 2) (s : FVec Ideal (Sh2 H W) .f32) (v : Vec Ideal ⟨3, ![1, W, 128]⟩ .bf16)
    (m a : FVec Ideal (Sh2 H 128) .f32) : FVec Ideal (Sh2 H 128) .f32 :=
  tA ev s (concatenate (Sh2 H W) 1 [⟨Sh2 H 128, tPb ev s m 0⟩, ⟨Sh2 H 128, tPb ev s m 1⟩] ev.cat) v m a

/-- The new accumulator, eight groups of columns. -/
def tA8 (ev : Ev H W 8) (s : FVec Ideal (Sh2 H W) .f32) (v : Vec Ideal ⟨3, ![1, W, 128]⟩ .bf16)
    (m a : FVec Ideal (Sh2 H 128) .f32) : FVec Ideal (Sh2 H 128) .f32 :=
  tA ev s (concatenate (Sh2 H W) 1 [⟨Sh2 H 128, tPb ev s m 0⟩, ⟨Sh2 H 128, tPb ev s m 1⟩,
    ⟨Sh2 H 128, tPb ev s m 2⟩, ⟨Sh2 H 128, tPb ev s m 3⟩, ⟨Sh2 H 128, tPb ev s m 4⟩,
    ⟨Sh2 H 128, tPb ev s m 5⟩, ⟨Sh2 H 128, tPb ev s m 6⟩, ⟨Sh2 H 128, tPb ev s m 7⟩] ev.cat) v m a

/-! ### Read at an index -/

/-- The zero word is the number zero. -/
theorem ofBits_f32_zero : Idealize.ShloMosaic.Ideal.ofBits .f32 0x00000000#32 = 0 :=
  Idealize.ShloMosaic.Ideal.ofBits_zero_f32

/-- The word of the negative infinity is `⊥`. -/
theorem ofBits_f32_ninf : Idealize.ShloMosaic.Ideal.ofBits .f32 0xFF800000#32 = ⊥ := by
  simp [Idealize.ShloMosaic.Ideal.ofBits, Idealize.ShloMosaic.Ideal.ieee]

/-- A score is the product of a query row with a key row. -/
theorem tS_apply (ev : Ev H W K) (q : Vec Ideal ⟨3, ![1, H, 256]⟩ .bf16)
    (k : Vec Ideal ⟨3, ![1, W, 256]⟩ .bf16) (r : Fin H) (b : Fin W) :
    tS ev q k (ix2 r b)
      = ∑ d : Fin 256, (q (ix3 (0 : Fin 1) r d) : EReal) * (k (ix3 (0 : Fin 1) b d) : EReal) := by
  rw [tS, Ideal.matmul_transposedRhs_apply]
  rw [show (constant (F := Ideal) (Sh2 H W) .f32 0x00000000#32) (ix2 r b) = (0 : EReal) from
    ofBits_f32_zero, zero_add]
  refine Finset.sum_congr rfl fun d _ => ?_
  rw [shapeCast_1ab_ab_apply, shapeCast_1ab_ab_apply]

/-- Comparing two small positions as signed 32-bit words compares the numbers. -/
theorem sle_small (a b c d : ℕ) (h1 : a + b < 2 ^ 31) (h2 : c + d < 2 ^ 31) :
    (BitVec.ofNat 32 a + BitVec.ofNat 32 b).sle (BitVec.ofNat 32 c + BitVec.ofNat 32 d)
      = decide (a + b ≤ c + d) := by
  rw [← BitVec.ofNat_add, ← BitVec.ofNat_add, BitVec.sle]
  have e : ∀ n : ℕ, n < 2 ^ 31 → (BitVec.ofNat 32 n).toInt = (n : ℤ) := by
    intro n hn
    rw [BitVec.toInt_eq_toNat_cond, BitVec.toNat_ofNat, Nat.mod_eq_of_lt (by omega), if_pos (by omega)]
  rw [e _ h1, e _ h2]
  exact decide_eq_decide.mpr Int.ofNat_le

/-- The masked scores at an index. -/
theorem tMask_apply (h1 : (Sh2 H W).Iotas .tc 32 [1]) (h0 : (Sh2 H W).Iotas .tc 32 [0]) (c₀ r₀ : ℕ)
    (neg : Ideal .f32) (s : FVec Ideal (Sh2 H W) .f32) (r : Fin H) (b : Fin W)
    (hc : W + c₀ < 2 ^ 31) (hr : H + r₀ < 2 ^ 31) :
    tMask h1 h0 (BitVec.ofNat 32 c₀) (BitVec.ofNat 32 r₀) neg s (ix2 r b)
      = if b.val + c₀ ≤ r.val + r₀ then s (ix2 r b) else neg := by
  have e : tMask h1 h0 (BitVec.ofNat 32 c₀) (BitVec.ofNat 32 r₀) neg s (ix2 r b)
      = if BitVec.ofBool ((iota .tc (Sh2 H W) 32 [1] h1 (ix2 r b) + BitVec.ofNat 32 c₀).sle
          (iota .tc (Sh2 H W) 32 [0] h0 (ix2 r b) + BitVec.ofNat 32 r₀)) = 1
        then s (ix2 r b) else neg := rfl
  rw [e, iota_single_apply, iota_single_apply]
  rw [show ((ix2 r b) 1 : Fin _).val = b.val from rfl, show ((ix2 r b) 0 : Fin _).val = r.val from rfl]
  rw [sle_small _ _ _ _ (by omega) (by omega)]
  by_cases h : b.val + c₀ ≤ r.val + r₀ <;> simp [h]

/-- The largest of `W` numbers, folded or taken as a supremum over a range. -/
theorem fold_max_eq_sup (f : Fin W → EReal) (g : ℕ → EReal) (h : ∀ b : Fin W, f b = g b.val) :
    (Finset.univ : Finset (Fin W)).fold max (⊥ : EReal) f = (Finset.range W).sup g := by
  have : (Finset.univ : Finset (Fin W)).fold max (⊥ : EReal) f = Finset.univ.sup f := rfl
  rw [this]
  apply le_antisymm
  · exact Finset.sup_le fun b _ => by
      rw [h]; exact Finset.le_sup (f := g) (Finset.mem_range.mpr b.isLt)
  · exact Finset.sup_le fun b hb => by
      have hb' := Finset.mem_range.mp hb
      have := Finset.le_sup (f := f) (Finset.mem_univ (⟨b, hb'⟩ : Fin W))
      rwa [h] at this

/-- The new maximum of row `r`, in every lane: the scores of the row are `σ (n + b)`. -/
theorem tM_apply (ev : Ev H W K) (s : FVec Ideal (Sh2 H W) .f32) (m : FVec Ideal (Sh2 H 128) .f32)
    (r : Fin H) (a : Fin 128) (σ : ℕ → EReal) (n : ℕ) (hs : ∀ b : Fin W, s (ix2 r b) = σ (n + b.val))
    (hm : m (ix2 r a) = rowM σ n) : tM ev s m (ix2 r a) = rowM σ (n + W) := by
  have e1 : tM ev s m (ix2 r a) = max (m (ix2 r a) : EReal)
      (broadcastTo (Sh2 H 128)
    (shapeCast (Sh2 H 1) (multiReduction .maximumf [1] ⟨1, ![H]⟩ s 0xFF800000#32 ev.red (.inl rfl) rfl
      : FVec Ideal ⟨1, ![H]⟩ .f32) ev.col : FVec Ideal (Sh2 H 1) .f32) ev.bc (ix2 r a)) := rfl
  have e2 := Idealize.ShloMosaic.Ideal.multiReduction_maximumf_single (a := (1 : Fin 2)) s 0xFF800000#32 ev.red (.inl rfl) rfl
    (ix1 r)
  rw [e1, broadcastTo_apply _ ev.bc (ix2 r a) (ix2 r (0 : Fin 1)) ?_, shapeCast_a_a1_apply, rowM_add, hm]
  · congr 1
    refine e2.trans ?_
    rw [show (FloatOps.ofBits (F := Idealize.ShloMosaic.Ideal) .f32 0xFF800000#32) = (⊥ : EReal) from ofBits_f32_ninf]
    refine fold_max_eq_sup _ (fun b => σ (n + b)) fun b => ?_
    rw [← hs b]
    refine congrArg s ?_
    funext x
    match x with
    | ⟨0, _⟩ => apply Fin.ext; simp [Shape.Reduces.lift]; rfl
    | ⟨1, _⟩ => apply Fin.ext; rfl
  · intro x
    match x with
    | ⟨0, _⟩ =>
      show r.val = if H = 1 then 0 else r.val
      split
      · have := r.isLt; omega
      · rfl
    | ⟨1, _⟩ => rfl

section Row

variable (ev : Ev H W K) (s : FVec Ideal (Sh2 H W) .f32) (m : FVec Ideal (Sh2 H 128) .f32)
  (r : Fin H) (σ : ℕ → EReal) (n : ℕ)

/-- The rescaling factor of row `r`. -/
theorem tAlpha_apply (hs : ∀ b : Fin W, s (ix2 r b) = σ (n + b.val)) (a : Fin 128)
    (hm : m (ix2 r a) = rowM σ n) :
    tAlpha ev s m (ix2 r a) = Ideal.exp2 (rowM σ n - rowM σ (n + W)) := by
  have e : tAlpha ev s m (ix2 r a) = Ideal.exp2 ((m (ix2 r a) : EReal) - tM ev s m (ix2 r a)) := rfl
  rw [e, tM_apply ev s m r a σ n hs hm, hm]

/-- A weight of row `r`: that of column `128 t + a` of the block. -/
theorem tP_apply (hW : W = K * 128) (hs : ∀ b : Fin W, s (ix2 r b) = σ (n + b.val)) (a : Fin 128)
    (hm : m (ix2 r a) = rowM σ n) (t : Fin K) :
    tP ev s m t (ix2 r a) = Ideal.exp2 (σ (n + (t.val * 128 + a.val)) - rowM σ (n + W)) := by
  have hb : t.val * 128 + a.val < W := by
    have h1 := a.isLt
    have h2 : (t.val + 1) * 128 ≤ K * 128 := Nat.mul_le_mul_right _ t.isLt
    omega
  have e : tP ev s m t (ix2 r a)
      = Ideal.exp2 ((extractStridedSlice (Sh2 H 128) ![0, 128 * t.val] s (ev.sl t) (ix2 r a) : EReal)
          - tM ev s m (ix2 r a)) := rfl
  rw [e, tM_apply ev s m r a σ n hs hm,
    extractStridedSlice_apply _ s (ev.sl t) (ix2 r a) (ix2 r (⟨t.val * 128 + a.val, hb⟩ : Fin W)) ?_, hs]
  intro x
  match x with
  | ⟨0, _⟩ => show r.val = 0 + r.val; omega
  | ⟨1, _⟩ => show t.val * 128 + a.val = 128 * t.val + a.val; omega

/-- A row of weights at a column: the groups joined along the columns. -/
theorem cat_apply (hW : W = K * 128) (p : Fin K → FVec Ideal (Sh2 H 128) .bf16)
    (xs : List ((s : Shape) × (s.Idx → Ideal .bf16)))
    (hxs : xs = List.ofFn fun t : Fin K => (⟨Sh2 H 128, p t⟩ : (s : Shape) × (s.Idx → Ideal .bf16)))
    (hc : Shape.Concatenates (xs.map (·.1)) (Sh2 H W) 1) (f : ℕ → EReal)
    (hp : ∀ (t : Fin K) (a : Fin 128), p t (ix2 r a) = f (t.val * 128 + a.val)) (b : Fin W) :
    concatenate (Sh2 H W) 1 xs hc (ix2 r b) = f b.val := by
  subst hxs
  have hb : b.val / 128 < K := by have := b.isLt; omega
  rw [concatenate_ofFn_apply 1 p hc rfl 128 rfl (ix2 r b) ⟨b.val / 128, hb⟩ rfl
    (ix2 r (⟨b.val % 128, Nat.mod_lt _ (by norm_num)⟩ : Fin 128)) rfl ?_, hp]
  · congr 1
    exact Nat.div_add_mod' _ _
  · intro x hx
    match x with
    | ⟨0, _⟩ => rfl
    | ⟨1, _⟩ => exact absurd rfl hx

/-- The new accumulator of row `r`, from its weights `p` at every column. -/
theorem tA_apply (p : FVec Ideal (Sh2 H W) .bf16) (v : Vec Ideal ⟨3, ![1, W, 128]⟩ .bf16)
    (l : FVec Ideal (Sh2 H 128) .f32) (w : ℕ → EReal) (a : Fin 128)
    (hs : ∀ b : Fin W, s (ix2 r b) = σ (n + b.val)) (hm : m (ix2 r a) = rowM σ n)
    (hp : ∀ b : Fin W, p (ix2 r b) = Ideal.exp2 (σ (n + b.val) - rowM σ (n + W)))
    (hv : ∀ b : Fin W, v (ix3 (0 : Fin 1) b a) = w (n + b.val))
    (hl : l (ix2 r a) = rowA σ w n) : tA ev s p v m l (ix2 r a) = rowA σ w (n + W) := by
  have e : tA ev s p v m l (ix2 r a)
      = (tAlpha ev s m (ix2 r a) : EReal) * l (ix2 r a)
        + FloatOps.matmul (DotDims.plain H W 128) none p
            (shapeCast (Sh2 W 128) v ev.castv : FVec Ideal (Sh2 W 128) .bf16)
            (constant (F := Ideal) (Sh2 H 128) .f32 0x00000000#32) (ix2 r a) := rfl
  rw [e, Idealize.ShloMosaic.Ideal.matmul_plain_apply, tAlpha_apply ev s m r σ n hs a hm, hl, rowA_add]
  congr 1
  rw [show (constant (F := Ideal) (Sh2 H 128) .f32 0x00000000#32) (ix2 r a) = (0 : EReal) from
    ofBits_f32_zero, zero_add, Finset.sum_range]
  refine Finset.sum_congr rfl fun b _ => ?_
  rw [hp, shapeCast_1ab_ab_apply, hv]

/-- The new normaliser of row `r`, two groups. -/
theorem tL2_apply (ev : Ev H W 2) (hW : W = 2 * 128) (l : FVec Ideal (Sh2 H 128) .f32) (a : Fin 128)
    (hn : n % 128 = 0) (hs : ∀ b : Fin W, s (ix2 r b) = σ (n + b.val)) (hm : m (ix2 r a) = rowM σ n)
    (hl : l (ix2 r a) = rowA σ (lane a.val) n) :
    tL2 ev s m l (ix2 r a) = rowA σ (lane a.val) (n + W) := by
  have e : tL2 ev s m l (ix2 r a) = (tAlpha ev s m (ix2 r a) : EReal) * l (ix2 r a)
      + ((tP ev s m 0 (ix2 r a) : EReal) + tP ev s m 1 (ix2 r a)) := rfl
  rw [e, tAlpha_apply ev s m r σ n hs a hm, hl]
  simp only [tP_apply ev s m r σ n hW hs a hm]
  conv_rhs => rw [hW, rowL_add σ n 2 a.val hn a.isLt]
  simp [Finset.sum_range_succ, hW]

/-- The new normaliser of row `r`, eight groups. -/
theorem tL8_apply (ev : Ev H W 8) (hW : W = 8 * 128) (l : FVec Ideal (Sh2 H 128) .f32) (a : Fin 128)
    (hn : n % 128 = 0) (hs : ∀ b : Fin W, s (ix2 r b) = σ (n + b.val)) (hm : m (ix2 r a) = rowM σ n)
    (hl : l (ix2 r a) = rowA σ (lane a.val) n) :
    tL8 ev s m l (ix2 r a) = rowA σ (lane a.val) (n + W) := by
  have e : tL8 ev s m l (ix2 r a) = (tAlpha ev s m (ix2 r a) : EReal) * l (ix2 r a)
      + ((((((((tP ev s m 0 (ix2 r a) : EReal) + tP ev s m 1 (ix2 r a)) + tP ev s m 2 (ix2 r a))
        + tP ev s m 3 (ix2 r a)) + tP ev s m 4 (ix2 r a)) + tP ev s m 5 (ix2 r a))
        + tP ev s m 6 (ix2 r a)) + tP ev s m 7 (ix2 r a)) := rfl
  rw [e, tAlpha_apply ev s m r σ n hs a hm, hl]
  simp only [tP_apply ev s m r σ n hW hs a hm]
  conv_rhs => rw [hW, rowL_add σ n 8 a.val hn a.isLt]
  simp [Finset.sum_range_succ, hW]

/-- The new accumulator of row `r`, two groups. -/
theorem tA2_apply (ev : Ev H W 2) (hW : W = 2 * 128) (v : Vec Ideal ⟨3, ![1, W, 128]⟩ .bf16)
    (l : FVec Ideal (Sh2 H 128) .f32) (w : ℕ → EReal) (a : Fin 128)
    (hs : ∀ b : Fin W, s (ix2 r b) = σ (n + b.val)) (hm : ∀ a : Fin 128, m (ix2 r a) = rowM σ n)
    (hv : ∀ b : Fin W, v (ix3 (0 : Fin 1) b a) = w (n + b.val))
    (hl : l (ix2 r a) = rowA σ w n) : tA2 ev s v m l (ix2 r a) = rowA σ w (n + W) :=
  tA_apply ev s m r σ n _ v l w a hs (hm a)
    (cat_apply r hW (tPb ev s m) [⟨Sh2 H 128, tPb ev s m 0⟩, ⟨Sh2 H 128, tPb ev s m 1⟩] rfl ev.cat
      (fun b => Ideal.exp2 (σ (n + b) - rowM σ (n + W)))
      fun t a => tP_apply ev s m r σ n hW hs a (hm a) t) hv hl

/-- The new accumulator of row `r`, eight groups. -/
theorem tA8_apply (ev : Ev H W 8) (hW : W = 8 * 128) (v : Vec Ideal ⟨3, ![1, W, 128]⟩ .bf16)
    (l : FVec Ideal (Sh2 H 128) .f32) (w : ℕ → EReal) (a : Fin 128)
    (hs : ∀ b : Fin W, s (ix2 r b) = σ (n + b.val)) (hm : ∀ a : Fin 128, m (ix2 r a) = rowM σ n)
    (hv : ∀ b : Fin W, v (ix3 (0 : Fin 1) b a) = w (n + b.val))
    (hl : l (ix2 r a) = rowA σ w n) : tA8 ev s v m l (ix2 r a) = rowA σ w (n + W) :=
  tA_apply ev s m r σ n _ v l w a hs (hm a)
    (cat_apply r hW (tPb ev s m)
      [⟨Sh2 H 128, tPb ev s m 0⟩, ⟨Sh2 H 128, tPb ev s m 1⟩, ⟨Sh2 H 128, tPb ev s m 2⟩, ⟨Sh2 H 128, tPb ev s m 3⟩,
       ⟨Sh2 H 128, tPb ev s m 4⟩, ⟨Sh2 H 128, tPb ev s m 5⟩, ⟨Sh2 H 128, tPb ev s m 6⟩, ⟨Sh2 H 128, tPb ev s m 7⟩] rfl ev.cat
      (fun b => Ideal.exp2 (σ (n + b) - rowM σ (n + W)))
      fun t a => tP_apply ev s m r σ n hW hs a (hm a) t) hv hl

end Row

end Cert.Tile
-- ==== Proof.Chain.lean ====
/-
  The state of the attention's running update, as the lists of writes made to its three buffers, and
  what one block does to it.

  The three buffers hold, for each of 4 heads × 1024 query rows, the running maximum, the 128 lanes
  of the normaliser and the accumulator.  `Inv … n L7 L8 L9` says that the writes `L7`, `L8`, `L9`
  leave row `R` as after its first `n R` key columns.
-/
module

public import proofs.«01_k».proof.Proof.Tile
public import proofs.«01_k».proof.KernelIdeal
public import Idealize.ShloMosaic.Lib.Pipeline.FrameBody
public import Idealize.ShloMosaic.Lib.Pipeline.ValueKit.Tiles

@[expose] public section

set_option maxRecDepth 16384

noncomputable section

namespace Cert.Chain

open Idealize.ShloMosaic Idealize.ShloMosaic.ValueIdx Cert.Flash Cert.Tile
open Cert.KernelIdeal (S1x1024x1024 S1x8192x1024 S1x8192x512 S4096x128)

/-- The values a memory element takes. -/
local notation "E" => Elt Ideal

/-- The list of writes to a state buffer. -/
abbrev Pieces := List (View.Piece (Elt Ideal) S4096x128 .f32)

section Row

variable (x0 : S1x1024x1024.Idx → Elt Ideal .bf16) (x1 : S1x8192x1024.Idx → Elt Ideal .bf16)
  (x2 : S1x8192x512.Idx → Elt Ideal .bf16) (qi : ℕ)

/-- The score of state row `R` (head `R / 1024`, query `qi · 1024 + R % 1024`) at key column `j`:
the product of query and key where the column is not after the query, `⊥` where it is. -/
def sc (R j : ℕ) : EReal :=
  if j ≤ qi * 1024 + R % 1024 then
    ∑ d : Fin 256, (x0 (ix3 (0 : Fin 1) (Fin.ofNat 1024 R) (Fin.ofNat 1024 (R / 1024 * 256 + d.val))) : EReal)
      * x1 (ix3 (0 : Fin 1) (Fin.ofNat 8192 j) (Fin.ofNat 1024 (R / 1024 * 256 + d.val)))
  else ⊥

/-- The value of state row `R` at key column `j`, coordinate `a`. -/
def vv (R a j : ℕ) : EReal :=
  x2 (ix3 (0 : Fin 1) (Fin.ofNat 8192 j) (Fin.ofNat 512 (R / 1024 * 128 + a)))

/-- The writes `L7`, `L8`, `L9` leave every row `R` as after `n R` key columns. -/
def Inv (n : ℕ → ℕ) (L7 L8 L9 : Pieces) : Prop :=
  ∀ (R : Fin 4096) (a : Fin 128),
    View.canon L7 (ix2 R a) = rowM (sc x0 x1 qi R.val) (n R.val)
    ∧ View.canon L8 (ix2 R a) = rowA (sc x0 x1 qi R.val) (lane a.val) (n R.val)
    ∧ View.canon L9 (ix2 R a) = rowA (sc x0 x1 qi R.val) (vv x2 R.val a.val) (n R.val)

/-- The invariant depends only on the counts of the 4096 rows. -/
theorem Inv.congr {n n' : ℕ → ℕ} {L7 L8 L9 : Pieces} (h : Inv x0 x1 x2 qi n L7 L8 L9)
    (e : ∀ R < 4096, n' R = n R) : Inv x0 x1 x2 qi n' L7 L8 L9 := fun R a => by
  rw [e _ R.isLt]; exact h R a

/-- A block of rows holds, in the three vectors, the state after `n'` columns. -/
def Rows (off H : ℕ) (n' : ℕ → ℕ) (P7 P8 P9 : FVec Ideal (Sh2 H 128) .f32) : Prop :=
  ∀ (r : Fin H) (a : Fin 128),
    P7 (ix2 r a) = rowM (sc x0 x1 qi (off + r.val)) (n' (off + r.val))
    ∧ P8 (ix2 r a) = rowA (sc x0 x1 qi (off + r.val)) (lane a.val) (n' (off + r.val))
    ∧ P9 (ix2 r a) = rowA (sc x0 x1 qi (off + r.val)) (vv x2 (off + r.val) a.val) (n' (off + r.val))

end Row

/-- A row inside the last write reads its payload. -/
theorem canon_in {off H : ℕ} (inb : ∀ a, (![off, 0] : Fin 2 → ℕ) a + (Sh2 H 128).size a ≤ S4096x128.size a)
    (P : FVec Ideal (Sh2 H 128) .f32) (L : Pieces) (R : Fin 4096) (a : Fin 128) (r : Fin H)
    (hr : R.val = off + r.val) :
    View.canon (⟨Rect.unit (s := S4096x128) ![off, 0] (Sh2 H 128).size inb, P⟩ :: L) (ix2 R a) = P (ix2 r a) := by
  rw [show (ix2 R a : S4096x128.Idx) = (Rect.unit (s := S4096x128) ![off, 0] (Sh2 H 128).size inb).emb (ix2 r a) from ?_]
  · exact View.canon_cons_emb (Rect.unit (s := S4096x128) ![off, 0] (Sh2 H 128).size inb) P L (ix2 r a)
  · funext x
    match x with
    | ⟨0, _⟩ => apply Fin.ext; show R.val = off + 1 * r.val; omega
    | ⟨1, _⟩ => apply Fin.ext; show a.val = 0 + 1 * a.val; omega

/-- A row outside the last write reads the earlier ones. -/
theorem canon_out {off H : ℕ} (inb : ∀ a, (![off, 0] : Fin 2 → ℕ) a + (Sh2 H 128).size a ≤ S4096x128.size a)
    (P : FVec Ideal (Sh2 H 128) .f32) (L : Pieces) (R : Fin 4096) (a : Fin 128)
    (hr : R.val < off ∨ off + H ≤ R.val) :
    View.canon (⟨Rect.unit (s := S4096x128) ![off, 0] (Sh2 H 128).size inb, P⟩ :: L) (ix2 R a)
      = View.canon L (ix2 R a) := by
  refine View.canon_cons_of_not_mem _ L fun h => ?_
  have h0 := (Rect.mem_set_unit (s := S4096x128) (off := ![off, 0]) (size := (Sh2 H 128).size) (inb := inb)).mp h (0 : Fin 2)
  have h1 : off ≤ R.val := h0.1
  have h2 : R.val < off + H := h0.2
  omega

section Row

variable {x0 : S1x1024x1024.Idx → Elt Ideal .bf16} {x1 : S1x8192x1024.Idx → Elt Ideal .bf16}
  {x2 : S1x8192x512.Idx → Elt Ideal .bf16} {qi : ℕ}

/-- Writing a block of rows moves the state of those rows. -/
theorem Inv.store {n n' : ℕ → ℕ} {L7 L8 L9 : Pieces} (h : Inv x0 x1 x2 qi n L7 L8 L9) {off H : ℕ}
    {i7 i8 i9 : ∀ a, (![off, 0] : Fin 2 → ℕ) a + (Sh2 H 128).size a ≤ S4096x128.size a}
    {P7 P8 P9 : FVec Ideal (Sh2 H 128) .f32} (hP : Rows x0 x1 x2 qi off H n' P7 P8 P9)
    (hn : ∀ R < 4096, R < off ∨ off + H ≤ R → n' R = n R) :
    Inv x0 x1 x2 qi n'
      (⟨Rect.unit (s := S4096x128) ![off, 0] (Sh2 H 128).size i7, P7⟩ :: L7)
      (⟨Rect.unit (s := S4096x128) ![off, 0] (Sh2 H 128).size i8, P8⟩ :: L8)
      (⟨Rect.unit (s := S4096x128) ![off, 0] (Sh2 H 128).size i9, P9⟩ :: L9) := by
  intro R a
  by_cases hR : R.val < off ∨ off + H ≤ R.val
  · rw [canon_out i7 P7 L7 R a hR, canon_out i8 P8 L8 R a hR, canon_out i9 P9 L9 R a hR, hn _ R.isLt hR]
    exact h R a
  · obtain ⟨r, hr⟩ : ∃ r : Fin H, R.val = off + r.val := ⟨⟨R.val - off, by omega⟩, by simp; omega⟩
    rw [canon_in i7 P7 L7 R a r hr, canon_in i8 P8 L8 R a r hr, canon_in i9 P9 L9 R a r hr, hr]
    exact hP r a

/-- A vector of `H` rows is what the writes `L` leave at rows `off …`. -/
def Loaded (off H : ℕ) (L : Pieces) (m : FVec Ideal (Sh2 H 128) .f32) : Prop :=
  ∀ (r : Fin H) (a : Fin 128) (R : Fin 4096), R.val = off + r.val → m (ix2 r a) = View.canon L (ix2 R a)

/-- A load covered by the writes is `Loaded`. -/
theorem loaded_readCov {sig : RefSig} {κ : Kind} {sp : Space} (v : View sig κ sp S4096x128 .f32) (L : Pieces)
    {off H : ℕ} (inb : ∀ a, (![off, 0] : Fin 2 → ℕ) a + (Sh2 H 128).size a ≤ S4096x128.size a) :
    Loaded off H L (v.readCov L (Rect.unit (s := S4096x128) ![off, 0] (Sh2 H 128).size inb).toLoadRect) := by
  intro r a R hR
  rw [View.readCov_eq_canon']
  refine congrArg (View.canon L) ?_
  funext x
  match x with
  | ⟨0, _⟩ => apply Fin.ext; show off + 1 * r.val = R.val; omega
  | ⟨1, _⟩ => apply Fin.ext; show 0 + 1 * a.val = a.val; omega

/-- A load of the buffer left by the writes is `Loaded`. -/
theorem loaded_readAt {sig : RefSig} {κ : Kind} {sp : Space} (v : View sig κ sp S4096x128 .f32) (L : Pieces)
    {off H : ℕ} (inb : ∀ a, (![off, 0] : Fin 2 → ℕ) a + (Sh2 H 128).size a ≤ S4096x128.size a) :
    Loaded off H L (v.readAt (Elt Ideal) (Rect.unit (s := S4096x128) ![off, 0] (Sh2 H 128).size inb).toLoadRect
      (v.writes (Elt Ideal) v.junk L)) := by
  intro r a R hR
  rw [View.readAt_writes_junk_eq_canon]
  refine congrArg (View.canon L) ?_
  funext x
  match x with
  | ⟨0, _⟩ => apply Fin.ext; show off + 1 * r.val = R.val; omega
  | ⟨1, _⟩ => apply Fin.ext; show 0 + 1 * a.val = a.val; omega

/-- The query rows `r₀ …` of head `hd`. -/
def LoadedQ (x0 : S1x1024x1024.Idx → Elt Ideal .bf16) (hd r₀ H : ℕ)
    (q : Vec Ideal ⟨3, ![1, H, 256]⟩ .bf16) : Prop :=
  ∀ (r : Fin H) (d : Fin 256), q (ix3 (0 : Fin 1) r d)
    = x0 (ix3 (0 : Fin 1) (Fin.ofNat 1024 (r₀ + r.val)) (Fin.ofNat 1024 (hd * 256 + d.val)))

/-- The key rows `c₀ …` of head `hd`. -/
def LoadedK (x1 : S1x8192x1024.Idx → Elt Ideal .bf16) (hd c₀ W : ℕ)
    (k : Vec Ideal ⟨3, ![1, W, 256]⟩ .bf16) : Prop :=
  ∀ (b : Fin W) (d : Fin 256), k (ix3 (0 : Fin 1) b d)
    = x1 (ix3 (0 : Fin 1) (Fin.ofNat 8192 (c₀ + b.val)) (Fin.ofNat 1024 (hd * 256 + d.val)))

/-- The value rows `c₀ …` of head `hd`. -/
def LoadedV (x2 : S1x8192x512.Idx → Elt Ideal .bf16) (hd c₀ W : ℕ)
    (v : Vec Ideal ⟨3, ![1, W, 128]⟩ .bf16) : Prop :=
  ∀ (b : Fin W) (a : Fin 128), v (ix3 (0 : Fin 1) b a)
    = x2 (ix3 (0 : Fin 1) (Fin.ofNat 8192 (c₀ + b.val)) (Fin.ofNat 512 (hd * 128 + a.val)))

/-- A box of a whole rank-3 argument, read at an index. -/
theorem box_apply {sig : RefSig} {κ : Kind} {sp : Space} {A B H W : ℕ} (mr : Memref sig κ sp ⟨3, ![1, A, B]⟩ .bf16)
    (hm : mr.IsWhole) (x : (⟨3, ![1, A, B]⟩ : Shape).Idx → Elt Ideal .bf16) (off : Fin 3 → ℕ) (o1 o2 : ℕ)
    (hoff : off = ![0, o1, o2])
    (inb : ∀ a, off a + (⟨3, ![1, H, W]⟩ : Shape).size a ≤ (⟨3, ![1, A, B]⟩ : Shape).size a)
    (r : Fin H) (d : Fin W) (i : Fin A) (j : Fin B) (hi : i.val = o1 + r.val) (hj : j.val = o2 + d.val) :
    mr.view.readAt (Elt Ideal) (Rect.unit (s := ⟨3, ![1, A, B]⟩) off (⟨3, ![1, H, W]⟩ : Shape).size inb).toLoadRect
      (hm.unread x) (ix3 (0 : Fin 1) r d) = x (ix3 (0 : Fin 1) i j) := by
  subst hoff
  rw [View.readAt_eq_ld, Memref.IsWhole.read_unread]
  refine View.ld_unit_apply_of _ _ _ _ _ _ fun a => ?_
  match a with
  | ⟨0, _⟩ => rfl
  | ⟨1, _⟩ => exact hi
  | ⟨2, _⟩ => exact hj

/-- The query load. -/
theorem loadedQ {sig : RefSig} {κ : Kind} {sp : Space} (mr : Memref sig κ sp S1x1024x1024 .bf16)
    (hm : mr.IsWhole) (x : S1x1024x1024.Idx → Elt Ideal .bf16) (hd r₀ H : ℕ) (off : Fin 3 → ℕ)
    (hoff : off = ![0, r₀, hd * 256]) (hh : hd < 4) (hr : r₀ + H ≤ 1024)
    (inb : ∀ a, off a + (⟨3, ![1, H, 256]⟩ : Shape).size a ≤ S1x1024x1024.size a) :
    LoadedQ x hd r₀ H (mr.view.readAt (Elt Ideal)
      (Rect.unit (s := S1x1024x1024) off (⟨3, ![1, H, 256]⟩ : Shape).size inb).toLoadRect (hm.unread x)) := by
  intro r d
  have h1 := r.isLt
  have h2 := d.isLt
  exact box_apply mr hm x off r₀ (hd * 256) hoff inb r d _ _
    (Nat.mod_eq_of_lt (by omega)) (Nat.mod_eq_of_lt (by omega))

/-- The key load. -/
theorem loadedK {sig : RefSig} {κ : Kind} {sp : Space} (mr : Memref sig κ sp S1x8192x1024 .bf16)
    (hm : mr.IsWhole) (x : S1x8192x1024.Idx → Elt Ideal .bf16) (hd c₀ W : ℕ) (off : Fin 3 → ℕ)
    (hoff : off = ![0, c₀, hd * 256]) (hh : hd < 4) (hr : c₀ + W ≤ 8192)
    (inb : ∀ a, off a + (⟨3, ![1, W, 256]⟩ : Shape).size a ≤ S1x8192x1024.size a) :
    LoadedK x hd c₀ W (mr.view.readAt (Elt Ideal)
      (Rect.unit (s := S1x8192x1024) off (⟨3, ![1, W, 256]⟩ : Shape).size inb).toLoadRect (hm.unread x)) := by
  intro r d
  have h1 := r.isLt
  have h2 := d.isLt
  exact box_apply mr hm x off c₀ (hd * 256) hoff inb r d _ _
    (Nat.mod_eq_of_lt (by omega)) (Nat.mod_eq_of_lt (by omega))

/-- The value load. -/
theorem loadedV {sig : RefSig} {κ : Kind} {sp : Space} (mr : Memref sig κ sp S1x8192x512 .bf16)
    (hm : mr.IsWhole) (x : S1x8192x512.Idx → Elt Ideal .bf16) (hd c₀ W : ℕ) (off : Fin 3 → ℕ)
    (hoff : off = ![0, c₀, hd * 128]) (hh : hd < 4) (hr : c₀ + W ≤ 8192)
    (inb : ∀ a, off a + (⟨3, ![1, W, 128]⟩ : Shape).size a ≤ S1x8192x512.size a) :
    LoadedV x hd c₀ W (mr.view.readAt (Elt Ideal)
      (Rect.unit (s := S1x8192x512) off (⟨3, ![1, W, 128]⟩ : Shape).size inb).toLoadRect (hm.unread x)) := by
  intro r d
  have h1 := r.isLt
  have h2 := d.isLt
  exact box_apply mr hm x off c₀ (hd * 128) hoff inb r d _ _
    (Nat.mod_eq_of_lt (by omega)) (Nat.mod_eq_of_lt (by omega))

/-- The product of a loaded query row with a loaded key row is the unmasked score. -/
theorem score_eq {H W K hd r₀ c₀ : ℕ} (ev : Ev H W K) {q : Vec Ideal ⟨3, ![1, H, 256]⟩ .bf16}
    {k : Vec Ideal ⟨3, ![1, W, 256]⟩ .bf16} (hq : LoadedQ x0 hd r₀ H q) (hk : LoadedK x1 hd c₀ W k)
    (hr : r₀ + H ≤ 1024) (r : Fin H) (b : Fin W) (h : c₀ + b.val ≤ qi * 1024 + (r₀ + r.val)) :
    tS ev q k (ix2 r b) = sc x0 x1 qi (hd * 1024 + r₀ + r.val) (c₀ + b.val) := by
  have hlt := r.isLt
  have e1 : (hd * 1024 + r₀ + r.val) % 1024 = r₀ + r.val := by omega
  have e2 : (hd * 1024 + r₀ + r.val) / 1024 = hd := by omega
  rw [tS_apply, sc, e1, e2, if_pos h]
  refine Finset.sum_congr rfl fun d _ => ?_
  rw [hq, hk]
  congr 3
  apply Fin.ext
  show (r₀ + r.val) % 1024 = (hd * 1024 + r₀ + r.val) % 1024
  omega

/-- Before the diagonal, no column of a block is masked: eight groups of columns, all 1024 rows. -/
theorem rows_full {hd c₀ : ℕ} (ev : Ev 1024 1024 8) {n n' : ℕ → ℕ} {L7 L8 L9 : Pieces}
    (h : Inv x0 x1 x2 qi n L7 L8 L9) {q : Vec Ideal ⟨3, ![1, 1024, 256]⟩ .bf16}
    {k : Vec Ideal ⟨3, ![1, 1024, 256]⟩ .bf16} {v : Vec Ideal ⟨3, ![1, 1024, 128]⟩ .bf16}
    {m l a : FVec Ideal (Sh2 1024 128) .f32} (hq : LoadedQ x0 hd 0 1024 q) (hk : LoadedK x1 hd c₀ 1024 k)
    (hv : LoadedV x2 hd c₀ 1024 v) (hm : Loaded (hd * 1024) 1024 L7 m) (hl : Loaded (hd * 1024) 1024 L8 l)
    (ha : Loaded (hd * 1024) 1024 L9 a) (hhd : hd < 4) (hc : c₀ + 1024 ≤ qi * 1024) (hc0 : c₀ % 128 = 0)
    (hn : ∀ r < 1024, n (hd * 1024 + r) = c₀) (hn' : ∀ r < 1024, n' (hd * 1024 + r) = c₀ + 1024) :
    Rows x0 x1 x2 qi (hd * 1024) 1024 n' (shapeCast (Sh2 1024 128) (tM ev (tS ev q k) m) ev.self)
      (shapeCast (Sh2 1024 128) (tL8 ev (tS ev q k) m l) ev.self)
      (shapeCast (Sh2 1024 128) (tA8 ev (tS ev q k) v m a) ev.self) := by
  simp only [shapeCast_self]
  intro r c
  have hr := r.isLt
  have hb : hd * 1024 + r.val < 4096 := by omega
  have hs : ∀ b : Fin 1024, tS ev q k (ix2 r b) = sc x0 x1 qi (hd * 1024 + r.val) (c₀ + b.val) := fun b => by
    have := b.isLt
    exact score_eq (qi := qi) ev hq hk (by omega) r b (by omega)
  have hst := h ⟨hd * 1024 + r.val, hb⟩
  simp only [hn r.val hr] at hst
  have hm' : ∀ c : Fin 128, m (ix2 r c) = rowM (sc x0 x1 qi (hd * 1024 + r.val)) c₀ := fun c =>
    (hm r c ⟨_, hb⟩ rfl).trans (hst c).1
  rw [hn' r.val hr]
  refine ⟨tM_apply ev _ m r c _ c₀ hs (hm' c), tL8_apply _ m r _ c₀ ev rfl l c hc0 hs (hm' c)
    ((hl r c ⟨_, hb⟩ rfl).trans (hst c).2.1), tA8_apply _ m r _ c₀ ev rfl v a _ c hs hm' (fun b => ?_)
    ((ha r c ⟨_, hb⟩ rfl).trans (hst c).2.2)⟩
  rw [hv, vv, show (hd * 1024 + r.val) / 1024 = hd by omega]

/-- On the diagonal: two groups of columns, the rows from `r₀` on, the columns after the row's own
position masked. -/
theorem rows_diag {hd r₀ H : ℕ} (ev : Ev H 256 2) {n n' : ℕ → ℕ} {L7 L8 L9 : Pieces}
    (h : Inv x0 x1 x2 qi n L7 L8 L9) {q : Vec Ideal ⟨3, ![1, H, 256]⟩ .bf16}
    {k : Vec Ideal ⟨3, ![1, 256, 256]⟩ .bf16} {v : Vec Ideal ⟨3, ![1, 256, 128]⟩ .bf16}
    (h1 : (Sh2 H 256).Iotas .tc 32 [1]) (h0 : (Sh2 H 256).Iotas .tc 32 [0]) {neg : Ideal .f32}
    {m l a : FVec Ideal (Sh2 H 128) .f32} (hq : LoadedQ x0 hd r₀ H q)
    (hk : LoadedK x1 hd (qi * 1024 + r₀) 256 k) (hv : LoadedV x2 hd (qi * 1024 + r₀) 256 v)
    (hm : Loaded (hd * 1024 + r₀) H L7 m) (hl : Loaded (hd * 1024 + r₀) H L8 l)
    (ha : Loaded (hd * 1024 + r₀) H L9 a) (hneg : neg = (⊥ : EReal))
    (hhd : hd < 4) (hr : r₀ + H ≤ 1024) (hr0 : r₀ % 128 = 0)
    (hn : ∀ r < H, n (hd * 1024 + r₀ + r) = qi * 1024 + r₀)
    (hn' : ∀ r < H, n' (hd * 1024 + r₀ + r) = qi * 1024 + r₀ + 256) :
    Rows x0 x1 x2 qi (hd * 1024 + r₀) H n'
      (shapeCast (Sh2 H 128)
        (tM ev (tMask h1 h0 (BitVec.ofNat 32 r₀) (BitVec.ofNat 32 r₀) neg (tS ev q k)) m) ev.self)
      (shapeCast (Sh2 H 128)
        (tL2 ev (tMask h1 h0 (BitVec.ofNat 32 r₀) (BitVec.ofNat 32 r₀) neg (tS ev q k)) m l) ev.self)
      (shapeCast (Sh2 H 128)
        (tA2 ev (tMask h1 h0 (BitVec.ofNat 32 r₀) (BitVec.ofNat 32 r₀) neg (tS ev q k)) v m a) ev.self) := by
  simp only [shapeCast_self]
  intro r c
  have hlt := r.isLt
  have hb : hd * 1024 + r₀ + r.val < 4096 := by omega
  have hs : ∀ b : Fin 256, tMask h1 h0 (BitVec.ofNat 32 r₀) (BitVec.ofNat 32 r₀) neg (tS ev q k) (ix2 r b)
      = sc x0 x1 qi (hd * 1024 + r₀ + r.val) (qi * 1024 + r₀ + b.val) := fun b => by
    have := b.isLt
    rw [tMask_apply h1 h0 r₀ r₀ neg _ r b (by omega) (by omega)]
    split
    · exact score_eq (qi := qi) ev hq hk hr r b (by omega)
    · rw [sc, if_neg (by omega), hneg]
  have hst := h ⟨hd * 1024 + r₀ + r.val, hb⟩
  simp only [hn r.val hlt] at hst
  have hm' : ∀ c : Fin 128, m (ix2 r c) = rowM (sc x0 x1 qi (hd * 1024 + r₀ + r.val)) (qi * 1024 + r₀) :=
    fun c => (hm r c ⟨_, hb⟩ rfl).trans (hst c).1
  rw [hn' r.val hlt]
  refine ⟨tM_apply ev _ m r c _ _ hs (hm' c), tL2_apply _ m r _ _ ev rfl l c (by omega) hs (hm' c)
    ((hl r c ⟨_, hb⟩ rfl).trans (hst c).2.1), tA2_apply _ m r _ _ ev rfl v a _ c hs hm' (fun b => ?_)
    ((ha r c ⟨_, hb⟩ rfl).trans (hst c).2.2)⟩
  rw [hv, vv, show (hd * 1024 + r₀ + r.val) / 1024 = hd by omega]

end Row

end Cert.Chain
-- ==== Proof.Loop.lean ====
/-
  The loop over the key blocks before the diagonal: what one trip does to the state, and the state
  after the whole loop.
-/
module

public import proofs.«01_k».proof.Proof.Chain
public import proofs.«01_k».proof.Proof.Gen.KernelIdeal.Loops
import all proofs.«01_k».proof.Proof.Gen.KernelIdeal.Loops

@[expose] public section

set_option maxRecDepth 16384

noncomputable section

namespace Cert.Loop

open Idealize.ShloMosaic Idealize.ShloMosaic.TcCoe Idealize.ShloMosaic.ValueIdx Idealize.SL.Sem
open Cert.Flash Cert.Tile Cert.Chain Cert.KernelIdeal Cert.KernelIdeal.Gen

/-! ### Scalars -/

/-- The number of trips of the loop over whole key blocks is the query block's index. -/
theorem trips1 (i : grid0.Coords) : Scf.trips (k0_t1_loop i).lb (k0_t1_loop i).ub (k0_t1_loop i).st = (i 2).val := by
  have h : ∀ q : Fin 8, Scf.trips 0#32 (Scalar.addi 0#32 (Scalar.muli (Scalar.divsi (Scalar.subi (Scalar.muli
      (BitVec.ofNat 32 q.val) 1#32) 0#32) 1#32) 1#32)) 1#32 = q.val := by decide +kernel
  exact h (i 2)

/-- The second loop has no trips. -/
theorem trips2 (i : grid0.Coords) : Scf.trips (k0_t2_loop i).lb (k0_t2_loop i).ub (k0_t2_loop i).st = 0 := by
  have h : ∀ q : Fin 8, Scf.trips (Scalar.addi 0#32 (Scalar.muli (Scalar.divsi (Scalar.subi (Scalar.muli
      (BitVec.ofNat 32 q.val) 1#32) 0#32) 1#32) 1#32)) (Scalar.addi 0#32 (Scalar.subi (Scalar.muli
      (BitVec.ofNat 32 q.val) 1#32) 0#32)) 1#32 = 0 := by decide +kernel
  exact h (i 2)

/-- The first row of key block `k`. -/
theorem off_trip (k : ℕ) (hk : k < 8) :
    (Scalar.indexCast (Scalar.muli (Scf.iv 0#32 1#32 k) 1024#32)).toNat = k * 1024 := by
  have h : ∀ q : Fin 8, (Scalar.indexCast (Scalar.muli (Scf.iv 0#32 1#32 q.val) 1024#32)).toNat = q.val * 1024 := by
    decide +kernel
  exact h ⟨k, hk⟩

/-- The shape facts of a whole block. -/
theorem evFull : Ev 1024 1024 8 where
  red := reduces_S1024x1024_S1024
  col := shapeCasts_S1024_S1024x1
  bc := broadcasts_S1024x1_S1024x128
  self := shapeCasts_S1024x128_S1024x128
  sl := by decide
  cat := concatenates_S1024x128_S1024x128_S1024x128_S1024x128_S1024x128_S1024x128_S1024x128_S1024x128_S1024x1024_d1
  castq := shapeCasts_S1x1024x256_S1024x256
  castk := shapeCasts_S1x1024x256_S1024x256
  castv := shapeCasts_S1x1024x128_S1024x128
  bits := bitsLt_bf16_f32

/-! ### One trip -/

variable (𝒱 : Variants) (c : Dev nD) (bd : Option 𝒱.V) (i : grid0.Coords)
  (arg3 : Memref sig .tc .vmem S1x1024x1024 .bf16) (harg3 : arg3.IsWhole)
  (arg4 : Memref sig .tc .vmem S1x8192x1024 .bf16) (harg4 : arg4.IsWhole)
  (arg5 : Memref sig .tc .vmem S1x8192x512 .bf16) (harg5 : arg5.IsWhole)
  (arg6 : Memref sig .tc .vmem S1x1024x512 .bf16) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (x0 : S1x1024x1024.Idx → Elt Ideal .bf16) (x1 : S1x8192x1024.Idx → Elt Ideal .bf16)
  (x2 : S1x8192x512.Idx → Elt Ideal .bf16)

/-- The count of columns after the first `h` heads of trip `k`. -/
def tripN (k h R : ℕ) : ℕ := if R / 1024 < h then (k + 1) * 1024 else k * 1024

/-- One trip takes every row from `k · 1024` to `(k + 1) · 1024` columns. -/
theorem trip_inv (k : Fin (k0_t1_loop i).trips) {L7 L8 L9 : Pieces}
    (h : Inv x0 x1 x2 (i 2).val (tripN k.val 0) L7 L8 L9) :
    Inv x0 x1 x2 (i 2).val (tripN k.val 4)
      ((tripL_k0_t1 (F := Ideal) 𝒱 c bd i arg3 harg3 arg4 harg4 arg5 harg5 arg6 harg6 arg7 harg7 arg8 harg8
        arg9 harg9 (harg3.unread x0) (harg4.unread x1) (harg5.unread x2) k
        (arg7.view.writes (Elt Ideal) arg7.view.junk L7) (arg8.view.writes (Elt Ideal) arg8.view.junk L8)
        (arg9.view.writes (Elt Ideal) arg9.view.junk L9)).1 ++ L7)
      ((tripL_k0_t1 (F := Ideal) 𝒱 c bd i arg3 harg3 arg4 harg4 arg5 harg5 arg6 harg6 arg7 harg7 arg8 harg8
        arg9 harg9 (harg3.unread x0) (harg4.unread x1) (harg5.unread x2) k
        (arg7.view.writes (Elt Ideal) arg7.view.junk L7) (arg8.view.writes (Elt Ideal) arg8.view.junk L8)
        (arg9.view.writes (Elt Ideal) arg9.view.junk L9)).2.1 ++ L8)
      ((tripL_k0_t1 (F := Ideal) 𝒱 c bd i arg3 harg3 arg4 harg4 arg5 harg5 arg6 harg6 arg7 harg7 arg8 harg8
        arg9 harg9 (harg3.unread x0) (harg4.unread x1) (harg5.unread x2) k
        (arg7.view.writes (Elt Ideal) arg7.view.junk L7) (arg8.view.writes (Elt Ideal) arg8.view.junk L8)
        (arg9.view.writes (Elt Ideal) arg9.view.junk L9)).2.2 ++ L9) := by
  have hq : (i 2).val < 8 := (i 2).isLt
  have hk : k.val < (i 2).val := by
    have h1 := k.isLt
    have h2 : (k0_t1_loop i).trips = (i 2).val := trips1 i
    omega
  have e0 := off_trip k.val (by omega)
  unfold tripL_k0_t1 trip_k0_t1
  dsimp only [List.cons_append, List.nil_append]
  refine Inv.store (n := tripN k.val 3) (Inv.store (n := tripN k.val 2) (Inv.store (n := tripN k.val 1)
    (Inv.store (n := tripN k.val 0) h ?_ ?_) ?_ ?_) ?_ ?_) ?_ ?_
  · exact rows_full (hd := 0) evFull h
      (loadedQ arg3 harg3 x0 0 0 1024 ![0, 0, 0] rfl (by omega) (by omega) inb_S1x1024x1024_S1x1024x256_0_0_0)
      (loadedK arg4 harg4 x1 0 (k.val * 1024) 1024 (k0_off1 i k) (by rw [← e0]; rfl) (by omega) (by omega)
        (k0_off1_inb i k))
      (loadedV arg5 harg5 x2 0 (k.val * 1024) 1024 (k0_off2 i k) (by rw [← e0]; rfl) (by omega) (by omega)
        (k0_off2_inb i k))
      (loaded_readAt arg7.view L7 inb_S4096x128_S1024x128_0_0)
      (loaded_readAt arg8.view L8 inb_S4096x128_S1024x128_0_0)
      (loaded_readAt arg9.view L9 inb_S4096x128_S1024x128_0_0)
      (by omega) (by omega) (by omega) (fun r hr => by simp only [tripN]; split <;> omega)
      (fun r hr => by simp only [tripN]; split <;> omega)
  · intro R hR hout
    simp only [tripN]
    split <;> split <;> omega
  · exact rows_full (hd := 1) evFull h
      (loadedQ arg3 harg3 x0 1 0 1024 ![0, 0, 256] rfl (by omega) (by omega) inb_S1x1024x1024_S1x1024x256_0_0_256)
      (loadedK arg4 harg4 x1 1 (k.val * 1024) 1024 (k0_off3 i k) (by rw [← e0]; rfl) (by omega) (by omega)
        (k0_off3_inb i k))
      (loadedV arg5 harg5 x2 1 (k.val * 1024) 1024 (k0_off4 i k) (by rw [← e0]; rfl) (by omega) (by omega)
        (k0_off4_inb i k))
      (loaded_readAt arg7.view L7 inb_S4096x128_S1024x128_1024_0)
      (loaded_readAt arg8.view L8 inb_S4096x128_S1024x128_1024_0)
      (loaded_readAt arg9.view L9 inb_S4096x128_S1024x128_1024_0)
      (by omega) (by omega) (by omega) (fun r hr => by simp only [tripN]; split <;> omega)
      (fun r hr => by simp only [tripN]; split <;> omega)
  · intro R hR hout
    simp only [tripN]
    split <;> split <;> omega
  · exact rows_full (hd := 2) evFull h
      (loadedQ arg3 harg3 x0 2 0 1024 ![0, 0, 512] rfl (by omega) (by omega) inb_S1x1024x1024_S1x1024x256_0_0_512)
      (loadedK arg4 harg4 x1 2 (k.val * 1024) 1024 (k0_off5 i k) (by rw [← e0]; rfl) (by omega) (by omega)
        (k0_off5_inb i k))
      (loadedV arg5 harg5 x2 2 (k.val * 1024) 1024 (k0_off6 i k) (by rw [← e0]; rfl) (by omega) (by omega)
        (k0_off6_inb i k))
      (loaded_readAt arg7.view L7 inb_S4096x128_S1024x128_2048_0)
      (loaded_readAt arg8.view L8 inb_S4096x128_S1024x128_2048_0)
      (loaded_readAt arg9.view L9 inb_S4096x128_S1024x128_2048_0)
      (by omega) (by omega) (by omega) (fun r hr => by simp only [tripN]; split <;> omega)
      (fun r hr => by simp only [tripN]; split <;> omega)
  · intro R hR hout
    simp only [tripN]
    split <;> split <;> omega
  · exact rows_full (hd := 3) evFull h
      (loadedQ arg3 harg3 x0 3 0 1024 ![0, 0, 768] rfl (by omega) (by omega) inb_S1x1024x1024_S1x1024x256_0_0_768)
      (loadedK arg4 harg4 x1 3 (k.val * 1024) 1024 (k0_off7 i k) (by rw [← e0]; rfl) (by omega) (by omega)
        (k0_off7_inb i k))
      (loadedV arg5 harg5 x2 3 (k.val * 1024) 1024 (k0_off8 i k) (by rw [← e0]; rfl) (by omega) (by omega)
        (k0_off8_inb i k))
      (loaded_readAt arg7.view L7 inb_S4096x128_S1024x128_3072_0)
      (loaded_readAt arg8.view L8 inb_S4096x128_S1024x128_3072_0)
      (loaded_readAt arg9.view L9 inb_S4096x128_S1024x128_3072_0)
      (by omega) (by omega) (by omega) (fun r hr => by simp only [tripN]; split <;> omega)
      (fun r hr => by simp only [tripN]; split <;> omega)
  · intro R hR hout
    simp only [tripN]
    split <;> split <;> omega

/-! ### The whole loop -/

/-- After the first `k` trips every row has consumed `k · 1024` columns. -/
theorem loop_inv {M7 M8 M9 : Pieces} (h0 : Inv x0 x1 x2 (i 2).val (fun _ => 0) M7 M8 M9) (k : ℕ)
    (hk : k ≤ (k0_t1_loop i).trips) :
    Inv x0 x1 x2 (i 2).val (fun _ => k * 1024)
      ((pb_k0_t1 (F := Ideal) 𝒱 c bd i arg3 harg3 arg4 harg4 arg5 harg5 arg6 harg6 arg7 harg7 arg8 harg8
        arg9 harg9 (harg3.unread x0) (harg4.unread x1) (harg5.unread x2)
        (arg7.view.writes (Elt Ideal) arg7.view.junk M7) (arg8.view.writes (Elt Ideal) arg8.view.junk M8)
        (arg9.view.writes (Elt Ideal) arg9.view.junk M9) k).1 ++ M7)
      ((pb_k0_t1 (F := Ideal) 𝒱 c bd i arg3 harg3 arg4 harg4 arg5 harg5 arg6 harg6 arg7 harg7 arg8 harg8
        arg9 harg9 (harg3.unread x0) (harg4.unread x1) (harg5.unread x2)
        (arg7.view.writes (Elt Ideal) arg7.view.junk M7) (arg8.view.writes (Elt Ideal) arg8.view.junk M8)
        (arg9.view.writes (Elt Ideal) arg9.view.junk M9) k).2.1 ++ M8)
      ((pb_k0_t1 (F := Ideal) 𝒱 c bd i arg3 harg3 arg4 harg4 arg5 harg5 arg6 harg6 arg7 harg7 arg8 harg8
        arg9 harg9 (harg3.unread x0) (harg4.unread x1) (harg5.unread x2)
        (arg7.view.writes (Elt Ideal) arg7.view.junk M7) (arg8.view.writes (Elt Ideal) arg8.view.junk M8)
        (arg9.view.writes (Elt Ideal) arg9.view.junk M9) k).2.2 ++ M9) := by
  induction k with
  | zero => exact Inv.congr x0 x1 x2 _ h0 (fun R _ => by simp)
  | succ k ih =>
    have hs := pb_k0_t1_succ (F := Ideal) 𝒱 c bd i arg3 harg3 arg4 harg4 arg5 harg5 arg6 harg6 arg7 harg7 arg8 harg8
        arg9 harg9 (harg3.unread x0) (harg4.unread x1) (harg5.unread x2)
        (arg7.view.writes (Elt Ideal) arg7.view.junk M7) (arg8.view.writes (Elt Ideal) arg8.view.junk M8)
        (arg9.view.writes (Elt Ideal) arg9.view.junk M9) ⟨k, hk⟩
    dsimp only at hs
    rw [hs, ← View.writes_append, ← View.writes_append, ← View.writes_append, List.append_assoc,
      List.append_assoc, List.append_assoc]
    refine Inv.congr x0 x1 x2 _ (trip_inv 𝒱 c bd i arg3 harg3 arg4 harg4 arg5 harg5 arg6 harg6 arg7 harg7 arg8 harg8
        arg9 harg9 x0 x1 x2 ⟨k, hk⟩ (Inv.congr x0 x1 x2 _ (ih (by omega)) (fun R _ => ?_))) (fun R hR => ?_)
    · simp [tripN]
    · simp only [tripN]
      split <;> omega

end Cert.Loop
-- ==== Proof.Body.lean ====
/-
  The state after a whole grid point: the fill, the loop over whole key blocks, and the sixteen tiles
  on the diagonal.
-/
module

public import proofs.«01_k».proof.Proof.Loop
public import proofs.«01_k».proof.Proof.Gen.KernelIdeal.Value
import all proofs.«01_k».proof.Proof.Gen.KernelIdeal.Loops
import all proofs.«01_k».proof.Proof.Gen.KernelIdeal.Frame.RunA

@[expose] public section

set_option maxRecDepth 16384

noncomputable section

namespace Cert.Body

open Idealize.ShloMosaic Idealize.ShloMosaic.TcCoe Idealize.ShloMosaic.ValueIdx Idealize.SL.Sem
open Cert.Flash Cert.Tile Cert.Chain Cert.Loop Cert.KernelIdeal Cert.KernelIdeal.Gen

/-! ### The shape facts of the four tile heights -/

/-- Tiles of 1024 rows. -/
theorem ev0 : Ev 1024 256 2 where
  red := reduces_S1024x256_S1024
  col := shapeCasts_S1024_S1024x1
  bc := broadcasts_S1024x1_S1024x128
  self := shapeCasts_S1024x128_S1024x128
  sl := by decide
  cat := concatenates_S1024x128_S1024x128_S1024x256_d1
  castq := shapeCasts_S1x1024x256_S1024x256
  castk := shapeCasts_S1x256x256_S256x256
  castv := shapeCasts_S1x256x128_S256x128
  bits := bitsLt_bf16_f32

/-- Tiles of 768 rows. -/
theorem ev1 : Ev 768 256 2 where
  red := reduces_S768x256_S768
  col := shapeCasts_S768_S768x1
  bc := broadcasts_S768x1_S768x128
  self := shapeCasts_S768x128_S768x128
  sl := by decide
  cat := concatenates_S768x128_S768x128_S768x256_d1
  castq := shapeCasts_S1x768x256_S768x256
  castk := shapeCasts_S1x256x256_S256x256
  castv := shapeCasts_S1x256x128_S256x128
  bits := bitsLt_bf16_f32

/-- Tiles of 512 rows. -/
theorem ev2 : Ev 512 256 2 where
  red := reduces_S512x256_S512
  col := shapeCasts_S512_S512x1
  bc := broadcasts_S512x1_S512x128
  self := shapeCasts_S512x128_S512x128
  sl := by decide
  cat := concatenates_S512x128_S512x128_S512x256_d1
  castq := shapeCasts_S1x512x256_S512x256
  castk := shapeCasts_S1x256x256_S256x256
  castv := shapeCasts_S1x256x128_S256x128
  bits := bitsLt_bf16_f32

/-- Tiles of 256 rows. -/
theorem ev3 : Ev 256 256 2 where
  red := reduces_S256x256_S256
  col := shapeCasts_S256_S256x1
  bc := broadcasts_S256x1_S256x128
  self := shapeCasts_S256x128_S256x128
  sl := by decide
  cat := concatenates_S256x128_S256x128_S256x256_d1
  castq := shapeCasts_S1x256x256_S256x256
  castk := shapeCasts_S1x256x256_S256x256
  castv := shapeCasts_S1x256x128_S256x128
  bits := bitsLt_bf16_f32

/-! ### One tile on the diagonal -/

/-- The columns a row has consumed after `k` tiles: tile `4 d + h` is the `d`-th group of columns of
head `h`, and a row takes the groups up to its own. -/
def N (qi k R : ℕ) : ℕ := qi * 1024 + 256 * min ((k + 3 - R / 1024) / 4) (R % 1024 / 256 + 1)

/-- The first row of a tile's keys. -/
theorem off_diag (i : grid0.Coords) (d : ℕ) (hd : d < 4) :
    (Scalar.indexCast (Scalar.addi (Scalar.muli (BitVec.ofNat 32 (i 2).val) 1024#32) (BitVec.ofNat 32 (256 * d)))).toNat
      = (i 2).val * 1024 + 256 * d := by
  have h : ∀ (q : Fin 8) (d : Fin 4), (Scalar.indexCast (Scalar.addi (Scalar.muli (BitVec.ofNat 32 q.val) 1024#32)
      (BitVec.ofNat 32 (256 * d.val)))).toNat = q.val * 1024 + 256 * d.val := by decide +kernel
  exact h (i 2) ⟨d, hd⟩

variable (c : Dev nD) (i : grid0.Coords)
  (arg3 : Memref sig .tc .vmem S1x1024x1024 .bf16) (harg3 : arg3.IsWhole)
  (arg4 : Memref sig .tc .vmem S1x8192x1024 .bf16) (harg4 : arg4.IsWhole)
  (arg5 : Memref sig .tc .vmem S1x8192x512 .bf16) (harg5 : arg5.IsWhole)
  (arg6 : Memref sig .tc .vmem S1x1024x512 .bf16) (harg6 : arg6.IsWhole)
  (arg7 : Memref sig .tc .vmem S4096x128 .f32) (harg7 : arg7.IsWhole)
  (arg8 : Memref sig .tc .vmem S4096x128 .f32) (harg8 : arg8.IsWhole)
  (arg9 : Memref sig .tc .vmem S4096x128 .f32) (harg9 : arg9.IsWhole)
  (x0 : S1x1024x1024.Idx → Elt Ideal .bf16) (x1 : S1x8192x1024.Idx → Elt Ideal .bf16)
  (x2 : S1x8192x512.Idx → Elt Ideal .bf16)

/-- One tile on the diagonal: the rows of head `hd` from `256 d` on take the keys `256 d … 256 d + 255`
of the query block's own key block. -/
theorem step_diag {qi : ℕ} (hqi : qi < 8) (hd d : ℕ) {H : ℕ} (ev : Ev H 256 2) {L7 L8 L9 : Pieces}
    (h : Inv x0 x1 x2 qi (N qi (4 * d + hd)) L7 L8 L9) (offk offv : Fin 3 → ℕ)
    (hoffk : offk = ![0, qi * 1024 + 256 * d, hd * 256]) (hoffv : offv = ![0, qi * 1024 + 256 * d, hd * 128])
    {inbq : ∀ a, (![0, 256 * d, hd * 256] : Fin 3 → ℕ) a + (⟨3, ![1, H, 256]⟩ : Shape).size a ≤ S1x1024x1024.size a}
    {inbk : ∀ a, offk a + (⟨3, ![1, 256, 256]⟩ : Shape).size a ≤ S1x8192x1024.size a}
    {inbv : ∀ a, offv a + (⟨3, ![1, 256, 128]⟩ : Shape).size a ≤ S1x8192x512.size a}
    {i7 i8 i9 j7 j8 j9 : ∀ a, (![hd * 1024 + 256 * d, 0] : Fin 2 → ℕ) a + (Sh2 H 128).size a ≤ S4096x128.size a}
    (h1 : (Sh2 H 256).Iotas .tc 32 [1]) (h0 : (Sh2 H 256).Iotas .tc 32 [0]) {neg : Ideal .f32} (hneg : neg = (⊥ : EReal))
    (hhd : hd < 4) (hr : H + 256 * d = 1024) (hd4 : d < 4) :
    Inv x0 x1 x2 qi (N qi (4 * d + hd + 1))
      (⟨Rect.unit (s := S4096x128) ![hd * 1024 + 256 * d, 0] (Sh2 H 128).size i7, shapeCast (Sh2 H 128)
        (tM ev (tMask h1 h0 (BitVec.ofNat 32 (256 * d)) (BitVec.ofNat 32 (256 * d)) neg (tS ev
          (arg3.view.readAt (Elt Ideal) (Rect.unit (s := S1x1024x1024) ![0, 256 * d, hd * 256] (⟨3, ![1, H, 256]⟩ : Shape).size inbq).toLoadRect (harg3.unread x0))
          (arg4.view.readAt (Elt Ideal) (Rect.unit (s := S1x8192x1024) offk (⟨3, ![1, 256, 256]⟩ : Shape).size inbk).toLoadRect (harg4.unread x1))))
          (arg7.view.readCov L7 (Rect.unit (s := S4096x128) ![hd * 1024 + 256 * d, 0] (Sh2 H 128).size j7).toLoadRect)) ev.self⟩ :: L7)
      (⟨Rect.unit (s := S4096x128) ![hd * 1024 + 256 * d, 0] (Sh2 H 128).size i8, shapeCast (Sh2 H 128)
        (tL2 ev (tMask h1 h0 (BitVec.ofNat 32 (256 * d)) (BitVec.ofNat 32 (256 * d)) neg (tS ev
          (arg3.view.readAt (Elt Ideal) (Rect.unit (s := S1x1024x1024) ![0, 256 * d, hd * 256] (⟨3, ![1, H, 256]⟩ : Shape).size inbq).toLoadRect (harg3.unread x0))
          (arg4.view.readAt (Elt Ideal) (Rect.unit (s := S1x8192x1024) offk (⟨3, ![1, 256, 256]⟩ : Shape).size inbk).toLoadRect (harg4.unread x1))))
          (arg7.view.readCov L7 (Rect.unit (s := S4096x128) ![hd * 1024 + 256 * d, 0] (Sh2 H 128).size j7).toLoadRect)
          (arg8.view.readCov L8 (Rect.unit (s := S4096x128) ![hd * 1024 + 256 * d, 0] (Sh2 H 128).size j8).toLoadRect)) ev.self⟩ :: L8)
      (⟨Rect.unit (s := S4096x128) ![hd * 1024 + 256 * d, 0] (Sh2 H 128).size i9, shapeCast (Sh2 H 128)
        (tA2 ev (tMask h1 h0 (BitVec.ofNat 32 (256 * d)) (BitVec.ofNat 32 (256 * d)) neg (tS ev
          (arg3.view.readAt (Elt Ideal) (Rect.unit (s := S1x1024x1024) ![0, 256 * d, hd * 256] (⟨3, ![1, H, 256]⟩ : Shape).size inbq).toLoadRect (harg3.unread x0))
          (arg4.view.readAt (Elt Ideal) (Rect.unit (s := S1x8192x1024) offk (⟨3, ![1, 256, 256]⟩ : Shape).size inbk).toLoadRect (harg4.unread x1))))
          (arg5.view.readAt (Elt Ideal) (Rect.unit (s := S1x8192x512) offv (⟨3, ![1, 256, 128]⟩ : Shape).size inbv).toLoadRect (harg5.unread x2))
          (arg7.view.readCov L7 (Rect.unit (s := S4096x128) ![hd * 1024 + 256 * d, 0] (Sh2 H 128).size j7).toLoadRect)
          (arg9.view.readCov L9 (Rect.unit (s := S4096x128) ![hd * 1024 + 256 * d, 0] (Sh2 H 128).size j9).toLoadRect)) ev.self⟩ :: L9) := by
  refine Inv.store h (rows_diag ev h h1 h0
    (loadedQ arg3 harg3 x0 hd (256 * d) H _ rfl hhd (by omega) inbq)
    (loadedK arg4 harg4 x1 hd (qi * 1024 + 256 * d) 256 offk hoffk hhd (by omega) inbk)
    (loadedV arg5 harg5 x2 hd (qi * 1024 + 256 * d) 256 offv hoffv hhd (by omega) inbv)
    (loaded_readCov arg7.view L7 j7) (loaded_readCov arg8.view L8 j8) (loaded_readCov arg9.view L9 j9)
    hneg hhd (by omega) (by omega) ?_ ?_) ?_
  · intro r hr'
    simp only [N]
    omega
  · intro r hr'
    simp only [N]
    omega
  · intro R hR ho
    simp only [N]
    omega

/-! ### The chain of tiles -/

/-- The named mask constant is minus infinity. -/
theorem neg_eq : (Named.named (F := Ideal) κ "mask" (φ := .f32) 0xF149F2CA#32) = (⊥ : EReal) :=
  IdealRules.named_const.ideal_named_scalar _ _ _ _ rfl

/-- After the loop and the sixteen tiles on the diagonal every row has consumed its columns. -/
theorem diag_inv (h0 : Inv x0 x1 x2 (i 2).val (N (i 2).val 0)
      ((pb_k0_t1 (F := Ideal) Variants.none c none i arg3 harg3 arg4 harg4 arg5 harg5 arg6 harg6 arg7 harg7 arg8 harg8
        arg9 harg9 (harg3.unread x0) (harg4.unread x1) (harg5.unread x2)
        (arg7.view.writes (Elt Ideal) arg7.view.junk kernelRun0_A.sl.HS0_1)
        (arg8.view.writes (Elt Ideal) arg8.view.junk kernelRun0_A.sl.HS1_1)
        (arg9.view.writes (Elt Ideal) arg9.view.junk kernelRun0_A.sl.HS2_1)
        (Scf.trips (k0_t1_loop i).lb (k0_t1_loop i).ub (k0_t1_loop i).st)).1 ++ kernelRun0_A.sl.HS0_1)
      ((pb_k0_t1 (F := Ideal) Variants.none c none i arg3 harg3 arg4 harg4 arg5 harg5 arg6 harg6 arg7 harg7 arg8 harg8
        arg9 harg9 (harg3.unread x0) (harg4.unread x1) (harg5.unread x2)
        (arg7.view.writes (Elt Ideal) arg7.view.junk kernelRun0_A.sl.HS0_1)
        (arg8.view.writes (Elt Ideal) arg8.view.junk kernelRun0_A.sl.HS1_1)
        (arg9.view.writes (Elt Ideal) arg9.view.junk kernelRun0_A.sl.HS2_1)
        (Scf.trips (k0_t1_loop i).lb (k0_t1_loop i).ub (k0_t1_loop i).st)).2.1 ++ kernelRun0_A.sl.HS1_1)
      ((pb_k0_t1 (F := Ideal) Variants.none c none i arg3 harg3 arg4 harg4 arg5 harg5 arg6 harg6 arg7 harg7 arg8 harg8
        arg9 harg9 (harg3.unread x0) (harg4.unread x1) (harg5.unread x2)
        (arg7.view.writes (Elt Ideal) arg7.view.junk kernelRun0_A.sl.HS0_1)
        (arg8.view.writes (Elt Ideal) arg8.view.junk kernelRun0_A.sl.HS1_1)
        (arg9.view.writes (Elt Ideal) arg9.view.junk kernelRun0_A.sl.HS2_1)
        (Scf.trips (k0_t1_loop i).lb (k0_t1_loop i).ub (k0_t1_loop i).st)).2.2 ++ kernelRun0_A.sl.HS2_1)) :
    ∃ L7, Inv x0 x1 x2 (i 2).val (N (i 2).val 16) L7
      (kernelRun0_A.sl.HS1_16 (F := Ideal) c i arg3 harg3 arg4 harg4 arg5 harg5 arg6 harg6 arg7 harg7 arg8 harg8 arg9 harg9 x0 x1 x2)
      (kernelRun0_A.sl.HS2_16 (F := Ideal) c i arg3 harg3 arg4 harg4 arg5 harg5 arg6 harg6 arg7 harg7 arg8 harg8 arg9 harg9 x0 x1 x2) := by
  have hq : (i 2).val < 8 := (i 2).isLt
  apply Exists.intro
  refine step_diag (i7 := inb_S4096x128_S256x128_3840_0) arg3 harg3 arg4 harg4 arg5 harg5 arg7 arg8 arg9 x0 x1 x2 hq 3 3 ev3 ?_ (k0_off23 i 768#32) (k0_off24 i 768#32)
    (by rw [← off_diag i 3 (by omega)]; rfl) (by rw [← off_diag i 3 (by omega)]; rfl)
    iota_S256x256_d1_w32 iota_S256x256_d0_w32 neg_eq (by omega) (by omega) (by omega)
  refine step_diag (i7 := inb_S4096x128_S256x128_2816_0) arg3 harg3 arg4 harg4 arg5 harg5 arg7 arg8 arg9 x0 x1 x2 hq 2 3 ev3 ?_ (k0_off21 i 768#32) (k0_off22 i 768#32)
    (by rw [← off_diag i 3 (by omega)]; rfl) (by rw [← off_diag i 3 (by omega)]; rfl)
    iota_S256x256_d1_w32 iota_S256x256_d0_w32 neg_eq (by omega) (by omega) (by omega)
  refine step_diag (i7 := inb_S4096x128_S256x128_1792_0) arg3 harg3 arg4 harg4 arg5 harg5 arg7 arg8 arg9 x0 x1 x2 hq 1 3 ev3 ?_ (k0_off19 i 768#32) (k0_off20 i 768#32)
    (by rw [← off_diag i 3 (by omega)]; rfl) (by rw [← off_diag i 3 (by omega)]; rfl)
    iota_S256x256_d1_w32 iota_S256x256_d0_w32 neg_eq (by omega) (by omega) (by omega)
  refine step_diag (i7 := inb_S4096x128_S256x128_768_0) arg3 harg3 arg4 harg4 arg5 harg5 arg7 arg8 arg9 x0 x1 x2 hq 0 3 ev3 ?_ (k0_off17 i 768#32) (k0_off18 i 768#32)
    (by rw [← off_diag i 3 (by omega)]; rfl) (by rw [← off_diag i 3 (by omega)]; rfl)
    iota_S256x256_d1_w32 iota_S256x256_d0_w32 neg_eq (by omega) (by omega) (by omega)
  unfold kernelRun0_A.sl.HS0_12 kernelRun0_A.sl.HS1_12 kernelRun0_A.sl.HS2_12 kernelRun0_A.sl.r_39 kernelRun0_A.sl.r_38 kernelRun0_A.sl.r_37 k0_pay260
  refine step_diag (i7 := inb_S4096x128_S512x128_3584_0) arg3 harg3 arg4 harg4 arg5 harg5 arg7 arg8 arg9 x0 x1 x2 hq 3 2 ev2 ?_ (k0_off23 i 512#32) (k0_off24 i 512#32)
    (by rw [← off_diag i 2 (by omega)]; rfl) (by rw [← off_diag i 2 (by omega)]; rfl)
    iota_S512x256_d1_w32 iota_S512x256_d0_w32 neg_eq (by omega) (by omega) (by omega)
  refine step_diag (i7 := inb_S4096x128_S512x128_2560_0) arg3 harg3 arg4 harg4 arg5 harg5 arg7 arg8 arg9 x0 x1 x2 hq 2 2 ev2 ?_ (k0_off21 i 512#32) (k0_off22 i 512#32)
    (by rw [← off_diag i 2 (by omega)]; rfl) (by rw [← off_diag i 2 (by omega)]; rfl)
    iota_S512x256_d1_w32 iota_S512x256_d0_w32 neg_eq (by omega) (by omega) (by omega)
  refine step_diag (i7 := inb_S4096x128_S512x128_1536_0) arg3 harg3 arg4 harg4 arg5 harg5 arg7 arg8 arg9 x0 x1 x2 hq 1 2 ev2 ?_ (k0_off19 i 512#32) (k0_off20 i 512#32)
    (by rw [← off_diag i 2 (by omega)]; rfl) (by rw [← off_diag i 2 (by omega)]; rfl)
    iota_S512x256_d1_w32 iota_S512x256_d0_w32 neg_eq (by omega) (by omega) (by omega)
  refine step_diag (i7 := inb_S4096x128_S512x128_512_0) arg3 harg3 arg4 harg4 arg5 harg5 arg7 arg8 arg9 x0 x1 x2 hq 0 2 ev2 ?_ (k0_off17 i 512#32) (k0_off18 i 512#32)
    (by rw [← off_diag i 2 (by omega)]; rfl) (by rw [← off_diag i 2 (by omega)]; rfl)
    iota_S512x256_d1_w32 iota_S512x256_d0_w32 neg_eq (by omega) (by omega) (by omega)
  refine step_diag (i7 := inb_S4096x128_S768x128_3328_0) arg3 harg3 arg4 harg4 arg5 harg5 arg7 arg8 arg9 x0 x1 x2 hq 3 1 ev1 ?_ (k0_off23 i 256#32) (k0_off24 i 256#32)
    (by rw [← off_diag i 1 (by omega)]; rfl) (by rw [← off_diag i 1 (by omega)]; rfl)
    iota_S768x256_d1_w32 iota_S768x256_d0_w32 neg_eq (by omega) (by omega) (by omega)
  refine step_diag (i7 := inb_S4096x128_S768x128_2304_0) arg3 harg3 arg4 harg4 arg5 harg5 arg7 arg8 arg9 x0 x1 x2 hq 2 1 ev1 ?_ (k0_off21 i 256#32) (k0_off22 i 256#32)
    (by rw [← off_diag i 1 (by omega)]; rfl) (by rw [← off_diag i 1 (by omega)]; rfl)
    iota_S768x256_d1_w32 iota_S768x256_d0_w32 neg_eq (by omega) (by omega) (by omega)
  unfold kernelRun0_A.sl.HS0_6 kernelRun0_A.sl.HS1_6 kernelRun0_A.sl.HS2_6 kernelRun0_A.sl.r_20 kernelRun0_A.sl.r_19 kernelRun0_A.sl.r_18 k0_pay200
  refine step_diag (i7 := inb_S4096x128_S768x128_1280_0) arg3 harg3 arg4 harg4 arg5 harg5 arg7 arg8 arg9 x0 x1 x2 hq 1 1 ev1 ?_ (k0_off19 i 256#32) (k0_off20 i 256#32)
    (by rw [← off_diag i 1 (by omega)]; rfl) (by rw [← off_diag i 1 (by omega)]; rfl)
    iota_S768x256_d1_w32 iota_S768x256_d0_w32 neg_eq (by omega) (by omega) (by omega)
  refine step_diag (i7 := inb_S4096x128_S768x128_256_0) arg3 harg3 arg4 harg4 arg5 harg5 arg7 arg8 arg9 x0 x1 x2 hq 0 1 ev1 ?_ (k0_off17 i 256#32) (k0_off18 i 256#32)
    (by rw [← off_diag i 1 (by omega)]; rfl) (by rw [← off_diag i 1 (by omega)]; rfl)
    iota_S768x256_d1_w32 iota_S768x256_d0_w32 neg_eq (by omega) (by omega) (by omega)
  refine step_diag (i7 := inb_S4096x128_S1024x128_3072_0) arg3 harg3 arg4 harg4 arg5 harg5 arg7 arg8 arg9 x0 x1 x2 hq 3 0 ev0 ?_ (k0_off23 i 0#32) (k0_off24 i 0#32)
    (by rw [← off_diag i 0 (by omega)]; rfl) (by rw [← off_diag i 0 (by omega)]; rfl)
    iota_S1024x256_d1_w32 iota_S1024x256_d0_w32 neg_eq (by omega) (by omega) (by omega)
  unfold kernelRun0_A.sl.HS0_3 kernelRun0_A.sl.HS1_3 kernelRun0_A.sl.HS2_3 kernelRun0_A.sl.r_9 kernelRun0_A.sl.r_8 kernelRun0_A.sl.r_7 k0_pay168
  refine step_diag (i7 := inb_S4096x128_S1024x128_2048_0) arg3 harg3 arg4 harg4 arg5 harg5 arg7 arg8 arg9 x0 x1 x2 hq 2 0 ev0 ?_ (k0_off21 i 0#32) (k0_off22 i 0#32)
    (by rw [← off_diag i 0 (by omega)]; rfl) (by rw [← off_diag i 0 (by omega)]; rfl)
    iota_S1024x256_d1_w32 iota_S1024x256_d0_w32 neg_eq (by omega) (by omega) (by omega)
  refine step_diag (i7 := inb_S4096x128_S1024x128_1024_0) arg3 harg3 arg4 harg4 arg5 harg5 arg7 arg8 arg9 x0 x1 x2 hq 1 0 ev0 ?_ (k0_off19 i 0#32) (k0_off20 i 0#32)
    (by rw [← off_diag i 0 (by omega)]; rfl) (by rw [← off_diag i 0 (by omega)]; rfl)
    iota_S1024x256_d1_w32 iota_S1024x256_d0_w32 neg_eq (by omega) (by omega) (by omega)
  refine step_diag (i7 := inb_S4096x128_S1024x128_0_0) arg3 harg3 arg4 harg4 arg5 harg5 arg7 arg8 arg9 x0 x1 x2 hq 0 0 ev0 ?_ (k0_off17 i 0#32) (k0_off18 i 0#32)
    (by rw [← off_diag i 0 (by omega)]; rfl) (by rw [← off_diag i 0 (by omega)]; rfl)
    iota_S1024x256_d1_w32 iota_S1024x256_d0_w32 neg_eq (by omega) (by omega) (by omega)
  rw [trips2]
  exact h0

/-- A single write over a whole state buffer leaves its values. -/
theorem canon_whole (inb : ∀ a, (![0, 0] : Fin 2 → ℕ) a + S4096x128.size a ≤ S4096x128.size a)
    (P : FVec Ideal S4096x128 .f32) (R : Fin 4096) (a : Fin 128) :
    View.canon ([⟨Rect.unit (s := S4096x128) ![0, 0] S4096x128.size inb, P⟩] : Pieces) (ix2 R a) = P (ix2 R a) :=
  canon_in (off := 0) (H := 4096) inb P [] R a R (by omega)

/-- The fill: minus infinity in the maximum, zero in the sum and in the accumulator. -/
theorem fill_inv : Inv x0 x1 x2 (i 2).val (fun _ => 0) (kernelRun0_A.sl.HS0_1 (F := Ideal))
    (kernelRun0_A.sl.HS1_1 (F := Ideal)) (kernelRun0_A.sl.HS2_1 (F := Ideal)) := by
  intro R a
  rw [rowM_zero, rowA_zero, rowA_zero]
  unfold kernelRun0_A.sl.HS0_1 kernelRun0_A.sl.HS1_1 kernelRun0_A.sl.HS2_1
  refine ⟨(canon_whole _ _ R a).trans ?_, (canon_whole _ _ R a).trans ?_, (canon_whole _ _ R a).trans ?_⟩
  · unfold k0_pay137
    rw [shapeCast_self]
    exact neg_eq
  · unfold k0_pay138
    rw [shapeCast_self]
    exact ofBits_f32_zero
  · unfold k0_pay139
    rw [shapeCast_self]
    exact ofBits_f32_zero

/-- The state a grid point leaves. -/
theorem point_inv : ∃ L7, Inv x0 x1 x2 (i 2).val (N (i 2).val 16) L7
    (kernelRun0_A.sl.HS1_16 (F := Ideal) c i arg3 harg3 arg4 harg4 arg5 harg5 arg6 harg6 arg7 harg7 arg8 harg8 arg9 harg9 x0 x1 x2)
    (kernelRun0_A.sl.HS2_16 (F := Ideal) c i arg3 harg3 arg4 harg4 arg5 harg5 arg6 harg6 arg7 harg7 arg8 harg8 arg9 harg9 x0 x1 x2) := by
  refine diag_inv c i arg3 harg3 arg4 harg4 arg5 harg5 arg6 harg6 arg7 harg7 arg8 harg8 arg9 harg9 x0 x1 x2 ?_
  refine Inv.congr x0 x1 x2 _ (loop_inv Variants.none c none i arg3 harg3 arg4 harg4 arg5 harg5 arg6 harg6
    arg7 harg7 arg8 harg8 arg9 harg9 x0 x1 x2 (fill_inv i x0 x1 x2) _ le_rfl) (fun R hR => ?_)
  rw [trips1]
  simp only [N]
  omega

/-! ### The quotient stored -/

/-- The block of one head: the accumulator over the sum of the lanes. -/
def quot (a l : FVec Ideal S1024x128 .f32) : FVec Ideal S1x1024x128 .bf16 :=
  shapeCast S1x1024x128 (truncf .bf16 (divf a (broadcastTo S1024x128
    (shapeCast S1024x1 (multiReduction .add [1] S1024 l 0x00000000#32 reduces_S1024x128_S1024 (.inl rfl) rfl
      : FVec Ideal S1024 .f32) shapeCasts_S1024_S1024x1 : FVec Ideal S1024x1 .f32) broadcasts_S1024x1_S1024x128))
    bitsLt_bf16_f32 : FVec Ideal S1024x128 .bf16) shapeCasts_S1024x128_S1x1024x128

/-- The quotient at an index. -/
theorem quot_apply (a l : FVec Ideal S1024x128 .f32) (r : Fin 1024) (b : Fin 128) :
    quot a l (ix3 (0 : Fin 1) r b) = Ideal.div (a (ix2 r b)) (∑ k : Fin 128, (l (ix2 r k) : EReal)) := by
  unfold quot
  rw [shapeCast_ab_1ab_apply]
  have e2 := Idealize.ShloMosaic.Ideal.multiReduction_add_single (a := (1 : Fin 2)) l 0x00000000#32
    reduces_S1024x128_S1024 (.inl rfl) rfl (ix1 r)
  refine congrArg (Ideal.div (a (ix2 r b))) ?_
  rw [broadcastTo_apply _ broadcasts_S1024x1_S1024x128 (ix2 r b) (ix2 r (0 : Fin 1)) ?_, shapeCast_a_a1_apply]
  · refine e2.trans (Finset.sum_congr rfl fun k _ => congrArg l ?_)
    funext x
    match x with
    | ⟨0, _⟩ => apply Fin.ext; simp [Shape.Reduces.lift]; rfl
    | ⟨1, _⟩ => apply Fin.ext; rfl
  · intro x
    match x with
    | ⟨0, _⟩ => rfl
    | ⟨1, _⟩ => rfl

/-- The writes to the output block. -/
abbrev OutPieces := List (View.Piece (Elt Ideal) S1x1024x512 .bf16)

/-- A column inside the newest block of columns. -/
theorem col_in {off : ℕ} (inb : ∀ a, (![0, 0, off] : Fin 3 → ℕ) a + S1x1024x128.size a ≤ S1x1024x512.size a)
    (P : FVec Ideal S1x1024x128 .bf16) (L : OutPieces) (r : Fin 1024) (j : Fin 512) (a : Fin 128) (hj : j.val = off + a.val) :
    View.canon (⟨Rect.unit (s := S1x1024x512) ![0, 0, off] S1x1024x128.size inb, P⟩ :: L) (ix3 (0 : Fin 1) r j)
      = P (ix3 (0 : Fin 1) r a) := by
  rw [show (ix3 (0 : Fin 1) r j : S1x1024x512.Idx)
    = (Rect.unit (s := S1x1024x512) ![0, 0, off] S1x1024x128.size inb).emb (ix3 (0 : Fin 1) r a) from ?_]
  · exact View.canon_cons_emb (Rect.unit (s := S1x1024x512) ![0, 0, off] S1x1024x128.size inb) P L (ix3 (0 : Fin 1) r a)
  · funext x
    match x with
    | ⟨0, _⟩ => rfl
    | ⟨1, _⟩ => apply Fin.ext; show r.val = 0 + 1 * r.val; omega
    | ⟨2, _⟩ => apply Fin.ext; show j.val = off + 1 * a.val; omega

/-- A column before the newest block of columns. -/
theorem col_out {off : ℕ} (inb : ∀ a, (![0, 0, off] : Fin 3 → ℕ) a + S1x1024x128.size a ≤ S1x1024x512.size a)
    (P : FVec Ideal S1x1024x128 .bf16) (L : OutPieces) (r : Fin 1024) (j : Fin 512) (hj : j.val < off) :
    View.canon (⟨Rect.unit (s := S1x1024x512) ![0, 0, off] S1x1024x128.size inb, P⟩ :: L) (ix3 (0 : Fin 1) r j)
      = View.canon L (ix3 (0 : Fin 1) r j) := by
  refine View.canon_cons_of_not_mem _ L fun h => ?_
  have h0 := (Rect.mem_set_unit (s := S1x1024x512) (off := ![0, 0, off]) (size := S1x1024x128.size) (inb := inb)).mp h (2 : Fin 3)
  have h1 : off ≤ j.val := h0.1
  omega

/-- One head's block of the output. -/
theorem head_eq {qi hd : ℕ} (hhd : hd < 4) {L7 L8 L9 : Pieces} (h : Inv x0 x1 x2 qi (N qi 16) L7 L8 L9)
    {p l : FVec Ideal S1024x128 .f32} (hp : Loaded (hd * 1024) 1024 L9 p) (hl : Loaded (hd * 1024) 1024 L8 l)
    (r : Fin 1024) (b : Fin 128) :
    quot p l (ix3 (0 : Fin 1) r b)
      = Ideal.div (rowA (sc x0 x1 qi (hd * 1024 + r.val)) (vv x2 (hd * 1024 + r.val) b.val) (N qi 16 (hd * 1024 + r.val)))
          (∑ a ∈ Finset.range 128, rowA (sc x0 x1 qi (hd * 1024 + r.val)) (lane a) (N qi 16 (hd * 1024 + r.val))) := by
  have hr := r.isLt
  have hb : hd * 1024 + r.val < 4096 := by omega
  rw [quot_apply, hp r b ⟨_, hb⟩ rfl, (h ⟨_, hb⟩ b).2.2, Finset.sum_range]
  refine congrArg _ (Finset.sum_congr rfl fun k _ => ?_)
  rw [hl r k ⟨_, hb⟩ rfl, (h ⟨_, hb⟩ k).2.1]

/-- What a grid point stores: at query row `r`, head `hd` and coordinate `b` of its block. -/
theorem out_apply (hd : ℕ) (hhd : hd < 4) (r : Fin 1024) (b : Fin 128) (j : Fin 512) (hj : j.val = hd * 128 + b.val) :
    out0_A_3 (F := Ideal) c i arg3 harg3 arg4 harg4 arg5 harg5 arg6 harg6 arg7 harg7 arg8 harg8 arg9 harg9 x0 x1 x2 (ix3 (0 : Fin 1) r j)
      = Ideal.div (rowA (sc x0 x1 (i 2).val (hd * 1024 + r.val)) (vv x2 (hd * 1024 + r.val) b.val) (N (i 2).val 16 (hd * 1024 + r.val)))
          (∑ a ∈ Finset.range 128, rowA (sc x0 x1 (i 2).val (hd * 1024 + r.val)) (lane a) (N (i 2).val 16 (hd * 1024 + r.val))) := by
  obtain ⟨L7, h⟩ := point_inv c i arg3 harg3 arg4 harg4 arg5 harg5 arg6 harg6 arg7 harg7 arg8 harg8 arg9 harg9 x0 x1 x2
  have hb := b.isLt
  unfold out0_A_3 kernelRun0_A
  dsimp only
  rw [View.read_writes_junk_apply_eq_canon]
  obtain rfl | rfl | rfl | rfl : hd = 3 ∨ hd = 2 ∨ hd = 1 ∨ hd = 0 := by omega
  · exact (col_in (off := 384) _ _ _ r j b (by omega)).trans (head_eq x0 x1 x2 hhd h
      (loaded_readCov arg9.view _ inb_S4096x128_S1024x128_3072_0) (loaded_readCov arg8.view _ inb_S4096x128_S1024x128_3072_0) r b)
  · refine (col_out (off := 384) _ _ _ r j (by omega)).trans ?_
    exact (col_in (off := 256) _ _ _ r j b (by omega)).trans (head_eq x0 x1 x2 hhd h
      (loaded_readCov arg9.view _ inb_S4096x128_S1024x128_2048_0) (loaded_readCov arg8.view _ inb_S4096x128_S1024x128_2048_0) r b)
  · refine (col_out (off := 384) _ _ _ r j (by omega)).trans ?_
    refine (col_out (off := 256) _ _ _ r j (by omega)).trans ?_
    exact (col_in (off := 128) _ _ _ r j b (by omega)).trans (head_eq x0 x1 x2 hhd h
      (loaded_readCov arg9.view _ inb_S4096x128_S1024x128_1024_0) (loaded_readCov arg8.view _ inb_S4096x128_S1024x128_1024_0) r b)
  · refine (col_out (off := 384) _ _ _ r j (by omega)).trans ?_
    refine (col_out (off := 256) _ _ _ r j (by omega)).trans ?_
    refine (col_out (off := 128) _ _ _ r j (by omega)).trans ?_
    exact (col_in (off := 0) _ _ _ r j b (by omega)).trans (head_eq x0 x1 x2 hhd h
      (loaded_readCov arg9.view _ inb_S4096x128_S1024x128_0_0) (loaded_readCov arg8.view _ inb_S4096x128_S1024x128_0_0) r b)

end Cert.Body
-- ==== Proof.Ref.lean ====
/-
  The reference read at an index: the softmax of one row of logits applied to the values.
-/
module

public import proofs.«01_k».proof.Proof.Tile
public import proofs.«01_k».proof.Proof.Gen.ReferenceIdeal.Read

@[expose] public section

set_option maxRecDepth 16384

noncomputable section

namespace Cert.Ref

open Idealize.ShloMosaic Idealize.ShloMosaic.TcCoe Idealize.ShloMosaic.ValueIdx Idealize.SL.Sem
open Cert.Tile Cert.ReferenceIdeal Cert.ReferenceIdeal.Gen Cert.ReferenceIdeal.Read

/-- The natural logarithm of two. -/
abbrev ln2 : EReal := ((Real.log 2 : ℝ) : EReal)

variable (q k : (⟨S2x8192x4096, .bf16⟩ : BufTy).Contents (Elt Ideal)) (v : (⟨S2x8192x2048, .bf16⟩ : BufTy).Contents (Elt Ideal))

/-- The score of head `h`, query `p`, key `j`, in base 2: the product where the key is not after the
query, `⊥` where it is. -/
def score (b : Fin 2) (h : Fin 16) (p j : Fin 8192) : EReal :=
  if j.val ≤ p.val then
    ∑ d : Fin 256, (q (ix3 b p ⟨h.val * 256 + d.val, by have := h.isLt; have := d.isLt; omega⟩) : EReal)
      * k (ix3 b j ⟨h.val * 256 + d.val, by have := h.isLt; have := d.isLt; omega⟩)
  else ⊥

/-- The constant two has the logarithm `ln2`. -/
theorem log_two : FloatOps.hostUnary (F := Ideal) .log (FloatOps.ofBits (F := Ideal) .f32 0x40000000#32) = ln2 := by
  have e : FloatOps.ofBits (F := Idealize.ShloMosaic.Ideal) .f32 0x40000000#32 = ((2 : ℝ) : EReal) := by
    show Idealize.ShloMosaic.Ideal.ofBits .f32 0x40000000#32 = _
    simp [Idealize.ShloMosaic.Ideal.ofBits, Idealize.ShloMosaic.Ideal.ieee]
    rw [← EReal.coe_mul]
    norm_num
  rw [e]
  show Idealize.ShloMosaic.Ideal.log ((2 : ℝ) : EReal) = _
  show (if (2 : ℝ) ≤ 0 then (⊥ : EReal) else (Real.log 2 : EReal)) = _
  rw [if_neg (by norm_num)]

/-- The queries read by head. -/
theorem q_apply (b : Fin 2) (p : Fin 8192) (h : Fin 16) (d : Fin 256) :
    (val_main_v1 (F := Ideal) q (ix4 b p h d) : EReal)
      = q (ix3 b p ⟨h.val * 256 + d.val, by have := h.isLt; have := d.isLt; omega⟩) := by
  rw [val_main_v1_apply, val_main_v0_apply]
  refine congrArg q (funext fun a => Fin.ext ?_)
  have h0 := b.isLt
  have h1 := p.isLt
  have h2 := h.isLt
  have h3 := d.isLt
  match a with
  | ⟨0, _⟩ => show (((b.val * 8192 + p.val) * 16 + h.val) * 256 + d.val) / 33554432 = b.val; omega
  | ⟨1, _⟩ => show (((b.val * 8192 + p.val) * 16 + h.val) * 256 + d.val) / 4096 % 8192 = p.val; omega
  | ⟨2, _⟩ => show (((b.val * 8192 + p.val) * 16 + h.val) * 256 + d.val) % 4096 = h.val * 256 + d.val; omega

/-- The keys read by head. -/
theorem k_apply (b : Fin 2) (p : Fin 8192) (h : Fin 16) (d : Fin 256) :
    (val_main_v3 (F := Ideal) k (ix4 b p h d) : EReal)
      = k (ix3 b p ⟨h.val * 256 + d.val, by have := h.isLt; have := d.isLt; omega⟩) := q_apply k b p h d

/-- The values read by head. -/
theorem v_apply (b : Fin 2) (p : Fin 8192) (h : Fin 16) (d : Fin 128) :
    (val_main_v5 (F := Ideal) v (ix4 b p h d) : EReal)
      = v (ix3 b p ⟨h.val * 128 + d.val, by have := h.isLt; have := d.isLt; omega⟩) := by
  rw [val_main_v5_apply, val_main_v4_apply]
  refine congrArg v (funext fun a => Fin.ext ?_)
  have h0 := b.isLt
  have h1 := p.isLt
  have h2 := h.isLt
  have h3 := d.isLt
  match a with
  | ⟨0, _⟩ => show (((b.val * 8192 + p.val) * 16 + h.val) * 128 + d.val) / 16777216 = b.val; omega
  | ⟨1, _⟩ => show (((b.val * 8192 + p.val) * 16 + h.val) * 128 + d.val) / 2048 % 8192 = p.val; omega
  | ⟨2, _⟩ => show (((b.val * 8192 + p.val) * 16 + h.val) * 128 + d.val) % 2048 = h.val * 128 + d.val; omega

/-- Minus infinity times `ln2`. -/
theorem bot_mul_ln2 : (⊥ : EReal) * ln2 = ⊥ :=
  EReal.bot_mul_coe_of_pos (Real.log_pos (by norm_num))

/-- The logits: the score times `ln2`. -/
theorem logit_apply (b : Fin 2) (h : Fin 16) (p j : Fin 8192) :
    (val_main_v17 (F := Ideal) q k (ix4 b h p j) : EReal) = score q k b h p j * ln2 := by
  have hp := p.isLt
  have hj := j.isLt
  have em : val_main_call0_v1 (F := Ideal) (ix4 b h p j)
      = BitVec.ofBool (decide (j.val ≤ p.val)) := by
    rw [val_main_call0_v1_apply, val_main_v16_apply, val_main_v15_apply, val_main_v13_apply, val_main_v14_apply,
      val_main_v11_apply, val_main_v12_apply, val_main_v10_apply, val_main_v10_apply]
    have e := sle_small j.val 0 p.val 0 (by omega) (by omega)
    simp only [Nat.add_zero, BitVec.add_zero] at e
    rw [← e]
    rfl
  have es : (val_main_v9 (F := Ideal) q k (ix4 b h p j) : EReal)
      = (∑ d : Fin 256, (q (ix3 b p ⟨h.val * 256 + d.val, by have := h.isLt; have := d.isLt; omega⟩) : EReal)
          * k (ix3 b j ⟨h.val * 256 + d.val, by have := h.isLt; have := d.isLt; omega⟩)) * ln2 := by
    rw [val_main_v9_apply, val_main_v8_apply, val_main_v7_apply, val_main_cst_apply, log_two, val_main_v6_apply]
    refine congrArg (· * ln2) (Finset.sum_congr rfl fun d _ => ?_)
    exact congrArg₂ (· * ·) (q_apply q b p h d) (k_apply k b j h d)
  have eb : (val_main_call0_v2 (F := Ideal) (ix4 b h p j) : EReal) = ⊥ := by
    rw [val_main_call0_v2_apply, val_main_call0_v0_apply, val_main_cst_0_apply]
    exact ofBits_f32_ninf
  rw [val_main_v17_apply, em, score]
  by_cases hle : j.val ≤ p.val
  · rw [if_pos hle, ← es]; simp [hle, Scalar.select]
  · rw [if_neg hle, bot_mul_ln2, ← eb]; simp [hle, Scalar.select]

/-- The reference at an index, from the scores and the values of its row. -/
theorem ref_apply (b : Fin 2) (h : Fin 16) (p : Fin 8192) (a : Fin 128) (o : Fin 2048) (ho : o.val = h.val * 128 + a.val)
    (s w : ℕ → EReal) (hs : ∀ j : Fin 8192, score q k b h p j = s j.val)
    (hw : ∀ j : Fin 8192, (v (ix3 b j o) : EReal) = w j.val) :
    (val_main_v32 (F := Ideal) q k v (ix3 b p o) : EReal)
      = ∑ j ∈ Finset.range 8192,
          Idealize.ShloMosaic.Ideal.div
            (Idealize.ShloMosaic.Ideal.exp (s j * ln2 - (Finset.range 8192).sup fun j => s j * ln2))
            (∑ j ∈ Finset.range 8192, Idealize.ShloMosaic.Ideal.exp (s j * ln2 - (Finset.range 8192).sup fun j => s j * ln2))
          * w j := by
  have h0 := b.isLt
  have h1 := p.isLt
  have h2 := h.isLt
  have h3 := a.isLt
  have emax : (val_main_v20 (F := Ideal) q k (ix3 b h p) : EReal) = (Finset.range 8192).sup fun j => s j * ln2 := by
    have e18 : (val_main_v18 (F := Ideal) q k (ix3 b h p) : EReal) = (Finset.range 8192).sup fun j => s j * ln2 := by
      unfold val_main_v18
      have hr : S2x16x8192x8192.Reduces [3] S2x16x8192 := by decide
      have e := Host.reduce_eq_fold_single (a := (3 : Fin 4)) (FloatOps.maximumf (F := Idealize.ShloMosaic.Ideal) (φ := .f32))
        (val_main_v17 (F := Ideal) q k) (val_main_cst_1 (F := Ideal)) reducesTo_S2x16x8192x8192_S2x16x8192_d3 hr h_S_ (ix3 b h p)
      refine e.trans ?_
      rw [val_main_cst_1_apply, show (FloatOps.ofBits (F := Idealize.ShloMosaic.Ideal) .f32 0xFF800000#32) = (⊥ : EReal) from ofBits_f32_ninf]
      refine fold_max_eq_sup _ (fun j => s j * ln2) fun j => ?_
      refine Eq.trans ?_ ((logit_apply q k b h p j).trans (by rw [hs j]))
      refine congrArg (val_main_v17 (F := Ideal) q k) (funext fun x => Fin.ext ?_)
      match x with
      | ⟨0, _⟩ => rfl
      | ⟨1, _⟩ => rfl
      | ⟨2, _⟩ => rfl
      | ⟨3, _⟩ => rfl
    rw [val_main_v20_apply, e18, val_main_v19_apply, val_main_cst_2_apply,
      show (FloatOps.ofBits (F := Idealize.ShloMosaic.Ideal) .f32 0xFF800000#32) = (⊥ : EReal) from ofBits_f32_ninf]
    exact max_eq_right bot_le
  have eexp : ∀ j : Fin 8192, (val_main_v24 (F := Ideal) q k (ix4 b h p j) : EReal)
      = Idealize.ShloMosaic.Ideal.exp (s j.val * ln2 - (Finset.range 8192).sup fun j => s j * ln2) := by
    intro j
    have e22 : (val_main_v22 (F := Ideal) q k (ix4 b h p j) : EReal) = (Finset.range 8192).sup fun j => s j * ln2 := by
      rw [val_main_v22_apply, val_main_v21_apply, ← emax]
      refine congrArg (val_main_v20 (F := Ideal) q k) (funext fun x => Fin.ext ?_)
      match x with
      | ⟨0, _⟩ => rfl
      | ⟨1, _⟩ => rfl
      | ⟨2, _⟩ => rfl
    rw [val_main_v24_apply, val_main_v23_apply, e22, logit_apply, hs j]
    rfl
  have esum : (val_main_v25 (F := Ideal) q k (ix3 b h p) : EReal)
      = ∑ j ∈ Finset.range 8192, Idealize.ShloMosaic.Ideal.exp (s j * ln2 - (Finset.range 8192).sup fun j => s j * ln2) := by
    rw [val_main_v25_apply, val_main_cst_3_apply,
      show (FloatOps.ofBits (F := Idealize.ShloMosaic.Ideal) .f32 0x00000000#32) = (0 : EReal) from ofBits_f32_zero, Finset.sum_range]
    refine (zero_add _).trans (Finset.sum_congr rfl fun j _ => ?_)
    rw [← eexp j]
    refine congrArg (val_main_v24 (F := Ideal) q k) (funext fun x => Fin.ext ?_)
    match x with
    | ⟨0, _⟩ => rfl
    | ⟨1, _⟩ => rfl
    | ⟨2, _⟩ => rfl
    | ⟨3, _⟩ => rfl
  have edot : (val_main_v32 (F := Ideal) q k v (ix3 b p o) : EReal) = val_main_v29 (F := Ideal) q k v (ix4 b h a p) := by
    rw [val_main_v32_apply, val_main_v31_apply, val_main_v30_apply]
    refine congrArg (val_main_v29 (F := Ideal) q k v) (funext fun x => Fin.ext ?_)
    match x with
    | ⟨0, _⟩ => show ((b.val * 8192 + p.val) * 2048 + o.val) / 16777216 = b.val; omega
    | ⟨1, _⟩ => show ((b.val * 8192 + p.val) * 2048 + o.val) / 128 % 16 = h.val; omega
    | ⟨2, _⟩ => show ((b.val * 8192 + p.val) * 2048 + o.val) % 128 = a.val; omega
    | ⟨3, _⟩ => show ((b.val * 8192 + p.val) * 2048 + o.val) / 2048 % 8192 = p.val; omega
  rw [edot, val_main_v29_apply, Finset.sum_range]
  refine Finset.sum_congr rfl fun j _ => ?_
  have el : (val_main_v5 (F := Ideal) v (lidx_main_v29 (ix4 b h a p) j) : EReal) = w j.val := by
    rw [← hw j]
    refine Eq.trans (congrArg (val_main_v5 (F := Ideal) v) (funext fun x => Fin.ext ?_)) ((v_apply v b j h a).trans ?_)
    · match x with
      | ⟨0, _⟩ => rfl
      | ⟨1, _⟩ => rfl
      | ⟨2, _⟩ => rfl
      | ⟨3, _⟩ => rfl
    · exact congrArg (fun o => v (ix3 b j o)) (Fin.ext ho.symm)
  have er : (val_main_v28 (F := Ideal) q k (ridx_main_v29 (ix4 b h a p) j) : EReal)
      = Idealize.ShloMosaic.Ideal.div
            (Idealize.ShloMosaic.Ideal.exp (s j.val * ln2 - (Finset.range 8192).sup fun j => s j * ln2))
            (∑ j ∈ Finset.range 8192, Idealize.ShloMosaic.Ideal.exp (s j * ln2 - (Finset.range 8192).sup fun j => s j * ln2)) := by
    rw [← eexp j, ← esum]
    have ei : ridx_main_v29 (ix4 b h a p) j = ix4 b h p j := by
      funext x
      match x with
      | ⟨0, _⟩ => rfl
      | ⟨1, _⟩ => rfl
      | ⟨2, _⟩ => rfl
      | ⟨3, _⟩ => rfl
    rw [ei, val_main_v28_apply, val_main_v27_apply, val_main_v26_apply]
    refine congrArg (Idealize.ShloMosaic.Ideal.div _) (congrArg (val_main_v25 (F := Ideal) q k) (funext fun x => Fin.ext ?_))
    match x with
    | ⟨0, _⟩ => rfl
    | ⟨1, _⟩ => rfl
    | ⟨2, _⟩ => rfl
  exact (congrArg₂ (· * ·) el er).trans (mul_comm _ _)

end Cert.Ref
-- ==== Proof.Final.lean ====
/-
  The kernel's result array: block by block the softmax attention of the arguments.
-/
module

public import proofs.«01_k».proof.Proof.Body
public import proofs.«01_k».proof.Proof.Ref
public import proofs.«01_k».proof.Pre_finite
public import proofs.«01_k».proof.Proof.Gen.KernelIdeal.Value

@[expose] public section

set_option maxRecDepth 16384

noncomputable section

namespace Cert.Final

open Idealize.ShloMosaic Idealize.ShloMosaic.TcCoe Idealize.ShloMosaic.ValueIdx Idealize.SL.Sem
open Cert.Flash Cert.Tile Cert.Chain Cert.Loop Cert.Body Cert.KernelIdeal Cert.KernelIdeal.Gen

/-! ### Real numbers -/

/-- An extended real that is a real number. -/
def IsReal (x : EReal) : Prop := ∃ r : ℝ, x = (r : EReal)

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

/-- A sum of products of real numbers is real. -/
theorem isReal_dot {n : ℕ} (f g : Fin n → EReal) (hf : ∀ d, IsReal (f d)) (hg : ∀ d, IsReal (g d)) :
    IsReal (∑ d, f d * g d) := by
  refine Finset.sum_induction _ IsReal ?_ ⟨0, rfl⟩ fun d _ => ?_
  · rintro _ _ ⟨a, rfl⟩ ⟨b, rfl⟩
    exact ⟨a + b, (EReal.coe_add a b).symm⟩
  · obtain ⟨a, ha⟩ := hf d
    obtain ⟨b, hb⟩ := hg d
    exact ⟨a * b, by rw [ha, hb, EReal.coe_mul]⟩

/-- The word of the positive infinity is `⊤`. -/
theorem ofBits_f32_inf : Idealize.ShloMosaic.Ideal.ofBits .f32 0x7F800000#32 = ⊤ := by
  simp [Idealize.ShloMosaic.Ideal.ofBits, Idealize.ShloMosaic.Ideal.ieee]

/-- A number whose absolute value compares below infinity is real. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  rw [show (FloatOps.ofBits (F := Idealize.ShloMosaic.Ideal) .f32 0x7F800000#32) = (⊤ : EReal) from ofBits_f32_inf] at h
  induction x with
  | bot =>
    have e : Idealize.ShloMosaic.Ideal.cmp .olt (max (⊥ : EReal) (-⊥)) ⊤ = 1#1 := h
    simp [Idealize.ShloMosaic.Ideal.cmp] at e
  | top =>
    have e : Idealize.ShloMosaic.Ideal.cmp .olt (max (⊤ : EReal) (-⊤)) ⊤ = 1#1 := h
    simp [Idealize.ShloMosaic.Ideal.cmp] at e
  | coe r => exact ⟨r, rfl⟩

/-- Under the precondition every query and key is real. -/
theorem real_of_pre [Cert.Pre_finite.Facts] (q k : (⟨S2x8192x4096, .bf16⟩ : BufTy).Contents (Elt Ideal))
    (v : (⟨S2x8192x2048, .bf16⟩ : BufTy).Contents (Elt Ideal))
    (h : (Cert.Pre_finite.fn (F := Ideal) q k v).1 = (fun _ => 1#1) ∧ (Cert.Pre_finite.fn (F := Ideal) q k v).2 = (fun _ => 1#1)) :
    (∀ i, IsReal (q i)) ∧ (∀ i, IsReal (k i)) :=
  ⟨fun i => isReal_of_cmp _ (congrFun h.1 i), fun i => isReal_of_cmp _ (congrFun h.2 i)⟩

/-! ### The blocks of the arguments -/

variable (m : (ℓ : Loc nD τ sig) → Buf (Elt Ideal) ℓ) (c : Dev nD)

/-- The queries, keys and values of device `c`. -/
abbrev qa : (⟨S2x8192x4096, .bf16⟩ : BufTy).Contents (Elt Ideal) := m ((c.tc : Thread nD τ).loc main_arg0)
abbrev ka : (⟨S2x8192x4096, .bf16⟩ : BufTy).Contents (Elt Ideal) := m ((c.tc : Thread nD τ).loc main_arg1)
abbrev va : (⟨S2x8192x2048, .bf16⟩ : BufTy).Contents (Elt Ideal) := m ((c.tc : Thread nD τ).loc main_arg2)

theorem index0 : ∀ t : Fin grid0.N, win0_0.index t 0 = (grid0.coords t 0).val ∧ win0_0.index t 1 = (grid0.coords t 2).val
    ∧ win0_0.index t 2 = (grid0.coords t 1).val := by decide +kernel

theorem index1 : ∀ t : Fin grid0.N, win0_1.index t 0 = (grid0.coords t 0).val ∧ win0_1.index t 1 = 0
    ∧ win0_1.index t 2 = (grid0.coords t 1).val := by decide +kernel

theorem index2 : ∀ t : Fin grid0.N, win0_2.index t 0 = (grid0.coords t 0).val ∧ win0_2.index t 1 = 0
    ∧ win0_2.index t 2 = (grid0.coords t 1).val := by decide +kernel

theorem index3 : ∀ t : Fin grid0.N, win0_3.index t 0 = (grid0.coords t 0).val ∧ win0_3.index t 1 = (grid0.coords t 2).val
    ∧ win0_3.index t 2 = (grid0.coords t 1).val := by decide +kernel

theorem c0 (t : Fin grid0.N) : (grid0.coords t 0).val < 2 := (grid0.coords t 0).isLt
theorem c1 (t : Fin grid0.N) : (grid0.coords t 1).val < 4 := (grid0.coords t 1).isLt
theorem c2 (t : Fin grid0.N) : (grid0.coords t 2).val < 8 := (grid0.coords t 2).isLt

/-- The block of queries of a grid point. -/
theorem blk0 (t : Fin cfg0.N) (r : Fin 1024) (x : Fin 1024) (b : Fin 2) (p : Fin 8192) (o : Fin 4096)
    (hb : b.val = (grid0.coords t 0).val) (hp : p.val = (grid0.coords t 2).val * 1024 + r.val)
    (ho : o.val = (grid0.coords t 1).val * 1024 + x.val) :
    iblk m c 0 t (ix3 (0 : Fin 1) r x) = qa m c (ix3 b p o) := by
  show V m c (Pipeline.arrRef spec0 0) ((win0_0.rect t).emb (ix3 (0 : Fin 1) r x)) = _
  rw [show V m c (Pipeline.arrRef spec0 0) = _ from V_main_arg0 m c]
  refine congrArg (qa m c) (funext fun a => Fin.ext ?_)
  obtain ⟨e0, e1, e2⟩ := index0 t
  match a with
  | ⟨0, _⟩ => show win0_0.index t 0 * 1 + 1 * 0 = b.val; rw [e0]; omega
  | ⟨1, _⟩ => show win0_0.index t 1 * 1024 + 1 * r.val = p.val; rw [e1]; omega
  | ⟨2, _⟩ => show win0_0.index t 2 * 1024 + 1 * x.val = o.val; rw [e2]; omega

/-- The block of keys of a grid point. -/
theorem blk1 (t : Fin cfg0.N) (r : Fin 8192) (x : Fin 1024) (b : Fin 2) (o : Fin 4096)
    (hb : b.val = (grid0.coords t 0).val) (ho : o.val = (grid0.coords t 1).val * 1024 + x.val) :
    iblk m c 1 t (ix3 (0 : Fin 1) r x) = ka m c (ix3 b r o) := by
  show V m c (Pipeline.arrRef spec0 1) ((win0_1.rect t).emb (ix3 (0 : Fin 1) r x)) = _
  rw [show V m c (Pipeline.arrRef spec0 1) = _ from V_main_arg1 m c]
  refine congrArg (ka m c) (funext fun a => Fin.ext ?_)
  obtain ⟨e0, e1, e2⟩ := index1 t
  match a with
  | ⟨0, _⟩ => show win0_1.index t 0 * 1 + 1 * 0 = b.val; rw [e0]; omega
  | ⟨1, _⟩ => show win0_1.index t 1 * 8192 + 1 * r.val = r.val; rw [e1]; omega
  | ⟨2, _⟩ => show win0_1.index t 2 * 1024 + 1 * x.val = o.val; rw [e2]; omega

/-- The block of values of a grid point. -/
theorem blk2 (t : Fin cfg0.N) (r : Fin 8192) (x : Fin 512) (b : Fin 2) (o : Fin 2048)
    (hb : b.val = (grid0.coords t 0).val) (ho : o.val = (grid0.coords t 1).val * 512 + x.val) :
    iblk m c 2 t (ix3 (0 : Fin 1) r x) = va m c (ix3 b r o) := by
  show V m c (Pipeline.arrRef spec0 2) ((win0_2.rect t).emb (ix3 (0 : Fin 1) r x)) = _
  rw [show V m c (Pipeline.arrRef spec0 2) = _ from V_main_arg2 m c]
  refine congrArg (va m c) (funext fun a => Fin.ext ?_)
  obtain ⟨e0, e1, e2⟩ := index2 t
  match a with
  | ⟨0, _⟩ => show win0_2.index t 0 * 1 + 1 * 0 = b.val; rw [e0]; omega
  | ⟨1, _⟩ => show win0_2.index t 1 * 8192 + 1 * r.val = r.val; rw [e1]; omega
  | ⟨2, _⟩ => show win0_2.index t 2 * 512 + 1 * x.val = o.val; rw [e2]; omega

/-! ### The result -/

/-- The attention of device `c`'s arguments, as the reference computes it. -/
abbrev attn : Buf (Elt Ideal) ((c : Thread nD τ).loc main_v0) :=
  Cert.ReferenceIdeal.Read.val_main_v32 (F := Ideal) (qa m c) (ka m c) (va m c)

/-- What a grid point stores at a query row and a column of its block is the attention there. -/
theorem point_eq (hq : ∀ i, IsReal (qa m c i)) (hk : ∀ i, IsReal (ka m c i)) (t : Fin cfg0.N)
    (arg3 : Memref sig .tc .vmem S1x1024x1024 .bf16) (harg3 : arg3.IsWhole)
    (arg4 : Memref sig .tc .vmem S1x8192x1024 .bf16) (harg4 : arg4.IsWhole)
    (arg5 : Memref sig .tc .vmem S1x8192x512 .bf16) (harg5 : arg5.IsWhole)
    (arg6 : Memref sig .tc .vmem S1x1024x512 .bf16) (harg6 : arg6.IsWhole)
    (arg7 : Memref sig .tc .vmem S4096x128 .f32) (harg7 : arg7.IsWhole)
    (arg8 : Memref sig .tc .vmem S4096x128 .f32) (harg8 : arg8.IsWhole)
    (arg9 : Memref sig .tc .vmem S4096x128 .f32) (harg9 : arg9.IsWhole)
    (r : Fin 1024) (j : Fin 512) (b : Fin 2) (p : Fin 8192) (o : Fin 2048)
    (hb : b.val = (grid0.coords t 0).val) (hp : p.val = (grid0.coords t 2).val * 1024 + r.val)
    (ho : o.val = (grid0.coords t 1).val * 512 + j.val) :
    out0_A_3 (F := Ideal) c (grid0.coords t) arg3 harg3 arg4 harg4 arg5 harg5 arg6 harg6 arg7 harg7 arg8 harg8 arg9 harg9
      (iblk m c 0 t) (iblk m c 1 t) (iblk m c 2 t) (ix3 (0 : Fin 1) r j) = attn m c (ix3 b p o) := by
  have hr := r.isLt
  have hj := j.isLt
  have h1 := c1 t
  have h2 := c2 t
  have ha : j.val % 128 < 128 := Nat.mod_lt _ (by omega)
  have hd : j.val / 128 < 4 := by omega
  have hR1 : (j.val / 128 * 1024 + r.val) % 1024 = r.val := by omega
  have hR2 : (j.val / 128 * 1024 + r.val) / 1024 = j.val / 128 := by omega
  have en : N (grid0.coords t 2).val 16 (j.val / 128 * 1024 + r.val)
      = (grid0.coords t 2).val * 1024 + 256 * (r.val / 256 + 1) := by
    simp only [N, hR1, hR2]
    omega
  have hhead : (grid0.coords t 1).val * 4 + j.val / 128 < 16 := by omega
  -- the scores
  have hs : ∀ y : Fin 8192, Cert.Ref.score (qa m c) (ka m c) b ⟨_, hhead⟩ p y
      = sc (iblk m c 0 t) (iblk m c 1 t) (grid0.coords t 2).val (j.val / 128 * 1024 + r.val) y.val := by
    intro y
    have hy := y.isLt
    unfold Cert.Ref.score sc
    rw [hR1, hR2, hp]
    refine if_congr Iff.rfl (Finset.sum_congr rfl fun d _ => ?_) rfl
    have hdl := d.isLt
    refine congrArg₂ (· * ·) ?_ ?_
    · refine (blk0 m c t _ _ b p _ hb ?_ ?_).symm
      · rw [hp]; simp only [Fin.val_ofNat]; omega
      · simp only [Fin.val_ofNat]; omega
    · have ey : Fin.ofNat 8192 y.val = y := Fin.ext (by simp only [Fin.val_ofNat]; omega)
      rw [ey]
      refine (blk1 m c t _ _ b _ hb ?_).symm
      simp only [Fin.val_ofNat]; omega
  -- the values
  have hw : ∀ y : Fin 8192, (va m c (ix3 b y o) : EReal)
      = vv (iblk m c 2 t) (j.val / 128 * 1024 + r.val) (j.val % 128) y.val := by
    intro y
    have hy := y.isLt
    unfold vv
    rw [hR2]
    have ey : Fin.ofNat 8192 y.val = y := Fin.ext (by simp only [Fin.val_ofNat]; omega)
    rw [ey]
    refine (blk2 m c t _ _ b o hb ?_).symm
    simp only [Fin.val_ofNat]; omega
  have hreal : ∀ R y, y ≤ (grid0.coords t 2).val * 1024 + R % 1024 →
      IsReal (sc (iblk m c 0 t) (iblk m c 1 t) (grid0.coords t 2).val R y) := by
    intro R y hy
    have hb' := c0 t
    rw [sc, if_pos hy]
    refine isReal_dot _ _ (fun d => ?_) (fun d => ?_)
    · rw [blk0 m c t _ _ b ⟨(grid0.coords t 2).val * 1024 + (Fin.ofNat 1024 R).val, by have := (Fin.ofNat 1024 R).isLt; omega⟩
        ⟨(grid0.coords t 1).val * 1024 + (Fin.ofNat 1024 (R / 1024 * 256 + d.val)).val, by
          have := (Fin.ofNat 1024 (R / 1024 * 256 + d.val)).isLt; omega⟩ hb rfl rfl]
      exact hq _
    · rw [blk1 m c t _ _ b ⟨(grid0.coords t 1).val * 1024 + (Fin.ofNat 1024 (R / 1024 * 256 + d.val)).val, by
          have := (Fin.ofNat 1024 (R / 1024 * 256 + d.val)).isLt; omega⟩ hb rfl]
      exact hk _
  have hmask : ∀ y, ¬ y ≤ (grid0.coords t 2).val * 1024 + r.val →
      sc (iblk m c 0 t) (iblk m c 1 t) (grid0.coords t 2).val (j.val / 128 * 1024 + r.val) y = ⊥ := by
    intro y hy
    rw [sc, hR1, if_neg hy]
  have eq := quotient_eq (sc (iblk m c 0 t) (iblk m c 1 t) (grid0.coords t 2).val (j.val / 128 * 1024 + r.val))
    (vv (iblk m c 2 t) (j.val / 128 * 1024 + r.val) (j.val % 128))
    ((grid0.coords t 2).val * 1024 + 256 * (r.val / 256 + 1))
    (8192 - ((grid0.coords t 2).val * 1024 + 256 * (r.val / 256 + 1)))
    (fun y hy => hmask y (by omega))
    (fun y => by
      by_cases hy : y ≤ (grid0.coords t 2).val * 1024 + r.val
      · exact (hreal _ y (by rw [hR1]; exact hy)).ne_top
      · rw [hmask y hy]; exact bot_ne_top)
    ((grid0.coords t 2).val * 1024 + r.val) (by omega) (hreal _ _ (by rw [hR1])).ne_bot
  rw [show (grid0.coords t 2).val * 1024 + 256 * (r.val / 256 + 1)
    + (8192 - ((grid0.coords t 2).val * 1024 + 256 * (r.val / 256 + 1))) = 8192 by omega] at eq
  refine (out_apply c (grid0.coords t) arg3 harg3 arg4 harg4 arg5 harg5 arg6 harg6 arg7 harg7 arg8 harg8 arg9 harg9
    (iblk m c 0 t) (iblk m c 1 t) (iblk m c 2 t) (j.val / 128) hd r ⟨j.val % 128, ha⟩ j (by show j.val = _; simp only; omega)).trans ?_
  rw [en]
  refine eq.trans (Cert.Ref.ref_apply (qa m c) (ka m c) (va m c) b ⟨_, hhead⟩ p ⟨j.val % 128, ha⟩ o
    (by rw [ho]; simp only; omega) _ _ hs hw).symm

/-- What a grid point writes back is its block of the attention. -/
theorem flushed_eq (hq : ∀ i, IsReal (qa m c i)) (hk : ∀ i, IsReal (ka m c i)) (t : Fin cfg0.N) :
    (dats m 0 c).flushed 3 t = (win0_3.blk t).view.read (Elt Ideal) (attn m c) := by
  rw [Cert.KernelIdeal.Value.flushed3_A]
  obtain ⟨e0, e1, e2⟩ := index3 t
  have h0 := c0 t
  have h1 := c1 t
  have h2 := c2 t
  funext y
  have hy0 : (y 0).val < 1 := (y 0).isLt
  have hy1 : (y 1).val < 1024 := (y 1).isLt
  have hy2 : (y 2).val < 512 := (y 2).isLt
  refine Eq.trans (b := out0_A_3 (F := Ideal) c (grid0.coords t) (ms0_0 t) (hs0_0 t) (ms0_1 t) (hs0_1 t) (ms0_2 t) (hs0_2 t)
    (ms0_3 t) (hs0_3 t) scM0_0 (Memref.isWhole_whole _) scM0_1 (Memref.isWhole_whole _) scM0_2 (Memref.isWhole_whole _)
    (iblk m c 0 t) (iblk m c 1 t) (iblk m c 2 t) (ix3 (0 : Fin 1) ⟨(y 1).val, hy1⟩ ⟨(y 2).val, hy2⟩)) ?_ ?_
  · show out0_A_3 (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      (iblk m c 0 t) (iblk m c 1 t) (iblk m c 2 t) _ = _
    refine congrArg _ (funext fun a => Fin.ext ?_)
    match a with
    | ⟨0, _⟩ => show (y 0).val = 0; omega
    | ⟨1, _⟩ => rfl
    | ⟨2, _⟩ => rfl
  · refine (point_eq m c hq hk t _ _ _ _ _ _ _ _ _ _ _ _ _ _ ⟨(y 1).val, hy1⟩ ⟨(y 2).val, hy2⟩
      ⟨(grid0.coords t 0).val, h0⟩ ⟨(grid0.coords t 2).val * 1024 + (y 1).val, by omega⟩
      ⟨(grid0.coords t 1).val * 512 + (y 2).val, by omega⟩ rfl rfl rfl).trans ?_
    show attn m c _ = attn m c ((win0_3.rect t).emb y)
    refine congrArg (attn m c) (funext fun a => Fin.ext ?_)
    match a with
    | ⟨0, _⟩ => show (grid0.coords t 0).val = win0_3.index t 0 * 1 + 1 * (y 0).val; rw [e0]; omega
    | ⟨1, _⟩ => show (grid0.coords t 2).val * 1024 + (y 1).val = win0_3.index t 1 * 1024 + 1 * (y 1).val; rw [e1]; omega
    | ⟨2, _⟩ => show (grid0.coords t 1).val * 512 + (y 2).val = win0_3.index t 2 * 512 + 1 * (y 2).val; rw [e2]; omega

/-- Every block index is some grid point's. -/
theorem index3_onto : ∀ (b : Fin 2) (g : Fin 4) (qi : Fin 8), ∃ t : Fin grid0.N,
    (grid0.coords t 0).val = b.val ∧ (grid0.coords t 1).val = g.val ∧ (grid0.coords t 2).val = qi.val := by decide +kernel

/-- The blocks tile the result. -/
theorem cover (i : S2x8192x2048.Idx) :
    ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 2048 := (i 2).isLt
  obtain ⟨t, t0, t1, t2⟩ := index3_onto ⟨(i 0).val, h0⟩ ⟨(i 2).val / 512, by omega⟩ ⟨(i 1).val / 1024, by omega⟩
  simp only at t0 t1 t2
  obtain ⟨e0, e1, e2⟩ := index3 t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e0, t0]; omega
  | ⟨1, _⟩ =>
    show win0_3.index t 1 * 1024 ≤ (i 1).val ∧ (i 1).val < win0_3.index t 1 * 1024 + 1024
    rw [e1, t2]; omega
  | ⟨2, _⟩ =>
    show win0_3.index t 2 * 512 ≤ (i 2).val ∧ (i 2).val < win0_3.index t 2 * 512 + 512
    rw [e2, t1]; omega

/-- The result array after the run is the attention of the arguments. -/
theorem final (hq : ∀ i, IsReal (qa m c i)) (hk : ∀ i, IsReal (ka m c i)) :
    (dats m 0 c).arrAt 3 cfg0.N = attn m c :=
  (dats m 0 c).arrAt_eq_of_cover 3 (attn m c) (fun t _ => flushed_eq m c hq hk t) cover

end Cert.Final
-- ==== Proof.Mat.lean ====
/-
  Blocked matrix products read at an index, and small facts shared by the dense calls.
-/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.WholeRead

@[expose] public section

set_option maxRecDepth 16384

noncomputable section

namespace Cert.Mat

open Idealize.ShloMosaic Idealize.ShloMosaic.ValueIdx

/-- A matrix product into a zero accumulator, at a row and a column. -/
theorem mm_apply {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (y : FVec Ideal ⟨2, ![K, N]⟩ φ₂) (r : Fin M) (c : Fin N) :
    matmul d none x y (constant (F := Ideal) ⟨2, ![M, N]⟩ .f32 0x00000000#32) (ix2 r c)
      = ∑ k : Fin K, (x (ix2 r k) : EReal) * (y (ix2 k c) : EReal) := by
  subst hd
  refine (Ideal.matmul_plain_apply none x y _ r c).trans ?_
  rw [show (constant (F := Ideal) ⟨2, ![M, N]⟩ .f32 0x00000000#32) (ix2 r c) = (0 : EReal) from
    Idealize.ShloMosaic.Ideal.ofBits_zero_f32, zero_add]

/-- The two leading axes of an array joined: token `b * P + p` is position `p` of sequence `b`. -/
theorem cast_flat {α : Type} {B P N T : ℕ} (x : (⟨3, ![B, P, N]⟩ : Shape).Idx → α)
    (h : (⟨3, ![B, P, N]⟩ : Shape).ShapeCasts ⟨2, ![T, N]⟩) (b : Fin B) (p : Fin P) (n : Fin N) (t : Fin T)
    (ht : t.val = b.val * P + p.val) : shapeCast ⟨2, ![T, N]⟩ x h (ix2 t n) = x (ix3 b p n) := by
  refine shapeCast_apply x h _ _ ?_
  rw [Shape.rowMajor_val_two, Shape.rowMajor_val_three]
  show (b.val * P + p.val) * N + n.val = t.val * N + n.val
  rw [ht]

/-- A leading unit axis dropped from a matrix. -/
theorem cast_drop {α : Type} {M N : ℕ} (x : (⟨3, ![1, M, N]⟩ : Shape).Idx → α)
    (h : (⟨3, ![1, M, N]⟩ : Shape).ShapeCasts ⟨2, ![M, N]⟩) (r : Fin M) (c : Fin N) :
    shapeCast ⟨2, ![M, N]⟩ x h (ix2 r c) = x (ix3 (0 : Fin 1) r c) :=
  cast_flat x h 0 r c r (by simp)

/-- Offsets that are all zero. -/
theorem zeros : (![0, 0] : Fin 2 → ℕ) = fun _ => 0 := by decide

/-- A load of a whole buffer that holds `X` is `X`. -/
theorem whole_read {sig : RefSig} {κ : Kind} {sp : Space} {s : Shape} {e : EltTy} {Val : EltTy → Type} {b : Memref sig κ sp s e}
    (hb : b.IsWhole) (X : s.Idx → Val e) {off : Fin s.rank → ℕ} (hz : off = fun _ => 0) (inb : ∀ a, off a + s.size a ≤ s.size a) :
    View.readAt Val b.view (Rect.unit off s.size inb).toLoadRect (hb.unread X) = X :=
  funext fun x => (hb.readAt_unread X _ x).trans (congrFun (View.ld_unit_zero hz inb X) x)

/-- A load of a whole buffer after a store of all of it is what was stored, whatever was stored before. -/
theorem whole_back {sig : RefSig} {κ : Kind} {sp : Space} {s : Shape} {e : EltTy} {Val : EltTy → Type} [∀ e, Nonempty (Val e)]
    (v : View sig κ sp s e) {off : Fin s.rank → ℕ} (hz : off = fun _ => 0) (inb : ∀ a, off a + s.size a ≤ s.size a)
    (w : s.Idx → Val e) (L : List (View.Piece Val s e)) :
    v.readCov ((⟨Rect.unit off s.size inb, w⟩ : View.Piece Val s e) :: L) (Rect.unit off s.size inb).toLoadRect = w := by
  rw [View.readCov_eq_canon_ld _ _ _ fun y => ⟨_, List.mem_cons_self, View.mem_set_unit_zero hz inb _⟩,
    View.canon_cons_unit_zero hz, View.ld_unit_zero hz]

end Cert.Mat
-- ==== Proof.Up.lean ====
/-
  The up projection with its causal convolution and its gate: the rows carried from one block of tokens to the next.
-/
module

public import proofs.«01_k».proof.Proof.Mat
public import Idealize.ShloMosaic.Lib.KernelVsHost
public import Idealize.ShloMosaic.Lib.IdealHost
public import proofs.«01_k».proof.Proof.Gen.Kernel2Ideal.Value
public import proofs.«01_k».proof.Proof.Gen.Reference2Ideal.Read
import all proofs.«01_k».proof.Proof.Gen.Kernel2Ideal.Frame.RunA
import all proofs.«01_k».proof.Proof.Gen.Kernel2Ideal.Frame.RunB

@[expose] public section

set_option maxRecDepth 16384

noncomputable section

namespace Cert.Up

open Idealize.ShloMosaic Idealize.ShloMosaic.TcCoe Idealize.ShloMosaic.ValueIdx Idealize.SL.Sem
open Cert.Mat Cert.Kernel2Ideal Cert.Kernel2Ideal.Gen

/-! ### A block convolved along its rows -/

/-- A choice by "this is row `k`", spread over the columns. -/
theorem sel_row (k : ℕ) (hk : k < 1024) (a b : FVec Ideal S1024x512 .f32) (r : Fin 1024) (j : Fin 512) :
    select (broadcastTo S1024x512 (cmpi .eq (iota .tc S1024x1 32 [0] iota_S1024x1_d0_w32) (broadcast S1024x1 (BitVec.ofNat 32 k)))
      broadcasts_S1024x1_S1024x512) a b (ix2 r j) = if r.val = k then a (ix2 r j) else b (ix2 r j) := by
  have hr := r.isLt
  rw [select_apply, broadcastTo_apply _ broadcasts_S1024x1_S1024x512 (ix2 r j) (ix2 r (0 : Fin 1)) (fun a => by
    match a with
    | ⟨0, _⟩ => rfl
    | ⟨1, _⟩ => rfl)]
  have hm : cmpi .eq (iota .tc S1024x1 32 [0] iota_S1024x1_d0_w32) (broadcast S1024x1 (BitVec.ofNat 32 k)) (ix2 r (0 : Fin 1))
      = BitVec.ofBool (decide (r.val = k)) := by
    show BitVec.ofBool (iota .tc S1024x1 32 [0] iota_S1024x1_d0_w32 (ix2 r (0 : Fin 1)) == BitVec.ofNat 32 k) = _
    rw [iota_single_apply]
    refine congrArg BitVec.ofBool ?_
    show (BitVec.ofNat 32 r.val == BitVec.ofNat 32 k) = decide (r.val = k)
    rw [beq_eq_decide, decide_eq_decide]
    refine ⟨fun h => ?_, fun h => by rw [h]⟩
    have := congrArg BitVec.toNat h
    simp only [BitVec.toNat_ofNat] at this
    omega
  rw [hm]
  by_cases h : r.val = k
  · rw [if_pos h, decide_eq_true h]; rfl
  · rw [if_neg h, decide_eq_false h]; rfl

/-- A block rotated down by `d` rows, below row `d`. -/
theorem rot_row (d : ℕ) (hd : d < 1024) (h : FVec Ideal S1024x512 .f32) (r r' : Fin 1024) (j : Fin 512) (e : r'.val + d = r.val) :
    dynamicRotate 0 (BitVec.ofNat 32 d) none h rotates_S1024x512_d0 (ix2 r j) = h (ix2 r' j) := by
  have hr := r.isLt
  refine dynamicRotate_apply 0 _ h rotates_S1024x512_d0 (ix2 r j) (ix2 r' j) fun b => ?_
  match b with
  | ⟨0, _⟩ =>
    show r'.val = (r.val + 1024 - (BitVec.ofNat 32 d).toNat % 1024) % 1024
    rw [BitVec.toNat_ofNat]
    omega
  | ⟨1, _⟩ => rfl

/-- Row `k` of the carried rows, spread over a block. -/
theorem tail_row (k : Fin 8) (h : S8x512.Slices ![k.val, 0] S1x512) (tl : Vec Ideal S8x512 .f32) (r : Fin 1024) (j : Fin 512) :
    broadcastTo S1024x512 (extractStridedSlice S1x512 ![k.val, 0] tl h) broadcasts_S1x512_S1024x512 (ix2 r j) = tl (ix2 k j) := by
  refine (broadcastTo_1b_ab_apply _ _ r j).trans (extractStridedSlice_apply _ tl h _ (ix2 k j) fun a => ?_)
  match a with
  | ⟨0, _⟩ => rfl
  | ⟨1, _⟩ => show j.val = 0 + j.val; omega

/-- The block one row back and two rows back, the carried rows standing for the rows before the block. -/
def Back (h : FVec Ideal S1024x512 .f32) (tl : Vec Ideal S8x512 .f32) (d : ℕ) (r : Fin 1024) (j : Fin 512) (p : EReal) : Prop :=
  (∀ k : Fin 8, r.val < d → k.val + d = 8 + r.val → p = tl (ix2 k j)) ∧ (∀ r' : Fin 1024, r'.val + d = r.val → p = h (ix2 r' j))

theorem conv_apply (x : Vec Ideal S1024x2048 .bf16) (w : Vec Ideal S2048x512 .bf16) (tl : Vec Ideal S8x512 .f32)
    (w0 w1 w2 b : Vec Ideal S1x512 .f32) (r : Fin 1024) (j : Fin 512) (p1 p2 : EReal)
    (h1 : Back (k0_pay3 x w) tl 1 r j p1) (h2 : Back (k0_pay3 x w) tl 2 r j p2) :
    k0_pay7 (iota .tc S1024x1 32 [0] iota_S1024x1_d0_w32) (k0_pay3 x w) tl (k0_pay5 x w tl) k0_pay6 w0 w1 w2 b (ix2 r j)
      = (((w0 (ix2 (0 : Fin 1) j) : EReal) * p2 + (w1 (ix2 (0 : Fin 1) j) : EReal) * p1)
          + (w2 (ix2 (0 : Fin 1) j) : EReal) * (k0_pay3 x w (ix2 r j) : EReal)) + (b (ix2 (0 : Fin 1) j) : EReal) := by
  have hr := r.isLt
  generalize hh : k0_pay3 x w = h at *
  simp only [k0_pay7, k0_pay5, k0_pay6, shapeCast_self, hh]
  have row : ∀ v : Vec Ideal S1x512 .f32, broadcastTo S1024x512 v broadcasts_S1x512_S1024x512 (ix2 r j) = v (ix2 (0 : Fin 1) j) :=
    fun v => broadcastTo_1b_ab_apply v _ r j
  refine congrArg₂ (fun x y : EReal => x + y) (congrArg₂ (fun x y : EReal => x + y) (congrArg₂ (fun x y : EReal => x + y)
    (congrArg₂ (fun x y : EReal => x * y) (row w0) ?_) (congrArg₂ (fun x y : EReal => x * y) (row w1) ?_))
    (congrArg₂ (fun x y : EReal => x * y) (row w2) rfl)) (row b)
  · refine (sel_row 0 (by omega) _ _ r j).trans ?_
    by_cases e0 : r.val = 0
    · rw [if_pos e0]
      exact (tail_row 6 _ tl r j).trans (h2.1 6 (by omega) (by show 6 + 2 = _; omega)).symm
    rw [if_neg e0]
    refine (sel_row 1 (by omega) _ _ r j).trans ?_
    by_cases e1 : r.val = 1
    · rw [if_pos e1]
      exact (tail_row 7 _ tl r j).trans (h2.1 7 (by omega) (by show 7 + 2 = _; omega)).symm
    rw [if_neg e1]
    exact (rot_row 2 (by omega) h r ⟨r.val - 2, by omega⟩ j (by show r.val - 2 + 2 = _; omega)).trans
      (h2.2 ⟨r.val - 2, by omega⟩ (by show r.val - 2 + 2 = _; omega)).symm
  · refine (sel_row 0 (by omega) _ _ r j).trans ?_
    by_cases e0 : r.val = 0
    · rw [if_pos e0]
      exact (tail_row 7 _ tl r j).trans (h1.1 7 (by omega) (by show 7 + 1 = _; omega)).symm
    rw [if_neg e0]
    exact (rot_row 1 (by omega) h r ⟨r.val - 1, by omega⟩ j (by show r.val - 1 + 1 = _; omega)).trans
      (h1.2 ⟨r.val - 1, by omega⟩ (by show r.val - 1 + 1 = _; omega)).symm

/-! ### What a grid point stores -/

/-- A block's result from its product with each half of the weights, given the rows carried in. -/
abbrev block (x : Vec Ideal S1024x2048 .bf16) (wg wv : Vec Ideal S2048x512 .bf16) (cg cv : Vec Ideal S3x512 .f32)
    (bg bv : Vec Ideal S1x512 .f32) (tg tv : Vec Ideal S8x512 .f32) : Vec Ideal S1024x512 .bf16 :=
  let rows := fun (c : Vec Ideal S3x512 .f32) (k : Fin 3) => ((fun i => c (ix2 k ⟨(i 1).val, (i 1).isLt⟩)) : Vec Ideal S1x512 .f32)
  k0_pay10 (iota .tc S1024x1 32 [0] iota_S1024x1_d0_w32)
    (k0_pay7 (iota .tc S1024x1 32 [0] iota_S1024x1_d0_w32) (k0_pay3 x wg) tg (k0_pay5 x wg tg) k0_pay6 (rows cg 0) (rows cg 1) (rows cg 2) bg)
    (k0_pay8 x wv) tv 0#32 (rows cv 0) (rows cv 1) (rows cv 2) bv

/-- A load of one row of a buffer of three. -/
theorem row_read {b : Memref sig .tc .vmem S3x512 .f32} (hb : b.IsWhole) (X : Vec Ideal S3x512 .f32) (o : ℕ) (k : Fin 3) (hk : k.val = o)
    (inb : ∀ a, (![o, 0] : Fin 2 → ℕ) a + S1x512.size a ≤ S3x512.size a) :
    View.readAt (Elt Ideal) b.view (Rect.unit (s := S3x512) ![o, 0] S1x512.size inb).toLoadRect (hb.unread X)
      = fun i => X (ix2 k ⟨(i 1).val, (i 1).isLt⟩) := by
  funext i
  refine (hb.readAt_unread X _ i).trans ?_
  refine congrArg X (funext fun a => Fin.ext ?_)
  match a with
  | ⟨0, _⟩ => show o + 1 * (i 0).val = k.val; have : (i 0).val < 1 := (i 0).isLt; omega
  | ⟨1, _⟩ => show 0 + 1 * (i 1).val = (i 1).val; omega

section Point

variable (c : Dev nD) (i : grid0.Coords)
    (arg2 : Memref sig .tc .vmem S1024x2048 .bf16) (harg2 : arg2.IsWhole)
    (arg3 : Memref sig .tc .vmem S2048x512 .bf16) (harg3 : arg3.IsWhole)
    (arg4 : Memref sig .tc .vmem S2048x512 .bf16) (harg4 : arg4.IsWhole)
    (arg5 : Memref sig .tc .vmem S3x512 .f32) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1024x512 .bf16) (harg9 : arg9.IsWhole)
    (arg10 : Memref sig .tc .vmem S8x512 .f32) (harg10 : arg10.IsWhole)
    (arg11 : Memref sig .tc .vmem S8x512 .f32) (harg11 : arg11.IsWhole)
    (x0 : Vec Ideal S1024x2048 .bf16) (x1 x2 : Vec Ideal S2048x512 .bf16) (x3 x4 : Vec Ideal S3x512 .f32)
    (x5 x6 : Vec Ideal S1x512 .f32)

/-- What a grid point at the start of a sequence stores: no row carried in. -/
theorem outA (hc0 : cond0_0 i) :
    out0_A_7 (F := Ideal) c i arg2 harg2 arg3 harg3 arg4 harg4 arg5 harg5 arg6 harg6 arg7 harg7 arg8 harg8 arg9 harg9
      arg10 harg10 arg11 harg11 hc0 x0 x1 x2 x3 x4 x5 x6
      = block x0 x1 x2 x3 x4 x5 x6 (k0_pay1 (F := Ideal)) (k0_pay2 (F := Ideal)) := by
  unfold out0_A_7 kernelRun0_A
  dsimp only
  funext y
  rw [View.read_writes_junk_apply_eq_canon, View.canon_unit_zero zeros]
  unfold kernelRun0_A.sl.r_5 kernelRun0_A.sl.r_3 kernelRun0_A.sl.r_4 kernelRun0_A.sl.v71 kernelRun0_A.sl.r_2 kernelRun0_A.sl.r_1
    kernelRun0_A.sl.v15 kernelRun0_A.sl.v19 kernelRun0_A.sl.r kernelRun0_A.sl.HS1_1 kernelRun0_A.sl.HS0_1
  rw [whole_back _ zeros, whole_back _ zeros, whole_read harg2 x0 zeros, whole_read harg3 x1 zeros, whole_read harg4 x2 zeros,
    whole_read harg7 x5 zeros, whole_read harg8 x6 zeros, row_read harg5 x3 0 0 rfl, row_read harg5 x3 1 1 rfl, row_read harg5 x3 2 2 rfl,
    row_read harg6 x4 0 0 rfl, row_read harg6 x4 1 1 rfl, row_read harg6 x4 2 2 rfl]
  rfl

/-- What a later grid point stores, from the rows the point before left. -/
theorem outB (hc0 : ¬cond0_0 i) (xs0 xs1 : Vec Ideal S8x512 .f32) :
    out0_B_7 (F := Ideal) c i arg2 harg2 arg3 harg3 arg4 harg4 arg5 harg5 arg6 harg6 arg7 harg7 arg8 harg8 arg9 harg9
      arg10 harg10 arg11 harg11 hc0 x0 x1 x2 x3 x4 x5 x6 xs0 xs1
      = block x0 x1 x2 x3 x4 x5 x6 xs0 xs1 := by
  unfold out0_B_7 kernelRun0_B
  dsimp only
  funext y
  rw [View.read_writes_junk_apply_eq_canon, View.canon_unit_zero zeros]
  unfold kernelRun0_B.sl.r_7 kernelRun0_B.sl.r_4 kernelRun0_B.sl.r_5 kernelRun0_B.sl.r_6 kernelRun0_B.sl.r_3 kernelRun0_B.sl.r_2 kernelRun0_B.sl.r_1
    kernelRun0_B.sl.v15 kernelRun0_B.sl.r
  rw [whole_read harg10 xs0 zeros, whole_read harg11 xs1 zeros, whole_read harg2 x0 zeros, whole_read harg3 x1 zeros, whole_read harg4 x2 zeros,
    whole_read harg7 x5 zeros, whole_read harg8 x6 zeros, row_read harg5 x3 0 0 rfl, row_read harg5 x3 1 1 rfl, row_read harg5 x3 2 2 rfl,
    row_read harg6 x4 0 0 rfl, row_read harg6 x4 1 1 rfl, row_read harg6 x4 2 2 rfl]
  rfl

/-- The rows a grid point leaves are the last rows of its products. -/
theorem tailA0 (hc0 : cond0_0 i) :
    sout0_A_0 (F := Ideal) c i arg2 harg2 arg3 harg3 arg4 harg4 arg5 harg5 arg6 harg6 arg7 harg7 arg8 harg8 arg9 harg9
      arg10 harg10 arg11 harg11 hc0 x0 x1 x2 x3 x4 x5 x6 = k0_pay4 x0 x1 := by
  unfold sout0_A_0 kernelRun0_A
  dsimp only
  funext y
  rw [View.read_writes_junk_apply_eq_canon, View.canon_cons_unit_zero zeros]
  rw [whole_read harg2 x0 zeros, whole_read harg3 x1 zeros]

theorem tailA1 (hc0 : cond0_0 i) :
    sout0_A_1 (F := Ideal) c i arg2 harg2 arg3 harg3 arg4 harg4 arg5 harg5 arg6 harg6 arg7 harg7 arg8 harg8 arg9 harg9
      arg10 harg10 arg11 harg11 hc0 x0 x1 x2 x3 x4 x5 x6 = k0_pay4 x0 x2 := by
  unfold sout0_A_1 kernelRun0_A
  dsimp only
  funext y
  rw [View.read_writes_junk_apply_eq_canon, View.canon_cons_unit_zero zeros]
  unfold kernelRun0_A.sl.r
  rw [whole_read harg2 x0 zeros, whole_read harg4 x2 zeros]
  rfl

theorem tailB0 (hc0 : ¬cond0_0 i) (xs0 xs1 : Vec Ideal S8x512 .f32) :
    sout0_B_0 (F := Ideal) c i arg2 harg2 arg3 harg3 arg4 harg4 arg5 harg5 arg6 harg6 arg7 harg7 arg8 harg8 arg9 harg9
      arg10 harg10 arg11 harg11 hc0 x0 x1 x2 x3 x4 x5 x6 xs0 xs1 = k0_pay4 x0 x1 := by
  unfold sout0_B_0 kernelRun0_B
  dsimp only
  funext y
  rw [View.read_writes_junk_apply_eq_canon, View.canon_unit_zero zeros]
  rw [whole_read harg2 x0 zeros, whole_read harg3 x1 zeros]

theorem tailB1 (hc0 : ¬cond0_0 i) (xs0 xs1 : Vec Ideal S8x512 .f32) :
    sout0_B_1 (F := Ideal) c i arg2 harg2 arg3 harg3 arg4 harg4 arg5 harg5 arg6 harg6 arg7 harg7 arg8 harg8 arg9 harg9
      arg10 harg10 arg11 harg11 hc0 x0 x1 x2 x3 x4 x5 x6 xs0 xs1 = k0_pay4 x0 x2 := by
  unfold sout0_B_1 kernelRun0_B
  dsimp only
  funext y
  rw [View.read_writes_junk_apply_eq_canon, View.canon_unit_zero zeros]
  unfold kernelRun0_B.sl.r
  rw [whole_read harg2 x0 zeros, whole_read harg4 x2 zeros]
  rfl

end Point

/-- The gate with its sigmoid, times the value. -/
def gate (g v : EReal) : EReal := (g * Idealize.ShloMosaic.Ideal.logistic g) * v

/-- A block's entry: the convolved gate, its sigmoid and the convolved value. -/
theorem block_apply (x : Vec Ideal S1024x2048 .bf16) (wg wv : Vec Ideal S2048x512 .bf16) (cg cv : Vec Ideal S3x512 .f32)
    (bg bv : Vec Ideal S1x512 .f32) (tg tv : Vec Ideal S8x512 .f32) (r : Fin 1024) (j : Fin 512) (g1 g2 v1 v2 : EReal)
    (hg1 : Back (k0_pay3 x wg) tg 1 r j g1) (hg2 : Back (k0_pay3 x wg) tg 2 r j g2)
    (hv1 : Back (k0_pay3 x wv) tv 1 r j v1) (hv2 : Back (k0_pay3 x wv) tv 2 r j v2) :
    block x wg wv cg cv bg bv tg tv (ix2 r j)
      = gate (((((cg (ix2 (0 : Fin 3) j) : EReal) * g2 + (cg (ix2 (1 : Fin 3) j) : EReal) * g1)
          + (cg (ix2 (2 : Fin 3) j) : EReal) * (k0_pay3 x wg (ix2 r j) : EReal)) + (bg (ix2 (0 : Fin 1) j) : EReal)))
        (((((cv (ix2 (0 : Fin 3) j) : EReal) * v2 + (cv (ix2 (1 : Fin 3) j) : EReal) * v1)
          + (cv (ix2 (2 : Fin 3) j) : EReal) * (k0_pay3 x wv (ix2 r j) : EReal)) + (bv (ix2 (0 : Fin 1) j) : EReal))) :=
  congrArg₂ gate (conv_apply x wg tg _ _ _ bg r j g1 g2 hg1 hg2) (conv_apply x wv tv _ _ _ bv r j v1 v2 hv1 hv2)

/-! ### The reference at a token and a feature -/

section Ref

variable (x0 : (⟨S16384x2048, .bf16⟩ : BufTy).Contents (Elt Ideal)) (x1 : (⟨S1x2048x11264, .f32⟩ : BufTy).Contents (Elt Ideal))
  (x2 : (⟨S1x3x11264, .f32⟩ : BufTy).Contents (Elt Ideal)) (x3 : (⟨S1x11264, .f32⟩ : BufTy).Contents (Elt Ideal))

/-- The projection of a token. -/
def lin (u : Fin 16384) (n : Fin 11264) : EReal := ∑ k : Fin 2048, (x0 (ix2 u k) : EReal) * x1 (ix3 (0 : Fin 1) k n)

/-- The projection `d` tokens back in the same sequence, zero before its start. -/
def prev (d : ℕ) (u : Fin 16384) (n : Fin 11264) : EReal :=
  if d ≤ u.val % 8192 then lin x0 x1 ⟨u.val - d, lt_of_le_of_lt (Nat.sub_le _ _) u.isLt⟩ n else 0

theorem lin_ref (bb : Fin 2) (p : Fin 8192) (n : Fin 11264) (u : Fin 16384) (hu : u.val = bb.val * 8192 + p.val) :
    Cert.Reference2Ideal.Read.val_main_v3 (F := Ideal) x0 x1 (ix3 bb p n) = lin x0 x1 u n := by
  have hnl := n.isLt
  rw [Cert.Reference2Ideal.Read.val_main_v3_apply]
  refine Finset.sum_congr rfl fun k _ => ?_
  have hk := k.isLt
  rw [Cert.Reference2Ideal.Read.val_main_v1_apply, Cert.Reference2Ideal.Read.val_main_v0_apply, Cert.Reference2Ideal.Read.val_main_v2_apply]
  refine congrArg₂ (fun (i : S16384x2048.Idx) (l : S1x2048x11264.Idx) => (x0 i : EReal) * x1 l) (funext fun a => Fin.ext ?_)
    (funext fun a => Fin.ext ?_)
  · match a with
    | ⟨0, _⟩ => show ((bb.val * 8192 + p.val) * 2048 + k.val) / 2048 = u.val; omega
    | ⟨1, _⟩ => show ((bb.val * 8192 + p.val) * 2048 + k.val) % 2048 = k.val; omega
  · match a with
    | ⟨0, _⟩ => rfl
    | ⟨1, _⟩ => show (k.val * 11264 + n.val) / 11264 % 2048 = k.val; omega
    | ⟨2, _⟩ => show (k.val * 11264 + n.val) % 11264 = n.val; omega

/-- The padded projection at position `q`, two rows of zeros in front. -/
theorem pad_ref (d : ℕ) (bb : Fin 2) (p : Fin 8192) (q : Fin 8194) (n : Fin 11264) (u : Fin 16384)
    (hu : u.val = bb.val * 8192 + p.val) (hd : d ≤ 2) (hq : q.val + d = p.val + 2) :
    Cert.Reference2Ideal.Read.val_main_v6 (F := Ideal) x0 x1 (ix3 bb q n) = prev x0 x1 d u n := by
  have hp := p.isLt
  have hm : u.val % 8192 = p.val := by omega
  unfold Cert.Reference2Ideal.Read.val_main_v6 prev
  by_cases h : d ≤ p.val
  · rw [if_pos (by omega)]
    refine (pad_apply_of_inside _ _ _ _ _ _ _ (ix3 bb q n) (ix3 bb (⟨p.val - d, by omega⟩ : Fin 8192) n) fun a => ?_).trans
      (lin_ref x0 x1 bb ⟨p.val - d, by omega⟩ n _ (by show u.val - d = bb.val * 8192 + (p.val - d); omega))
    match a with
    | ⟨0, _⟩ => show bb.val = 0 + bb.val * (0 + 1); omega
    | ⟨1, _⟩ => show q.val = 2 + (p.val - d) * (0 + 1); omega
    | ⟨2, _⟩ => show n.val = 0 + n.val * (0 + 1); omega
  · rw [if_neg (by omega)]
    refine (pad_apply_of_not_inside _ _ _ _ _ _ _ (ix3 bb q n) 1 fun hin => ?_).trans ?_
    · have : 2 ≤ q.val := hin.1
      omega
    · show (((((0#32 : BitVec 32).toInt : ℤ) : ℝ)) : EReal) = 0
      simp

/-- The convolved projection. -/
def conv (u : Fin 16384) (n : Fin 11264) : EReal :=
  ((prev x0 x1 2 u n * (x2 (ix3 (0 : Fin 1) (0 : Fin 3) n) : EReal) + prev x0 x1 1 u n * (x2 (ix3 (0 : Fin 1) (1 : Fin 3) n) : EReal))
    + lin x0 x1 u n * (x2 (ix3 (0 : Fin 1) (2 : Fin 3) n) : EReal)) + (x3 (ix2 (0 : Fin 1) n) : EReal)

theorem prev_zero (u : Fin 16384) (n : Fin 11264) : prev x0 x1 0 u n = lin x0 x1 u n := by
  unfold prev
  rw [if_pos (Nat.zero_le _)]
  rfl

theorem conv_ref (bb : Fin 2) (p : Fin 8192) (n : Fin 11264) (u : Fin 16384) (hu : u.val = bb.val * 8192 + p.val) :
    Cert.Reference2Ideal.Read.val_main_v29 (F := Ideal) x0 x1 x2 x3 (ix3 bb p n) = conv x0 x1 x2 x3 u n := by
  have hn := n.isLt
  have hp := p.isLt
  -- a row of the convolution's weights
  have w : ∀ (k : Fin 3) (i : S3x11264.Idx), (i 0).val = k.val → (i 1).val = n.val →
      Cert.Reference2Ideal.Read.val_main_v4 (F := Ideal) x2 i = x2 (ix3 (0 : Fin 1) k n) := by
    intro k i h0 h1
    have hk := k.isLt
    rw [Cert.Reference2Ideal.Read.val_main_v4_apply]
    refine congrArg x2 (funext fun a => Fin.ext ?_)
    match a with
    | ⟨0, _⟩ => rfl
    | ⟨1, _⟩ => show ((i 0).val * 11264 + (i 1).val) / 11264 % 3 = k.val; rw [h0, h1]; omega
    | ⟨2, _⟩ => show ((i 0).val * 11264 + (i 1).val) % 11264 = n.val; rw [h0, h1]; omega
  rw [Cert.Reference2Ideal.Read.val_main_v29_apply, Cert.Reference2Ideal.Read.val_main_v26_apply,
    Cert.Reference2Ideal.Read.val_main_v19_apply, Cert.Reference2Ideal.Read.val_main_v12_apply,
    Cert.Reference2Ideal.Read.val_main_v18_apply, Cert.Reference2Ideal.Read.val_main_v25_apply,
    Cert.Reference2Ideal.Read.val_main_v7_apply, Cert.Reference2Ideal.Read.val_main_v13_apply,
    Cert.Reference2Ideal.Read.val_main_v20_apply]
  unfold conv
  rw [← prev_zero]
  refine congrArg₂ (fun x y : EReal => x + y) (congrArg₂ (fun x y : EReal => x + y) (congrArg₂ (fun x y : EReal => x + y)
    (congrArg₂ (fun x y : EReal => x * y) ?_ ?_) (congrArg₂ (fun x y : EReal => x * y) ?_ ?_))
    (congrArg₂ (fun x y : EReal => x * y) ?_ ?_)) ?_
  · refine Eq.trans (congrArg _ (funext fun a => ?_)) (pad_ref x0 x1 2 bb p ⟨p.val, by omega⟩ n u hu (by omega) rfl)
    match a with
    | ⟨0, _⟩ => rfl
    | ⟨1, _⟩ => rfl
    | ⟨2, _⟩ => rfl
  · rw [Cert.Reference2Ideal.Read.val_main_v11_apply, Cert.Reference2Ideal.Read.val_main_v10_apply,
      Cert.Reference2Ideal.Read.val_main_v9_apply, Cert.Reference2Ideal.Read.val_main_v8_apply]
    exact w 0 _ rfl (Nat.mod_eq_of_lt hn)
  · refine Eq.trans (congrArg _ (funext fun a => ?_)) (pad_ref x0 x1 1 bb p ⟨1 + p.val, by omega⟩ n u hu (by omega)
      (by show 1 + p.val + 1 = p.val + 2; omega))
    match a with
    | ⟨0, _⟩ => rfl
    | ⟨1, _⟩ => rfl
    | ⟨2, _⟩ => rfl
  · rw [Cert.Reference2Ideal.Read.val_main_v17_apply, Cert.Reference2Ideal.Read.val_main_v16_apply,
      Cert.Reference2Ideal.Read.val_main_v15_apply, Cert.Reference2Ideal.Read.val_main_v14_apply]
    exact w 1 _ rfl (Nat.mod_eq_of_lt hn)
  · refine Eq.trans (congrArg _ (funext fun a => ?_)) (pad_ref x0 x1 0 bb p ⟨2 + p.val, by omega⟩ n u hu (by omega)
      (by show 2 + p.val + 0 = p.val + 2; omega))
    match a with
    | ⟨0, _⟩ => rfl
    | ⟨1, _⟩ => rfl
    | ⟨2, _⟩ => rfl
  · rw [Cert.Reference2Ideal.Read.val_main_v24_apply, Cert.Reference2Ideal.Read.val_main_v23_apply,
      Cert.Reference2Ideal.Read.val_main_v22_apply, Cert.Reference2Ideal.Read.val_main_v21_apply]
    exact w 2 _ rfl (Nat.mod_eq_of_lt hn)
  · rw [Cert.Reference2Ideal.Read.val_main_v28_apply, Cert.Reference2Ideal.Read.val_main_v27_apply,
      Cert.Reference2Ideal.Read.val_main_v5_apply]
    refine congrArg x3 (funext fun a => Fin.ext ?_)
    match a with
    | ⟨0, _⟩ => rfl
    | ⟨1, _⟩ => exact Nat.mod_eq_of_lt hn

/-- The reference: the gate with its sigmoid times the value. -/
theorem ref_apply (u : Fin 16384) (f : Fin 5632) (ng nv : Fin 11264) (hg : ng.val = f.val) (hv : nv.val = 5632 + f.val) :
    Cert.Reference2Ideal.Read.val_main_v35 (F := Ideal) x0 x1 x2 x3 (ix2 u f)
      = gate (conv x0 x1 x2 x3 u ng) (conv x0 x1 x2 x3 u nv) := by
  have hul := u.isLt
  have hfl := f.isLt
  obtain ⟨bb, p, hu⟩ : ∃ (bb : Fin 2) (p : Fin 8192), u.val = bb.val * 8192 + p.val :=
    ⟨⟨u.val / 8192, by omega⟩, ⟨u.val % 8192, by omega⟩, by show u.val = u.val / 8192 * 8192 + u.val % 8192; omega⟩
  have hp := p.isLt
  have hb := bb.isLt
  have e34 : Cert.Reference2Ideal.Read.idx_main_v34 (ix2 u f) = ix3 bb p f := funext fun a => Fin.ext (by
    match a with
    | ⟨0, _⟩ => show (u.val * 5632 + f.val) / 46137344 = bb.val; omega
    | ⟨1, _⟩ => show (u.val * 5632 + f.val) / 5632 % 8192 = p.val; omega
    | ⟨2, _⟩ => show (u.val * 5632 + f.val) % 5632 = f.val; omega)
  have e30 : Cert.Reference2Ideal.Read.idx_main_v30 (ix3 bb p f) = ix3 bb p ng := funext fun a => Fin.ext (by
    match a with
    | ⟨0, _⟩ => rfl
    | ⟨1, _⟩ => rfl
    | ⟨2, _⟩ => exact hg.symm)
  have e31 : Cert.Reference2Ideal.Read.idx_main_v31 (ix3 bb p f) = ix3 bb p nv := funext fun a => Fin.ext (by
    match a with
    | ⟨0, _⟩ => rfl
    | ⟨1, _⟩ => rfl
    | ⟨2, _⟩ => exact hv.symm)
  have one : ∀ i, Cert.Reference2Ideal.Read.val_main_call1_cst (F := Ideal) i = (1 : EReal) := fun i => Idealize.ShloMosaic.Ideal.ofBits_one_f32
  have one' : ∀ i, Cert.Reference2Ideal.Read.val_main_call1_cst_0 (F := Ideal) i = (1 : EReal) := fun i => Idealize.ShloMosaic.Ideal.ofBits_one_f32
  rw [Cert.Reference2Ideal.Read.val_main_v35_apply, Cert.Reference2Ideal.Read.val_main_v34_apply, e34,
    Cert.Reference2Ideal.Read.val_main_v33_apply, Cert.Reference2Ideal.Read.val_main_v32_apply,
    Cert.Reference2Ideal.Read.val_main_call1_v5_apply, Cert.Reference2Ideal.Read.val_main_call1_v4_apply, one',
    Cert.Reference2Ideal.Read.val_main_call1_v3_apply, Cert.Reference2Ideal.Read.val_main_call1_v2_apply, one,
    Cert.Reference2Ideal.Read.val_main_call1_v1_apply, Cert.Reference2Ideal.Read.val_main_call1_v0_apply,
    Cert.Reference2Ideal.Read.val_main_v30_apply, Cert.Reference2Ideal.Read.val_main_v31_apply, e30, e31,
    conv_ref x0 x1 x2 x3 bb p ng u hu, conv_ref x0 x1 x2 x3 bb p nv u hu]
  rfl

end Ref

/-! ### The arrays the windows stage -/

variable (m : (ℓ : Loc nD τ sig) → Buf (Elt Ideal) ℓ) (c : Dev nD)

/-- The normed activations, the weights and the convolution's weights and biases of device `c`. -/
abbrev a0 : (⟨S16384x2048, .bf16⟩ : BufTy).Contents (Elt Ideal) := m ((c.tc : Thread nD τ).loc main_arg0)
abbrev a1 : (⟨S1x2048x11264, .f32⟩ : BufTy).Contents (Elt Ideal) := m ((c.tc : Thread nD τ).loc main_arg1)
abbrev a2 : (⟨S1x3x11264, .f32⟩ : BufTy).Contents (Elt Ideal) := m ((c.tc : Thread nD τ).loc main_arg2)
abbrev a3 : (⟨S1x11264, .f32⟩ : BufTy).Contents (Elt Ideal) := m ((c.tc : Thread nD τ).loc main_arg3)

theorem host0 : V m c (Pipeline.arrRef spec0 0) = a0 m c := by
  show StableHlo.after hostOps0 _ _ = _
  after_results_simp <;> rfl

theorem host1 : V m c (Pipeline.arrRef spec0 1) = shapeCast S2048x11264 (a1 m c) shapeCasts_S1x2048x11264_S2048x11264 := by
  show StableHlo.after hostOps0 _ _ = _
  after_results_simp <;> rfl

theorem host3 : V m c (Pipeline.arrRef spec0 3) = shapeCast S3x11264 (a2 m c) shapeCasts_S1x3x11264_S3x11264 := by
  show StableHlo.after hostOps0 _ _ = _
  after_results_simp <;> rfl

theorem host5 : V m c (Pipeline.arrRef spec0 5) = a3 m c := by
  refine Eq.trans (b := shapeCast S1x11264 (shapeCast S11264 (a3 m c) shapeCasts_S1x11264_S11264) shapeCasts_S11264_S1x11264) ?_ ?_
  · show StableHlo.after hostOps0 _ _ = _
    after_results_simp <;> rfl
  · exact shapeCast_shapeCast _ _ _

theorem index : ∀ t : Fin grid0.N,
    (win0_0.index t 0 = (grid0.coords t 1).val ∧ win0_0.index t 1 = 0)
    ∧ (win0_1.index t 0 = 0 ∧ win0_1.index t 1 = (grid0.coords t 0).val)
    ∧ (win0_2.index t 0 = 0 ∧ win0_2.index t 1 = 11 + (grid0.coords t 0).val)
    ∧ (win0_3.index t 0 = 0 ∧ win0_3.index t 1 = (grid0.coords t 0).val)
    ∧ (win0_4.index t 0 = 0 ∧ win0_4.index t 1 = 11 + (grid0.coords t 0).val)
    ∧ (win0_5.index t 0 = 0 ∧ win0_5.index t 1 = (grid0.coords t 0).val)
    ∧ (win0_6.index t 0 = 0 ∧ win0_6.index t 1 = 11 + (grid0.coords t 0).val)
    ∧ (win0_7.index t 0 = (grid0.coords t 1).val ∧ win0_7.index t 1 = (grid0.coords t 0).val)
    ∧ t.val = (grid0.coords t 0).val * 16 + (grid0.coords t 1).val := by decide +kernel

theorem c0 (t : Fin grid0.N) : (grid0.coords t 0).val < 11 := (grid0.coords t 0).isLt
theorem c1 (t : Fin grid0.N) : (grid0.coords t 1).val < 16 := (grid0.coords t 1).isLt

theorem blk0 (t : Fin cfg0.N) (r : Fin 1024) (k : Fin 2048) (u : Fin 16384) (hu : u.val = (grid0.coords t 1).val * 1024 + r.val) :
    iblk m c 0 t (ix2 r k) = a0 m c (ix2 u k) := by
  obtain ⟨⟨e0, e1⟩, -⟩ := index t
  show V m c (Pipeline.arrRef spec0 0) ((win0_0.rect t).emb (ix2 r k)) = _
  rw [host0]
  refine congrArg (a0 m c) (funext fun a => Fin.ext ?_)
  match a with
  | ⟨0, _⟩ => show win0_0.index t 0 * 1024 + 1 * r.val = u.val; rw [e0, hu, Nat.one_mul]
  | ⟨1, _⟩ => show win0_0.index t 1 * 2048 + 1 * k.val = k.val; rw [e1, Nat.zero_mul, Nat.zero_add, Nat.one_mul]

/-- A block of the gate's weights, and of the value's, which fill the second half of the columns. -/
theorem blk1 (t : Fin cfg0.N) (k : Fin 2048) (j : Fin 512) (n : Fin 11264) (h : n.val = (grid0.coords t 0).val * 512 + j.val) :
    iblk m c 1 t (ix2 k j) = a1 m c (ix3 (0 : Fin 1) k n) := by
  obtain ⟨-, ⟨e0, e1⟩, -⟩ := index t
  show V m c (Pipeline.arrRef spec0 1) ((win0_1.rect t).emb (ix2 k j)) = _
  rw [host1, ← cast_drop (a1 m c) shapeCasts_S1x2048x11264_S2048x11264 k n]
  refine congrArg (shapeCast S2048x11264 (a1 m c) shapeCasts_S1x2048x11264_S2048x11264) (funext fun a => Fin.ext ?_)
  match a with
  | ⟨0, _⟩ => show win0_1.index t 0 * 2048 + 1 * k.val = k.val; rw [e0, Nat.zero_mul, Nat.zero_add, Nat.one_mul]
  | ⟨1, _⟩ => show win0_1.index t 1 * 512 + 1 * j.val = n.val; rw [e1, h, Nat.one_mul]

theorem blk2 (t : Fin cfg0.N) (k : Fin 2048) (j : Fin 512) (n : Fin 11264) (h : n.val = (11 + (grid0.coords t 0).val) * 512 + j.val) :
    iblk m c 2 t (ix2 k j) = a1 m c (ix3 (0 : Fin 1) k n) := by
  obtain ⟨-, -, ⟨e0, e1⟩, -⟩ := index t
  show V m c (Pipeline.arrRef spec0 1) ((win0_2.rect t).emb (ix2 k j)) = _
  rw [host1, ← cast_drop (a1 m c) shapeCasts_S1x2048x11264_S2048x11264 k n]
  refine congrArg (shapeCast S2048x11264 (a1 m c) shapeCasts_S1x2048x11264_S2048x11264) (funext fun a => Fin.ext ?_)
  match a with
  | ⟨0, _⟩ => show win0_2.index t 0 * 2048 + 1 * k.val = k.val; rw [e0, Nat.zero_mul, Nat.zero_add, Nat.one_mul]
  | ⟨1, _⟩ => show win0_2.index t 1 * 512 + 1 * j.val = n.val; rw [e1, h, Nat.one_mul]

theorem blk3 (t : Fin cfg0.N) (k : Fin 3) (j : Fin 512) (n : Fin 11264) (h : n.val = (grid0.coords t 0).val * 512 + j.val) :
    iblk m c 3 t (ix2 k j) = a2 m c (ix3 (0 : Fin 1) k n) := by
  obtain ⟨-, -, -, ⟨e0, e1⟩, -⟩ := index t
  show V m c (Pipeline.arrRef spec0 3) ((win0_3.rect t).emb (ix2 k j)) = _
  rw [host3, ← cast_drop (a2 m c) shapeCasts_S1x3x11264_S3x11264 k n]
  refine congrArg (shapeCast S3x11264 (a2 m c) shapeCasts_S1x3x11264_S3x11264) (funext fun a => Fin.ext ?_)
  match a with
  | ⟨0, _⟩ => show win0_3.index t 0 * 3 + 1 * k.val = k.val; rw [e0, Nat.zero_mul, Nat.zero_add, Nat.one_mul]
  | ⟨1, _⟩ => show win0_3.index t 1 * 512 + 1 * j.val = n.val; rw [e1, h, Nat.one_mul]

theorem blk4 (t : Fin cfg0.N) (k : Fin 3) (j : Fin 512) (n : Fin 11264) (h : n.val = (11 + (grid0.coords t 0).val) * 512 + j.val) :
    iblk m c 4 t (ix2 k j) = a2 m c (ix3 (0 : Fin 1) k n) := by
  obtain ⟨-, -, -, -, ⟨e0, e1⟩, -⟩ := index t
  show V m c (Pipeline.arrRef spec0 3) ((win0_4.rect t).emb (ix2 k j)) = _
  rw [host3, ← cast_drop (a2 m c) shapeCasts_S1x3x11264_S3x11264 k n]
  refine congrArg (shapeCast S3x11264 (a2 m c) shapeCasts_S1x3x11264_S3x11264) (funext fun a => Fin.ext ?_)
  match a with
  | ⟨0, _⟩ => show win0_4.index t 0 * 3 + 1 * k.val = k.val; rw [e0, Nat.zero_mul, Nat.zero_add, Nat.one_mul]
  | ⟨1, _⟩ => show win0_4.index t 1 * 512 + 1 * j.val = n.val; rw [e1, h, Nat.one_mul]

theorem blk5 (t : Fin cfg0.N) (j : Fin 512) (n : Fin 11264) (h : n.val = (grid0.coords t 0).val * 512 + j.val) :
    iblk m c 5 t (ix2 (0 : Fin 1) j) = a3 m c (ix2 (0 : Fin 1) n) := by
  obtain ⟨-, -, -, -, -, ⟨e0, e1⟩, -⟩ := index t
  show V m c (Pipeline.arrRef spec0 5) ((win0_5.rect t).emb (ix2 (0 : Fin 1) j)) = _
  rw [host5]
  refine congrArg (a3 m c) (funext fun a => Fin.ext ?_)
  match a with
  | ⟨0, _⟩ => show win0_5.index t 0 * 1 + 1 * 0 = 0; rw [e0]
  | ⟨1, _⟩ => show win0_5.index t 1 * 512 + 1 * j.val = n.val; rw [e1, h, Nat.one_mul]

theorem blk6 (t : Fin cfg0.N) (j : Fin 512) (n : Fin 11264) (h : n.val = (11 + (grid0.coords t 0).val) * 512 + j.val) :
    iblk m c 6 t (ix2 (0 : Fin 1) j) = a3 m c (ix2 (0 : Fin 1) n) := by
  obtain ⟨-, -, -, -, -, -, ⟨e0, e1⟩, -⟩ := index t
  show V m c (Pipeline.arrRef spec0 5) ((win0_6.rect t).emb (ix2 (0 : Fin 1) j)) = _
  rw [host5]
  refine congrArg (a3 m c) (funext fun a => Fin.ext ?_)
  match a with
  | ⟨0, _⟩ => show win0_6.index t 0 * 1 + 1 * 0 = 0; rw [e0]
  | ⟨1, _⟩ => show win0_6.index t 1 * 512 + 1 * j.val = n.val; rw [e1, h, Nat.one_mul]

/-! ### The rows carried from point to point -/

theorem pay3_apply (x : Vec Ideal S1024x2048 .bf16) (w : Vec Ideal S2048x512 .bf16) (r : Fin 1024) (j : Fin 512) :
    (k0_pay3 x w (ix2 r j) : EReal) = ∑ k : Fin 2048, (x (ix2 r k) : EReal) * (w (ix2 k j) : EReal) := by
  simp only [k0_pay3, shapeCast_self]
  exact mm_apply _ rfl x w r j

/-- The products of a block of tokens with the gate's weights and with the value's. -/
theorem prod1 (t : Fin cfg0.N) (r : Fin 1024) (j : Fin 512) (u : Fin 16384) (n : Fin 11264)
    (hu : u.val = (grid0.coords t 1).val * 1024 + r.val) (hn : n.val = (grid0.coords t 0).val * 512 + j.val) :
    k0_pay3 (F := Ideal) (iblk m c 0 t) (iblk m c 1 t) (ix2 r j) = lin (a0 m c) (a1 m c) u n := by
  refine (pay3_apply (iblk m c 0 t) (iblk m c 1 t) r j).trans (Finset.sum_congr rfl fun k _ => ?_)
  exact congrArg₂ (fun x y : EReal => x * y) (blk0 m c t r k u hu) (blk1 m c t k j n hn)

theorem prod2 (t : Fin cfg0.N) (r : Fin 1024) (j : Fin 512) (u : Fin 16384) (n : Fin 11264)
    (hu : u.val = (grid0.coords t 1).val * 1024 + r.val) (hn : n.val = (11 + (grid0.coords t 0).val) * 512 + j.val) :
    k0_pay3 (F := Ideal) (iblk m c 0 t) (iblk m c 2 t) (ix2 r j) = lin (a0 m c) (a1 m c) u n := by
  refine (pay3_apply (iblk m c 0 t) (iblk m c 2 t) r j).trans (Finset.sum_congr rfl fun k _ => ?_)
  exact congrArg₂ (fun x y : EReal => x * y) (blk0 m c t r k u hu) (blk2 m c t k j n hn)

/-- The last rows of a product. -/
theorem last_apply (x : Vec Ideal S1024x2048 .bf16) (w : Vec Ideal S2048x512 .bf16) (k : Fin 8) (r : Fin 1024) (j : Fin 512)
    (h : r.val = 1016 + k.val) : k0_pay4 x w (ix2 k j) = k0_pay3 x w (ix2 r j) := by
  simp only [k0_pay4, shapeCast_self]
  refine extractStridedSlice_apply _ _ _ _ (ix2 r j) fun a => ?_
  match a with
  | ⟨0, _⟩ => exact h
  | ⟨1, _⟩ => show j.val = 0 + j.val; omega

/-- What a point leaves in the two carried buffers. -/
theorem left (t : Fin cfg0.N) :
    (outsAt0 m c t.val t.isLt).2.1 = k0_pay4 (F := Ideal) (iblk m c 0 t) (iblk m c 1 t)
    ∧ (outsAt0 m c t.val t.isLt).2.2 = k0_pay4 (F := Ideal) (iblk m c 0 t) (iblk m c 2 t) := by
  by_cases h : t.val % 8 = 0
  · rw [outsAt0_A m c t h]
    dsimp only
    rw [tailA0, tailA1]
    exact ⟨rfl, rfl⟩
  · rw [outsAt0_B m c t h]
    dsimp only
    rw [tailB0, tailB1]
    exact ⟨rfl, rfl⟩

/-- What a point stores: zero rows carried in at the start of a sequence, the point before's last rows otherwise. -/
theorem stored (t : Fin cfg0.N) : ∃ tg tv : Vec Ideal S8x512 .f32,
    (outsAt0 m c t.val t.isLt).1 = block (iblk m c 0 t) (iblk m c 1 t) (iblk m c 2 t) (iblk m c 3 t) (iblk m c 4 t) (iblk m c 5 t)
      (iblk m c 6 t) tg tv
    ∧ (t.val % 8 = 0 → ∀ i, (tg i : EReal) = 0 ∧ (tv i : EReal) = 0)
    ∧ (∀ s : Fin cfg0.N, s.val + 1 = t.val → ¬t.val % 8 = 0 → tg = k0_pay4 (F := Ideal) (iblk m c 0 s) (iblk m c 1 s)
        ∧ tv = k0_pay4 (F := Ideal) (iblk m c 0 s) (iblk m c 2 s)) := by
  by_cases h : t.val % 8 = 0
  · refine ⟨k0_pay1 (F := Ideal), k0_pay2 (F := Ideal), ?_, fun _ i => ?_, fun _ _ hn => absurd h hn⟩
    · rw [outsAt0_A m c t h]
      dsimp only
      rw [outA]
    · simp only [k0_pay1, k0_pay2, shapeCast_self]
      exact ⟨Idealize.ShloMosaic.Ideal.ofBits_zero_f32, Idealize.ShloMosaic.Ideal.ofBits_zero_f32⟩
  · refine ⟨(outsAt0 m c (t.val - 1) (Nat.lt_of_le_of_lt (Nat.sub_le _ _) t.isLt)).2.1,
      (outsAt0 m c (t.val - 1) (Nat.lt_of_le_of_lt (Nat.sub_le _ _) t.isLt)).2.2, ?_, fun hz => absurd hz h, fun s hs _ => ?_⟩
    rotate_left
    · obtain ⟨sv, hsv⟩ := s
      obtain rfl : sv = t.val - 1 := by simp only at hs; omega
      exact left m c ⟨t.val - 1, hsv⟩
    · rw [outsAt0_B m c t h]
      dsimp only
      rw [outB]

/-- The rows before a block: the carried rows are the projection of the tokens before it. -/
theorem back (t : Fin cfg0.N) (h : FVec Ideal S1024x512 .f32) (tl : Vec Ideal S8x512 .f32) (j : Fin 512) (n : Fin 11264)
    (hh : ∀ (r : Fin 1024) (u : Fin 16384), u.val = (grid0.coords t 1).val * 1024 + r.val → h (ix2 r j) = lin (a0 m c) (a1 m c) u n)
    (hz : t.val % 8 = 0 → ∀ i, (tl i : EReal) = 0)
    (ht : ¬t.val % 8 = 0 → ∀ (k : Fin 8) (u : Fin 16384), u.val + 8 = (grid0.coords t 1).val * 1024 + k.val →
      tl (ix2 k j) = lin (a0 m c) (a1 m c) u n)
    (d : ℕ) (hd : d ≤ 2) (r : Fin 1024) (u : Fin 16384) (hu : u.val = (grid0.coords t 1).val * 1024 + r.val) :
    Back h tl d r j (prev (a0 m c) (a1 m c) d u n) := by
  obtain ⟨-, -, -, -, -, -, -, -, et⟩ := index t
  have hr := r.isLt
  generalize (grid0.coords t 1).val = i at *
  generalize (grid0.coords t 0).val = jj at *
  refine ⟨fun k hk hkd => ?_, fun r' hr' => ?_⟩
  · unfold prev
    by_cases h0 : t.val % 8 = 0
    · rw [if_neg (by omega), hz h0]
    · rw [if_pos (by omega), ht h0 k ⟨u.val - d, _⟩ (by show u.val - d + 8 = _; omega)]
  · unfold prev
    rw [if_pos (by omega), hh r' ⟨u.val - d, _⟩ (by show u.val - d = _; omega)]

/-! ### The result -/

/-- The gated hidden layer of device `c`'s arguments, as the reference computes it. -/
abbrev up : Buf (Elt Ideal) ((c : Thread nD τ).loc main_v5) :=
  Cert.Reference2Ideal.Read.val_main_v35 (F := Ideal) (a0 m c) (a1 m c) (a2 m c) (a3 m c)

/-- What a grid point stores at a row and a column of its block is the hidden layer there. -/
theorem point_eq (t : Fin cfg0.N) (r : Fin 1024) (j : Fin 512) (u : Fin 16384) (f : Fin 5632)
    (hu : u.val = (grid0.coords t 1).val * 1024 + r.val) (hf : f.val = (grid0.coords t 0).val * 512 + j.val) :
    (outsAt0 m c t.val t.isLt).1 (ix2 r j) = up m c (ix2 u f) := by
  have hfl := f.isLt
  obtain ⟨ng, hg⟩ : ∃ ng : Fin 11264, ng.val = f.val := ⟨⟨f.val, by omega⟩, rfl⟩
  obtain ⟨nv, hv⟩ : ∃ nv : Fin 11264, nv.val = 5632 + f.val := ⟨⟨5632 + f.val, by omega⟩, rfl⟩
  have hng : ng.val = (grid0.coords t 0).val * 512 + j.val := hg.trans hf
  have hnv : nv.val = (11 + (grid0.coords t 0).val) * 512 + j.val := by rw [hv, hf]; omega
  obtain ⟨tg, tv, e, hz, ht⟩ := stored m c t
  obtain ⟨-, -, -, -, -, -, -, -, et⟩ := index t
  -- the point before, when this is not the start of a sequence
  have hprev : ¬t.val % 8 = 0 → ∃ s : Fin cfg0.N, s.val + 1 = t.val
      ∧ (grid0.coords s 1).val + 1 = (grid0.coords t 1).val ∧ (grid0.coords s 0).val = (grid0.coords t 0).val := by
    intro h0
    have h1 := c1 t
    obtain ⟨s, hs⟩ : ∃ s : Fin cfg0.N, s.val + 1 = t.val :=
      ⟨⟨t.val - 1, lt_of_le_of_lt (Nat.sub_le _ _) t.isLt⟩, by show t.val - 1 + 1 = t.val; omega⟩
    obtain ⟨-, -, -, -, -, -, -, -, es⟩ := index s
    have h2 := c1 s
    exact ⟨s, hs, by omega, by omega⟩
  have bg := back m c t (k0_pay3 (iblk m c 0 t) (iblk m c 1 t)) tg j ng (fun r u hu => prod1 m c t r j u ng hu hng)
    (fun h0 i => (hz h0 i).1) (fun h0 k u hu => by
      have hk := k.isLt
      obtain ⟨s, hs, s1, s0⟩ := hprev h0
      rw [(ht s hs h0).1, last_apply _ _ k ⟨1016 + k.val, by omega⟩ j rfl]
      exact prod1 m c s _ j u ng (by show u.val = (grid0.coords s 1).val * 1024 + (1016 + k.val); omega) (by rw [s0]; exact hng))
  have bv := back m c t (k0_pay3 (iblk m c 0 t) (iblk m c 2 t)) tv j nv (fun r u hu => prod2 m c t r j u nv hu hnv)
    (fun h0 i => (hz h0 i).2) (fun h0 k u hu => by
      have hk := k.isLt
      obtain ⟨s, hs, s1, s0⟩ := hprev h0
      rw [(ht s hs h0).2, last_apply _ _ k ⟨1016 + k.val, by omega⟩ j rfl]
      exact prod2 m c s _ j u nv (by show u.val = (grid0.coords s 1).val * 1024 + (1016 + k.val); omega) (by rw [s0]; exact hnv))
  rw [e]
  refine (block_apply _ _ _ _ _ _ _ tg tv r j _ _ _ _ (bg 1 (by omega) r u hu) (bg 2 (by omega) r u hu)
    (bv 1 (by omega) r u hu) (bv 2 (by omega) r u hu)).trans ?_
  refine Eq.trans ?_ (ref_apply (a0 m c) (a1 m c) (a2 m c) (a3 m c) u f ng nv hg hv).symm
  unfold conv
  rw [prod1 m c t r j u ng hu hng, prod2 m c t r j u nv hu hnv]
  refine congrArg₂ gate
    (congrArg₂ (fun x y : EReal => x + y) (congrArg₂ (fun x y : EReal => x + y) (congrArg₂ (fun x y : EReal => x + y) ?_ ?_) ?_) ?_)
    (congrArg₂ (fun x y : EReal => x + y) (congrArg₂ (fun x y : EReal => x + y) (congrArg₂ (fun x y : EReal => x + y) ?_ ?_) ?_) ?_)
  · exact (mul_comm _ _).trans (congrArg (_ * ·) (blk3 m c t 0 j ng hng))
  · exact (mul_comm _ _).trans (congrArg (_ * ·) (blk3 m c t 1 j ng hng))
  · exact (mul_comm _ _).trans (congrArg (_ * ·) (blk3 m c t 2 j ng hng))
  · exact blk5 m c t j ng hng
  · exact (mul_comm _ _).trans (congrArg (_ * ·) (blk4 m c t 0 j nv hnv))
  · exact (mul_comm _ _).trans (congrArg (_ * ·) (blk4 m c t 1 j nv hnv))
  · exact (mul_comm _ _).trans (congrArg (_ * ·) (blk4 m c t 2 j nv hnv))
  · exact blk6 m c t j nv hnv

/-- What a grid point writes back is its block of the hidden layer. -/
theorem flushed_eq (t : Fin cfg0.N) :
    (dats m 0 c).flushed 7 t = (win0_7.blk t).view.read (Elt Ideal) (up m c) := by
  rw [Cert.Kernel2Ideal.Value.flushed7]
  obtain ⟨-, -, -, -, -, -, -, ⟨e0, e1⟩, -⟩ := index t
  have h0 := c0 t
  have h1 := c1 t
  funext y
  have hy0 : (y 0).val < 1024 := (y 0).isLt
  have hy1 : (y 1).val < 512 := (y 1).isLt
  refine Eq.trans (b := (outsAt0 m c t.val t.isLt).1 (ix2 ⟨(y 0).val, hy0⟩ ⟨(y 1).val, hy1⟩)) ?_ ?_
  · show (outsAt0 m c t.val t.isLt).1 _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 512 + (y 1).val, by omega⟩ rfl rfl).trans ?_
    show up m c _ = up m c ((win0_7.rect t).emb y)
    refine congrArg (up m c) (funext fun a => Fin.ext ?_)
    match a with
    | ⟨0, _⟩ => show (grid0.coords t 1).val * 1024 + (y 0).val = win0_7.index t 0 * 1024 + 1 * (y 0).val; rw [e0, Nat.one_mul]
    | ⟨1, _⟩ => show (grid0.coords t 0).val * 512 + (y 1).val = win0_7.index t 1 * 512 + 1 * (y 1).val; rw [e1, Nat.one_mul]

/-- Every block index is some grid point's. -/
theorem onto : ∀ (j : Fin 11) (i : Fin 16), ∃ t : Fin grid0.N,
    (grid0.coords t 0).val = j.val ∧ (grid0.coords t 1).val = i.val := by decide +kernel

/-- The blocks tile the result. -/
theorem cover (i : S16384x5632.Idx) :
    ∃ t : Fin cfg0.N, (cfg0.win 7).flush t = true ∧ i ∈ ((cfg0.win 7).blk t).view.set := by
  have h0 : (i 0).val < 16384 := (i 0).isLt
  have h1 : (i 1).val < 5632 := (i 1).isLt
  obtain ⟨t, t0, t1⟩ := onto ⟨(i 1).val / 512, by omega⟩ ⟨(i 0).val / 1024, by omega⟩
  simp only at t0 t1
  obtain ⟨-, -, -, -, -, -, -, ⟨e0, e1⟩, -⟩ := index t
  refine ⟨t, flush0_7 t, ?_⟩
  show i ∈ ((View.whole main_v5).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [e0, t1]; omega
  | ⟨1, _⟩ =>
    show win0_7.index t 1 * 512 ≤ (i 1).val ∧ (i 1).val < win0_7.index t 1 * 512 + 512
    rw [e1, t0]; omega

/-- The result array after the run is the hidden layer of the arguments. -/
theorem final : (dats m 0 c).arrAt 7 cfg0.N = up m c :=
  (dats m 0 c).arrAt_eq_of_cover 7 (up m c) (fun t _ => flushed_eq m c t) cover

end Cert.Up
-- ==== Proof.Norm.lean ====
/-
  The layer norm of a row, as a function of the row, and the blocked norm read at an index.
-/
module

public import proofs.«01_k».proof.Proof.Mat

@[expose] public section

set_option maxRecDepth 16384

noncomputable section

namespace Cert.Norm

open Idealize.ShloMosaic Idealize.ShloMosaic.ValueIdx

/-- The width of a row, 2048, and the constant under the root, as numbers. -/
def width : EReal := Idealize.ShloMosaic.Ideal.ofBits .f32 0x45000000#32
def eps : EReal := Idealize.ShloMosaic.Ideal.ofBits .f32 0x3727C5AC#32

/-- The residual's weight as a number. -/
def alpha : EReal := Idealize.ShloMosaic.Ideal.ofBits .f32 0x3F9837F0#32

/-- The mean of a row. -/
def mean (y : Fin 2048 → EReal) : EReal := Ideal.div (∑ k, y k) width

/-- The normalised row, scaled and shifted, at a column. -/
def ln (y : Fin 2048 → EReal) (g b : EReal) (n : Fin 2048) : EReal :=
  (y n - mean y) * Ideal.rsqrt (Ideal.div (∑ k, (y k - mean y) * (y k - mean y)) width + eps) * g + b

/-- What the norm of a block of `R` rows needs of its shapes. -/
structure Ev (R : ℕ) : Prop where
  red : (⟨2, ![R, 2048]⟩ : Shape).Reduces [1] ⟨1, ![R]⟩
  col : (⟨1, ![R]⟩ : Shape).ShapeCasts ⟨2, ![R, 1]⟩
  bc : (⟨2, ![R, 1]⟩ : Shape).Broadcasts ⟨2, ![R, 2048]⟩
  row : (⟨2, ![1, 2048]⟩ : Shape).Broadcasts ⟨2, ![R, 2048]⟩

variable {R : ℕ} (ev : Ev R)

/-- The sums of a block's rows, spread over the columns of one. -/
abbrev sums (v : FVec Ideal ⟨2, ![R, 2048]⟩ .f32) : FVec Ideal ⟨2, ![R, 1]⟩ .f32 :=
  shapeCast ⟨2, ![R, 1]⟩ (multiReduction .add [1] ⟨1, ![R]⟩ v 0x00000000#32 ev.red (.inl rfl) rfl : FVec Ideal ⟨1, ![R]⟩ .f32) ev.col

theorem sums_apply (v : FVec Ideal ⟨2, ![R, 2048]⟩ .f32) (r : Fin R) :
    sums ev v (ix2 r (0 : Fin 1)) = ∑ k : Fin 2048, (v (ix2 r k) : EReal) := by
  have e2 := Idealize.ShloMosaic.Ideal.multiReduction_add_single (a := (1 : Fin 2)) v 0x00000000#32 ev.red (.inl rfl) rfl (ix1 r)
  rw [sums, shapeCast_a_a1_apply]
  refine e2.trans (Finset.sum_congr rfl fun k _ => congrArg v ?_)
  funext x
  match x with
  | ⟨0, _⟩ => apply Fin.ext; simp [Shape.Reduces.lift]; rfl
  | ⟨1, _⟩ => apply Fin.ext; rfl

/-- A column spread over a block's rows. -/
theorem spread_apply (v : FVec Ideal ⟨2, ![R, 1]⟩ .f32) (r : Fin R) (n : Fin 2048) :
    broadcastTo ⟨2, ![R, 2048]⟩ v ev.bc (ix2 r n) = v (ix2 r (0 : Fin 1)) := by
  rw [broadcastTo_apply _ ev.bc (ix2 r n) (ix2 r (0 : Fin 1)) ?_]
  intro x
  match x with
  | ⟨0, _⟩ =>
    show r.val = if R = 1 then 0 else r.val
    have := r.isLt
    split <;> omega
  | ⟨1, _⟩ => rfl

/-- A row repeated over a block's rows. -/
theorem repeat_apply (v : FVec Ideal ⟨2, ![1, 2048]⟩ .f32) (r : Fin R) (n : Fin 2048) :
    broadcastTo ⟨2, ![R, 2048]⟩ v ev.row (ix2 r n) = v (ix2 (0 : Fin 1) n) := by
  rw [broadcastTo_apply _ ev.row (ix2 r n) (ix2 (0 : Fin 1) n) ?_]
  intro x
  match x with
  | ⟨0, _⟩ => rfl
  | ⟨1, _⟩ => rfl

/-- A block with its rows' means subtracted. -/
abbrev centred (v : FVec Ideal ⟨2, ![R, 2048]⟩ .f32) : FVec Ideal ⟨2, ![R, 2048]⟩ .f32 :=
  subf v (broadcastTo ⟨2, ![R, 2048]⟩ (divf (sums ev v) (broadcast ⟨2, ![R, 1]⟩ (Scalar.ofBits .f32 0x45000000#32))) ev.bc)

theorem centred_apply (v : FVec Ideal ⟨2, ![R, 2048]⟩ .f32) (r : Fin R) (n : Fin 2048) :
    centred ev v (ix2 r n) = (v (ix2 r n) : EReal) - mean (fun k => v (ix2 r k)) := by
  show (v (ix2 r n) : EReal) - broadcastTo ⟨2, ![R, 2048]⟩ _ ev.bc (ix2 r n) = _
  rw [spread_apply ev]
  show (v (ix2 r n) : EReal) - Ideal.div (sums ev v (ix2 r (0 : Fin 1))) _ = _
  rw [sums_apply]
  rfl

/-- The norm of a block. -/
abbrev block (v : FVec Ideal ⟨2, ![R, 2048]⟩ .f32) (g b : FVec Ideal ⟨2, ![1, 2048]⟩ .f32) : FVec Ideal ⟨2, ![R, 2048]⟩ .f32 :=
  addf (mulf (mulf (centred ev v) (broadcastTo ⟨2, ![R, 2048]⟩
    (rsqrt (addf (divf (sums ev (mulf (centred ev v) (centred ev v))) (broadcast ⟨2, ![R, 1]⟩ (Scalar.ofBits .f32 0x45000000#32)))
      (broadcast ⟨2, ![R, 1]⟩ (Scalar.ofBits .f32 0x3727C5AC#32)))) ev.bc))
    (broadcastTo ⟨2, ![R, 2048]⟩ g ev.row)) (broadcastTo ⟨2, ![R, 2048]⟩ b ev.row)

theorem block_apply (v : FVec Ideal ⟨2, ![R, 2048]⟩ .f32) (g b : FVec Ideal ⟨2, ![1, 2048]⟩ .f32) (r : Fin R) (n : Fin 2048) :
    block ev v g b (ix2 r n) = ln (fun k => v (ix2 r k)) (g (ix2 (0 : Fin 1) n)) (b (ix2 (0 : Fin 1) n)) n := by
  show (centred ev v (ix2 r n) * broadcastTo ⟨2, ![R, 2048]⟩ _ ev.bc (ix2 r n) : EReal)
    * broadcastTo ⟨2, ![R, 2048]⟩ g ev.row (ix2 r n) + broadcastTo ⟨2, ![R, 2048]⟩ b ev.row (ix2 r n) = _
  rw [spread_apply ev, repeat_apply ev, repeat_apply ev, centred_apply]
  show (((v (ix2 r n) : EReal) - mean (fun k => v (ix2 r k)))
    * Ideal.rsqrt (Ideal.div (sums ev (mulf (centred ev v) (centred ev v)) (ix2 r (0 : Fin 1))) width + eps) : EReal)
    * g (ix2 (0 : Fin 1) n) + b (ix2 (0 : Fin 1) n) = _
  rw [sums_apply, show (fun k => (mulf (centred ev v) (centred ev v) (ix2 r k) : EReal))
    = fun k => ((v (ix2 r k) : EReal) - mean (fun k => v (ix2 r k))) * ((v (ix2 r k) : EReal) - mean (fun k => v (ix2 r k))) from
    funext fun k => congrArg₂ (fun x y : EReal => x * y) (centred_apply ev v r k) (centred_apply ev v r k)]
  rfl

end Cert.Norm
-- ==== Proof.Down.lean ====
/-
  The down projection with its residual, its per-layer term and its norm.
-/
module

public import proofs.«01_k».proof.Proof.Norm
public import proofs.«01_k».proof.Proof.Gen.Kernel3Ideal.Value
public import proofs.«01_k».proof.Proof.Gen.Reference3Ideal.Read
import all proofs.«01_k».proof.Proof.Gen.Kernel3Ideal.Frame.RunA

@[expose] public section

set_option maxRecDepth 16384

noncomputable section

namespace Cert.Down

open Idealize.ShloMosaic Idealize.ShloMosaic.TcCoe Idealize.ShloMosaic.ValueIdx Idealize.SL.Sem
open Cert.Mat Cert.Norm Cert.Kernel3Ideal Cert.Kernel3Ideal.Gen

theorem ev : Ev 256 where
  red := reduces_S256x2048_S256
  col := shapeCasts_S256_S256x1
  bc := broadcasts_S256x1_S256x2048
  row := broadcasts_S1x2048_S256x2048

/-- What a grid point stores, at a row and a column: the norm of the row of weighted residual, per-layer term and product. -/
theorem out_apply (c : Dev nD) (i : grid0.Coords)
    (arg2 : Memref sig .tc .vmem S256x2048 .f32) (harg2 : arg2.IsWhole)
    (arg3 : Memref sig .tc .vmem S256x5632 .bf16) (harg3 : arg3.IsWhole)
    (arg4 : Memref sig .tc .vmem S5632x2048 .bf16) (harg4 : arg4.IsWhole)
    (arg5 : Memref sig .tc .vmem S256x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S256x2048 .f32) (harg8 : arg8.IsWhole)
    (arg9 : Memref sig .tc .vmem S256x2048 .f32) (harg9 : arg9.IsWhole) (hc0 : cond0_0 i) (hc1 : cond0_1 i)
    (x0 : Vec Ideal S256x2048 .f32) (x1 : Vec Ideal S256x5632 .bf16) (x2 : Vec Ideal S5632x2048 .bf16)
    (x3 : Vec Ideal S256x2048 .f32) (x4 x5 : Vec Ideal S1x2048 .f32) (r : Fin 256) (n : Fin 2048) :
    out0_A_6 (F := Ideal) c i arg2 harg2 arg3 harg3 arg4 harg4 arg5 harg5 arg6 harg6 arg7 harg7 arg8 harg8 arg9 harg9 hc0 hc1
      x0 x1 x2 x3 x4 x5 (ix2 r n)
      = ln (fun k => (alpha * (x0 (ix2 r k) : EReal) + (x3 (ix2 r k) : EReal)) + ∑ j : Fin 5632, (x1 (ix2 r j) : EReal) * x2 (ix2 j k))
          (x4 (ix2 (0 : Fin 1) n)) (x5 (ix2 (0 : Fin 1) n)) n := by
  unfold out0_A_6 kernelRun0_A
  dsimp only
  rw [View.read_writes_junk_apply_eq_canon, View.canon_unit_zero zeros]
  unfold kernelRun0_A.sl.v15 kernelRun0_A.sl.HS0_2 kernelRun0_A.sl.v3 kernelRun0_A.sl.HS0_1
  rw [whole_back _ zeros, whole_back _ zeros, whole_read harg2 x0 zeros, whole_read harg3 x1 zeros, whole_read harg4 x2 zeros,
    whole_read harg5 x3 zeros, whole_read harg6 x4 zeros, whole_read harg7 x5 zeros]
  simp only [k0_pay3, k0_pay2, k0_pay1, shapeCast_self]
  refine (block_apply ev _ x4 x5 r n).trans (congrArg (fun y => ln y _ _ n) (funext fun k => ?_))
  exact congrArg ((alpha * (x0 (ix2 r k) : EReal) + (x3 (ix2 r k) : EReal)) + ·) (mm_apply _ rfl x1 x2 r k)

/-- The reference at a token and a feature. -/
theorem ref_apply (x0 : (⟨S16384x2048, .f32⟩ : BufTy).Contents (Elt Ideal)) (x1 : (⟨S16384x5632, .bf16⟩ : BufTy).Contents (Elt Ideal))
    (x2 : (⟨S1x5632x2048, .f32⟩ : BufTy).Contents (Elt Ideal)) (x3 : (⟨S16384x2048, .f32⟩ : BufTy).Contents (Elt Ideal))
    (x4 x5 : (⟨S1x2048, .f32⟩ : BufTy).Contents (Elt Ideal)) (u : Fin 16384) (n : Fin 2048) :
    Cert.Reference3Ideal.Read.val_main_v32 (F := Ideal) x0 x1 x2 x3 x4 x5 (ix2 u n)
      = ln (fun k => (alpha * (x0 (ix2 u k) : EReal) + ∑ j : Fin 5632, (x1 (ix2 u j) : EReal) * x2 (ix3 (0 : Fin 1) j k)) + (x3 (ix2 u k) : EReal))
          (x4 (ix2 (0 : Fin 1) n)) (x5 (ix2 (0 : Fin 1) n)) n := by
  have hrow : ∀ k : Fin 2048, (Cert.Reference3Ideal.Read.val_main_v6 (F := Ideal) x0 x1 x2 x3 (ix2 u k) : EReal)
      = (alpha * (x0 (ix2 u k) : EReal) + ∑ j : Fin 5632, (x1 (ix2 u j) : EReal) * x2 (ix3 (0 : Fin 1) j k)) + (x3 (ix2 u k) : EReal) := by
    intro k
    have hk := k.isLt
    rw [Cert.Reference3Ideal.Read.val_main_v6_apply, Cert.Reference3Ideal.Read.val_main_v5_apply,
      Cert.Reference3Ideal.Read.val_main_v4_apply, Cert.Reference3Ideal.Read.val_main_v2_apply]
    refine congrArg (fun s : EReal => (alpha * (x0 (ix2 u k) : EReal) + s) + (x3 (ix2 u k) : EReal)) (Finset.sum_congr rfl fun j _ => ?_)
    rw [Cert.Reference3Ideal.Read.val_main_v0_apply, Cert.Reference3Ideal.Read.val_main_v1_apply]
    refine congrArg₂ (fun (i : S16384x5632.Idx) (l : S1x5632x2048.Idx) => (x1 i : EReal) * x2 l) (funext fun a => ?_) (funext fun a => Fin.ext ?_)
    · match a with
      | ⟨0, _⟩ => rfl
      | ⟨1, _⟩ => rfl
    · have hj := j.isLt
      match a with
      | ⟨0, _⟩ => rfl
      | ⟨1, _⟩ => show (j.val * 2048 + k.val) / 2048 % 5632 = j.val; omega
      | ⟨2, _⟩ => show (j.val * 2048 + k.val) % 2048 = k.val; omega
  rw [← funext hrow]
  have e9 : ∀ k : Fin 2048, Cert.Reference3Ideal.Read.idx_main_v9 (ix1 u) k = ix2 u k := fun k =>
    funext fun a => match a with | ⟨0, _⟩ => rfl | ⟨1, _⟩ => rfl
  have e13 : ∀ k : Fin 2048, Cert.Reference3Ideal.Read.idx_main_v13 (ix2 u k) = ix2 u (0 : Fin 1) := fun k =>
    funext fun a => match a with | ⟨0, _⟩ => rfl | ⟨1, _⟩ => rfl
  have e10 : Cert.Reference3Ideal.Read.idx_main_v10 (ix2 u (0 : Fin 1)) = ix1 u := funext fun a => match a with | ⟨0, _⟩ => rfl
  -- the mean
  have hm : (Cert.Reference3Ideal.Read.val_main_v12 (F := Ideal) x0 x1 x2 x3 (ix2 u (0 : Fin 1)) : EReal)
      = mean fun k => Cert.Reference3Ideal.Read.val_main_v6 (F := Ideal) x0 x1 x2 x3 (ix2 u k) := by
    rw [Cert.Reference3Ideal.Read.val_main_v12_apply, Cert.Reference3Ideal.Read.val_main_v10_apply, e10,
      Cert.Reference3Ideal.Read.val_main_v9_apply, Cert.Reference3Ideal.Read.val_main_v11_apply]
    refine congrArg (Ideal.div · width) ((congrArg₂ (fun x y : EReal => x + y) Idealize.ShloMosaic.Ideal.ofBits_zero_f32
      (Finset.sum_congr rfl fun k _ => ?_)).trans (zero_add _))
    rw [e9]
  -- the row with its mean subtracted
  have hc : ∀ k : Fin 2048, (Cert.Reference3Ideal.Read.val_main_v14 (F := Ideal) x0 x1 x2 x3 (ix2 u k) : EReal)
      = (Cert.Reference3Ideal.Read.val_main_v6 (F := Ideal) x0 x1 x2 x3 (ix2 u k) : EReal)
        - mean fun k => Cert.Reference3Ideal.Read.val_main_v6 (F := Ideal) x0 x1 x2 x3 (ix2 u k) := by
    intro k
    rw [Cert.Reference3Ideal.Read.val_main_v14_apply, Cert.Reference3Ideal.Read.val_main_v13_apply, e13, hm]
    rfl
  -- the mean of the squares
  have hv : (Cert.Reference3Ideal.Read.val_main_v19 (F := Ideal) x0 x1 x2 x3 (ix2 u (0 : Fin 1)) : EReal)
      = Ideal.div (∑ k : Fin 2048, (Cert.Reference3Ideal.Read.val_main_v14 (F := Ideal) x0 x1 x2 x3 (ix2 u k) : EReal)
        * Cert.Reference3Ideal.Read.val_main_v14 (F := Ideal) x0 x1 x2 x3 (ix2 u k)) width := by
    rw [Cert.Reference3Ideal.Read.val_main_v19_apply, Cert.Reference3Ideal.Read.val_main_v17_apply,
      show Cert.Reference3Ideal.Read.idx_main_v17 (ix2 u (0 : Fin 1)) = ix1 u from e10,
      Cert.Reference3Ideal.Read.val_main_v16_apply, Cert.Reference3Ideal.Read.val_main_v18_apply]
    refine congrArg (Ideal.div · width) ((congrArg₂ (fun x y : EReal => x + y) Idealize.ShloMosaic.Ideal.ofBits_zero_f32
      (Finset.sum_congr rfl fun k _ => ?_)).trans (zero_add _))
    rw [show Cert.Reference3Ideal.Read.idx_main_v16 (ix1 u) k = ix2 u k from e9 k, Cert.Reference3Ideal.Read.val_main_v15_apply]
    rfl
  have hg : ∀ x : (⟨S1x2048, .f32⟩ : BufTy).Contents (Elt Ideal), Cert.Reference3Ideal.Read.val_main_v28 (F := Ideal) x (ix2 u n) = x (ix2 (0 : Fin 1) n) := by
    intro x
    have hn := n.isLt
    rw [Cert.Reference3Ideal.Read.val_main_v28_apply, Cert.Reference3Ideal.Read.val_main_v27_apply, Cert.Reference3Ideal.Read.val_main_v7_apply]
    refine congrArg x (funext fun a => Fin.ext ?_)
    match a with
    | ⟨0, _⟩ => rfl
    | ⟨1, _⟩ => show n.val % 2048 = n.val; omega
  rw [Cert.Reference3Ideal.Read.val_main_v32_apply, Cert.Reference3Ideal.Read.val_main_v29_apply, hg,
    show Cert.Reference3Ideal.Read.val_main_v31 (F := Ideal) x5 (ix2 u n) = x5 (ix2 (0 : Fin 1) n) from hg x5,
    Cert.Reference3Ideal.Read.val_main_v26_apply, Cert.Reference3Ideal.Read.val_main_v25_apply,
    show Cert.Reference3Ideal.Read.idx_main_v25 (ix2 u n) = ix2 u (0 : Fin 1) from e13 n,
    Cert.Reference3Ideal.Read.val_main_v24_apply, Cert.Reference3Ideal.Read.val_main_v23_apply, Cert.Reference3Ideal.Read.val_main_v22_apply, hv,
    show Cert.Reference3Ideal.Read.val_main_v21 (F := Ideal) x0 x1 x2 x3 (ix2 u n) = _ from hc n,
    funext fun k => congrArg₂ (fun x y : EReal => x * y) (hc k) (hc k)]
  rfl

/-! ### The arrays the windows stage -/

variable (m : (ℓ : Loc nD τ sig) → Buf (Elt Ideal) ℓ) (c : Dev nD)

/-- The first norm's output, the hidden layer, the weights, the per-layer term and the norm's scale and shift of device `c`. -/
abbrev a0 : (⟨S16384x2048, .f32⟩ : BufTy).Contents (Elt Ideal) := m ((c.tc : Thread nD τ).loc main_arg0)
abbrev a1 : (⟨S16384x5632, .bf16⟩ : BufTy).Contents (Elt Ideal) := m ((c.tc : Thread nD τ).loc main_arg1)
abbrev a2 : (⟨S1x5632x2048, .f32⟩ : BufTy).Contents (Elt Ideal) := m ((c.tc : Thread nD τ).loc main_arg2)
abbrev a3 : (⟨S16384x2048, .f32⟩ : BufTy).Contents (Elt Ideal) := m ((c.tc : Thread nD τ).loc main_arg3)
abbrev a4 : (⟨S1x2048, .f32⟩ : BufTy).Contents (Elt Ideal) := m ((c.tc : Thread nD τ).loc main_arg4)
abbrev a5 : (⟨S1x2048, .f32⟩ : BufTy).Contents (Elt Ideal) := m ((c.tc : Thread nD τ).loc main_arg5)

theorem host2 : V m c (Pipeline.arrRef spec0 2) = shapeCast S5632x2048 (a2 m c) shapeCasts_S1x5632x2048_S5632x2048 := by
  show StableHlo.after hostOps0 _ _ = _
  after_results_simp <;> rfl

theorem host4 : V m c (Pipeline.arrRef spec0 4)
    = shapeCast S1x2048 (shapeCast S2048 (a4 m c) shapeCasts_S1x2048_S2048) shapeCasts_S2048_S1x2048 := by
  show StableHlo.after hostOps0 _ _ = _
  after_results_simp <;> rfl

theorem host5 : V m c (Pipeline.arrRef spec0 5)
    = shapeCast S1x2048 (shapeCast S2048 (a5 m c) shapeCasts_S1x2048_S2048) shapeCasts_S2048_S1x2048 := by
  show StableHlo.after hostOps0 _ _ = _
  after_results_simp <;> rfl

theorem index : ∀ t : Fin grid0.N,
    (win0_0.index t 0 = (grid0.coords t 0).val ∧ win0_0.index t 1 = 0)
    ∧ (win0_1.index t 0 = (grid0.coords t 0).val ∧ win0_1.index t 1 = 0)
    ∧ (win0_2.index t 0 = 0 ∧ win0_2.index t 1 = 0)
    ∧ (win0_3.index t 0 = (grid0.coords t 0).val ∧ win0_3.index t 1 = 0)
    ∧ (win0_4.index t 0 = 0 ∧ win0_4.index t 1 = 0)
    ∧ (win0_5.index t 0 = 0 ∧ win0_5.index t 1 = 0)
    ∧ (win0_6.index t 0 = (grid0.coords t 0).val ∧ win0_6.index t 1 = 0) := by decide +kernel

theorem blk0 (t : Fin cfg0.N) (r : Fin 256) (k : Fin 2048) (u : Fin 16384) (hu : u.val = (grid0.coords t 0).val * 256 + r.val) :
    iblk m c 0 t (ix2 r k) = a0 m c (ix2 u k) := by
  obtain ⟨⟨e0, e1⟩, -⟩ := index t
  show V m c (Pipeline.arrRef spec0 0) ((win0_0.rect t).emb (ix2 r k)) = _
  rw [show V m c (Pipeline.arrRef spec0 0) = _ from V_main_arg0 m c]
  refine congrArg (a0 m c) (funext fun a => Fin.ext ?_)
  match a with
  | ⟨0, _⟩ => show win0_0.index t 0 * 256 + 1 * r.val = u.val; rw [e0, hu, Nat.one_mul]
  | ⟨1, _⟩ => show win0_0.index t 1 * 2048 + 1 * k.val = k.val; rw [e1, Nat.zero_mul, Nat.zero_add, Nat.one_mul]

theorem blk1 (t : Fin cfg0.N) (r : Fin 256) (k : Fin 5632) (u : Fin 16384) (hu : u.val = (grid0.coords t 0).val * 256 + r.val) :
    iblk m c 1 t (ix2 r k) = a1 m c (ix2 u k) := by
  obtain ⟨-, ⟨e0, e1⟩, -⟩ := index t
  show V m c (Pipeline.arrRef spec0 1) ((win0_1.rect t).emb (ix2 r k)) = _
  rw [show V m c (Pipeline.arrRef spec0 1) = _ from V_main_arg1 m c]
  refine congrArg (a1 m c) (funext fun a => Fin.ext ?_)
  match a with
  | ⟨0, _⟩ => show win0_1.index t 0 * 256 + 1 * r.val = u.val; rw [e0, hu, Nat.one_mul]
  | ⟨1, _⟩ => show win0_1.index t 1 * 5632 + 1 * k.val = k.val; rw [e1, Nat.zero_mul, Nat.zero_add, Nat.one_mul]

theorem blk2 (t : Fin cfg0.N) (j : Fin 5632) (k : Fin 2048) : iblk m c 2 t (ix2 j k) = a2 m c (ix3 (0 : Fin 1) j k) := by
  obtain ⟨-, -, ⟨e0, e1⟩, -⟩ := index t
  show V m c (Pipeline.arrRef spec0 2) ((win0_2.rect t).emb (ix2 j k)) = _
  rw [host2, ← cast_drop (a2 m c) shapeCasts_S1x5632x2048_S5632x2048 j k]
  refine congrArg (shapeCast S5632x2048 (a2 m c) shapeCasts_S1x5632x2048_S5632x2048) (funext fun a => Fin.ext ?_)
  match a with
  | ⟨0, _⟩ => show win0_2.index t 0 * 5632 + 1 * j.val = j.val; rw [e0, Nat.zero_mul, Nat.zero_add, Nat.one_mul]
  | ⟨1, _⟩ => show win0_2.index t 1 * 2048 + 1 * k.val = k.val; rw [e1, Nat.zero_mul, Nat.zero_add, Nat.one_mul]

theorem blk3 (t : Fin cfg0.N) (r : Fin 256) (k : Fin 2048) (u : Fin 16384) (hu : u.val = (grid0.coords t 0).val * 256 + r.val) :
    iblk m c 3 t (ix2 r k) = a3 m c (ix2 u k) := by
  obtain ⟨-, -, -, ⟨e0, e1⟩, -⟩ := index t
  show V m c (Pipeline.arrRef spec0 3) ((win0_3.rect t).emb (ix2 r k)) = _
  rw [show V m c (Pipeline.arrRef spec0 3) = _ from V_main_arg3 m c]
  refine congrArg (a3 m c) (funext fun a => Fin.ext ?_)
  match a with
  | ⟨0, _⟩ => show win0_3.index t 0 * 256 + 1 * r.val = u.val; rw [e0, hu, Nat.one_mul]
  | ⟨1, _⟩ => show win0_3.index t 1 * 2048 + 1 * k.val = k.val; rw [e1, Nat.zero_mul, Nat.zero_add, Nat.one_mul]

theorem blk4 (t : Fin cfg0.N) (n : Fin 2048) : iblk m c 4 t (ix2 (0 : Fin 1) n) = a4 m c (ix2 (0 : Fin 1) n) := by
  obtain ⟨-, -, -, -, ⟨e0, e1⟩, -⟩ := index t
  show V m c (Pipeline.arrRef spec0 4) ((win0_4.rect t).emb (ix2 (0 : Fin 1) n)) = _
  rw [host4, shapeCast_shapeCast]
  refine congrArg (a4 m c) (funext fun a => Fin.ext ?_)
  match a with
  | ⟨0, _⟩ => show win0_4.index t 0 * 1 + 1 * 0 = 0; rw [e0]
  | ⟨1, _⟩ => show win0_4.index t 1 * 2048 + 1 * n.val = n.val; rw [e1, Nat.zero_mul, Nat.zero_add, Nat.one_mul]

theorem blk5 (t : Fin cfg0.N) (n : Fin 2048) : iblk m c 5 t (ix2 (0 : Fin 1) n) = a5 m c (ix2 (0 : Fin 1) n) := by
  obtain ⟨-, -, -, -, -, ⟨e0, e1⟩, -⟩ := index t
  show V m c (Pipeline.arrRef spec0 5) ((win0_5.rect t).emb (ix2 (0 : Fin 1) n)) = _
  rw [host5, shapeCast_shapeCast]
  refine congrArg (a5 m c) (funext fun a => Fin.ext ?_)
  match a with
  | ⟨0, _⟩ => show win0_5.index t 0 * 1 + 1 * 0 = 0; rw [e0]
  | ⟨1, _⟩ => show win0_5.index t 1 * 2048 + 1 * n.val = n.val; rw [e1, Nat.zero_mul, Nat.zero_add, Nat.one_mul]

/-! ### The result -/

/-- The layer's last norm of device `c`'s arguments, as the reference computes it. -/
abbrev down : Buf (Elt Ideal) ((c : Thread nD τ).loc main_v6) :=
  Cert.Reference3Ideal.Read.val_main_v32 (F := Ideal) (a0 m c) (a1 m c) (a2 m c) (a3 m c) (a4 m c) (a5 m c)

/-- What a grid point stores at a row and a column of its block is the result there. -/
theorem point_eq (t : Fin cfg0.N) (r : Fin 256) (n : Fin 2048) (u : Fin 16384) (hu : u.val = (grid0.coords t 0).val * 256 + r.val) :
    outsAt0 m c t (ix2 r n) = down m c (ix2 u n) := by
  refine (out_apply c (grid0.coords t) _ _ _ _ _ _ _ _ _ _ _ _ _ _ _ _ _ _ (iblk m c 0 t) (iblk m c 1 t) (iblk m c 2 t)
    (iblk m c 3 t) (iblk m c 4 t) (iblk m c 5 t) r n).trans ?_
  refine Eq.trans ?_ (ref_apply (a0 m c) (a1 m c) (a2 m c) (a3 m c) (a4 m c) (a5 m c) u n).symm
  rw [blk4, blk5]
  refine congrArg (fun y => ln y _ _ n) (funext fun k => ?_)
  rw [blk0 m c t r k u hu, blk3 m c t r k u hu]
  refine (add_right_comm _ _ _).trans (congrArg (fun s : EReal => (alpha * (a0 m c (ix2 u k) : EReal) + s) + (a3 m c (ix2 u k) : EReal))
    (Finset.sum_congr rfl fun j _ => congrArg₂ (fun x y : EReal => x * y) (blk1 m c t r j u hu) (blk2 m c t j k)))

/-- What a grid point writes back is its block of the result. -/
theorem flushed_eq (t : Fin cfg0.N) :
    (dats m 0 c).flushed 6 t = (win0_6.blk t).view.read (Elt Ideal) (down m c) := by
  rw [Cert.Kernel3Ideal.Value.flushed6]
  obtain ⟨-, -, -, -, -, -, ⟨e0, e1⟩⟩ := index t
  have h0 : (grid0.coords t 0).val < 64 := (grid0.coords t 0).isLt
  funext y
  have hy0 : (y 0).val < 256 := (y 0).isLt
  have hy1 : (y 1).val < 2048 := (y 1).isLt
  refine Eq.trans (b := outsAt0 m c t (ix2 ⟨(y 0).val, hy0⟩ ⟨(y 1).val, hy1⟩)) ?_ ?_
  · show outsAt0 m c t _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 0).val * 256 + (y 0).val, by omega⟩ rfl).trans ?_
    show down m c _ = down m c ((win0_6.rect t).emb y)
    refine congrArg (down m c) (funext fun a => Fin.ext ?_)
    match a with
    | ⟨0, _⟩ => show (grid0.coords t 0).val * 256 + (y 0).val = win0_6.index t 0 * 256 + 1 * (y 0).val; rw [e0]; omega
    | ⟨1, _⟩ => show (y 1).val = win0_6.index t 1 * 2048 + 1 * (y 1).val; rw [e1]; omega

/-- Every block index is some grid point's. -/
theorem onto : ∀ i : Fin 64, ∃ t : Fin grid0.N, (grid0.coords t 0).val = i.val := by decide +kernel

/-- The blocks tile the result. -/
theorem cover (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  obtain ⟨t, t0⟩ := onto ⟨(i 0).val / 256, by omega⟩
  simp only at t0
  obtain ⟨-, -, -, -, -, -, ⟨e0, e1⟩⟩ := index t
  refine ⟨t, flush0_6 t, ?_⟩
  show i ∈ ((View.whole main_v6).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    rw [e0, t0]; omega
  | ⟨1, _⟩ =>
    show win0_6.index t 1 * 2048 ≤ (i 1).val ∧ (i 1).val < win0_6.index t 1 * 2048 + 2048
    rw [e1]; omega

/-- The result array after the run is the reference's of the arguments. -/
theorem final : (dats m 0 c).arrAt 6 cfg0.N = down m c :=
  (dats m 0 c).arrAt_eq_of_cover 6 (down m c) (fun t _ => flushed_eq m c t) cover

end Cert.Down
-- ==== Proof.Merge.lean ====
/-
  The gated merge of the two branches: its blocks are blocks of the reference's array.
-/
module

public import proofs.«01_k».proof.Proof.Mat
public import proofs.«01_k».proof.Proof.Gen.Kernel4Ideal.Value
public import proofs.«01_k».proof.Proof.Gen.Reference4Ideal.Read

@[expose] public section

set_option maxRecDepth 16384

noncomputable section

namespace Cert.Merge

open Idealize.ShloMosaic Idealize.ShloMosaic.TcCoe Idealize.ShloMosaic.ValueIdx Idealize.SL.Sem
open Cert.Mat Cert.Kernel4Ideal Cert.Kernel4Ideal.Gen

/-- A block of the result: each gate times its branch's product, added. -/
theorem out_apply (x0 x1 : Vec Ideal S1024x2048 .bf16) (x2 x3 : Vec Ideal S2048x512 .bf16) (x4 x5 : Vec Ideal S1024x512 .f32)
    (r : Fin 1024) (j : Fin 512) : out0_6 x0 x1 x2 x3 x4 x5 (ix2 r j)
      = ((x4 (ix2 r j) : EReal) * ∑ k : Fin 2048, (x0 (ix2 r k) : EReal) * x2 (ix2 k j))
        + (x5 (ix2 r j) : EReal) * ∑ k : Fin 2048, (x1 (ix2 r k) : EReal) * x3 (ix2 k j) := by
  unfold out0_6
  rw [View.canon_unit_zero zeros]
  have ld0 : ∀ X : Vec Ideal S1024x2048 .bf16, View.ld X r0_0 = X := fun X => View.ld_unit_zero zeros _ X
  have ld1 : ∀ X : Vec Ideal S2048x512 .bf16, View.ld X r0_1 = X := fun X => View.ld_unit_zero zeros _ X
  have ld2 : ∀ X : Vec Ideal S1024x512 .f32, View.ld X r0_2 = X := fun X => View.ld_unit_zero zeros _ X
  simp only [ld0, ld1, ld2, k0_pay1, shapeCast_self]
  refine congrArg₂ (fun a b => ((x4 (ix2 r j) : EReal) * a) + (x5 (ix2 r j) : EReal) * b) ?_ ?_
  · exact mm_apply _ rfl x0 x2 r j
  · exact mm_apply _ rfl x1 x3 r j

/-- The reference's merge at a token and a feature. -/
theorem ref_apply (a b : (⟨S2x8192x2048, .bf16⟩ : BufTy).Contents (Elt Ideal)) (wa wb : (⟨S1x2048x2048, .f32⟩ : BufTy).Contents (Elt Ideal))
    (g : (⟨S16384x4096, .f32⟩ : BufTy).Contents (Elt Ideal)) (t : Fin 16384) (n : Fin 2048) (bb : Fin 2) (p : Fin 8192) (n0 n1 : Fin 4096)
    (ht : t.val = bb.val * 8192 + p.val) (h0 : n0.val = n.val) (h1 : n1.val = 2048 + n.val) :
    Cert.Reference4Ideal.Read.val_main_v15 (F := Ideal) a b wa wb g (ix2 t n)
      = ((g (ix2 t n0) : EReal) * ∑ k : Fin 2048, (a (ix3 bb p k) : EReal) * wa (ix3 (0 : Fin 1) k n))
        + (g (ix2 t n1) : EReal) * ∑ k : Fin 2048, (b (ix3 bb p k) : EReal) * wb (ix3 (0 : Fin 1) k n) := by
  have htl := t.isLt
  have hnl := n.isLt
  have hpl := p.isLt
  have e14 : Cert.Reference4Ideal.Read.idx_main_v14 (ix2 t n) = ix3 bb p n := funext fun a => Fin.ext (by
    match a with
    | ⟨0, _⟩ => show (t.val * 2048 + n.val) / 16777216 = bb.val; omega
    | ⟨1, _⟩ => show (t.val * 2048 + n.val) / 2048 % 8192 = p.val; omega
    | ⟨2, _⟩ => show (t.val * 2048 + n.val) % 2048 = n.val; omega)
  have e4 : ∀ k : Fin 2048, Cert.Reference4Ideal.Read.idx_main_v4 (Cert.Reference4Ideal.Read.ridx_main_v5 (ix3 bb p n) k)
      = ix3 (0 : Fin 1) k n := fun k => funext fun a => Fin.ext (by
    have hk := k.isLt
    match a with
    | ⟨0, _⟩ => rfl
    | ⟨1, _⟩ => show (k.val * 2048 + n.val) / 2048 % 2048 = k.val; omega
    | ⟨2, _⟩ => show (k.val * 2048 + n.val) % 2048 = n.val; omega)
  have e2 : Cert.Reference4Ideal.Read.idx_main_v2 (ix3 bb p n) = ix4 bb p (0 : Fin 1) n := funext fun a => Fin.ext (by
    match a with
    | ⟨0, _⟩ => show ((bb.val * 8192 + p.val) * 2048 + n.val) / 16777216 = bb.val; omega
    | ⟨1, _⟩ => show ((bb.val * 8192 + p.val) * 2048 + n.val) / 2048 % 8192 = p.val; omega
    | ⟨2, _⟩ => rfl
    | ⟨3, _⟩ => show ((bb.val * 8192 + p.val) * 2048 + n.val) % 2048 = n.val; omega)
  have g0 : Cert.Reference4Ideal.Read.idx_main_v0 (Cert.Reference4Ideal.Read.idx_main_v1 (ix4 bb p (0 : Fin 1) n)) = ix2 t n0 :=
    funext fun a => Fin.ext (by
    match a with
    | ⟨0, _⟩ => show (((bb.val * 8192 + p.val) * 2 + 0) * 2048 + n.val) / 4096 = t.val; omega
    | ⟨1, _⟩ => show (((bb.val * 8192 + p.val) * 2 + 0) * 2048 + n.val) % 4096 = n0.val; omega)
  have g1 : Cert.Reference4Ideal.Read.idx_main_v0 (Cert.Reference4Ideal.Read.idx_main_v7 (ix4 bb p (0 : Fin 1) n)) = ix2 t n1 :=
    funext fun a => Fin.ext (by
    match a with
    | ⟨0, _⟩ => show (((bb.val * 8192 + p.val) * 2 + 1) * 2048 + n.val) / 4096 = t.val; omega
    | ⟨1, _⟩ => show (((bb.val * 8192 + p.val) * 2 + 1) * 2048 + n.val) % 4096 = n1.val; omega)
  have el : ∀ k : Fin 2048, Cert.Reference4Ideal.Read.lidx_main_v5 (ix3 bb p n) k = ix3 bb p k := fun k =>
    funext fun a => match a with | ⟨0, _⟩ => rfl | ⟨1, _⟩ => rfl | ⟨2, _⟩ => rfl
  rw [Cert.Reference4Ideal.Read.val_main_v15_apply, Cert.Reference4Ideal.Read.val_main_v14_apply, e14,
    Cert.Reference4Ideal.Read.val_main_v13_apply, Cert.Reference4Ideal.Read.val_main_v12_apply,
    Cert.Reference4Ideal.Read.val_main_v6_apply, Cert.Reference4Ideal.Read.val_main_v5_apply,
    Cert.Reference4Ideal.Read.val_main_v11_apply, Cert.Reference4Ideal.Read.val_main_v2_apply, e2,
    Cert.Reference4Ideal.Read.val_main_v1_apply, Cert.Reference4Ideal.Read.val_main_v0_apply, g0,
    Cert.Reference4Ideal.Read.val_main_v8_apply,
    show Cert.Reference4Ideal.Read.idx_main_v8 (ix3 bb p n) = _ from e2,
    Cert.Reference4Ideal.Read.val_main_v7_apply, Cert.Reference4Ideal.Read.val_main_v0_apply, g1]
  simp only [Cert.Reference4Ideal.Read.val_main_v3_apply, Cert.Reference4Ideal.Read.val_main_v4_apply,
    Cert.Reference4Ideal.Read.val_main_v9_apply, Cert.Reference4Ideal.Read.val_main_v10_apply]
  refine congrArg₂ (fun x y : EReal => x + y) (congrArg₂ (fun x y : EReal => x * y) rfl (Finset.sum_congr rfl fun k _ => ?_))
    (congrArg₂ (fun x y : EReal => x * y) rfl (Finset.sum_congr rfl fun k _ => ?_))
  · exact congrArg₂ (fun (i : S2x8192x2048.Idx) (j : S1x2048x2048.Idx) => (a i : EReal) * wa j) (el k) (e4 k)
  · exact congrArg₂ (fun (i : S2x8192x2048.Idx) (j : S1x2048x2048.Idx) => (b i : EReal) * wb j) (el k) (e4 k)

/-! ### The arrays the windows stage -/

variable (m : (ℓ : Loc nD τ sig) → Buf (Elt Ideal) ℓ) (c : Dev nD)

/-- The two branches, their weights and the gates of device `c`. -/
abbrev aa : (⟨S2x8192x2048, .bf16⟩ : BufTy).Contents (Elt Ideal) := m ((c.tc : Thread nD τ).loc main_arg0)
abbrev ab : (⟨S2x8192x2048, .bf16⟩ : BufTy).Contents (Elt Ideal) := m ((c.tc : Thread nD τ).loc main_arg1)
abbrev wa : (⟨S1x2048x2048, .f32⟩ : BufTy).Contents (Elt Ideal) := m ((c.tc : Thread nD τ).loc main_arg2)
abbrev wb : (⟨S1x2048x2048, .f32⟩ : BufTy).Contents (Elt Ideal) := m ((c.tc : Thread nD τ).loc main_arg3)
abbrev ga : (⟨S16384x4096, .f32⟩ : BufTy).Contents (Elt Ideal) := m ((c.tc : Thread nD τ).loc main_arg4)

theorem host0 : V m c (Pipeline.arrRef spec0 0) = shapeCast S16384x2048 (aa m c) shapeCasts_S2x8192x2048_S16384x2048 := by
  show StableHlo.after hostOps0 _ _ = _
  after_results_simp <;> rfl

theorem host1 : V m c (Pipeline.arrRef spec0 1) = shapeCast S16384x2048 (ab m c) shapeCasts_S2x8192x2048_S16384x2048 := by
  show StableHlo.after hostOps0 _ _ = _
  after_results_simp <;> rfl

theorem host2 : V m c (Pipeline.arrRef spec0 2) = shapeCast S2048x2048 (wa m c) shapeCasts_S1x2048x2048_S2048x2048 := by
  show StableHlo.after hostOps0 _ _ = _
  after_results_simp <;> rfl

theorem host3 : V m c (Pipeline.arrRef spec0 3) = shapeCast S2048x2048 (wb m c) shapeCasts_S1x2048x2048_S2048x2048 := by
  show StableHlo.after hostOps0 _ _ = _
  after_results_simp <;> rfl

theorem index : ∀ t : Fin grid0.N,
    (win0_0.index t 0 = (grid0.coords t 1).val ∧ win0_0.index t 1 = 0)
    ∧ (win0_1.index t 0 = (grid0.coords t 1).val ∧ win0_1.index t 1 = 0)
    ∧ (win0_2.index t 0 = 0 ∧ win0_2.index t 1 = (grid0.coords t 0).val)
    ∧ (win0_3.index t 0 = 0 ∧ win0_3.index t 1 = (grid0.coords t 0).val)
    ∧ (win0_4.index t 0 = (grid0.coords t 1).val ∧ win0_4.index t 1 = (grid0.coords t 0).val)
    ∧ (win0_5.index t 0 = (grid0.coords t 1).val ∧ win0_5.index t 1 = 4 + (grid0.coords t 0).val)
    ∧ (win0_6.index t 0 = (grid0.coords t 1).val ∧ win0_6.index t 1 = (grid0.coords t 0).val) := by decide +kernel

/-- A block of a branch: token `t` of the block row. -/
theorem blk0 (t : Fin cfg0.N) (r : Fin 1024) (k : Fin 2048) (b : Fin 2) (p : Fin 8192)
    (h : (grid0.coords t 1).val * 1024 + r.val = b.val * 8192 + p.val) : iblk m c 0 t (ix2 r k) = aa m c (ix3 b p k) := by
  obtain ⟨⟨e0, e1⟩, -⟩ := index t
  have hp := p.isLt
  have hb := b.isLt
  show V m c (Pipeline.arrRef spec0 0) ((win0_0.rect t).emb (ix2 r k)) = _
  obtain ⟨u, hu⟩ : ∃ u : Fin 16384, u.val = (grid0.coords t 1).val * 1024 + r.val := ⟨⟨_, by omega⟩, rfl⟩
  rw [host0, ← cast_flat (aa m c) shapeCasts_S2x8192x2048_S16384x2048 b p k u (hu.trans h)]
  refine congrArg (shapeCast S16384x2048 (aa m c) shapeCasts_S2x8192x2048_S16384x2048) (funext fun a => Fin.ext ?_)
  match a with
  | ⟨0, _⟩ => show win0_0.index t 0 * 1024 + 1 * r.val = u.val; rw [e0, hu, Nat.one_mul]
  | ⟨1, _⟩ => show win0_0.index t 1 * 2048 + 1 * k.val = k.val; rw [e1, Nat.zero_mul, Nat.zero_add, Nat.one_mul]

theorem blk1 (t : Fin cfg0.N) (r : Fin 1024) (k : Fin 2048) (b : Fin 2) (p : Fin 8192)
    (h : (grid0.coords t 1).val * 1024 + r.val = b.val * 8192 + p.val) : iblk m c 1 t (ix2 r k) = ab m c (ix3 b p k) := by
  obtain ⟨-, ⟨e0, e1⟩, -⟩ := index t
  have hp := p.isLt
  have hb := b.isLt
  show V m c (Pipeline.arrRef spec0 1) ((win0_1.rect t).emb (ix2 r k)) = _
  obtain ⟨u, hu⟩ : ∃ u : Fin 16384, u.val = (grid0.coords t 1).val * 1024 + r.val := ⟨⟨_, by omega⟩, rfl⟩
  rw [host1, ← cast_flat (ab m c) shapeCasts_S2x8192x2048_S16384x2048 b p k u (hu.trans h)]
  refine congrArg (shapeCast S16384x2048 (ab m c) shapeCasts_S2x8192x2048_S16384x2048) (funext fun a => Fin.ext ?_)
  match a with
  | ⟨0, _⟩ => show win0_1.index t 0 * 1024 + 1 * r.val = u.val; rw [e0, hu, Nat.one_mul]
  | ⟨1, _⟩ => show win0_1.index t 1 * 2048 + 1 * k.val = k.val; rw [e1, Nat.zero_mul, Nat.zero_add, Nat.one_mul]

/-- A block of a branch's weights. -/
theorem blk2 (t : Fin cfg0.N) (k : Fin 2048) (j : Fin 512) (n : Fin 2048)
    (h : n.val = (grid0.coords t 0).val * 512 + j.val) : iblk m c 2 t (ix2 k j) = wa m c (ix3 (0 : Fin 1) k n) := by
  obtain ⟨-, -, ⟨e0, e1⟩, -⟩ := index t
  show V m c (Pipeline.arrRef spec0 2) ((win0_2.rect t).emb (ix2 k j)) = _
  rw [host2, ← cast_drop (wa m c) shapeCasts_S1x2048x2048_S2048x2048 k n]
  refine congrArg (shapeCast S2048x2048 (wa m c) shapeCasts_S1x2048x2048_S2048x2048) (funext fun a => Fin.ext ?_)
  match a with
  | ⟨0, _⟩ => show win0_2.index t 0 * 2048 + 1 * k.val = k.val; rw [e0]; omega
  | ⟨1, _⟩ => show win0_2.index t 1 * 512 + 1 * j.val = n.val; rw [e1]; omega

theorem blk3 (t : Fin cfg0.N) (k : Fin 2048) (j : Fin 512) (n : Fin 2048)
    (h : n.val = (grid0.coords t 0).val * 512 + j.val) : iblk m c 3 t (ix2 k j) = wb m c (ix3 (0 : Fin 1) k n) := by
  obtain ⟨-, -, -, ⟨e0, e1⟩, -⟩ := index t
  show V m c (Pipeline.arrRef spec0 3) ((win0_3.rect t).emb (ix2 k j)) = _
  rw [host3, ← cast_drop (wb m c) shapeCasts_S1x2048x2048_S2048x2048 k n]
  refine congrArg (shapeCast S2048x2048 (wb m c) shapeCasts_S1x2048x2048_S2048x2048) (funext fun a => Fin.ext ?_)
  match a with
  | ⟨0, _⟩ => show win0_3.index t 0 * 2048 + 1 * k.val = k.val; rw [e0]; omega
  | ⟨1, _⟩ => show win0_3.index t 1 * 512 + 1 * j.val = n.val; rw [e1]; omega

/-- A block of the first branch's gates, which fill the first half of the columns. -/
theorem blk4 (t : Fin cfg0.N) (r : Fin 1024) (j : Fin 512) (u : Fin 16384) (n : Fin 4096)
    (hu : u.val = (grid0.coords t 1).val * 1024 + r.val) (hn : n.val = (grid0.coords t 0).val * 512 + j.val) :
    iblk m c 4 t (ix2 r j) = ga m c (ix2 u n) := by
  obtain ⟨-, -, -, -, ⟨e0, e1⟩, -⟩ := index t
  show V m c (Pipeline.arrRef spec0 4) ((win0_4.rect t).emb (ix2 r j)) = _
  rw [show V m c (Pipeline.arrRef spec0 4) = _ from V_main_arg4 m c]
  refine congrArg (ga m c) (funext fun a => Fin.ext ?_)
  match a with
  | ⟨0, _⟩ => show win0_4.index t 0 * 1024 + 1 * r.val = u.val; rw [e0, hu, Nat.one_mul]
  | ⟨1, _⟩ => show win0_4.index t 1 * 512 + 1 * j.val = n.val; rw [e1]; omega

/-- A block of the second branch's gates, which fill the second half. -/
theorem blk5 (t : Fin cfg0.N) (r : Fin 1024) (j : Fin 512) (u : Fin 16384) (n : Fin 4096)
    (hu : u.val = (grid0.coords t 1).val * 1024 + r.val) (hn : n.val = 2048 + ((grid0.coords t 0).val * 512 + j.val)) :
    iblk m c 5 t (ix2 r j) = ga m c (ix2 u n) := by
  obtain ⟨-, -, -, -, -, ⟨e0, e1⟩, -⟩ := index t
  show V m c (Pipeline.arrRef spec0 5) ((win0_5.rect t).emb (ix2 r j)) = _
  rw [show V m c (Pipeline.arrRef spec0 5) = _ from V_main_arg4 m c]
  refine congrArg (ga m c) (funext fun a => Fin.ext ?_)
  match a with
  | ⟨0, _⟩ => show win0_5.index t 0 * 1024 + 1 * r.val = u.val; rw [e0, hu, Nat.one_mul]
  | ⟨1, _⟩ => show win0_5.index t 1 * 512 + 1 * j.val = n.val; rw [e1]; omega

/-! ### The result -/

/-- The merge of device `c`'s arguments, as the reference computes it. -/
abbrev merged : Buf (Elt Ideal) ((c : Thread nD τ).loc main_v6) :=
  Cert.Reference4Ideal.Read.val_main_v15 (F := Ideal) (aa m c) (ab m c) (wa m c) (wb m c) (ga m c)

/-- What a grid point stores at a row and a column of its block is the merge there. -/
theorem point_eq (t : Fin cfg0.N) (r : Fin 1024) (j : Fin 512) (u : Fin 16384) (n : Fin 2048)
    (hu : u.val = (grid0.coords t 1).val * 1024 + r.val) (hn : n.val = (grid0.coords t 0).val * 512 + j.val) :
    out0_6 (iblk m c 0 t) (iblk m c 1 t) (iblk m c 2 t) (iblk m c 3 t) (iblk m c 4 t) (iblk m c 5 t) (ix2 r j)
      = merged m c (ix2 u n) := by
  have hul := u.isLt
  have hnl := n.isLt
  have hd : u.val = u.val / 8192 * 8192 + u.val % 8192 := by omega
  refine (out_apply (iblk m c 0 t) (iblk m c 1 t) (iblk m c 2 t) (iblk m c 3 t) (iblk m c 4 t) (iblk m c 5 t) r j).trans ?_
  refine Eq.trans ?_ (ref_apply (aa m c) (ab m c) (wa m c) (wb m c) (ga m c) u n ⟨u.val / 8192, by omega⟩
    ⟨u.val % 8192, by omega⟩ ⟨n.val, by omega⟩ ⟨2048 + n.val, by omega⟩ hd rfl rfl).symm
  refine congrArg₂ (fun x y : EReal => x + y)
    (congrArg₂ (fun x y : EReal => x * y) ?_ (Finset.sum_congr rfl fun k _ => congrArg₂ (fun x y : EReal => x * y) ?_ ?_))
    (congrArg₂ (fun x y : EReal => x * y) ?_ (Finset.sum_congr rfl fun k _ => congrArg₂ (fun x y : EReal => x * y) ?_ ?_))
  · exact blk4 m c t r j u _ hu hn
  · exact blk0 m c t r k _ _ (hu.symm.trans hd)
  · exact blk2 m c t k j n hn
  · exact blk5 m c t r j u _ hu (congrArg (2048 + ·) hn)
  · exact blk1 m c t r k _ _ (hu.symm.trans hd)
  · exact blk3 m c t k j n hn

theorem c0 (t : Fin grid0.N) : (grid0.coords t 0).val < 4 := (grid0.coords t 0).isLt
theorem c1 (t : Fin grid0.N) : (grid0.coords t 1).val < 16 := (grid0.coords t 1).isLt

/-- What a grid point writes back is its block of the merge. -/
theorem flushed_eq (t : Fin cfg0.N) :
    (dats m 0 c).flushed 6 t = (win0_6.blk t).view.read (Elt Ideal) (merged m c) := by
  rw [Cert.Kernel4Ideal.Value.flushed6]
  obtain ⟨-, -, -, -, -, -, ⟨e0, e1⟩⟩ := index t
  have h0 := c0 t
  have h1 := c1 t
  funext y
  have hy0 : (y 0).val < 1024 := (y 0).isLt
  have hy1 : (y 1).val < 512 := (y 1).isLt
  refine Eq.trans (b := out0_6 (iblk m c 0 t) (iblk m c 1 t) (iblk m c 2 t) (iblk m c 3 t) (iblk m c 4 t) (iblk m c 5 t)
    (ix2 ⟨(y 0).val, hy0⟩ ⟨(y 1).val, hy1⟩)) ?_ ?_
  · show out0_6 (iblk m c 0 t) (iblk m c 1 t) (iblk m c 2 t) (iblk m c 3 t) (iblk m c 4 t) (iblk m c 5 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 512 + (y 1).val, by omega⟩ rfl rfl).trans ?_
    show merged m c _ = merged m c ((win0_6.rect t).emb y)
    refine congrArg (merged m c) (funext fun a => Fin.ext ?_)
    match a with
    | ⟨0, _⟩ => show (grid0.coords t 1).val * 1024 + (y 0).val = win0_6.index t 0 * 1024 + 1 * (y 0).val; rw [e0]; omega
    | ⟨1, _⟩ => show (grid0.coords t 0).val * 512 + (y 1).val = win0_6.index t 1 * 512 + 1 * (y 1).val; rw [e1]; omega

/-- Every block index is some grid point's. -/
theorem onto : ∀ (j : Fin 4) (i : Fin 16), ∃ t : Fin grid0.N,
    (grid0.coords t 0).val = j.val ∧ (grid0.coords t 1).val = i.val := by decide +kernel

/-- The blocks tile the result. -/
theorem cover (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  obtain ⟨t, t0, t1⟩ := onto ⟨(i 1).val / 512, by omega⟩ ⟨(i 0).val / 1024, by omega⟩
  simp only at t0 t1
  obtain ⟨-, -, -, -, -, -, ⟨e0, e1⟩⟩ := index t
  refine ⟨t, flush0_6 t, ?_⟩
  show i ∈ ((View.whole main_v6).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [e0, t1]; omega
  | ⟨1, _⟩ =>
    show win0_6.index t 1 * 512 ≤ (i 1).val ∧ (i 1).val < win0_6.index t 1 * 512 + 512
    rw [e1, t0]; omega

/-- The result array after the run is the merge of the arguments. -/
theorem final : (dats m 0 c).arrAt 6 cfg0.N = merged m c :=
  (dats m 0 c).arrAt_eq_of_cover 6 (merged m c) (fun t _ => flushed_eq m c t) cover

end Cert.Merge
-- ==== Proof.Ple.lean ====
/-
  The gated per-layer embedding: its blocks are blocks of the reference's array.
-/
module

public import Idealize.ShloMosaic.Lib.IdealHost
public import proofs.«01_k».proof.Proof.Mat
public import proofs.«01_k».proof.Proof.Gen.Kernel5Ideal.Value
public import proofs.«01_k».proof.Proof.Gen.Reference5Ideal.Read

@[expose] public section

set_option maxRecDepth 16384

noncomputable section

namespace Cert.Ple

open Idealize.ShloMosaic Idealize.ShloMosaic.TcCoe Idealize.ShloMosaic.ValueIdx Idealize.SL.Sem
open Cert.Mat Cert.Kernel5Ideal Cert.Kernel5Ideal.Gen

/-- The gate of a product and a bias, times the embedding's product. -/
def gated (s b e : EReal) : EReal := Idealize.ShloMosaic.Ideal.logistic (s + b) * e

/-- A block of the result. -/
theorem out_apply (x0 : Vec Ideal S1024x2048 .bf16) (x1 : Vec Ideal S1024x256 .bf16) (x2 : Vec Ideal S2048x1024 .bf16)
    (x3 : Vec Ideal S1x1024 .f32) (x4 : Vec Ideal S256x1024 .bf16) (r : Fin 1024) (j : Fin 1024) :
    out0_5 x0 x1 x2 x3 x4 (ix2 r j)
      = gated (∑ k : Fin 2048, (x0 (ix2 r k) : EReal) * x2 (ix2 k j)) (x3 (ix2 (0 : Fin 1) j))
          (∑ k : Fin 256, (x1 (ix2 r k) : EReal) * x4 (ix2 k j)) := by
  unfold out0_5
  rw [View.canon_unit_zero zeros]
  have ld0 : ∀ X : Vec Ideal S1024x2048 .bf16, View.ld X r0_0 = X := fun X => View.ld_unit_zero zeros _ X
  have ld1 : ∀ X : Vec Ideal S2048x1024 .bf16, View.ld X r0_1 = X := fun X => View.ld_unit_zero zeros _ X
  have ld2 : ∀ X : Vec Ideal S1x1024 .f32, View.ld X r0_2 = X := fun X => View.ld_unit_zero zeros _ X
  have ld3 : ∀ X : Vec Ideal S1024x256 .bf16, View.ld X r0_3 = X := fun X => View.ld_unit_zero zeros _ X
  have ld4 : ∀ X : Vec Ideal S256x1024 .bf16, View.ld X r0_4 = X := fun X => View.ld_unit_zero zeros _ X
  simp only [ld0, ld1, ld2, ld3, ld4, k0_pay1, shapeCast_self]
  refine congr (congrArg₂ gated ?_ ?_) ?_
  · exact mm_apply _ rfl x0 x2 r j
  · exact broadcastTo_1b_ab_apply x3 _ r j
  · exact mm_apply _ rfl x1 x4 r j

/-- The reference's term at a token and a feature. -/
theorem ref_apply (x : (⟨S16384x2048, .bf16⟩ : BufTy).Contents (Elt Ideal)) (q : (⟨S1x2x8192x256, .f32⟩ : BufTy).Contents (Elt Ideal))
    (wg : (⟨S1x2048x2048, .f32⟩ : BufTy).Contents (Elt Ideal)) (bg : (⟨S1x2048, .f32⟩ : BufTy).Contents (Elt Ideal))
    (we : (⟨S1x256x2048, .f32⟩ : BufTy).Contents (Elt Ideal)) (t : Fin 16384) (n : Fin 2048) (bb : Fin 2) (p : Fin 8192)
    (ht : t.val = bb.val * 8192 + p.val) :
    Cert.Reference5Ideal.Read.val_main_v18 (F := Ideal) x q wg bg we (ix2 t n)
      = gated (∑ k : Fin 2048, (x (ix2 t k) : EReal) * wg (ix3 (0 : Fin 1) k n)) (bg (ix2 (0 : Fin 1) n))
          (∑ k : Fin 256, (q (ix4 (0 : Fin 1) bb p k) : EReal) * we (ix3 (0 : Fin 1) k n)) := by
  have htl := t.isLt
  have hnl := n.isLt
  have hpl := p.isLt
  have hbl := bb.isLt
  have e18 : Cert.Reference5Ideal.Read.idx_main_v18 (ix2 t n) = ix3 bb p n := funext fun a => Fin.ext (by
    match a with
    | ⟨0, _⟩ => show (t.val * 2048 + n.val) / 16777216 = bb.val; omega
    | ⟨1, _⟩ => show (t.val * 2048 + n.val) / 2048 % 8192 = p.val; omega
    | ⟨2, _⟩ => show (t.val * 2048 + n.val) % 2048 = n.val; omega)
  have e1 : ∀ k : Fin 2048, Cert.Reference5Ideal.Read.idx_main_v1 (Cert.Reference5Ideal.Read.lidx_main_v3 (ix3 bb p n) k) = ix2 t k :=
    fun k => funext fun a => Fin.ext (by
    have hk := k.isLt
    match a with
    | ⟨0, _⟩ => show ((bb.val * 8192 + p.val) * 2048 + k.val) / 2048 = t.val; omega
    | ⟨1, _⟩ => show ((bb.val * 8192 + p.val) * 2048 + k.val) % 2048 = k.val; omega)
  have e2 : ∀ k : Fin 2048, Cert.Reference5Ideal.Read.idx_main_v2 (Cert.Reference5Ideal.Read.ridx_main_v3 (ix3 bb p n) k)
      = ix3 (0 : Fin 1) k n := fun k => funext fun a => Fin.ext (by
    have hk := k.isLt
    match a with
    | ⟨0, _⟩ => rfl
    | ⟨1, _⟩ => show (k.val * 2048 + n.val) / 2048 % 2048 = k.val; omega
    | ⟨2, _⟩ => show (k.val * 2048 + n.val) % 2048 = n.val; omega)
  have e4 : Cert.Reference5Ideal.Read.idx_main_v4 (Cert.Reference5Ideal.Read.idx_main_v5
      (Cert.Reference5Ideal.Read.idx_main_v6 (ix3 bb p n))) = ix2 (0 : Fin 1) n := funext fun a => Fin.ext (by
    match a with
    | ⟨0, _⟩ => rfl
    | ⟨1, _⟩ => show n.val % 2048 = n.val; omega)
  have e14 : ∀ k : Fin 256, Cert.Reference5Ideal.Read.idx_main_v14 (Cert.Reference5Ideal.Read.lidx_main_v16 (ix3 bb p n) k)
      = ix4 (0 : Fin 1) bb p k := fun k => funext fun a => Fin.ext (by
    have hk := k.isLt
    match a with
    | ⟨0, _⟩ => rfl
    | ⟨1, _⟩ => show ((bb.val * 8192 + p.val) * 256 + k.val) / 2097152 % 2 = bb.val; omega
    | ⟨2, _⟩ => show ((bb.val * 8192 + p.val) * 256 + k.val) / 256 % 8192 = p.val; omega
    | ⟨3, _⟩ => show ((bb.val * 8192 + p.val) * 256 + k.val) % 256 = k.val; omega)
  have e15 : ∀ k : Fin 256, Cert.Reference5Ideal.Read.idx_main_v15 (Cert.Reference5Ideal.Read.ridx_main_v16 (ix3 bb p n) k)
      = ix3 (0 : Fin 1) k n := fun k => funext fun a => Fin.ext (by
    have hk := k.isLt
    match a with
    | ⟨0, _⟩ => rfl
    | ⟨1, _⟩ => show (k.val * 2048 + n.val) / 2048 % 256 = k.val; omega
    | ⟨2, _⟩ => show (k.val * 2048 + n.val) % 2048 = n.val; omega)
  rw [Cert.Reference5Ideal.Read.val_main_v18_apply, e18, Cert.Reference5Ideal.Read.val_main_v17_apply,
    Cert.Reference5Ideal.Read.val_main_v13_apply, Cert.Reference5Ideal.Read.val_main_v12_apply,
    Cert.Reference5Ideal.Read.val_main_v11_apply, Cert.Reference5Ideal.Read.val_main_v10_apply,
    Cert.Reference5Ideal.Read.val_main_v9_apply, Cert.Reference5Ideal.Read.val_main_v8_apply,
    Cert.Reference5Ideal.Read.val_main_v7_apply, Cert.Reference5Ideal.Read.val_main_v3_apply,
    Cert.Reference5Ideal.Read.val_main_v6_apply, Cert.Reference5Ideal.Read.val_main_v5_apply,
    Cert.Reference5Ideal.Read.val_main_v4_apply, e4, Cert.Reference5Ideal.Read.val_main_v16_apply]
  simp only [Cert.Reference5Ideal.Read.val_main_v1_apply, Cert.Reference5Ideal.Read.val_main_v2_apply,
    Cert.Reference5Ideal.Read.val_main_v14_apply, Cert.Reference5Ideal.Read.val_main_v15_apply, e1, e2, e14, e15]
  have one : ∀ i, Cert.Reference5Ideal.Read.val_main_cst (F := Ideal) i = (1 : EReal) := fun i => Idealize.ShloMosaic.Ideal.ofBits_one_f32
  have one' : ∀ i, Cert.Reference5Ideal.Read.val_main_cst_0 (F := Ideal) i = (1 : EReal) := fun i => Idealize.ShloMosaic.Ideal.ofBits_one_f32
  rw [one, one']
  rfl

/-! ### The arrays the windows stage -/

variable (m : (ℓ : Loc nD τ sig) → Buf (Elt Ideal) ℓ) (c : Dev nD)

/-- The tokens, the embeddings, the gate's weights and bias, and the embedding's weights of device `c`. -/
abbrev a0 : (⟨S16384x2048, .bf16⟩ : BufTy).Contents (Elt Ideal) := m ((c.tc : Thread nD τ).loc main_arg0)
abbrev a1 : (⟨S1x2x8192x256, .f32⟩ : BufTy).Contents (Elt Ideal) := m ((c.tc : Thread nD τ).loc main_arg1)
abbrev a2 : (⟨S1x2048x2048, .f32⟩ : BufTy).Contents (Elt Ideal) := m ((c.tc : Thread nD τ).loc main_arg2)
abbrev a3 : (⟨S1x2048, .f32⟩ : BufTy).Contents (Elt Ideal) := m ((c.tc : Thread nD τ).loc main_arg3)
abbrev a4 : (⟨S1x256x2048, .f32⟩ : BufTy).Contents (Elt Ideal) := m ((c.tc : Thread nD τ).loc main_arg4)

theorem host1 : V m c (Pipeline.arrRef spec0 1) = shapeCast S16384x256
    (shapeCast S2x8192x256 (a1 m c) shapeCasts_S1x2x8192x256_S2x8192x256) shapeCasts_S2x8192x256_S16384x256 := by
  show StableHlo.after hostOps0 _ _ = _
  after_results_simp <;> rfl

theorem host2 : V m c (Pipeline.arrRef spec0 2) = shapeCast S2048x2048 (a2 m c) shapeCasts_S1x2048x2048_S2048x2048 := by
  show StableHlo.after hostOps0 _ _ = _
  after_results_simp <;> rfl

theorem host3 : V m c (Pipeline.arrRef spec0 3)
    = shapeCast S1x2048 (shapeCast S2048 (a3 m c) shapeCasts_S1x2048_S2048) shapeCasts_S2048_S1x2048 := by
  show StableHlo.after hostOps0 _ _ = _
  after_results_simp <;> rfl

theorem host4 : V m c (Pipeline.arrRef spec0 4) = shapeCast S256x2048 (a4 m c) shapeCasts_S1x256x2048_S256x2048 := by
  show StableHlo.after hostOps0 _ _ = _
  after_results_simp <;> rfl

theorem index : ∀ t : Fin grid0.N,
    (win0_0.index t 0 = (grid0.coords t 1).val ∧ win0_0.index t 1 = 0)
    ∧ (win0_1.index t 0 = (grid0.coords t 1).val ∧ win0_1.index t 1 = 0)
    ∧ (win0_2.index t 0 = 0 ∧ win0_2.index t 1 = (grid0.coords t 0).val)
    ∧ (win0_3.index t 0 = 0 ∧ win0_3.index t 1 = (grid0.coords t 0).val)
    ∧ (win0_4.index t 0 = 0 ∧ win0_4.index t 1 = (grid0.coords t 0).val)
    ∧ (win0_5.index t 0 = (grid0.coords t 1).val ∧ win0_5.index t 1 = (grid0.coords t 0).val) := by decide +kernel

theorem blk0 (t : Fin cfg0.N) (r : Fin 1024) (k : Fin 2048) (u : Fin 16384) (hu : u.val = (grid0.coords t 1).val * 1024 + r.val) :
    iblk m c 0 t (ix2 r k) = a0 m c (ix2 u k) := by
  obtain ⟨⟨e0, e1⟩, -⟩ := index t
  show V m c (Pipeline.arrRef spec0 0) ((win0_0.rect t).emb (ix2 r k)) = _
  rw [show V m c (Pipeline.arrRef spec0 0) = _ from V_main_arg0 m c]
  refine congrArg (a0 m c) (funext fun a => Fin.ext ?_)
  match a with
  | ⟨0, _⟩ => show win0_0.index t 0 * 1024 + 1 * r.val = u.val; rw [e0, hu, Nat.one_mul]
  | ⟨1, _⟩ => show win0_0.index t 1 * 2048 + 1 * k.val = k.val; rw [e1, Nat.zero_mul, Nat.zero_add, Nat.one_mul]

theorem blk1 (t : Fin cfg0.N) (r : Fin 1024) (k : Fin 256) (b : Fin 2) (p : Fin 8192) (u : Fin 16384)
    (hu : u.val = (grid0.coords t 1).val * 1024 + r.val) (hb : u.val = b.val * 8192 + p.val) :
    iblk m c 1 t (ix2 r k) = a1 m c (ix4 (0 : Fin 1) b p k) := by
  obtain ⟨-, ⟨e0, e1⟩, -⟩ := index t
  show V m c (Pipeline.arrRef spec0 1) ((win0_1.rect t).emb (ix2 r k)) = _
  rw [host1]
  refine (shapeCast_apply _ _ _ (ix3 b p k) ?_).trans (shapeCast_apply (a1 m c) _ _ (ix4 (0 : Fin 1) b p k) ?_)
  · rw [Shape.rowMajor_val_two, Shape.rowMajor_val_three]
    show (b.val * 8192 + p.val) * 256 + k.val
      = (win0_1.index t 0 * 1024 + 1 * r.val) * 256 + (win0_1.index t 1 * 256 + 1 * k.val)
    rw [e0, e1, Nat.zero_mul, Nat.zero_add, Nat.one_mul, Nat.one_mul, ← hu, ← hb]
  · rw [Shape.rowMajor_val_three, Shape.rowMajor_val_four]
    show ((0 * 2 + b.val) * 8192 + p.val) * 256 + k.val = (b.val * 8192 + p.val) * 256 + k.val
    rw [Nat.zero_mul, Nat.zero_add]

theorem blk2 (t : Fin cfg0.N) (k : Fin 2048) (j : Fin 1024) (n : Fin 2048)
    (h : n.val = (grid0.coords t 0).val * 1024 + j.val) : iblk m c 2 t (ix2 k j) = a2 m c (ix3 (0 : Fin 1) k n) := by
  obtain ⟨-, -, ⟨e0, e1⟩, -⟩ := index t
  show V m c (Pipeline.arrRef spec0 2) ((win0_2.rect t).emb (ix2 k j)) = _
  rw [host2, ← cast_drop (a2 m c) shapeCasts_S1x2048x2048_S2048x2048 k n]
  refine congrArg (shapeCast S2048x2048 (a2 m c) shapeCasts_S1x2048x2048_S2048x2048) (funext fun a => Fin.ext ?_)
  match a with
  | ⟨0, _⟩ => show win0_2.index t 0 * 2048 + 1 * k.val = k.val; rw [e0, Nat.zero_mul, Nat.zero_add, Nat.one_mul]
  | ⟨1, _⟩ => show win0_2.index t 1 * 1024 + 1 * j.val = n.val; rw [e1, h, Nat.one_mul]

theorem blk3 (t : Fin cfg0.N) (j : Fin 1024) (n : Fin 2048) (h : n.val = (grid0.coords t 0).val * 1024 + j.val) :
    iblk m c 3 t (ix2 (0 : Fin 1) j) = a3 m c (ix2 (0 : Fin 1) n) := by
  obtain ⟨-, -, -, ⟨e0, e1⟩, -⟩ := index t
  show V m c (Pipeline.arrRef spec0 3) ((win0_3.rect t).emb (ix2 (0 : Fin 1) j)) = _
  rw [host3, shapeCast_shapeCast]
  refine congrArg (a3 m c) (funext fun a => Fin.ext ?_)
  match a with
  | ⟨0, _⟩ => show win0_3.index t 0 * 1 + 1 * 0 = 0; rw [e0]
  | ⟨1, _⟩ => show win0_3.index t 1 * 1024 + 1 * j.val = n.val; rw [e1, h, Nat.one_mul]

theorem blk4 (t : Fin cfg0.N) (k : Fin 256) (j : Fin 1024) (n : Fin 2048)
    (h : n.val = (grid0.coords t 0).val * 1024 + j.val) : iblk m c 4 t (ix2 k j) = a4 m c (ix3 (0 : Fin 1) k n) := by
  obtain ⟨-, -, -, -, ⟨e0, e1⟩, -⟩ := index t
  show V m c (Pipeline.arrRef spec0 4) ((win0_4.rect t).emb (ix2 k j)) = _
  rw [host4, ← cast_drop (a4 m c) shapeCasts_S1x256x2048_S256x2048 k n]
  refine congrArg (shapeCast S256x2048 (a4 m c) shapeCasts_S1x256x2048_S256x2048) (funext fun a => Fin.ext ?_)
  match a with
  | ⟨0, _⟩ => show win0_4.index t 0 * 256 + 1 * k.val = k.val; rw [e0, Nat.zero_mul, Nat.zero_add, Nat.one_mul]
  | ⟨1, _⟩ => show win0_4.index t 1 * 1024 + 1 * j.val = n.val; rw [e1, h, Nat.one_mul]

/-! ### The result -/

/-- The term of device `c`'s arguments, as the reference computes it. -/
abbrev term : Buf (Elt Ideal) ((c : Thread nD τ).loc main_v9) :=
  Cert.Reference5Ideal.Read.val_main_v18 (F := Ideal) (a0 m c) (a1 m c) (a2 m c) (a3 m c) (a4 m c)

/-- What a grid point stores at a row and a column of its block is the term there. -/
theorem point_eq (t : Fin cfg0.N) (r : Fin 1024) (j : Fin 1024) (u : Fin 16384) (n : Fin 2048)
    (hu : u.val = (grid0.coords t 1).val * 1024 + r.val) (hn : n.val = (grid0.coords t 0).val * 1024 + j.val) :
    out0_5 (iblk m c 0 t) (iblk m c 1 t) (iblk m c 2 t) (iblk m c 3 t) (iblk m c 4 t) (ix2 r j) = term m c (ix2 u n) := by
  have hul := u.isLt
  have hd : u.val = u.val / 8192 * 8192 + u.val % 8192 := by omega
  refine (out_apply (iblk m c 0 t) (iblk m c 1 t) (iblk m c 2 t) (iblk m c 3 t) (iblk m c 4 t) r j).trans ?_
  refine Eq.trans ?_ (ref_apply (a0 m c) (a1 m c) (a2 m c) (a3 m c) (a4 m c) u n ⟨u.val / 8192, by omega⟩
    ⟨u.val % 8192, by omega⟩ hd).symm
  refine congr (congrArg₂ gated (Finset.sum_congr rfl fun k _ => congrArg₂ (fun x y : EReal => x * y) ?_ ?_) ?_)
    (Finset.sum_congr rfl fun k _ => congrArg₂ (fun x y : EReal => x * y) ?_ ?_)
  · exact blk0 m c t r k u hu
  · exact blk2 m c t k j n hn
  · exact blk3 m c t j n hn
  · exact blk1 m c t r k _ _ u hu hd
  · exact blk4 m c t k j n hn

theorem c0 (t : Fin grid0.N) : (grid0.coords t 0).val < 2 := (grid0.coords t 0).isLt
theorem c1 (t : Fin grid0.N) : (grid0.coords t 1).val < 16 := (grid0.coords t 1).isLt

/-- What a grid point writes back is its block of the term. -/
theorem flushed_eq (t : Fin cfg0.N) :
    (dats m 0 c).flushed 5 t = (win0_5.blk t).view.read (Elt Ideal) (term m c) := by
  rw [Cert.Kernel5Ideal.Value.flushed5]
  obtain ⟨-, -, -, -, -, ⟨e0, e1⟩⟩ := index t
  have h0 := c0 t
  have h1 := c1 t
  funext y
  have hy0 : (y 0).val < 1024 := (y 0).isLt
  have hy1 : (y 1).val < 1024 := (y 1).isLt
  refine Eq.trans (b := out0_5 (iblk m c 0 t) (iblk m c 1 t) (iblk m c 2 t) (iblk m c 3 t) (iblk m c 4 t)
    (ix2 ⟨(y 0).val, hy0⟩ ⟨(y 1).val, hy1⟩)) ?_ ?_
  · show out0_5 (iblk m c 0 t) (iblk m c 1 t) (iblk m c 2 t) (iblk m c 3 t) (iblk m c 4 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 1024 + (y 1).val, by omega⟩ rfl rfl).trans ?_
    show term m c _ = term m c ((win0_5.rect t).emb y)
    refine congrArg (term m c) (funext fun a => Fin.ext ?_)
    match a with
    | ⟨0, _⟩ => show (grid0.coords t 1).val * 1024 + (y 0).val = win0_5.index t 0 * 1024 + 1 * (y 0).val; rw [e0, Nat.one_mul]
    | ⟨1, _⟩ => show (grid0.coords t 0).val * 1024 + (y 1).val = win0_5.index t 1 * 1024 + 1 * (y 1).val; rw [e1, Nat.one_mul]

/-- Every block index is some grid point's. -/
theorem onto : ∀ (j : Fin 2) (i : Fin 16), ∃ t : Fin grid0.N,
    (grid0.coords t 0).val = j.val ∧ (grid0.coords t 1).val = i.val := by decide +kernel

/-- The blocks tile the result. -/
theorem cover (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  obtain ⟨t, t0, t1⟩ := onto ⟨(i 1).val / 1024, by omega⟩ ⟨(i 0).val / 1024, by omega⟩
  simp only at t0 t1
  obtain ⟨-, -, -, -, -, ⟨e0, e1⟩⟩ := index t
  refine ⟨t, flush0_5 t, ?_⟩
  show i ∈ ((View.whole main_v9).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [e0, t1]; omega
  | ⟨1, _⟩ =>
    show win0_5.index t 1 * 1024 ≤ (i 1).val ∧ (i 1).val < win0_5.index t 1 * 1024 + 1024
    rw [e1, t0]; omega

/-- The result array after the run is the term of the arguments. -/
theorem final : (dats m 0 c).arrAt 5 cfg0.N = term m c :=
  (dats m 0 c).arrAt_eq_of_cover 5 (term m c) (fun t _ => flushed_eq m c t) cover

end Cert.Ple
-- ==== Proof.Oproj.lean ====
/-
  The output projection with its residual and its norm.
-/
module

public import proofs.«01_k».proof.Proof.Norm
public import proofs.«01_k».proof.Proof.Gen.Kernel6Ideal.Value
public import proofs.«01_k».proof.Proof.Gen.Reference6Ideal.Read

@[expose] public section

set_option maxRecDepth 16384

noncomputable section

namespace Cert.Oproj

open Idealize.ShloMosaic Idealize.ShloMosaic.TcCoe Idealize.ShloMosaic.ValueIdx Idealize.SL.Sem
open Cert.Mat Cert.Norm Cert.Kernel6Ideal Cert.Kernel6Ideal.Gen

theorem ev : Ev 512 where
  red := reduces_S512x2048_S512
  col := shapeCasts_S512_S512x1
  bc := broadcasts_S512x1_S512x2048
  row := broadcasts_S1x2048_S512x2048

/-- The two results of a grid point, at a row and a column: the norm of the row of weighted residual and product. -/
theorem out_apply (x0 : Vec Ideal S512x2048 .f32) (x1 : Vec Ideal S512x2048 .bf16) (x2 : Vec Ideal S2048x2048 .bf16)
    (x3 x4 : Vec Ideal S1x2048 .f32) (r : Fin 512) (n : Fin 2048) :
    out0_5 x0 x1 x2 x3 x4 (ix2 r n)
      = ln (fun k => alpha * (x0 (ix2 r k) : EReal) + ∑ j : Fin 2048, (x1 (ix2 r j) : EReal) * x2 (ix2 j k))
          (x3 (ix2 (0 : Fin 1) n)) (x4 (ix2 (0 : Fin 1) n)) n
    ∧ (out0_6 x0 x1 x2 x3 x4 (ix2 r n) : EReal) = out0_5 x0 x1 x2 x3 x4 (ix2 r n) := by
  unfold out0_5 out0_6
  rw [View.canon_unit_zero zeros, View.canon_unit_zero zeros]
  refine ⟨?_, rfl⟩
  have ld0 : ∀ X : Vec Ideal S512x2048 .f32, View.ld X r0_0 = X := fun X => View.ld_unit_zero zeros _ X
  have ldb : ∀ X : Vec Ideal S512x2048 .bf16, View.ld X r0_0 = X := fun X => View.ld_unit_zero zeros _ X
  have ld1 : ∀ X : Vec Ideal S2048x2048 .bf16, View.ld X r0_1 = X := fun X => View.ld_unit_zero zeros _ X
  have ld2 : ∀ X : Vec Ideal S1x2048 .f32, View.ld X r0_2 = X := fun X => View.ld_unit_zero zeros _ X
  rw [ld0, ldb, ld1, ld2, ld2]
  simp only [k0_pay1, shapeCast_self]
  refine (block_apply ev _ x3 x4 r n).trans (congrArg (fun y => ln y _ _ n) (funext fun k => ?_))
  exact congrArg (alpha * (x0 (ix2 r k) : EReal) + ·) (mm_apply _ rfl x1 x2 r k)

/-- The reference at a token and a feature. -/
theorem ref_apply (x0 : (⟨S2x8192x2048, .f32⟩ : BufTy).Contents (Elt Ideal)) (x1 : (⟨S16384x2048, .bf16⟩ : BufTy).Contents (Elt Ideal))
    (x2 : (⟨S1x2048x2048, .f32⟩ : BufTy).Contents (Elt Ideal)) (x3 x4 : (⟨S1x2048, .f32⟩ : BufTy).Contents (Elt Ideal))
    (u : Fin 16384) (n : Fin 2048) (b : Fin 2) (p : Fin 8192) (hu : u.val = b.val * 8192 + p.val) :
    Cert.Reference6Ideal.Read.val_main_v33 (F := Ideal) x0 x1 x2 x3 x4 (ix2 u n)
      = ln (fun k => alpha * (x0 (ix3 b p k) : EReal) + ∑ j : Fin 2048, (x1 (ix2 u j) : EReal) * x2 (ix3 (0 : Fin 1) j k))
          (x3 (ix2 (0 : Fin 1) n)) (x4 (ix2 (0 : Fin 1) n)) n := by
  have hp := p.isLt
  have hrow : ∀ k : Fin 2048, (Cert.Reference6Ideal.Read.val_main_v6 (F := Ideal) x0 x1 x2 (ix3 b p k) : EReal)
      = alpha * (x0 (ix3 b p k) : EReal) + ∑ j : Fin 2048, (x1 (ix2 u j) : EReal) * x2 (ix3 (0 : Fin 1) j k) := by
    intro k
    have hk := k.isLt
    rw [Cert.Reference6Ideal.Read.val_main_v6_apply, Cert.Reference6Ideal.Read.val_main_v3_apply,
      Cert.Reference6Ideal.Read.val_main_v5_apply]
    refine congrArg (fun s : EReal => alpha * (x0 (ix3 b p k) : EReal) + s) (Finset.sum_congr rfl fun j _ => ?_)
    rw [Cert.Reference6Ideal.Read.val_main_v1_apply, Cert.Reference6Ideal.Read.val_main_v0_apply, Cert.Reference6Ideal.Read.val_main_v4_apply]
    have hj := j.isLt
    refine congrArg₂ (fun (i : S16384x2048.Idx) (l : S1x2048x2048.Idx) => (x1 i : EReal) * x2 l) (funext fun a => Fin.ext ?_)
      (funext fun a => Fin.ext ?_)
    · match a with
      | ⟨0, _⟩ => show ((b.val * 8192 + p.val) * 2048 + j.val) / 2048 = u.val; omega
      | ⟨1, _⟩ => show ((b.val * 8192 + p.val) * 2048 + j.val) % 2048 = j.val; omega
    · match a with
      | ⟨0, _⟩ => rfl
      | ⟨1, _⟩ => show (j.val * 2048 + k.val) / 2048 % 2048 = j.val; omega
      | ⟨2, _⟩ => show (j.val * 2048 + k.val) % 2048 = k.val; omega
  have e33 : Cert.Reference6Ideal.Read.idx_main_v33 (ix2 u n) = ix3 b p n := funext fun a => Fin.ext (by
    have hn := n.isLt
    match a with
    | ⟨0, _⟩ => show (u.val * 2048 + n.val) / 16777216 = b.val; omega
    | ⟨1, _⟩ => show (u.val * 2048 + n.val) / 2048 % 8192 = p.val; omega
    | ⟨2, _⟩ => show (u.val * 2048 + n.val) % 2048 = n.val; omega)
  rw [← funext hrow]
  have e9 : ∀ k : Fin 2048, Cert.Reference6Ideal.Read.idx_main_v9 (ix2 b p) k = ix3 b p k := fun k =>
    funext fun a => match a with | ⟨0, _⟩ => rfl | ⟨1, _⟩ => rfl | ⟨2, _⟩ => rfl
  have e13 : ∀ k : Fin 2048, Cert.Reference6Ideal.Read.idx_main_v13 (ix3 b p k) = ix3 b p (0 : Fin 1) := fun k =>
    funext fun a => match a with | ⟨0, _⟩ => rfl | ⟨1, _⟩ => rfl | ⟨2, _⟩ => rfl
  have e10 : Cert.Reference6Ideal.Read.idx_main_v10 (ix3 b p (0 : Fin 1)) = ix2 b p :=
    funext fun a => match a with | ⟨0, _⟩ => rfl | ⟨1, _⟩ => rfl
  -- the mean
  have hm : (Cert.Reference6Ideal.Read.val_main_v12 (F := Ideal) x0 x1 x2 (ix3 b p (0 : Fin 1)) : EReal)
      = mean fun k => Cert.Reference6Ideal.Read.val_main_v6 (F := Ideal) x0 x1 x2 (ix3 b p k) := by
    rw [Cert.Reference6Ideal.Read.val_main_v12_apply, Cert.Reference6Ideal.Read.val_main_v10_apply, e10,
      Cert.Reference6Ideal.Read.val_main_v9_apply, Cert.Reference6Ideal.Read.val_main_v11_apply]
    refine congrArg (Ideal.div · width) ((congrArg₂ (fun x y : EReal => x + y) Idealize.ShloMosaic.Ideal.ofBits_zero_f32
      (Finset.sum_congr rfl fun k _ => ?_)).trans (zero_add _))
    rw [e9]
  -- the row with its mean subtracted
  have hc : ∀ k : Fin 2048, (Cert.Reference6Ideal.Read.val_main_v14 (F := Ideal) x0 x1 x2 (ix3 b p k) : EReal)
      = (Cert.Reference6Ideal.Read.val_main_v6 (F := Ideal) x0 x1 x2 (ix3 b p k) : EReal)
        - mean fun k => Cert.Reference6Ideal.Read.val_main_v6 (F := Ideal) x0 x1 x2 (ix3 b p k) := by
    intro k
    rw [Cert.Reference6Ideal.Read.val_main_v14_apply, Cert.Reference6Ideal.Read.val_main_v13_apply, e13, hm]
    rfl
  -- the mean of the squares
  have hv : (Cert.Reference6Ideal.Read.val_main_v19 (F := Ideal) x0 x1 x2 (ix3 b p (0 : Fin 1)) : EReal)
      = Ideal.div (∑ k : Fin 2048, (Cert.Reference6Ideal.Read.val_main_v14 (F := Ideal) x0 x1 x2 (ix3 b p k) : EReal)
        * Cert.Reference6Ideal.Read.val_main_v14 (F := Ideal) x0 x1 x2 (ix3 b p k)) width := by
    rw [Cert.Reference6Ideal.Read.val_main_v19_apply, Cert.Reference6Ideal.Read.val_main_v17_apply,
      show Cert.Reference6Ideal.Read.idx_main_v17 (ix3 b p (0 : Fin 1)) = ix2 b p from e10,
      Cert.Reference6Ideal.Read.val_main_v16_apply, Cert.Reference6Ideal.Read.val_main_v18_apply]
    refine congrArg (Ideal.div · width) ((congrArg₂ (fun x y : EReal => x + y) Idealize.ShloMosaic.Ideal.ofBits_zero_f32
      (Finset.sum_congr rfl fun k _ => ?_)).trans (zero_add _))
    rw [show Cert.Reference6Ideal.Read.idx_main_v16 (ix2 b p) k = ix3 b p k from e9 k, Cert.Reference6Ideal.Read.val_main_v15_apply]
    rfl
  have hg : ∀ x : (⟨S1x2048, .f32⟩ : BufTy).Contents (Elt Ideal), Cert.Reference6Ideal.Read.val_main_v28 (F := Ideal) x (ix3 b p n) = x (ix2 (0 : Fin 1) n) := by
    intro x
    have hn := n.isLt
    rw [Cert.Reference6Ideal.Read.val_main_v28_apply, Cert.Reference6Ideal.Read.val_main_v27_apply, Cert.Reference6Ideal.Read.val_main_v7_apply]
    refine congrArg x (funext fun a => Fin.ext ?_)
    match a with
    | ⟨0, _⟩ => rfl
    | ⟨1, _⟩ => show n.val % 2048 = n.val; omega
  rw [Cert.Reference6Ideal.Read.val_main_v33_apply, e33, Cert.Reference6Ideal.Read.val_main_v32_apply, Cert.Reference6Ideal.Read.val_main_v29_apply, hg,
    show Cert.Reference6Ideal.Read.val_main_v31 (F := Ideal) x4 (ix3 b p n) = x4 (ix2 (0 : Fin 1) n) from hg x4,
    Cert.Reference6Ideal.Read.val_main_v26_apply, Cert.Reference6Ideal.Read.val_main_v25_apply,
    show Cert.Reference6Ideal.Read.idx_main_v25 (ix3 b p n) = ix3 b p (0 : Fin 1) from e13 n,
    Cert.Reference6Ideal.Read.val_main_v24_apply, Cert.Reference6Ideal.Read.val_main_v23_apply, Cert.Reference6Ideal.Read.val_main_v22_apply, hv,
    show Cert.Reference6Ideal.Read.val_main_v21 (F := Ideal) x0 x1 x2 (ix3 b p n) = _ from hc n,
    funext fun k => congrArg₂ (fun x y : EReal => x * y) (hc k) (hc k)]
  rfl

/-! ### The arrays the windows stage -/

variable (m : (ℓ : Loc nD τ sig) → Buf (Elt Ideal) ℓ) (c : Dev nD)

/-- The layer's input, the merged branches, the weights and the norm's scale and shift of device `c`. -/
abbrev a0 : (⟨S2x8192x2048, .f32⟩ : BufTy).Contents (Elt Ideal) := m ((c.tc : Thread nD τ).loc main_arg0)
abbrev a1 : (⟨S16384x2048, .bf16⟩ : BufTy).Contents (Elt Ideal) := m ((c.tc : Thread nD τ).loc main_arg1)
abbrev a2 : (⟨S1x2048x2048, .f32⟩ : BufTy).Contents (Elt Ideal) := m ((c.tc : Thread nD τ).loc main_arg2)
abbrev a3 : (⟨S1x2048, .f32⟩ : BufTy).Contents (Elt Ideal) := m ((c.tc : Thread nD τ).loc main_arg3)
abbrev a4 : (⟨S1x2048, .f32⟩ : BufTy).Contents (Elt Ideal) := m ((c.tc : Thread nD τ).loc main_arg4)

theorem host0 : V m c (Pipeline.arrRef spec0 0) = shapeCast S16384x2048 (a0 m c) shapeCasts_S2x8192x2048_S16384x2048 := by
  show StableHlo.after hostOps0 _ _ = _
  after_results_simp <;> rfl

theorem host2 : V m c (Pipeline.arrRef spec0 2) = shapeCast S2048x2048 (a2 m c) shapeCasts_S1x2048x2048_S2048x2048 := by
  show StableHlo.after hostOps0 _ _ = _
  after_results_simp <;> rfl

theorem host3 : V m c (Pipeline.arrRef spec0 3)
    = shapeCast S1x2048 (shapeCast S2048 (a3 m c) shapeCasts_S1x2048_S2048) shapeCasts_S2048_S1x2048 := by
  show StableHlo.after hostOps0 _ _ = _
  after_results_simp <;> rfl

theorem host4 : V m c (Pipeline.arrRef spec0 4)
    = shapeCast S1x2048 (shapeCast S2048 (a4 m c) shapeCasts_S1x2048_S2048) shapeCasts_S2048_S1x2048 := by
  show StableHlo.after hostOps0 _ _ = _
  after_results_simp <;> rfl

theorem index : ∀ t : Fin grid0.N,
    (win0_0.index t 0 = (grid0.coords t 0).val ∧ win0_0.index t 1 = 0)
    ∧ (win0_1.index t 0 = (grid0.coords t 0).val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = (grid0.coords t 0).val ∧ win0_5.index t 1 = 0)
    ∧ (win0_6.index t 0 = (grid0.coords t 0).val ∧ win0_6.index t 1 = 0) := by decide +kernel

theorem blk0 (t : Fin cfg0.N) (r : Fin 512) (k : Fin 2048) (b : Fin 2) (p : Fin 8192) (u : Fin 16384)
    (hu : u.val = (grid0.coords t 0).val * 512 + r.val) (hb : u.val = b.val * 8192 + p.val) :
    iblk m c 0 t (ix2 r k) = a0 m c (ix3 b p k) := by
  obtain ⟨⟨e0, e1⟩, -⟩ := index t
  show V m c (Pipeline.arrRef spec0 0) ((win0_0.rect t).emb (ix2 r k)) = _
  rw [host0, ← cast_flat (a0 m c) shapeCasts_S2x8192x2048_S16384x2048 b p k u hb]
  refine congrArg (shapeCast S16384x2048 (a0 m c) shapeCasts_S2x8192x2048_S16384x2048) (funext fun a => Fin.ext ?_)
  match a with
  | ⟨0, _⟩ => show win0_0.index t 0 * 512 + 1 * r.val = u.val; rw [e0, hu, Nat.one_mul]
  | ⟨1, _⟩ => show win0_0.index t 1 * 2048 + 1 * k.val = k.val; rw [e1, Nat.zero_mul, Nat.zero_add, Nat.one_mul]

theorem blk1 (t : Fin cfg0.N) (r : Fin 512) (k : Fin 2048) (u : Fin 16384) (hu : u.val = (grid0.coords t 0).val * 512 + r.val) :
    iblk m c 1 t (ix2 r k) = a1 m c (ix2 u k) := by
  obtain ⟨-, ⟨e0, e1⟩, -⟩ := index t
  show V m c (Pipeline.arrRef spec0 1) ((win0_1.rect t).emb (ix2 r k)) = _
  rw [show V m c (Pipeline.arrRef spec0 1) = _ from V_main_arg1 m c]
  refine congrArg (a1 m c) (funext fun a => Fin.ext ?_)
  match a with
  | ⟨0, _⟩ => show win0_1.index t 0 * 512 + 1 * r.val = u.val; rw [e0, hu, Nat.one_mul]
  | ⟨1, _⟩ => show win0_1.index t 1 * 2048 + 1 * k.val = k.val; rw [e1, Nat.zero_mul, Nat.zero_add, Nat.one_mul]

theorem blk2 (t : Fin cfg0.N) (j k : Fin 2048) : iblk m c 2 t (ix2 j k) = a2 m c (ix3 (0 : Fin 1) j k) := by
  obtain ⟨-, -, ⟨e0, e1⟩, -⟩ := index t
  show V m c (Pipeline.arrRef spec0 2) ((win0_2.rect t).emb (ix2 j k)) = _
  rw [host2, ← cast_drop (a2 m c) shapeCasts_S1x2048x2048_S2048x2048 j k]
  refine congrArg (shapeCast S2048x2048 (a2 m c) shapeCasts_S1x2048x2048_S2048x2048) (funext fun a => Fin.ext ?_)
  match a with
  | ⟨0, _⟩ => show win0_2.index t 0 * 2048 + 1 * j.val = j.val; rw [e0, Nat.zero_mul, Nat.zero_add, Nat.one_mul]
  | ⟨1, _⟩ => show win0_2.index t 1 * 2048 + 1 * k.val = k.val; rw [e1, Nat.zero_mul, Nat.zero_add, Nat.one_mul]

theorem blk3 (t : Fin cfg0.N) (n : Fin 2048) : iblk m c 3 t (ix2 (0 : Fin 1) n) = a3 m c (ix2 (0 : Fin 1) n) := by
  obtain ⟨-, -, -, ⟨e0, e1⟩, -⟩ := index t
  show V m c (Pipeline.arrRef spec0 3) ((win0_3.rect t).emb (ix2 (0 : Fin 1) n)) = _
  rw [host3, shapeCast_shapeCast]
  refine congrArg (a3 m c) (funext fun a => Fin.ext ?_)
  match a with
  | ⟨0, _⟩ => show win0_3.index t 0 * 1 + 1 * 0 = 0; rw [e0]
  | ⟨1, _⟩ => show win0_3.index t 1 * 2048 + 1 * n.val = n.val; rw [e1, Nat.zero_mul, Nat.zero_add, Nat.one_mul]

theorem blk4 (t : Fin cfg0.N) (n : Fin 2048) : iblk m c 4 t (ix2 (0 : Fin 1) n) = a4 m c (ix2 (0 : Fin 1) n) := by
  obtain ⟨-, -, -, -, ⟨e0, e1⟩, -⟩ := index t
  show V m c (Pipeline.arrRef spec0 4) ((win0_4.rect t).emb (ix2 (0 : Fin 1) n)) = _
  rw [host4, shapeCast_shapeCast]
  refine congrArg (a4 m c) (funext fun a => Fin.ext ?_)
  match a with
  | ⟨0, _⟩ => show win0_4.index t 0 * 1 + 1 * 0 = 0; rw [e0]
  | ⟨1, _⟩ => show win0_4.index t 1 * 2048 + 1 * n.val = n.val; rw [e1, Nat.zero_mul, Nat.zero_add, Nat.one_mul]

/-! ### The results -/

/-- The layer's first norm of device `c`'s arguments, as the reference computes it, and its copy in the shorter type. -/
abbrev res5 : Buf (Elt Ideal) ((c : Thread nD τ).loc main_v7_0) :=
  Cert.Reference6Ideal.Read.val_main_v33 (F := Ideal) (a0 m c) (a1 m c) (a2 m c) (a3 m c) (a4 m c)
abbrev res6 : Buf (Elt Ideal) ((c : Thread nD τ).loc main_v7_1) :=
  Cert.Reference6Ideal.Read.val_main_v34 (F := Ideal) (a0 m c) (a1 m c) (a2 m c) (a3 m c) (a4 m c)

/-- What a grid point stores at a row and a column of its block is the result there. -/
theorem point_eq (t : Fin cfg0.N) (r : Fin 512) (n : Fin 2048) (u : Fin 16384) (hu : u.val = (grid0.coords t 0).val * 512 + r.val) :
    out0_5 (iblk m c 0 t) (iblk m c 1 t) (iblk m c 2 t) (iblk m c 3 t) (iblk m c 4 t) (ix2 r n) = res5 m c (ix2 u n) := by
  have hul := u.isLt
  have hd : u.val = u.val / 8192 * 8192 + u.val % 8192 := by omega
  obtain ⟨b, hb⟩ : ∃ b : Fin 2, b.val = u.val / 8192 := ⟨⟨_, by omega⟩, rfl⟩
  obtain ⟨p, hp⟩ : ∃ p : Fin 8192, p.val = u.val % 8192 := ⟨⟨_, by omega⟩, rfl⟩
  rw [← hb, ← hp] at hd
  refine (out_apply (iblk m c 0 t) (iblk m c 1 t) (iblk m c 2 t) (iblk m c 3 t) (iblk m c 4 t) r n).1.trans ?_
  refine Eq.trans ?_ (ref_apply (a0 m c) (a1 m c) (a2 m c) (a3 m c) (a4 m c) u n b p hd).symm
  rw [blk3, blk4]
  refine congrArg (fun y => ln y _ _ n) (funext fun k => ?_)
  rw [blk0 m c t r k b p u hu hd]
  exact congrArg (fun s : EReal => alpha * (a0 m c (ix3 b p k) : EReal) + s)
    (Finset.sum_congr rfl fun j _ => congrArg₂ (fun x y : EReal => x * y) (blk1 m c t r j u hu) (blk2 m c t j k))

theorem c0 (t : Fin grid0.N) : (grid0.coords t 0).val < 32 := (grid0.coords t 0).isLt

/-- An index of a block as a row and a column. -/
theorem block_idx (y : S512x2048.Idx) : y = ix2 ⟨(y 0).val, (y 0).isLt⟩ ⟨(y 1).val, (y 1).isLt⟩ :=
  funext fun a => match a with | ⟨0, _⟩ => rfl | ⟨1, _⟩ => rfl

/-- What a grid point writes back is its block of the results. -/
theorem flushed5_eq (t : Fin cfg0.N) :
    (dats m 0 c).flushed 5 t = (win0_5.blk t).view.read (Elt Ideal) (res5 m c) := by
  rw [Cert.Kernel6Ideal.Value.flushed5]
  obtain ⟨-, -, -, -, -, ⟨e0, e1⟩, -⟩ := index t
  have h0 := c0 t
  funext y
  have hy0 : (y 0).val < 512 := (y 0).isLt
  have hy1 : (y 1).val < 2048 := (y 1).isLt
  refine Eq.trans (b := out0_5 (iblk m c 0 t) (iblk m c 1 t) (iblk m c 2 t) (iblk m c 3 t) (iblk m c 4 t) (ix2 ⟨(y 0).val, hy0⟩ ⟨(y 1).val, hy1⟩)) ?_ ?_
  · exact congrArg (out0_5 (iblk m c 0 t) (iblk m c 1 t) (iblk m c 2 t) (iblk m c 3 t) (iblk m c 4 t)) (block_idx y)
  · refine (point_eq m c t ⟨(y 0).val, hy0⟩ ⟨(y 1).val, hy1⟩ ⟨(grid0.coords t 0).val * 512 + (y 0).val, by omega⟩ rfl).trans ?_
    show res5 m c _ = res5 m c ((win0_5.rect t).emb y)
    refine congrArg (res5 m c) (funext fun a => Fin.ext ?_)
    match a with
    | ⟨0, _⟩ => show (grid0.coords t 0).val * 512 + (y 0).val = win0_5.index t 0 * 512 + 1 * (y 0).val; rw [e0]; omega
    | ⟨1, _⟩ => show (y 1).val = win0_5.index t 1 * 2048 + 1 * (y 1).val; rw [e1]; omega

theorem flushed6_eq (t : Fin cfg0.N) :
    (dats m 0 c).flushed 6 t = (win0_6.blk t).view.read (Elt Ideal) (res6 m c) := by
  rw [Cert.Kernel6Ideal.Value.flushed6]
  obtain ⟨-, -, -, -, -, -, ⟨e0, e1⟩⟩ := index t
  have h0 := c0 t
  funext y
  have hy0 : (y 0).val < 512 := (y 0).isLt
  have hy1 : (y 1).val < 2048 := (y 1).isLt
  refine Eq.trans (b := out0_6 (iblk m c 0 t) (iblk m c 1 t) (iblk m c 2 t) (iblk m c 3 t) (iblk m c 4 t) (ix2 ⟨(y 0).val, hy0⟩ ⟨(y 1).val, hy1⟩)) ?_ ?_
  · exact congrArg (out0_6 (iblk m c 0 t) (iblk m c 1 t) (iblk m c 2 t) (iblk m c 3 t) (iblk m c 4 t)) (block_idx y)
  · refine ((out_apply (iblk m c 0 t) (iblk m c 1 t) (iblk m c 2 t) (iblk m c 3 t) (iblk m c 4 t) ⟨(y 0).val, hy0⟩ ⟨(y 1).val, hy1⟩).2.trans
      (point_eq m c t ⟨(y 0).val, hy0⟩ ⟨(y 1).val, hy1⟩ ⟨(grid0.coords t 0).val * 512 + (y 0).val, by omega⟩ rfl)).trans ?_
    show res6 m c _ = res6 m c ((win0_6.rect t).emb y)
    refine congrArg (res6 m c) (funext fun a => Fin.ext ?_)
    match a with
    | ⟨0, _⟩ => show (grid0.coords t 0).val * 512 + (y 0).val = win0_6.index t 0 * 512 + 1 * (y 0).val; rw [e0]; omega
    | ⟨1, _⟩ => show (y 1).val = win0_6.index t 1 * 2048 + 1 * (y 1).val; rw [e1]; omega

/-- Every block index is some grid point's. -/
theorem onto : ∀ i : Fin 32, ∃ t : Fin grid0.N, (grid0.coords t 0).val = i.val := by decide +kernel

/-- The blocks tile the results. -/
theorem cover5 (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  obtain ⟨t, t0⟩ := onto ⟨(i 0).val / 512, by omega⟩
  simp only at t0
  obtain ⟨-, -, -, -, -, ⟨e0, e1⟩, -⟩ := index t
  refine ⟨t, flush0_5 t, ?_⟩
  show i ∈ ((View.whole main_v7_0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e0, t0]; omega
  | ⟨1, _⟩ =>
    show win0_5.index t 1 * 2048 ≤ (i 1).val ∧ (i 1).val < win0_5.index t 1 * 2048 + 2048
    rw [e1]; omega

theorem cover6 (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  obtain ⟨t, t0⟩ := onto ⟨(i 0).val / 512, by omega⟩
  simp only at t0
  obtain ⟨-, -, -, -, -, -, ⟨e0, e1⟩⟩ := index t
  refine ⟨t, flush0_6 t, ?_⟩
  show i ∈ ((View.whole main_v7_1).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [e0, t0]; omega
  | ⟨1, _⟩ =>
    show win0_6.index t 1 * 2048 ≤ (i 1).val ∧ (i 1).val < win0_6.index t 1 * 2048 + 2048
    rw [e1]; omega

/-- The result arrays after the run are the reference's of the arguments. -/
theorem final5 : (dats m 0 c).arrAt 5 cfg0.N = res5 m c :=
  (dats m 0 c).arrAt_eq_of_cover 5 (res5 m c) (fun t _ => flushed5_eq m c t) cover5

theorem final6 : (dats m 0 c).arrAt 6 cfg0.N = res6 m c :=
  (dats m 0 c).arrAt_eq_of_cover 6 (res6 m c) (fun t _ => flushed6_eq m c t) cover6

end Cert.Oproj
-- ==== Proof.Proj.lean ====
/-
  The input projection: a column of a token's projection, as the reference and as the blocked products read it.
-/
module

public import proofs.«01_k».proof.Proof.Mat
public import proofs.«01_k».proof.Proof.Gen.Reference7Ideal.Read
public import Idealize.ShloMosaic.Lib.KernelVsHost
public import Idealize.ShloMosaic.Lib.IdealHost

@[expose] public section

set_option maxRecDepth 16384

noncomputable section

namespace Cert.Proj

open Idealize.ShloMosaic Idealize.ShloMosaic.ValueIdx
open Cert.Mat

/-- The tokens of the two sequences. -/
abbrev Tokens : Type := (⟨3, ![2, 8192, 2048]⟩ : Shape).Idx → EReal

/-- The weights of all columns. -/
abbrev Weights : Type := (⟨3, ![1, 2048, 8592]⟩ : Shape).Idx → EReal

/-- Column `q` of the projection of position `p` of sequence `b`. -/
def lin (x : Tokens) (w : Weights) (b : Fin 2) (p : Fin 8192) (q : Fin 8592) : EReal :=
  ∑ k : Fin 2048, x (ix3 b p k) * w (ix3 (0 : Fin 1) k q)

/-- The reference's product of all tokens and all columns. -/
theorem all_apply (x : (⟨⟨3, ![2, 8192, 2048]⟩, .f32⟩ : BufTy).Contents (Elt Ideal))
    (w : (⟨⟨3, ![1, 2048, 8592]⟩, .f32⟩ : BufTy).Contents (Elt Ideal)) (b : Fin 2) (p : Fin 8192) (q : Fin 8592) :
    Cert.Reference7Ideal.Read.val_main_v1 (F := Ideal) x w (ix3 b p q) = lin x w b p q := by
  have hq := q.isLt
  rw [Cert.Reference7Ideal.Read.val_main_v1_apply]
  refine Finset.sum_congr rfl fun k _ => ?_
  have hk := k.isLt
  rw [Cert.Reference7Ideal.Read.val_main_v0_apply]
  refine congrArg₂ (fun (i : (⟨3, ![2, 8192, 2048]⟩ : Shape).Idx) (j : (⟨3, ![1, 2048, 8592]⟩ : Shape).Idx) => (x i : EReal) * w j) ?_ ?_
  · exact funext fun a => match a with | ⟨0, _⟩ => rfl | ⟨1, _⟩ => rfl | ⟨2, _⟩ => rfl
  · refine funext fun a => Fin.ext ?_
    match a with
    | ⟨0, _⟩ => rfl
    | ⟨1, _⟩ => show (k.val * 8592 + q.val) / 8592 % 2048 = k.val; omega
    | ⟨2, _⟩ => show (k.val * 8592 + q.val) % 8592 = q.val; omega

/-- `C` columns from column `o` on of an array of three axes. -/
theorem cols {α : Type} {C N o : ℕ} (u : (⟨3, ![2, 8192, N]⟩ : Shape).Idx → α)
    (h : (⟨3, ![2, 8192, N]⟩ : Shape).Slices ![0, 0, o] ⟨3, ![2, 8192, C]⟩) (b : Fin 2) (p : Fin 8192) (n : Fin C) (q : Fin N)
    (hq : q.val = o + n.val) : extractStridedSlice ⟨3, ![2, 8192, C]⟩ ![0, 0, o] u h (ix3 b p n) = u (ix3 b p q) :=
  extractStridedSlice_apply _ u h _ _ fun a => match a with
    | ⟨0, _⟩ => (Nat.zero_add b.val).symm
    | ⟨1, _⟩ => (Nat.zero_add p.val).symm
    | ⟨2, _⟩ => hq

/-- The tokens of both sequences in one list, read at an index. -/
theorem token (x : Tokens) (h : (⟨3, ![2, 8192, 2048]⟩ : Shape).ShapeCasts ⟨2, ![16384, 2048]⟩) (i : (⟨2, ![16384, 2048]⟩ : Shape).Idx)
    (b : Fin 2) (p : Fin 8192) (k : Fin 2048) (h0 : (i 0).val = b.val * 8192 + p.val) (h1 : (i 1).val = k.val) :
    shapeCast ⟨2, ![16384, 2048]⟩ x h i = x (ix3 b p k) := by
  have hb := b.isLt
  have hp := p.isLt
  rw [← cast_flat x h b p k ⟨b.val * 8192 + p.val, by omega⟩ rfl]
  refine congrArg _ (funext fun a => Fin.ext ?_)
  match a with
  | ⟨0, _⟩ => exact h0
  | ⟨1, _⟩ => exact h1

/-- The columns from `o` on of the weights, read at an index. -/
theorem weight {C o : ℕ} (w : Weights) (h : (⟨3, ![1, 2048, 8592]⟩ : Shape).ShapeCasts ⟨2, ![2048, 8592]⟩)
    (hs : (⟨2, ![2048, 8592]⟩ : Shape).Slices ![0, o] ⟨2, ![2048, C]⟩) (i : (⟨2, ![2048, C]⟩ : Shape).Idx) (k : Fin 2048) (q : Fin 8592)
    (h0 : (i 0).val = k.val) (h1 : q.val = o + (i 1).val) :
    extractStridedSlice ⟨2, ![2048, C]⟩ ![0, o] (shapeCast ⟨2, ![2048, 8592]⟩ w h) hs i = w (ix3 (0 : Fin 1) k q) := by
  rw [← cast_drop w h k q]
  exact extractStridedSlice_apply _ _ hs _ _ fun a => match a with
    | ⟨0, _⟩ => h0.symm.trans (Nat.zero_add _).symm
    | ⟨1, _⟩ => h1

/-- Columns of zeros appended to a matrix: a column of the matrix. -/
theorem pad_in {M C T hi : ℕ} {e : (⟨0, ![]⟩ : Shape).Idx → EReal} (u : (⟨2, ![M, C]⟩ : Shape).Idx → EReal)
    (h : (⟨2, ![M, C]⟩ : Shape).Pads ![0, 0] ![0, hi] ![0, 0] ⟨2, ![M, T]⟩) (hu : 0 < (⟨0, ![]⟩ : Shape).numel) (r : Fin M) (c : Fin T) (n : Fin C)
    (hn : c.val = n.val) : pad ⟨2, ![M, T]⟩ ![0, 0] ![0, hi] ![0, 0] u e h hu (ix2 r c) = u (ix2 r n) :=
  pad_apply_of_inside _ _ _ u e h hu _ _ fun a => match a with
    | ⟨0, _⟩ => by show r.val = 0 + r.val * (0 + 1); omega
    | ⟨1, _⟩ => by show c.val = 0 + n.val * (0 + 1); omega

/-- Columns of zeros appended to a matrix: a column after it. -/
theorem pad_out {M C T hi : ℕ} {e : (⟨0, ![]⟩ : Shape).Idx → EReal} (u : (⟨2, ![M, C]⟩ : Shape).Idx → EReal)
    (h : (⟨2, ![M, C]⟩ : Shape).Pads ![0, 0] ![0, hi] ![0, 0] ⟨2, ![M, T]⟩) (hu : 0 < (⟨0, ![]⟩ : Shape).numel) (r : Fin M) (c : Fin T)
    (hc : C ≤ c.val) (he : ∀ i, e i = 0) : pad ⟨2, ![M, T]⟩ ![0, 0] ![0, hi] ![0, 0] u e h hu (ix2 r c) = 0 := by
  refine (pad_apply_of_not_inside _ _ _ u e h hu _ (1 : Fin 2) ?_).trans (he _)
  intro hin
  have h2 : (c.val - 0) / (0 + 1) < C := hin.2.2
  omega

/-- The integer zero as a float is zero. -/
theorem zero_float (i : (⟨0, ![]⟩ : Shape).Idx) : sitofp (F := Ideal) .f32 (constantI ⟨0, ![]⟩ 32 0#32) i = (0 : EReal) := by
  show ((((0#32 : BitVec 32).toInt : ℤ) : ℝ) : EReal) = 0
  simp

/-- A block's product is the projection, when its rows and columns are the token's and the weights'. -/
theorem block {N : ℕ} (d : DotDims ⟨2, ![1024, 2048]⟩ ⟨2, ![2048, N]⟩ ⟨2, ![1024, N]⟩)
    (hd : d = DotDims.plain 1024 2048 N) (x0 : FVec Ideal ⟨2, ![1024, 2048]⟩ .bf16) (x1 : FVec Ideal ⟨2, ![2048, N]⟩ .bf16)
    (x : Tokens) (w : Weights) (r : Fin 1024) (j : Fin N) (b : Fin 2) (p : Fin 8192) (q : Fin 8592)
    (h0 : ∀ k : Fin 2048, (x0 (ix2 r k) : EReal) = x (ix3 b p k)) (h1 : ∀ k : Fin 2048, (x1 (ix2 k j) : EReal) = w (ix3 (0 : Fin 1) k q)) :
    matmul d none x0 x1 (constant (F := Ideal) ⟨2, ![1024, N]⟩ .f32 0x00000000#32) (ix2 r j) = lin x w b p q :=
  (mm_apply d hd x0 x1 r j).trans (Finset.sum_congr rfl fun k _ => congrArg₂ (fun a b : EReal => a * b) (h0 k) (h1 k))

/-- A block's product in a column of zeros. -/
theorem block_zero {N : ℕ} (d : DotDims ⟨2, ![1024, 2048]⟩ ⟨2, ![2048, N]⟩ ⟨2, ![1024, N]⟩)
    (hd : d = DotDims.plain 1024 2048 N) (x0 : FVec Ideal ⟨2, ![1024, 2048]⟩ .bf16) (x1 : FVec Ideal ⟨2, ![2048, N]⟩ .bf16)
    (r : Fin 1024) (j : Fin N) (h1 : ∀ k : Fin 2048, (x1 (ix2 k j) : EReal) = 0) :
    matmul d none x0 x1 (constant (F := Ideal) ⟨2, ![1024, N]⟩ .f32 0x00000000#32) (ix2 r j) = (0 : EReal) :=
  (mm_apply d hd x0 x1 r j).trans (Finset.sum_eq_zero fun k _ => by rw [h1 k, mul_zero])

end Cert.Proj
-- ==== Proof.Gates.lean ====
/-
  The gates: the last columns of the input projection, through the sigmoid.
-/
module

public import proofs.«01_k».proof.Proof.Proj
public import proofs.«01_k».proof.Proof.Gen.Kernel7Ideal.Value

@[expose] public section

set_option maxRecDepth 16384

noncomputable section

namespace Cert.Gates

open Idealize.ShloMosaic Idealize.ShloMosaic.TcCoe Idealize.ShloMosaic.ValueIdx Idealize.SL.Sem
open Cert.Mat Cert.Proj Cert.Kernel7Ideal Cert.Kernel7Ideal.Gen

/-- A block of the result at a row and a column, when the operands' row and column are a token's and the weights'. -/
theorem out_apply (x0 : Vec Ideal S1024x2048 .bf16) (x1 : Vec Ideal S2048x1024 .bf16) (x : Tokens) (w : Weights)
    (r : Fin 1024) (j : Fin 1024) (b : Fin 2) (p : Fin 8192) (q : Fin 8592)
    (h0 : ∀ k : Fin 2048, (x0 (ix2 r k) : EReal) = x (ix3 b p k)) (h1 : ∀ k : Fin 2048, (x1 (ix2 k j) : EReal) = w (ix3 (0 : Fin 1) k q)) :
    out0_2 x0 x1 (ix2 r j) = Idealize.ShloMosaic.Ideal.logistic (lin x w b p q) := by
  unfold out0_2
  rw [View.canon_unit_zero zeros]
  have ld0 : ∀ X : Vec Ideal S1024x2048 .bf16, View.ld X r0_0 = X := fun X => View.ld_unit_zero zeros _ X
  have ld1 : ∀ X : Vec Ideal S2048x1024 .bf16, View.ld X r0_1 = X := fun X => View.ld_unit_zero zeros _ X
  simp only [ld0, ld1, k0_pay1, shapeCast_self]
  exact congrArg Idealize.ShloMosaic.Ideal.logistic (block _ rfl x0 x1 x w r j b p q h0 h1)

/-- The reference's gates at a token and a column. -/
theorem ref_apply (x : (⟨S2x8192x2048, .f32⟩ : BufTy).Contents (Elt Ideal)) (w : (⟨S1x2048x8592, .f32⟩ : BufTy).Contents (Elt Ideal))
    (t : Fin 16384) (n : Fin 4096) (b : Fin 2) (p : Fin 8192) (q : Fin 8592) (ht : t.val = b.val * 8192 + p.val) (hq : q.val = 4496 + n.val) :
    Cert.Reference7Ideal.Read.val_main_v9 (F := Ideal) x w (ix2 t n) = Idealize.ShloMosaic.Ideal.logistic (lin x w b p q) := by
  refine (cast_flat _ _ b p n t ht).trans ?_
  rw [Cert.Reference7Ideal.Read.val_main_v8_apply, Cert.Reference7Ideal.Read.val_main_v7_apply,
    Cert.Reference7Ideal.Read.val_main_v6_apply, Cert.Reference7Ideal.Read.val_main_v5_apply,
    Cert.Reference7Ideal.Read.val_main_v4_apply, Cert.Reference7Ideal.Read.val_main_v3_apply,
    show Cert.Reference7Ideal.Read.val_main_v2 (F := Ideal) x w (ix3 b p n) = lin x w b p q from
      (cols _ _ b p n q hq).trans (all_apply x w b p q)]
  have one : ∀ i, Cert.Reference7Ideal.Read.val_main_cst (F := Ideal) i = (1 : EReal) := fun i => Idealize.ShloMosaic.Ideal.ofBits_one_f32
  have one' : ∀ i, Cert.Reference7Ideal.Read.val_main_cst_0 (F := Ideal) i = (1 : EReal) := fun i => Idealize.ShloMosaic.Ideal.ofBits_one_f32
  rw [one, one']
  rfl

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after hostOps0 _ _ = _
  after_results_simp <;> rfl

theorem host1 : V m c (Pipeline.arrRef spec0 1) = extractStridedSlice S2048x4096 ![0, 4496]
    (shapeCast S2048x8592 (aw m c) shapeCasts_S1x2048x8592_S2048x8592) slices_S2048x8592_S2048x4096_0_4496 := by
  show StableHlo.after hostOps0 _ _ = _
  after_results_simp <;> rfl

theorem index : ∀ t : Fin grid0.N,
    (win0_0.index t 0 = (grid0.coords t 1).val ∧ win0_0.index t 1 = 0)
    ∧ (win0_1.index t 0 = 0 ∧ win0_1.index t 1 = (grid0.coords t 0).val)
    ∧ (win0_2.index t 0 = (grid0.coords t 1).val ∧ win0_2.index t 1 = (grid0.coords t 0).val) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- A block of the weights. -/
theorem blk1 (t : Fin cfg0.N) (k : Fin 2048) (j : Fin 1024) (n : Fin 4096) (q : Fin 8592)
    (hn : n.val = (grid0.coords t 0).val * 1024 + j.val) (hq : q.val = 4496 + n.val) :
    iblk m c 1 t (ix2 k j) = aw m c (ix3 (0 : Fin 1) k q) := by
  obtain ⟨-, ⟨e0, e1⟩, -⟩ := index t
  refine (congrFun (host1 m c) _).trans (weight (aw m c) _ _ _ k q ?_ ?_)
  · show win0_1.index t 0 * 2048 + 1 * k.val = k.val; rw [e0, Nat.zero_mul, Nat.zero_add, Nat.one_mul]
  · show q.val = 4496 + (win0_1.index t 1 * 1024 + 1 * j.val); rw [e1, hq, hn, Nat.one_mul]

/-! ### The result -/

/-- The gates of device `c`'s arguments, as the reference computes them. -/
abbrev gates : Buf (Elt Ideal) ((c : Thread nD τ).loc main_v5) :=
  Cert.Reference7Ideal.Read.val_main_v9 (F := Ideal) (ax m c) (aw m c)

/-- What a grid point stores at a row and a column of its block. -/
theorem point_eq (t : Fin cfg0.N) (r : Fin 1024) (j : Fin 1024) (u : Fin 16384) (n : Fin 4096)
    (hu : u.val = (grid0.coords t 1).val * 1024 + r.val) (hn : n.val = (grid0.coords t 0).val * 1024 + j.val) :
    out0_2 (iblk m c 0 t) (iblk m c 1 t) (ix2 r j) = gates m c (ix2 u n) := by
  have hul := u.isLt
  have hnl := n.isLt
  have hd : u.val = u.val / 8192 * 8192 + u.val % 8192 := by omega
  refine Eq.trans ?_ (ref_apply (ax m c) (aw m c) u n ⟨u.val / 8192, by omega⟩ ⟨u.val % 8192, by omega⟩ ⟨4496 + n.val, by omega⟩ hd rfl).symm
  exact out_apply (iblk m c 0 t) (iblk m c 1 t) (ax m c) (aw m c) r j _ _ _ (fun k => blk0 m c t r k _ _ (hu.symm.trans hd))
    (fun k => blk1 m c t k j n _ hn rfl)

theorem c0 (t : Fin grid0.N) : (grid0.coords t 0).val < 4 := (grid0.coords t 0).isLt
theorem c1 (t : Fin grid0.N) : (grid0.coords t 1).val < 16 := (grid0.coords t 1).isLt

/-- What a grid point writes back is its block of the gates. -/
theorem flushed_eq (t : Fin cfg0.N) :
    (dats m 0 c).flushed 2 t = (win0_2.blk t).view.read (Elt Ideal) (gates m c) := by
  rw [Cert.Kernel7Ideal.Value.flushed2]
  obtain ⟨-, -, ⟨e0, e1⟩⟩ := index t
  have h0 := c0 t
  have h1 := c1 t
  funext y
  have hy0 : (y 0).val < 1024 := (y 0).isLt
  have hy1 : (y 1).val < 1024 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 1024 + (y 1).val, by omega⟩ rfl rfl).trans ?_
    show gates m c _ = gates m c ((win0_2.rect t).emb y)
    refine congrArg (gates m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (grid0.coords t 0).val * 1024 + (y 1).val = win0_2.index t 1 * 1024 + 1 * (y 1).val; rw [e1, Nat.one_mul]

/-- Every block index is some grid point's. -/
theorem onto : ∀ (j : Fin 4) (i : Fin 16), ∃ t : Fin grid0.N,
    (grid0.coords t 0).val = j.val ∧ (grid0.coords t 1).val = i.val := by decide +kernel

/-- The blocks tile the result. -/
theorem cover (i : S16384x4096.Idx) :
    ∃ t : Fin cfg0.N, (cfg0.win 2).flush t = true ∧ i ∈ ((cfg0.win 2).blk t).view.set := by
  have h0 : (i 0).val < 16384 := (i 0).isLt
  have h1 : (i 1).val < 4096 := (i 1).isLt
  obtain ⟨t, t0, t1⟩ := onto ⟨(i 1).val / 1024, by omega⟩ ⟨(i 0).val / 1024, by omega⟩
  simp only at t0 t1
  obtain ⟨-, -, ⟨e0, e1⟩⟩ := index t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 1024 ≤ (i 1).val ∧ (i 1).val < win0_2.index t 1 * 1024 + 1024
    rw [e1, t0]; omega

/-- The result array after the run is the gates of the arguments. -/
theorem final : (dats m 0 c).arrAt 2 cfg0.N = gates m c :=
  (dats m 0 c).arrAt_eq_of_cover 2 (gates m c) (fun t _ => flushed_eq m c t) cover

end Cert.Gates
-- ==== Proof.Qa.lean ====
/-
  The queries of the sparse attention: the first columns of the input projection, scaled.
-/
module

public import proofs.«01_k».proof.Proof.Proj
public import proofs.«01_k».proof.Proof.Gen.Kernel8Ideal.Value
public import proofs.«01_k».proof.Proof.Gen.Reference8Ideal.Read

@[expose] public section

set_option maxRecDepth 16384

noncomputable section

namespace Cert.Qa

open Idealize.ShloMosaic Idealize.ShloMosaic.TcCoe Idealize.ShloMosaic.ValueIdx Idealize.SL.Sem
open Cert.Mat Cert.Proj Cert.Kernel8Ideal Cert.Kernel8Ideal.Gen

/-- A block of the result at a row and a column, when the operands' row and column are a token's and the weights'. -/
theorem out_apply (x0 : Vec Ideal S1024x2048 .bf16) (x1 : Vec Ideal S2048x1024 .bf16) (x : Tokens) (w : Weights)
    (r : Fin 1024) (j : Fin 1024) (b : Fin 2) (p : Fin 8192) (q : Fin 8592)
    (h0 : ∀ k : Fin 2048, (x0 (ix2 r k) : EReal) = x (ix3 b p k)) (h1 : ∀ k : Fin 2048, (x1 (ix2 k j) : EReal) = w (ix3 (0 : Fin 1) k q)) :
    out0_2 x0 x1 (ix2 r j) = lin x w b p q * Idealize.ShloMosaic.Ideal.ofBits .f32 0x3E0293EE#32 := by
  unfold out0_2
  rw [View.canon_unit_zero zeros]
  have ld0 : ∀ X : Vec Ideal S1024x2048 .bf16, View.ld X r0_0 = X := fun X => View.ld_unit_zero zeros _ X
  have ld1 : ∀ X : Vec Ideal S2048x1024 .bf16, View.ld X r0_1 = X := fun X => View.ld_unit_zero zeros _ X
  simp only [ld0, ld1, k0_pay1, shapeCast_self]
  exact congrArg (fun a : EReal => a * Idealize.ShloMosaic.Ideal.ofBits .f32 0x3E0293EE#32) (block _ rfl x0 x1 x w r j b p q h0 h1)

/-- The reference's queries at a token and a column. -/
theorem ref_apply (x : (⟨S2x8192x2048, .f32⟩ : BufTy).Contents (Elt Ideal)) (w : (⟨S1x2048x8592, .f32⟩ : BufTy).Contents (Elt Ideal))
    (t : Fin 16384) (n : Fin 2048) (b : Fin 2) (p : Fin 8192) (q : Fin 8592) (ht : t.val = b.val * 8192 + p.val) (hq : q.val = 0 + n.val) :
    Cert.Reference8Ideal.Read.val_main_v6 (F := Ideal) x w (ix2 t n) = lin x w b p q * Idealize.ShloMosaic.Ideal.ofBits .f32 0x3E0293EE#32 := by
  show Cert.Reference8Ideal.Read.val_main_v5 (F := Ideal) x w (ix2 t n) = _
  refine (cast_flat _ _ b p n t ht).trans ?_
  refine congrArg (fun a : EReal => a * Idealize.ShloMosaic.Ideal.ofBits .f32 0x3E0293EE#32) ?_
  exact (cols _ _ b p n q hq).trans (all_apply x w b p q)

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after hostOps0 _ _ = _
  after_results_simp <;> rfl

theorem host1 : V m c (Pipeline.arrRef spec0 1) = extractStridedSlice S2048x2048 ![0, 0]
    (shapeCast S2048x8592 (aw m c) shapeCasts_S1x2048x8592_S2048x8592) slices_S2048x8592_S2048x2048_0_0 := by
  show StableHlo.after hostOps0 _ _ = _
  after_results_simp <;> rfl

theorem index : ∀ t : Fin grid0.N,
    (win0_0.index t 0 = (grid0.coords t 1).val ∧ win0_0.index t 1 = 0)
    ∧ (win0_1.index t 0 = 0 ∧ win0_1.index t 1 = (grid0.coords t 0).val)
    ∧ (win0_2.index t 0 = (grid0.coords t 1).val ∧ win0_2.index t 1 = (grid0.coords t 0).val) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- A block of the weights. -/
theorem blk1 (t : Fin cfg0.N) (k : Fin 2048) (j : Fin 1024) (n : Fin 2048) (q : Fin 8592)
    (hn : n.val = (grid0.coords t 0).val * 1024 + j.val) (hq : q.val = 0 + n.val) :
    iblk m c 1 t (ix2 k j) = aw m c (ix3 (0 : Fin 1) k q) := by
  obtain ⟨-, ⟨e0, e1⟩, -⟩ := index t
  refine (congrFun (host1 m c) _).trans (weight (aw m c) _ _ _ k q ?_ ?_)
  · show win0_1.index t 0 * 2048 + 1 * k.val = k.val; rw [e0, Nat.zero_mul, Nat.zero_add, Nat.one_mul]
  · show q.val = 0 + (win0_1.index t 1 * 1024 + 1 * j.val); rw [e1, hq, hn, Nat.one_mul]

/-! ### The result -/

/-- The queries of device `c`'s arguments, as the reference computes them. -/
abbrev queries : Buf (Elt Ideal) ((c : Thread nD τ).loc main_v5) :=
  Cert.Reference8Ideal.Read.val_main_v6 (F := Ideal) (ax m c) (aw m c)

/-- What a grid point stores at a row and a column of its block. -/
theorem point_eq (t : Fin cfg0.N) (r : Fin 1024) (j : Fin 1024) (u : Fin 16384) (n : Fin 2048)
    (hu : u.val = (grid0.coords t 1).val * 1024 + r.val) (hn : n.val = (grid0.coords t 0).val * 1024 + j.val) :
    out0_2 (iblk m c 0 t) (iblk m c 1 t) (ix2 r j) = queries m c (ix2 u n) := by
  have hul := u.isLt
  have hnl := n.isLt
  have hd : u.val = u.val / 8192 * 8192 + u.val % 8192 := by omega
  refine Eq.trans ?_ (ref_apply (ax m c) (aw m c) u n ⟨u.val / 8192, by omega⟩ ⟨u.val % 8192, by omega⟩ ⟨0 + n.val, by omega⟩ hd rfl).symm
  exact out_apply (iblk m c 0 t) (iblk m c 1 t) (ax m c) (aw m c) r j _ _ _ (fun k => blk0 m c t r k _ _ (hu.symm.trans hd))
    (fun k => blk1 m c t k j n _ hn rfl)

theorem c0 (t : Fin grid0.N) : (grid0.coords t 0).val < 2 := (grid0.coords t 0).isLt
theorem c1 (t : Fin grid0.N) : (grid0.coords t 1).val < 16 := (grid0.coords t 1).isLt

/-- What a grid point writes back is its block of the queries. -/
theorem flushed_eq (t : Fin cfg0.N) :
    (dats m 0 c).flushed 2 t = (win0_2.blk t).view.read (Elt Ideal) (queries m c) := by
  rw [Cert.Kernel8Ideal.Value.flushed2]
  obtain ⟨-, -, ⟨e0, e1⟩⟩ := index t
  have h0 := c0 t
  have h1 := c1 t
  funext y
  have hy0 : (y 0).val < 1024 := (y 0).isLt
  have hy1 : (y 1).val < 1024 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 1024 + (y 1).val, by omega⟩ rfl rfl).trans ?_
    show queries m c _ = queries m c ((win0_2.rect t).emb y)
    refine congrArg (queries m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (grid0.coords t 0).val * 1024 + (y 1).val = win0_2.index t 1 * 1024 + 1 * (y 1).val; rw [e1, Nat.one_mul]

/-- Every block index is some grid point's. -/
theorem onto : ∀ (j : Fin 2) (i : Fin 16), ∃ t : Fin grid0.N,
    (grid0.coords t 0).val = j.val ∧ (grid0.coords t 1).val = i.val := by decide +kernel

/-- The blocks tile the result. -/
theorem cover (i : S16384x2048.Idx) :
    ∃ t : Fin cfg0.N, (cfg0.win 2).flush t = true ∧ i ∈ ((cfg0.win 2).blk t).view.set := by
  have h0 : (i 0).val < 16384 := (i 0).isLt
  have h1 : (i 1).val < 2048 := (i 1).isLt
  obtain ⟨t, t0, t1⟩ := onto ⟨(i 1).val / 1024, by omega⟩ ⟨(i 0).val / 1024, by omega⟩
  simp only at t0 t1
  obtain ⟨-, -, ⟨e0, e1⟩⟩ := index t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 1024 ≤ (i 1).val ∧ (i 1).val < win0_2.index t 1 * 1024 + 1024
    rw [e1, t0]; omega

/-- The result array after the run is the queries of the arguments. -/
theorem final : (dats m 0 c).arrAt 2 cfg0.N = queries m c :=
  (dats m 0 c).arrAt_eq_of_cover 2 (queries m c) (fun t _ => flushed_eq m c t) cover

end Cert.Qa
-- ==== Proof.Qidx.lean ====
/-
  The queries of the indexer: the columns of the input projection from column 2304 on.
-/
module

public import proofs.«01_k».proof.Proof.Proj
public import proofs.«01_k».proof.Proof.Gen.Kernel9Ideal.Value
public import proofs.«01_k».proof.Proof.Gen.Reference9Ideal.Read

@[expose] public section

set_option maxRecDepth 16384

noncomputable section

namespace Cert.Qidx

open Idealize.ShloMosaic Idealize.ShloMosaic.TcCoe Idealize.ShloMosaic.ValueIdx Idealize.SL.Sem
open Cert.Mat Cert.Proj Cert.Kernel9Ideal Cert.Kernel9Ideal.Gen

/-- A block of the result at a row and a column, when the operands' row and column are a token's and the weights'. -/
theorem out_apply (x0 : Vec Ideal S1024x2048 .bf16) (x1 : Vec Ideal S2048x1024 .bf16) (x : Tokens) (w : Weights)
    (r : Fin 1024) (j : Fin 1024) (b : Fin 2) (p : Fin 8192) (q : Fin 8592)
    (h0 : ∀ k : Fin 2048, (x0 (ix2 r k) : EReal) = x (ix3 b p k)) (h1 : ∀ k : Fin 2048, (x1 (ix2 k j) : EReal) = w (ix3 (0 : Fin 1) k q)) :
    out0_2 x0 x1 (ix2 r j) = lin x w b p q := by
  unfold out0_2
  rw [View.canon_unit_zero zeros]
  have ld0 : ∀ X : Vec Ideal S1024x2048 .bf16, View.ld X r0_0 = X := fun X => View.ld_unit_zero zeros _ X
  have ld1 : ∀ X : Vec Ideal S2048x1024 .bf16, View.ld X r0_1 = X := fun X => View.ld_unit_zero zeros _ X
  simp only [ld0, ld1, k0_pay1, shapeCast_self]
  exact block _ rfl x0 x1 x w r j b p q h0 h1

/-- The reference's queries at a token and a column. -/
theorem ref_apply (x : (⟨S2x8192x2048, .f32⟩ : BufTy).Contents (Elt Ideal)) (w : (⟨S1x2048x8592, .f32⟩ : BufTy).Contents (Elt Ideal))
    (t : Fin 16384) (n : Fin 1024) (b : Fin 2) (p : Fin 8192) (q : Fin 8592) (ht : t.val = b.val * 8192 + p.val) (hq : q.val = 2304 + n.val) :
    Cert.Reference9Ideal.Read.val_main_v4 (F := Ideal) x w (ix2 t n) = lin x w b p q := by
  show Cert.Reference9Ideal.Read.val_main_v3 (F := Ideal) x w (ix2 t n) = _
  exact (cast_flat _ _ b p n t ht).trans ((cols _ _ b p n q hq).trans (all_apply x w b p q))

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after hostOps0 _ _ = _
  after_results_simp <;> rfl

theorem host1 : V m c (Pipeline.arrRef spec0 1) = extractStridedSlice S2048x1024 ![0, 2304]
    (shapeCast S2048x8592 (aw m c) shapeCasts_S1x2048x8592_S2048x8592) slices_S2048x8592_S2048x1024_0_2304 := by
  show StableHlo.after hostOps0 _ _ = _
  after_results_simp <;> rfl

theorem index : ∀ t : Fin grid0.N,
    (win0_0.index t 0 = (grid0.coords t 1).val ∧ win0_0.index t 1 = 0)
    ∧ (win0_1.index t 0 = 0 ∧ win0_1.index t 1 = (grid0.coords t 0).val)
    ∧ (win0_2.index t 0 = (grid0.coords t 1).val ∧ win0_2.index t 1 = (grid0.coords t 0).val) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- A block of the weights. -/
theorem blk1 (t : Fin cfg0.N) (k : Fin 2048) (j : Fin 1024) (n : Fin 1024) (q : Fin 8592)
    (hn : n.val = (grid0.coords t 0).val * 1024 + j.val) (hq : q.val = 2304 + n.val) :
    iblk m c 1 t (ix2 k j) = aw m c (ix3 (0 : Fin 1) k q) := by
  obtain ⟨-, ⟨e0, e1⟩, -⟩ := index t
  refine (congrFun (host1 m c) _).trans (weight (aw m c) _ _ _ k q ?_ ?_)
  · show win0_1.index t 0 * 2048 + 1 * k.val = k.val; rw [e0, Nat.zero_mul, Nat.zero_add, Nat.one_mul]
  · show q.val = 2304 + (win0_1.index t 1 * 1024 + 1 * j.val); rw [e1, hq, hn, Nat.one_mul]

/-! ### The result -/

/-- The queries of device `c`'s arguments, as the reference computes them. -/
abbrev queries : Buf (Elt Ideal) ((c : Thread nD τ).loc main_v5) :=
  Cert.Reference9Ideal.Read.val_main_v4 (F := Ideal) (ax m c) (aw m c)

/-- What a grid point stores at a row and a column of its block. -/
theorem point_eq (t : Fin cfg0.N) (r : Fin 1024) (j : Fin 1024) (u : Fin 16384) (n : Fin 1024)
    (hu : u.val = (grid0.coords t 1).val * 1024 + r.val) (hn : n.val = (grid0.coords t 0).val * 1024 + j.val) :
    out0_2 (iblk m c 0 t) (iblk m c 1 t) (ix2 r j) = queries m c (ix2 u n) := by
  have hul := u.isLt
  have hnl := n.isLt
  have hd : u.val = u.val / 8192 * 8192 + u.val % 8192 := by omega
  refine Eq.trans ?_ (ref_apply (ax m c) (aw m c) u n ⟨u.val / 8192, by omega⟩ ⟨u.val % 8192, by omega⟩ ⟨2304 + n.val, by omega⟩ hd rfl).symm
  exact out_apply (iblk m c 0 t) (iblk m c 1 t) (ax m c) (aw m c) r j _ _ _ (fun k => blk0 m c t r k _ _ (hu.symm.trans hd))
    (fun k => blk1 m c t k j n _ hn rfl)

theorem c0 (t : Fin grid0.N) : (grid0.coords t 0).val < 1 := (grid0.coords t 0).isLt
theorem c1 (t : Fin grid0.N) : (grid0.coords t 1).val < 16 := (grid0.coords t 1).isLt

/-- What a grid point writes back is its block of the queries. -/
theorem flushed_eq (t : Fin cfg0.N) :
    (dats m 0 c).flushed 2 t = (win0_2.blk t).view.read (Elt Ideal) (queries m c) := by
  rw [Cert.Kernel9Ideal.Value.flushed2]
  obtain ⟨-, -, ⟨e0, e1⟩⟩ := index t
  have h0 := c0 t
  have h1 := c1 t
  funext y
  have hy0 : (y 0).val < 1024 := (y 0).isLt
  have hy1 : (y 1).val < 1024 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 1024 + (y 1).val, by omega⟩ rfl rfl).trans ?_
    show queries m c _ = queries m c ((win0_2.rect t).emb y)
    refine congrArg (queries m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (grid0.coords t 0).val * 1024 + (y 1).val = win0_2.index t 1 * 1024 + 1 * (y 1).val; rw [e1, Nat.one_mul]

/-- Every block index is some grid point's. -/
theorem onto : ∀ (j : Fin 1) (i : Fin 16), ∃ t : Fin grid0.N,
    (grid0.coords t 0).val = j.val ∧ (grid0.coords t 1).val = i.val := by decide +kernel

/-- The blocks tile the result. -/
theorem cover (i : S16384x1024.Idx) :
    ∃ t : Fin cfg0.N, (cfg0.win 2).flush t = true ∧ i ∈ ((cfg0.win 2).blk t).view.set := by
  have h0 : (i 0).val < 16384 := (i 0).isLt
  have h1 : (i 1).val < 1024 := (i 1).isLt
  obtain ⟨t, t0, t1⟩ := onto ⟨(i 1).val / 1024, by omega⟩ ⟨(i 0).val / 1024, by omega⟩
  simp only at t0 t1
  obtain ⟨-, -, ⟨e0, e1⟩⟩ := index t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 1024 ≤ (i 1).val ∧ (i 1).val < win0_2.index t 1 * 1024 + 1024
    rw [e1, t0]; omega

/-- The result array after the run is the queries of the arguments. -/
theorem final : (dats m 0 c).arrAt 2 cfg0.N = queries m c :=
  (dats m 0 c).arrAt_eq_of_cover 2 (queries m c) (fun t _ => flushed_eq m c t) cover

end Cert.Qidx
-- ==== Proof.Lat.lean ====
/-
  The compressed queries, keys and rotary key of the attention: columns of the input projection, padded with zeros.
-/
module

public import proofs.«01_k».proof.Proof.Proj
public import proofs.«01_k».proof.Proof.Gen.Kernel10Ideal.Value
public import proofs.«01_k».proof.Proof.Gen.Reference10Ideal.Read

@[expose] public section

set_option maxRecDepth 16384

noncomputable section

namespace Cert.Lat

open Idealize.ShloMosaic Idealize.ShloMosaic.TcCoe Idealize.ShloMosaic.ValueIdx Idealize.SL.Sem
open Cert.Mat Cert.Proj Cert.Kernel10Ideal Cert.Kernel10Ideal.Gen

/-- A block of the result is the product of the operands. -/
theorem out_apply (x0 : Vec Ideal S1024x2048 .bf16) (x1 : Vec Ideal S2048x1152 .bf16) (i : S1024x1152.Idx) :
    out0_2 x0 x1 i = matmul (F := Ideal) (φ₁ := .bf16) (φ₂ := .bf16) dot_S1024x2048_S2048x1152_S1024x1152_1_0_0_1_n_n none x0 x1
      (constant (F := Ideal) S1024x1152 .f32 0x00000000#32) i := by
  unfold out0_2
  rw [View.canon_unit_zero zeros]
  have ld0 : ∀ X : Vec Ideal S1024x2048 .bf16, View.ld X r0_0 = X := fun X => View.ld_unit_zero zeros _ X
  have ld1 : ∀ X : Vec Ideal S2048x1152 .bf16, View.ld X r0_1 = X := fun X => View.ld_unit_zero zeros _ X
  simp only [ld0, ld1, k0_pay1, shapeCast_self]

/-- The reference's result at a token and one of the first 1088 columns. -/
theorem ref_in (x : (⟨S2x8192x2048, .f32⟩ : BufTy).Contents (Elt Ideal)) (w : (⟨S1x2048x8592, .f32⟩ : BufTy).Contents (Elt Ideal))
    (t : Fin 16384) (n : Fin 1152) (b : Fin 2) (p : Fin 8192) (q : Fin 8592) (ht : t.val = b.val * 8192 + p.val) (hn : n.val < 1088)
    (hq : q.val = 3408 + n.val) : Cert.Reference10Ideal.Read.val_main_v4 (F := Ideal) x w (ix2 t n) = lin x w b p q :=
  (pad_in _ _ _ t n ⟨n.val, hn⟩ rfl).trans ((cast_flat _ _ b p ⟨n.val, hn⟩ t ht).trans
    ((cols _ _ b p ⟨n.val, hn⟩ q hq).trans (all_apply x w b p q)))

/-- The reference's result in the columns of padding. -/
theorem ref_out (x : (⟨S2x8192x2048, .f32⟩ : BufTy).Contents (Elt Ideal)) (w : (⟨S1x2048x8592, .f32⟩ : BufTy).Contents (Elt Ideal))
    (t : Fin 16384) (n : Fin 1152) (hn : 1088 ≤ n.val) :
    Cert.Reference10Ideal.Read.val_main_v4 (F := Ideal) x w (ix2 t n) = (0 : EReal) :=
  pad_out _ _ _ t n hn zero_float

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after (List.flatten [hostOps0, hostOps0_1, hostOps0_2]) _ _ = _
  after_results_simp <;> rfl

theorem host1 : V m c (Pipeline.arrRef spec0 1) = pad S2048x1152 ![0, 0] ![0, 64] ![0, 0] (extractStridedSlice S2048x1088 ![0, 3408]
    (shapeCast S2048x8592 (aw m c) shapeCasts_S1x2048x8592_S2048x8592) slices_S2048x8592_S2048x1088_0_3408)
    (sitofp (F := Ideal) .f32 (constantI S_ 32 0#32)) pads_S2048x1088_S2048x1152_000_0640 h_S_ := by
  show StableHlo.after (List.flatten [hostOps0, hostOps0_1, hostOps0_2]) _ _ = _
  after_results_simp <;> rfl

theorem index : ∀ t : Fin grid0.N,
    (win0_0.index t 0 = (grid0.coords t 1).val ∧ win0_0.index t 1 = 0)
    ∧ (win0_1.index t 0 = 0 ∧ win0_1.index t 1 = 0)
    ∧ (win0_2.index t 0 = (grid0.coords t 1).val ∧ win0_2.index t 1 = 0) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- The weights' array at a row and a column of its only block. -/
theorem blk1 (t : Fin cfg0.N) (k : Fin 2048) (n : Fin 1152) : iblk m c 1 t (ix2 k n) = V m c (Pipeline.arrRef spec0 1) (ix2 k n) := by
  obtain ⟨-, ⟨e0, e1⟩, -⟩ := index t
  show V m c (Pipeline.arrRef spec0 1) ((win0_1.rect t).emb (ix2 k n)) = _
  refine congrArg (V m c (Pipeline.arrRef spec0 1)) (funext fun a => Fin.ext ?_)
  match a with
  | ⟨0, _⟩ => show win0_1.index t 0 * 2048 + 1 * k.val = k.val; rw [e0, Nat.zero_mul, Nat.zero_add, Nat.one_mul]
  | ⟨1, _⟩ => show win0_1.index t 1 * 1152 + 1 * n.val = n.val; rw [e1, Nat.zero_mul, Nat.zero_add, Nat.one_mul]

/-- The weights' array in one of the first 1088 columns. -/
theorem wt_in (k : Fin 2048) (n : Fin 1152) (q : Fin 8592) (hn : n.val < 1088) (hq : q.val = 3408 + n.val) :
    V m c (Pipeline.arrRef spec0 1) (ix2 k n) = aw m c (ix3 (0 : Fin 1) k q) :=
  (congrFun (host1 m c) _).trans ((pad_in _ _ _ k n ⟨n.val, hn⟩ rfl).trans (weight (aw m c) _ _ _ k q rfl hq))

/-- The weights' array in the columns of padding. -/
theorem wt_out (k : Fin 2048) (n : Fin 1152) (hn : 1088 ≤ n.val) : V m c (Pipeline.arrRef spec0 1) (ix2 k n) = (0 : EReal) :=
  (congrFun (host1 m c) _).trans (pad_out _ _ _ k n hn zero_float)

/-! ### The result -/

/-- The latents of device `c`'s arguments, as the reference computes them. -/
abbrev latents : Buf (Elt Ideal) ((c : Thread nD τ).loc main_v6) :=
  Cert.Reference10Ideal.Read.val_main_v4 (F := Ideal) (ax m c) (aw m c)

/-- What a grid point stores at a row and a column of its block. -/
theorem point_eq (t : Fin cfg0.N) (r : Fin 1024) (n : Fin 1152) (u : Fin 16384)
    (hu : u.val = (grid0.coords t 1).val * 1024 + r.val) :
    out0_2 (iblk m c 0 t) (iblk m c 1 t) (ix2 r n) = latents m c (ix2 u n) := by
  have hul := u.isLt
  have hd : u.val = u.val / 8192 * 8192 + u.val % 8192 := by omega
  rw [out_apply]
  rcases Nat.lt_or_ge n.val 1088 with hn | hn
  · refine Eq.trans ?_ (ref_in (ax m c) (aw m c) u n ⟨u.val / 8192, by omega⟩ ⟨u.val % 8192, by omega⟩ ⟨3408 + n.val, by omega⟩ hd hn rfl).symm
    exact block _ rfl _ _ (ax m c) (aw m c) r n _ _ _ (fun k => blk0 m c t r k _ _ (hu.symm.trans hd))
      (fun k => (blk1 m c t k n).trans (wt_in m c k n _ hn rfl))
  · refine Eq.trans ?_ (ref_out (ax m c) (aw m c) u n hn).symm
    exact block_zero _ rfl _ _ r n (fun k => (blk1 m c t k n).trans (wt_out m c k n hn))

theorem c1 (t : Fin grid0.N) : (grid0.coords t 1).val < 16 := (grid0.coords t 1).isLt

/-- What a grid point writes back is its block of the result. -/
theorem flushed_eq (t : Fin cfg0.N) :
    (dats m 0 c).flushed 2 t = (win0_2.blk t).view.read (Elt Ideal) (latents m c) := by
  rw [Cert.Kernel10Ideal.Value.flushed2]
  obtain ⟨-, -, ⟨e0, e1⟩⟩ := index t
  have h1 := c1 t
  funext y
  have hy0 : (y 0).val < 1024 := (y 0).isLt
  have hy1 : (y 1).val < 1152 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩ rfl).trans ?_
    show latents m c _ = latents m c ((win0_2.rect t).emb y)
    refine congrArg (latents m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (y 1).val = win0_2.index t 1 * 1152 + 1 * (y 1).val; rw [e1, Nat.zero_mul, Nat.zero_add, Nat.one_mul]

/-- Every block of rows is some grid point's. -/
theorem onto : ∀ i : Fin 16, ∃ t : Fin grid0.N, (grid0.coords t 1).val = i.val := by decide +kernel

/-- The blocks tile the result. -/
theorem cover (i : S16384x1152.Idx) :
    ∃ t : Fin cfg0.N, (cfg0.win 2).flush t = true ∧ i ∈ ((cfg0.win 2).blk t).view.set := by
  have h0 : (i 0).val < 16384 := (i 0).isLt
  have h1 : (i 1).val < 1152 := (i 1).isLt
  obtain ⟨t, t1⟩ := onto ⟨(i 0).val / 1024, by omega⟩
  simp only at t1
  obtain ⟨-, -, ⟨e0, e1⟩⟩ := index t
  refine ⟨t, flush0_2 t, ?_⟩
  show i ∈ ((View.whole main_v6).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 1152 ≤ (i 1).val ∧ (i 1).val < win0_2.index t 1 * 1152 + 1152
    rw [e1]; omega

/-- The result array after the run is the latents of the arguments. -/
theorem final : (dats m 0 c).arrAt 2 cfg0.N = latents m c :=
  (dats m 0 c).arrAt_eq_of_cover 2 (latents m c) (fun t _ => flushed_eq m c t) cover

end Cert.Lat
-- ==== Proof.Kv.lean ====
/-
  The shared key and value: the columns of the input projection from column 2048 on.
-/
module

public import proofs.«01_k».proof.Proof.Proj
public import proofs.«01_k».proof.Proof.Gen.Kernel11Ideal.Value
public import proofs.«01_k».proof.Proof.Gen.Reference11Ideal.Read

@[expose] public section

set_option maxRecDepth 16384

noncomputable section

namespace Cert.Kv

open Idealize.ShloMosaic Idealize.ShloMosaic.TcCoe Idealize.ShloMosaic.ValueIdx Idealize.SL.Sem
open Cert.Mat Cert.Proj Cert.Kernel11Ideal Cert.Kernel11Ideal.Gen

/-- A block of the result at a row and a column, when the operands' row and column are a token's and the weights'. -/
theorem out_apply (x0 : Vec Ideal S1024x2048 .bf16) (x1 : Vec Ideal S2048x256 .bf16) (x : Tokens) (w : Weights)
    (r : Fin 1024) (j : Fin 256) (b : Fin 2) (p : Fin 8192) (q : Fin 8592)
    (h0 : ∀ k : Fin 2048, (x0 (ix2 r k) : EReal) = x (ix3 b p k)) (h1 : ∀ k : Fin 2048, (x1 (ix2 k j) : EReal) = w (ix3 (0 : Fin 1) k q)) :
    out0_2 x0 x1 (ix2 r j) = lin x w b p q := by
  unfold out0_2
  rw [View.canon_unit_zero zeros]
  have ld0 : ∀ X : Vec Ideal S1024x2048 .bf16, View.ld X r0_0 = X := fun X => View.ld_unit_zero zeros _ X
  have ld1 : ∀ X : Vec Ideal S2048x256 .bf16, View.ld X r0_1 = X := fun X => View.ld_unit_zero zeros _ X
  simp only [ld0, ld1, k0_pay1, shapeCast_self]
  exact block _ rfl x0 x1 x w r j b p q h0 h1

/-- The reference's key and value at a token and a column. -/
theorem ref_apply (x : (⟨S2x8192x2048, .f32⟩ : BufTy).Contents (Elt Ideal)) (w : (⟨S1x2048x8592, .f32⟩ : BufTy).Contents (Elt Ideal))
    (t : Fin 16384) (n : Fin 256) (b : Fin 2) (p : Fin 8192) (q : Fin 8592) (ht : t.val = b.val * 8192 + p.val) (hq : q.val = 2048 + n.val) :
    Cert.Reference11Ideal.Read.val_main_v4 (F := Ideal) x w (ix2 t n) = lin x w b p q := by
  show Cert.Reference11Ideal.Read.val_main_v3 (F := Ideal) x w (ix2 t n) = _
  exact (cast_flat _ _ b p n t ht).trans ((cols _ _ b p n q hq).trans (all_apply x w b p q))

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after hostOps0 _ _ = _
  after_results_simp <;> rfl

theorem host1 : V m c (Pipeline.arrRef spec0 1) = extractStridedSlice S2048x256 ![0, 2048]
    (shapeCast S2048x8592 (aw m c) shapeCasts_S1x2048x8592_S2048x8592) slices_S2048x8592_S2048x256_0_2048 := by
  show StableHlo.after hostOps0 _ _ = _
  after_results_simp <;> rfl

theorem index : ∀ t : Fin grid0.N,
    (win0_0.index t 0 = (grid0.coords t 1).val ∧ win0_0.index t 1 = 0)
    ∧ (win0_1.index t 0 = 0 ∧ win0_1.index t 1 = (grid0.coords t 0).val)
    ∧ (win0_2.index t 0 = (grid0.coords t 1).val ∧ win0_2.index t 1 = (grid0.coords t 0).val) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- A block of the weights. -/
theorem blk1 (t : Fin cfg0.N) (k : Fin 2048) (j : Fin 256) (n : Fin 256) (q : Fin 8592)
    (hn : n.val = (grid0.coords t 0).val * 256 + j.val) (hq : q.val = 2048 + n.val) :
    iblk m c 1 t (ix2 k j) = aw m c (ix3 (0 : Fin 1) k q) := by
  obtain ⟨-, ⟨e0, e1⟩, -⟩ := index t
  refine (congrFun (host1 m c) _).trans (weight (aw m c) _ _ _ k q ?_ ?_)
  · show win0_1.index t 0 * 2048 + 1 * k.val = k.val; rw [e0, Nat.zero_mul, Nat.zero_add, Nat.one_mul]
  · show q.val = 2048 + (win0_1.index t 1 * 256 + 1 * j.val); rw [e1, hq, hn, Nat.one_mul]

/-! ### The result -/

/-- The key and value of device `c`'s arguments, as the reference computes them. -/
abbrev keys : Buf (Elt Ideal) ((c : Thread nD τ).loc main_v5) :=
  Cert.Reference11Ideal.Read.val_main_v4 (F := Ideal) (ax m c) (aw m c)

/-- What a grid point stores at a row and a column of its block. -/
theorem point_eq (t : Fin cfg0.N) (r : Fin 1024) (j : Fin 256) (u : Fin 16384) (n : Fin 256)
    (hu : u.val = (grid0.coords t 1).val * 1024 + r.val) (hn : n.val = (grid0.coords t 0).val * 256 + j.val) :
    out0_2 (iblk m c 0 t) (iblk m c 1 t) (ix2 r j) = keys m c (ix2 u n) := by
  have hul := u.isLt
  have hnl := n.isLt
  have hd : u.val = u.val / 8192 * 8192 + u.val % 8192 := by omega
  refine Eq.trans ?_ (ref_apply (ax m c) (aw m c) u n ⟨u.val / 8192, by omega⟩ ⟨u.val % 8192, by omega⟩ ⟨2048 + n.val, by omega⟩ hd rfl).symm
  exact out_apply (iblk m c 0 t) (iblk m c 1 t) (ax m c) (aw m c) r j _ _ _ (fun k => blk0 m c t r k _ _ (hu.symm.trans hd))
    (fun k => blk1 m c t k j n _ hn rfl)

theorem c0 (t : Fin grid0.N) : (grid0.coords t 0).val < 1 := (grid0.coords t 0).isLt
theorem c1 (t : Fin grid0.N) : (grid0.coords t 1).val < 16 := (grid0.coords t 1).isLt

/-- What a grid point writes back is its block of the key and value. -/
theorem flushed_eq (t : Fin cfg0.N) :
    (dats m 0 c).flushed 2 t = (win0_2.blk t).view.read (Elt Ideal) (keys m c) := by
  rw [Cert.Kernel11Ideal.Value.flushed2]
  obtain ⟨-, -, ⟨e0, e1⟩⟩ := index t
  have h0 := c0 t
  have h1 := c1 t
  funext y
  have hy0 : (y 0).val < 1024 := (y 0).isLt
  have hy1 : (y 1).val < 256 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩
      ⟨(grid0.coords t 0).val * 256 + (y 1).val, by omega⟩ rfl rfl).trans ?_
    show keys m c _ = keys m c ((win0_2.rect t).emb y)
    refine congrArg (keys m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (grid0.coords t 0).val * 256 + (y 1).val = win0_2.index t 1 * 256 + 1 * (y 1).val; rw [e1, Nat.one_mul]

/-- Every block index is some grid point's. -/
theorem onto : ∀ (j : Fin 1) (i : Fin 16), ∃ t : Fin grid0.N,
    (grid0.coords t 0).val = j.val ∧ (grid0.coords t 1).val = i.val := by decide +kernel

/-- The blocks tile the result. -/
theorem cover (i : S16384x256.Idx) :
    ∃ t : Fin cfg0.N, (cfg0.win 2).flush t = true ∧ i ∈ ((cfg0.win 2).blk t).view.set := by
  have h0 : (i 0).val < 16384 := (i 0).isLt
  have h1 : (i 1).val < 256 := (i 1).isLt
  obtain ⟨t, t0, t1⟩ := onto ⟨(i 1).val / 256, by omega⟩ ⟨(i 0).val / 1024, by omega⟩
  simp only at t0 t1
  obtain ⟨-, -, ⟨e0, e1⟩⟩ := index t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 256 ≤ (i 1).val ∧ (i 1).val < win0_2.index t 1 * 256 + 256
    rw [e1, t0]; omega

/-- The result array after the run is the key and value of the arguments. -/
theorem final : (dats m 0 c).arrAt 2 cfg0.N = keys m c :=
  (dats m 0 c).arrAt_eq_of_cover 2 (keys m c) (fun t _ => flushed_eq m c t) cover

end Cert.Kv
-- ==== Proof.Misc.lean ====
/-
  The indexer's key and weights: columns of the input projection, padded with zeros.
-/
module

public import proofs.«01_k».proof.Proof.Proj
public import proofs.«01_k».proof.Proof.Gen.Kernel12Ideal.Value
public import proofs.«01_k».proof.Proof.Gen.Reference12Ideal.Read

@[expose] public section

set_option maxRecDepth 16384

noncomputable section

namespace Cert.Misc

open Idealize.ShloMosaic Idealize.ShloMosaic.TcCoe Idealize.ShloMosaic.ValueIdx Idealize.SL.Sem
open Cert.Mat Cert.Proj Cert.Kernel12Ideal Cert.Kernel12Ideal.Gen

/-- A block of the result is the product of the operands. -/
theorem out_apply (x0 : Vec Ideal S1024x2048 .bf16) (x1 : Vec Ideal S2048x128 .bf16) (i : S1024x128.Idx) :
    out0_2 x0 x1 i = matmul (F := Ideal) (φ₁ := .bf16) (φ₂ := .bf16) dot_S1024x2048_S2048x128_S1024x128_1_0_0_1_n_n none x0 x1
      (constant (F := Ideal) S1024x128 .f32 0x00000000#32) i := by
  unfold out0_2
  rw [View.canon_unit_zero zeros]
  have ld0 : ∀ X : Vec Ideal S1024x2048 .bf16, View.ld X r0_0 = X := fun X => View.ld_unit_zero zeros _ X
  have ld1 : ∀ X : Vec Ideal S2048x128 .bf16, View.ld X r0_1 = X := fun X => View.ld_unit_zero zeros _ X
  simp only [ld0, ld1, k0_pay1, shapeCast_self]

/-- The reference's result at a token and one of the first 80 columns. -/
theorem ref_in (x : (⟨S2x8192x2048, .f32⟩ : BufTy).Contents (Elt Ideal)) (w : (⟨S1x2048x8592, .f32⟩ : BufTy).Contents (Elt Ideal))
    (t : Fin 16384) (n : Fin 128) (b : Fin 2) (p : Fin 8192) (q : Fin 8592) (ht : t.val = b.val * 8192 + p.val) (hn : n.val < 80)
    (hq : q.val = 3328 + n.val) : Cert.Reference12Ideal.Read.val_main_v4 (F := Ideal) x w (ix2 t n) = lin x w b p q :=
  (pad_in _ _ _ t n ⟨n.val, hn⟩ rfl).trans ((cast_flat _ _ b p ⟨n.val, hn⟩ t ht).trans
    ((cols _ _ b p ⟨n.val, hn⟩ q hq).trans (all_apply x w b p q)))

/-- The reference's result in the columns of padding. -/
theorem ref_out (x : (⟨S2x8192x2048, .f32⟩ : BufTy).Contents (Elt Ideal)) (w : (⟨S1x2048x8592, .f32⟩ : BufTy).Contents (Elt Ideal))
    (t : Fin 16384) (n : Fin 128) (hn : 80 ≤ n.val) :
    Cert.Reference12Ideal.Read.val_main_v4 (F := Ideal) x w (ix2 t n) = (0 : EReal) :=
  pad_out _ _ _ t n hn zero_float

/-! ### The arrays the windows stage -/

variable (m : (ℓ : Loc nD τ sig) → Buf (Elt Ideal) ℓ) (c : Dev nD)

/-- The tokens and the weights of device `c`. -/
abbrev ax : (⟨S2x8192x2048, .f32⟩ : BufTy).Contents (Elt Ideal) := m ((c.tc : Thread nD τ).loc main_arg0)
abbrev aw : (⟨S1x2048x8592, .f32⟩ : BufTy).Contents (Elt Ideal) := m ((c.tc : Thread nD τ).loc main_arg1)

theorem host0 : V m c (Pipeline.arrRef spec0 0) = shapeCast S16384x2048 (ax m c) shapeCasts_S2x8192x2048_S16384x2048 := by
  show StableHlo.after (List.flatten [hostOps0, hostOps0_1, hostOps0_2]) _ _ = _
  after_results_simp <;> rfl

theorem host1 : V m c (Pipeline.arrRef spec0 1) = pad S2048x128 ![0, 0] ![0, 48] ![0, 0] (extractStridedSlice S2048x80 ![0, 3328]
    (shapeCast S2048x8592 (aw m c) shapeCasts_S1x2048x8592_S2048x8592) slices_S2048x8592_S2048x80_0_3328)
    (sitofp (F := Ideal) .f32 (constantI S_ 32 0#32)) pads_S2048x80_S2048x128_000_0480 h_S_ := by
  show StableHlo.after (List.flatten [hostOps0, hostOps0_1, hostOps0_2]) _ _ = _
  after_results_simp <;> rfl

theorem index : ∀ t : Fin grid0.N,
    (win0_0.index t 0 = (grid0.coords t 1).val ∧ win0_0.index t 1 = 0)
    ∧ (win0_1.index t 0 = 0 ∧ win0_1.index t 1 = 0)
    ∧ (win0_2.index t 0 = (grid0.coords t 1).val ∧ win0_2.index t 1 = 0) := by decide +kernel

/-- A block of the tokens. -/
theorem blk0 (t : Fin cfg0.N) (r : Fin 1024) (k : Fin 2048) (b : Fin 2) (p : Fin 8192)
    (h : (grid0.coords t 1).val * 1024 + r.val = b.val * 8192 + p.val) : iblk m c 0 t (ix2 r k) = ax m c (ix3 b p k) := by
  obtain ⟨⟨e0, e1⟩, -⟩ := index t
  refine (congrFun (host0 m c) _).trans (token (ax m c) _ _ b p k ?_ ?_)
  · show win0_0.index t 0 * 1024 + 1 * r.val = _; rw [e0, Nat.one_mul, h]
  · show win0_0.index t 1 * 2048 + 1 * k.val = k.val; rw [e1, Nat.zero_mul, Nat.zero_add, Nat.one_mul]

/-- The weights' array at a row and a column of its only block. -/
theorem blk1 (t : Fin cfg0.N) (k : Fin 2048) (n : Fin 128) : iblk m c 1 t (ix2 k n) = V m c (Pipeline.arrRef spec0 1) (ix2 k n) := by
  obtain ⟨-, ⟨e0, e1⟩, -⟩ := index t
  show V m c (Pipeline.arrRef spec0 1) ((win0_1.rect t).emb (ix2 k n)) = _
  refine congrArg (V m c (Pipeline.arrRef spec0 1)) (funext fun a => Fin.ext ?_)
  match a with
  | ⟨0, _⟩ => show win0_1.index t 0 * 2048 + 1 * k.val = k.val; rw [e0, Nat.zero_mul, Nat.zero_add, Nat.one_mul]
  | ⟨1, _⟩ => show win0_1.index t 1 * 128 + 1 * n.val = n.val; rw [e1, Nat.zero_mul, Nat.zero_add, Nat.one_mul]

/-- The weights' array in one of the first 80 columns. -/
theorem wt_in (k : Fin 2048) (n : Fin 128) (q : Fin 8592) (hn : n.val < 80) (hq : q.val = 3328 + n.val) :
    V m c (Pipeline.arrRef spec0 1) (ix2 k n) = aw m c (ix3 (0 : Fin 1) k q) :=
  (congrFun (host1 m c) _).trans ((pad_in _ _ _ k n ⟨n.val, hn⟩ rfl).trans (weight (aw m c) _ _ _ k q rfl hq))

/-- The weights' array in the columns of padding. -/
theorem wt_out (k : Fin 2048) (n : Fin 128) (hn : 80 ≤ n.val) : V m c (Pipeline.arrRef spec0 1) (ix2 k n) = (0 : EReal) :=
  (congrFun (host1 m c) _).trans (pad_out _ _ _ k n hn zero_float)

/-! ### The result -/

/-- The key and weights of device `c`'s arguments, as the reference computes them. -/
abbrev misc : Buf (Elt Ideal) ((c : Thread nD τ).loc main_v6) :=
  Cert.Reference12Ideal.Read.val_main_v4 (F := Ideal) (ax m c) (aw m c)

/-- What a grid point stores at a row and a column of its block. -/
theorem point_eq (t : Fin cfg0.N) (r : Fin 1024) (n : Fin 128) (u : Fin 16384)
    (hu : u.val = (grid0.coords t 1).val * 1024 + r.val) :
    out0_2 (iblk m c 0 t) (iblk m c 1 t) (ix2 r n) = misc m c (ix2 u n) := by
  have hul := u.isLt
  have hd : u.val = u.val / 8192 * 8192 + u.val % 8192 := by omega
  rw [out_apply]
  rcases Nat.lt_or_ge n.val 80 with hn | hn
  · refine Eq.trans ?_ (ref_in (ax m c) (aw m c) u n ⟨u.val / 8192, by omega⟩ ⟨u.val % 8192, by omega⟩ ⟨3328 + n.val, by omega⟩ hd hn rfl).symm
    exact block _ rfl _ _ (ax m c) (aw m c) r n _ _ _ (fun k => blk0 m c t r k _ _ (hu.symm.trans hd))
      (fun k => (blk1 m c t k n).trans (wt_in m c k n _ hn rfl))
  · refine Eq.trans ?_ (ref_out (ax m c) (aw m c) u n hn).symm
    exact block_zero _ rfl _ _ r n (fun k => (blk1 m c t k n).trans (wt_out m c k n hn))

theorem c1 (t : Fin grid0.N) : (grid0.coords t 1).val < 16 := (grid0.coords t 1).isLt

/-- What a grid point writes back is its block of the result. -/
theorem flushed_eq (t : Fin cfg0.N) :
    (dats m 0 c).flushed 2 t = (win0_2.blk t).view.read (Elt Ideal) (misc m c) := by
  rw [Cert.Kernel12Ideal.Value.flushed2]
  obtain ⟨-, -, ⟨e0, e1⟩⟩ := index t
  have h1 := c1 t
  funext y
  have hy0 : (y 0).val < 1024 := (y 0).isLt
  have hy1 : (y 1).val < 128 := (y 1).isLt
  refine Eq.trans (b := out0_2 (iblk m c 0 t) (iblk m c 1 t) (ix2 ⟨(y 0).val, hy0⟩ ⟨(y 1).val, hy1⟩)) ?_ ?_
  · show out0_2 (iblk m c 0 t) (iblk m c 1 t) _ = _
    refine congrArg _ (funext fun a => Fin.ext ?_)
    match a with
    | ⟨0, _⟩ => rfl
    | ⟨1, _⟩ => rfl
  · refine (point_eq m c t ⟨(y 0).val, hy0⟩ ⟨(y 1).val, hy1⟩ ⟨(grid0.coords t 1).val * 1024 + (y 0).val, by omega⟩ rfl).trans ?_
    show misc m c _ = misc m c ((win0_2.rect t).emb y)
    refine congrArg (misc m c) (funext fun a => Fin.ext ?_)
    match a with
    | ⟨0, _⟩ => show (grid0.coords t 1).val * 1024 + (y 0).val = win0_2.index t 0 * 1024 + 1 * (y 0).val; rw [e0, Nat.one_mul]
    | ⟨1, _⟩ => show (y 1).val = win0_2.index t 1 * 128 + 1 * (y 1).val; rw [e1, Nat.zero_mul, Nat.zero_add, Nat.one_mul]

/-- Every block of rows is some grid point's. -/
theorem onto : ∀ i : Fin 16, ∃ t : Fin grid0.N, (grid0.coords t 1).val = i.val := by decide +kernel

/-- The blocks tile the result. -/
theorem cover (i : S16384x128.Idx) :
    ∃ t : Fin cfg0.N, (cfg0.win 2).flush t = true ∧ i ∈ ((cfg0.win 2).blk t).view.set := by
  have h0 : (i 0).val < 16384 := (i 0).isLt
  have h1 : (i 1).val < 128 := (i 1).isLt
  obtain ⟨t, t1⟩ := onto ⟨(i 0).val / 1024, by omega⟩
  simp only at t1
  obtain ⟨-, -, ⟨e0, e1⟩⟩ := index t
  refine ⟨t, flush0_2 t, ?_⟩
  show i ∈ ((View.whole main_v6).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, t1]; omega
  | ⟨1, _⟩ =>
    show win0_2.index t 1 * 128 ≤ (i 1).val ∧ (i 1).val < win0_2.index t 1 * 128 + 128
    rw [e1]; omega

/-- The result array after the run is the key and weights of the arguments. -/
theorem final : (dats m 0 c).arrAt 2 cfg0.N = misc m c :=
  (dats m 0 c).arrAt_eq_of_cover 2 (misc m c) (fun t _ => flushed_eq m c t) cover

end Cert.Misc
-- ==== Proof.Rope.lean ====
/-
  The low-rank projections of the attention: the root mean square norm, the rotation of a head's rotary lanes, and
  a result stored a tile of columns at a time.
-/
module

public import proofs.«01_k».proof.Proof.Mat
public import proofs.«01_k».proof.Proof.Proj
public import proofs.«01_k».proof.Proof.Gen.Reference13Ideal.Read

@[expose] public section

set_option maxRecDepth 16384

noncomputable section

namespace Cert.Rope

open Idealize.ShloMosaic Idealize.ShloMosaic.ValueIdx
open Cert.Mat

/-! ### The root mean square norm -/

/-- The width of a row, 512, and the constant under the root, as numbers. -/
def width : EReal := Idealize.ShloMosaic.Ideal.ofBits .f32 0x44000000#32
def eps : EReal := Idealize.ShloMosaic.Ideal.ofBits .f32 0x358637BD#32

/-- The row over its root mean square, scaled, at a column. -/
def rms (y : Fin 512 → EReal) (g : EReal) (n : Fin 512) : EReal :=
  y n * Ideal.rsqrt (Ideal.div (∑ k, y k * y k) width + eps) * g

/-- A square block, a row of it and a column of it. -/
abbrev Sq : Shape := ⟨2, ![512, 512]⟩
abbrev Row : Shape := ⟨2, ![1, 512]⟩
abbrev Col : Shape := ⟨2, ![512, 1]⟩

/-- What the norm of a block needs of its shapes. -/
structure Ev : Prop where
  red : Sq.Reduces [1] ⟨1, ![512]⟩
  col : (⟨1, ![512]⟩ : Shape).ShapeCasts Col
  bc : Col.Broadcasts Sq
  row : Row.Broadcasts Sq

variable (ev : Ev)

/-- The sums of a block's rows. -/
abbrev sums (v : FVec Ideal Sq .f32) : FVec Ideal Col .f32 :=
  shapeCast Col (multiReduction .add [1] ⟨1, ![512]⟩ v 0x00000000#32 ev.red (.inl rfl) rfl : FVec Ideal ⟨1, ![512]⟩ .f32) ev.col

theorem sums_apply (v : FVec Ideal Sq .f32) (r : Fin 512) :
    sums ev v (ix2 r (0 : Fin 1)) = ∑ k : Fin 512, (v (ix2 r k) : EReal) := by
  have e2 := Idealize.ShloMosaic.Ideal.multiReduction_add_single (a := (1 : Fin 2)) v 0x00000000#32 ev.red (.inl rfl) rfl (ix1 r)
  rw [sums, shapeCast_a_a1_apply]
  refine e2.trans (Finset.sum_congr rfl fun k _ => congrArg v ?_)
  funext x
  match x with
  | ⟨0, _⟩ => apply Fin.ext; simp [Shape.Reduces.lift]; rfl
  | ⟨1, _⟩ => apply Fin.ext; rfl

/-- The norm of a block. -/
abbrev block (v : FVec Ideal Sq .f32) (g : FVec Ideal Row .f32) : FVec Ideal Sq .f32 :=
  mulf (mulf v (broadcastTo Sq (rsqrt (addf (divf (sums ev (mulf v v)) (broadcast Col (Scalar.ofBits .f32 0x44000000#32)))
    (broadcast Col (Scalar.ofBits .f32 0x358637BD#32)))) ev.bc)) (broadcastTo Sq g ev.row)

theorem block_apply (v : FVec Ideal Sq .f32) (g : FVec Ideal Row .f32) (r n : Fin 512) :
    block ev v g (ix2 r n) = rms (fun k => v (ix2 r k)) (g (ix2 (0 : Fin 1) n)) n := by
  show (v (ix2 r n) * broadcastTo Sq _ ev.bc (ix2 r n) : EReal) * broadcastTo Sq g ev.row (ix2 r n) = _
  rw [broadcastTo_apply _ ev.bc (ix2 r n) (ix2 r (0 : Fin 1)) (fun x => match x with | ⟨0, _⟩ => rfl | ⟨1, _⟩ => rfl),
    broadcastTo_apply _ ev.row (ix2 r n) (ix2 (0 : Fin 1) n) (fun x => match x with | ⟨0, _⟩ => rfl | ⟨1, _⟩ => rfl)]
  show (v (ix2 r n) * Ideal.rsqrt (Ideal.div (sums ev (mulf v v) (ix2 r (0 : Fin 1))) width + eps) : EReal) * _ = _
  rw [sums_apply]
  rfl

/-- A product with a normed block, when the block's rows and the weights are those of the arrays. -/
theorem prod_apply {N : ℕ} (d : DotDims Sq ⟨2, ![512, N]⟩ ⟨2, ![512, N]⟩) (hd : d = DotDims.plain 512 512 N)
    (v : FVec Ideal Sq .f32) (g : FVec Ideal Row .f32) (w : FVec Ideal ⟨2, ![512, N]⟩ .bf16) (hb : FTy.bf16.bits < FTy.f32.bits)
    (r : Fin 512) (n : Fin N) (y gs ws : Fin 512 → EReal) (hy : ∀ k, (v (ix2 r k) : EReal) = y k)
    (hg : ∀ k, (g (ix2 (0 : Fin 1) k) : EReal) = gs k) (hw : ∀ k, (w (ix2 k n) : EReal) = ws k) :
    matmul d none (truncf (F := Ideal) .bf16 (block ev v g) hb) w (constant (F := Ideal) ⟨2, ![512, N]⟩ .f32 0x00000000#32) (ix2 r n)
      = ∑ k, rms y (gs k) k * ws k := by
  refine (mm_apply d hd _ _ r n).trans (Finset.sum_congr rfl fun k _ => ?_)
  show (block ev v g (ix2 r k) : EReal) * w (ix2 k n) = _
  rw [block_apply, hg, hw, show (fun k => (v (ix2 r k) : EReal)) = y from funext hy]

/-! ### The rotation of the lanes -/

/-- A list of numbers continued with zeros. -/
def ext {N : ℕ} (f : Fin N → EReal) (n : ℕ) : EReal := if h : n < N then f ⟨n, h⟩ else 0

theorem ext_val {N : ℕ} (f : Fin N → EReal) (n : Fin N) : ext f n.val = f n := dif_pos n.isLt

theorem ext_of_le {N : ℕ} (f : Fin N → EReal) (n : ℕ) (h : N ≤ n) : ext f n = 0 := dif_neg (Nat.not_lt.2 h)

/-- A lane times its cosine plus its partner, 32 lanes away, times its sine. -/
def lane (x c s : ℕ → EReal) (l : ℕ) : EReal := x l * c l + (if l < 32 then x (l + 32) else x (l - 32)) * s l

/-- The rotation of the pairs of lanes `l` and `l + 32` of the first 64. -/
def turned (x cs sn : ℕ → EReal) (l : ℕ) : EReal :=
  if l < 32 then x l * cs l - x (l + 32) * sn l else x (l - 32) * sn (l - 32) + x l * cs (l - 32)

/-- Two lists of 32 numbers, one after the other, and zeros. -/
def two (f g : ℕ → EReal) (l : ℕ) : EReal := if l < 32 then f l else if l < 64 then g (l - 32) else 0

theorem lane_eq (x c s cs sn : ℕ → EReal) (l : ℕ) (hc : c l = two cs cs l) (hs : s l = two (fun n => -sn n) sn l) :
    lane x c s l = if l < 64 then turned x cs sn l else 0 := by
  unfold lane turned
  rw [hc, hs]
  unfold two
  by_cases h : l < 32
  · have h' : l < 64 := by omega
    simp only [if_pos h, if_pos h', mul_neg]
    rfl
  · by_cases h' : l < 64
    · simp only [if_neg h, if_pos h']
      exact add_comm _ _
    · simp only [if_neg h, if_neg h', mul_zero, add_zero]

/-- The turn of a lane reads the first 128 lanes alone. -/
theorem lane_congr (x x' c s : ℕ → EReal) (l : ℕ) (hl : l < 128) (h : ∀ n, n < 128 → x n = x' n) : lane x c s l = lane x' c s l := by
  unfold lane
  rw [h l hl]
  by_cases h' : l < 32
  · rw [if_pos h', if_pos h', h (l + 32) (by omega)]
  · rw [if_neg h', if_neg h', h (l - 32) (by omega)]

theorem turned_congr (x x' c s : ℕ → EReal) (l : ℕ) (hl : l < 64) (h : ∀ n, n < 128 → x n = x' n) : turned x c s l = turned x' c s l := by
  unfold turned
  rw [h l (by omega)]
  by_cases h' : l < 32
  · rw [if_pos h', if_pos h', h (l + 32) (by omega)]
  · rw [if_neg h', if_neg h', h (l - 32) (by omega)]

/-- Three arrays of 8192 rows. -/
abbrev three (f g : (⟨2, ![8192, 32]⟩ : Shape).Idx → EReal) (z : (⟨2, ![8192, 64]⟩ : Shape).Idx → EReal) : List ((s : Shape) × (s.Idx → EReal)) :=
  [⟨⟨2, ![8192, 32]⟩, f⟩, ⟨⟨2, ![8192, 32]⟩, g⟩, ⟨⟨2, ![8192, 64]⟩, z⟩]

/-- Three arrays of 8192 rows side by side, with 32, 32 and 64 columns, the last of zeros. -/
theorem table_apply (f g : (⟨2, ![8192, 32]⟩ : Shape).Idx → EReal) (z : (⟨2, ![8192, 64]⟩ : Shape).Idx → EReal) (hz : ∀ i, z i = 0)
    (h : Shape.Concatenates ((three f g z).map (·.1)) ⟨2, ![8192, 128]⟩ 1) (p : Fin 8192) (l : Fin 128) :
    concatenate ⟨2, ![8192, 128]⟩ 1 (three f g z) h (ix2 p l)
      = two (ext fun j => f (ix2 p j)) (ext fun j => g (ix2 p j)) l.val := by
  have hl := l.isLt
  unfold two
  by_cases h1 : l.val < 32
  · rw [if_pos h1]
    refine (concatenate_apply_piece (1 : Fin 2) (three f g z) h (ix2 p l) 0 (show 0 < 3 by decide) ⟨2, ![8192, 32]⟩ f rfl rfl 0 rfl (ix2 p (⟨l.val, h1⟩ : Fin 32)) ?_ ?_).trans
      (ext_val (fun j : Fin 32 => f (ix2 p j)) (⟨l.val, h1⟩ : Fin 32)).symm
    · intro b hb; match b with | ⟨0, _⟩ => rfl | ⟨1, _⟩ => exact absurd rfl hb
    · exact Nat.zero_add _
  · rw [if_neg h1]
    by_cases h2 : l.val < 64
    · rw [if_pos h2]
      refine (concatenate_apply_piece (1 : Fin 2) (three f g z) h (ix2 p l) 1 (show 1 < 3 by decide) ⟨2, ![8192, 32]⟩ g rfl rfl 32 rfl (ix2 p (⟨l.val - 32, by omega⟩ : Fin 32)) ?_ ?_).trans
        (ext_val (fun j : Fin 32 => g (ix2 p j)) (⟨l.val - 32, by omega⟩ : Fin 32)).symm
      · intro b hb; match b with | ⟨0, _⟩ => rfl | ⟨1, _⟩ => exact absurd rfl hb
      · show 32 + (l.val - 32) = l.val; omega
    · rw [if_neg h2]
      refine (concatenate_apply_piece (1 : Fin 2) (three f g z) h (ix2 p l) 2 (show 2 < 3 by decide) ⟨2, ![8192, 64]⟩ z rfl rfl 64 rfl (ix2 p (⟨l.val - 64, by omega⟩ : Fin 64)) ?_ ?_).trans (hz _)
      · intro b hb; match b with | ⟨0, _⟩ => rfl | ⟨1, _⟩ => exact absurd rfl hb
      · show 64 + (l.val - 64) = l.val; omega

/-- A tile of 128 lanes. -/
abbrev Til : Shape := ⟨2, ![512, 128]⟩

/-- The lanes of a row of a tile. -/
abbrev lanes (X : Til.Idx → EReal) (r : Fin 512) : ℕ → EReal := ext fun l : Fin 128 => X (ix2 r l)

theorem lanes_val (X : Til.Idx → EReal) (r : Fin 512) (l : Fin 128) : lanes X r l.val = X (ix2 r l) := ext_val _ l

/-- A tile turned: the two shifts of the lanes, the choice between them, and the two products. -/
abbrev turn (h1 : Til.Iotas .tc 32 [1]) (hr : Til.Rotates 1 none) (X C S : FVec Ideal Til .f32) : FVec Ideal Til .f32 :=
  addf (mulf X C) (mulf (select (cmpi .slt (iota .tc Til 32 [1] h1) (broadcast Til 32#32)) (dynamicRotate 1 96#32 none X hr)
    (dynamicRotate 1 32#32 none X hr)) S)

/-- A tile cut out of a wider block. -/
theorem cut_apply {N o : ℕ} (D : (⟨2, ![512, N]⟩ : Shape).Idx → EReal) (hs : (⟨2, ![512, N]⟩ : Shape).Slices ![0, o] Til) (r : Fin 512) (l : Fin 128) :
    extractStridedSlice Til ![0, o] D hs (ix2 r l) = ext (fun n : Fin N => D (ix2 r n)) (o + l.val) := by
  have hb : o + 128 ≤ N := hs.2 (1 : Fin 2)
  have hl := l.isLt
  refine (extractStridedSlice_apply _ D hs (ix2 r l) (ix2 r (⟨o + l.val, by omega⟩ : Fin N)) ?_).trans
    (ext_val (fun n : Fin N => D (ix2 r n)) (⟨o + l.val, by omega⟩ : Fin N)).symm
  intro a
  match a with
  | ⟨0, _⟩ => show r.val = 0 + r.val; omega
  | ⟨1, _⟩ => rfl

theorem less (n : ℕ) (hn : n < 128) : (BitVec.ofNat 32 n).slt 32#32 = decide (n < 32) := by
  have h : ∀ n : Fin 128, (BitVec.ofNat 32 n.val).slt 32#32 = decide (n.val < 32) := by decide +kernel
  exact h ⟨n, hn⟩

theorem turn_apply (h1 : Til.Iotas .tc 32 [1]) (hr : Til.Rotates 1 none) (X C S : FVec Ideal Til .f32) (r : Fin 512) (l : Fin 128) :
    turn h1 hr X C S (ix2 r l) = lane (lanes X r) (lanes C r) (lanes S r) l.val := by
  have hl := l.isLt
  unfold lane
  rw [lanes_val, lanes_val, lanes_val]
  refine congrArg (fun y : EReal => X (ix2 r l) * C (ix2 r l) + y * S (ix2 r l)) ?_
  rw [select_apply]
  have hc : cmpi .slt (iota .tc Til 32 [1] h1) (broadcast Til 32#32) (ix2 r l) = BitVec.ofBool (decide (l.val < 32)) := by
    show BitVec.ofBool ((iota .tc Til 32 [1] h1 (ix2 r l)).slt 32#32) = _
    rw [iota_single_apply]
    exact congrArg BitVec.ofBool (less l.val hl)
  rw [hc]
  by_cases h : l.val < 32
  · rw [if_pos h, decide_eq_true h]
    refine (dynamicRotate_apply (1 : Fin 2) 96#32 X hr (ix2 r l) (ix2 r (⟨l.val + 32, by omega⟩ : Fin 128)) ?_).trans
      (ext_val (fun l : Fin 128 => (X (ix2 r l) : EReal)) (⟨l.val + 32, by omega⟩ : Fin 128)).symm
    intro b
    match b with
    | ⟨0, _⟩ => rfl
    | ⟨1, _⟩ => show l.val + 32 = (l.val + 128 - 96 % 128) % 128; omega
  · rw [if_neg h, decide_eq_false h]
    refine (dynamicRotate_apply (1 : Fin 2) 32#32 X hr (ix2 r l) (ix2 r (⟨l.val - 32, by omega⟩ : Fin 128)) ?_).trans
      (ext_val (fun l : Fin 128 => (X (ix2 r l) : EReal)) (⟨l.val - 32, by omega⟩ : Fin 128)).symm
    intro b
    match b with
    | ⟨0, _⟩ => rfl
    | ⟨1, _⟩ => show l.val - 32 = (l.val + 128 - 32 % 128) % 128; omega

/-! ### A result stored a tile at a time -/

/-- The whole block of a result. -/
abbrev Blk : Shape := ⟨2, ![512, 4096]⟩

/-- The block whose tile at column `o` is `T o`. -/
def tiles (T : ℕ → Fin 512 → ℕ → EReal) (i : Blk.Idx) : EReal := T ((i 1).val / 128 * 128) (i 0) ((i 1).val % 128)

/-- Each stored piece is the tile its rectangle names. -/
def Agree (T : ℕ → Fin 512 → ℕ → EReal) (L : List (View.Piece (Elt Ideal) Blk .bf16)) : Prop :=
  ∀ p ∈ L, ∀ x : p.1.shape.Idx, (p.2 x : EReal) = tiles T (p.1.emb x)

theorem Agree.nil (T : ℕ → Fin 512 → ℕ → EReal) : Agree T [] := fun _ h => absurd h List.not_mem_nil

theorem Agree.cons {T : ℕ → Fin 512 → ℕ → EReal} {o : ℕ} {w : FVec Ideal Til .bf16} {L : List (View.Piece (Elt Ideal) Blk .bf16)}
    {inb : ∀ a, (![0, o] : Fin 2 → ℕ) a + Til.size a ≤ Blk.size a} (ho : o % 128 = 0)
    (hw : ∀ (r : Fin 512) (l : Fin 128), (w (ix2 r l) : EReal) = T o r l.val) (hL : Agree T L) :
    Agree T (⟨Rect.unit (s := Blk) ![0, o] Til.size inb, w⟩ :: L) := by
  intro p hp
  rcases List.mem_cons.mp hp with rfl | hp
  · intro x
    have hx : (x 1).val < 128 := (x 1).isLt
    have hx0 : (x 0).val < 512 := (x 0).isLt
    have e : x = ix2 (⟨(x 0).val, hx0⟩ : Fin 512) (⟨(x 1).val, hx⟩ : Fin 128) := funext fun a => match a with
      | ⟨0, _⟩ => rfl
      | ⟨1, _⟩ => rfl
    refine (congrArg w e).trans ((hw _ _).trans ?_)
    have e1 : (o + 1 * (x 1).val) / 128 * 128 = o := by omega
    have e2 : (o + 1 * (x 1).val) % 128 = (x 1).val := by omega
    have e0 : (⟨(x 0).val, hx0⟩ : Fin 512) = ⟨0 + 1 * (x 0).val, by omega⟩ := Fin.ext (by show (x 0).val = 0 + 1 * (x 0).val; omega)
    show T o _ (x 1).val = T ((o + 1 * (x 1).val) / 128 * 128) ⟨0 + 1 * (x 0).val, _⟩ ((o + 1 * (x 1).val) % 128)
    rw [e1, e2, ← e0]
  · exact hL p hp

end Cert.Rope
-- ==== Proof.QuerRef.lean ====
/-
  The projection of the queries as the reference writes it, read at a token and a column.
-/
module

public import proofs.«01_k».proof.Proof.Rope
public import proofs.«01_k».proof.Proof.Gen.Reference13Ideal.Read

@[expose] public section

set_option maxRecDepth 16384

noncomputable section

namespace Cert.QuerRef

open Idealize.ShloMosaic Idealize.ShloMosaic.TcCoe Idealize.ShloMosaic.ValueIdx Idealize.SL.Sem
open Cert.Mat Cert.Rope Cert.Reference13Ideal Cert.Reference13Ideal.Read

/-- The scale of the queries. -/
def scale : EReal := Idealize.ShloMosaic.Ideal.ofBits .f32 0x3DD53B95#32

/-- The cosines and the sines of a position. -/
def cosAt (p : Fin 8192) : ℕ → EReal := ext fun j : Fin 32 => (val_main_v16 (F := Ideal) (ix2 p j) : EReal)
def sinAt (p : Fin 8192) : ℕ → EReal := ext fun j : Fin 32 => (val_main_v17 (F := Ideal) (ix2 p j) : EReal)

variable (x0 : (⟨S16384x1152, .f32⟩ : BufTy).Contents (Elt Ideal)) (x1 : (⟨S1x512, .f32⟩ : BufTy).Contents (Elt Ideal))
  (x2 : (⟨S1x512x16x192, .f32⟩ : BufTy).Contents (Elt Ideal))

/-- A token's latents. -/
abbrev row (t : Fin 16384) (k : Fin 512) : EReal := x0 (ix2 t (⟨k.val, by omega⟩ : Fin 1152))

/-- A token's latents, normed. -/
abbrev norm (t : Fin 16384) (k : Fin 512) : EReal := rms (row x0 t) (x1 (ix2 (0 : Fin 1) k)) k

/-- The lanes of a token's head. -/
def head (t : Fin 16384) (h : Fin 16) : ℕ → EReal :=
  ext fun q : Fin 192 => ∑ k : Fin 512, norm x0 x1 t k * (x2 (ix4 (0 : Fin 1) k h q) : EReal)

/-- A lane of a head of the result: the first 128 as they are, the next 64 rotated, then zeros. -/
def query (t : Fin 16384) (p : Fin 8192) (h : Fin 16) (l : ℕ) : EReal :=
  (if l < 128 then head x0 x1 x2 t h l
   else if l - 128 < 64 then turned (fun n => head x0 x1 x2 t h (128 + n)) (cosAt p) (sinAt p) (l - 128) else 0) * scale

variable (t : Fin 16384) (b : Fin 2) (p : Fin 8192) (ht : t.val = b.val * 8192 + p.val)
include ht

theorem lat_apply (k : Fin 512) : val_main_v19 (F := Ideal) x0 (ix3 b p k) = row x0 t k := by
  rw [val_main_v19_apply, val_main_v18_apply]
  refine congrArg x0 (funext fun a => Fin.ext ?_)
  have hk := k.isLt
  match a with
  | ⟨0, _⟩ => show ((b.val * 8192 + p.val) * 1152 + k.val) / 1152 = t.val; omega
  | ⟨1, _⟩ => show ((b.val * 8192 + p.val) * 1152 + k.val) % 1152 = k.val; omega

theorem sums_apply : val_main_v22 (F := Ideal) x0 (ix2 b p) = ∑ k, row x0 t k * row x0 t k := by
  rw [val_main_v22_apply]
  refine (congrArg (fun y : EReal => y + _) Idealize.ShloMosaic.Ideal.ofBits_zero_f32).trans ((zero_add _).trans (Finset.sum_congr rfl fun k _ => ?_))
  rw [show idx_main_v22 (ix2 b p) k = ix3 b p k from funext fun a => match a with | ⟨0, _⟩ => rfl | ⟨1, _⟩ => rfl | ⟨2, _⟩ => rfl]
  show (val_main_v19 (F := Ideal) x0 (ix3 b p k) * val_main_v19 (F := Ideal) x0 (ix3 b p k) : EReal) = _
  rw [lat_apply x0 t b p ht]

theorem norm_apply (k : Fin 512) : val_main_v33 (F := Ideal) x0 x1 (ix3 b p k) = norm x0 x1 t k := by
  show (val_main_v19 (F := Ideal) x0 (ix3 b p k) * val_main_v29 (F := Ideal) x0 (ix3 b p k) : EReal) * val_main_v32 (F := Ideal) x1 (ix3 b p k) = _
  rw [lat_apply x0 t b p ht, val_main_v29_apply, val_main_v32_apply, val_main_v31_apply, val_main_v20_apply]
  have e : (val_main_v28 (F := Ideal) x0 (idx_main_v29 (ix3 b p k)) : EReal)
      = Ideal.rsqrt (Ideal.div (∑ k, row x0 t k * row x0 t k) width + eps) := by
    show Ideal.rsqrt (Ideal.div (val_main_v23 (F := Ideal) x0 (idx_main_v29 (ix3 b p k))) width + eps : EReal) = _
    rw [val_main_v23_apply, show idx_main_v23 (idx_main_v29 (ix3 b p k)) = ix2 b p from funext fun a => match a with | ⟨0, _⟩ => rfl | ⟨1, _⟩ => rfl,
      sums_apply x0 t b p ht]
  rw [e]
  refine congrArg (fun y : EReal => _ * y) (congrArg x1 (funext fun a => Fin.ext ?_))
  match a with
  | ⟨0, _⟩ => rfl
  | ⟨1, _⟩ => exact Nat.mod_eq_of_lt k.isLt

theorem proj_apply (h : Fin 16) (q : Fin 192) : val_main_v35 (F := Ideal) x0 x1 x2 (ix4 b p h q) = head x0 x1 x2 t h q.val := by
  rw [val_main_v35_apply]
  refine Eq.trans (Finset.sum_congr rfl fun k _ => ?_) (ext_val (fun q : Fin 192 => ∑ k : Fin 512, norm x0 x1 t k * (x2 (ix4 (0 : Fin 1) k h q) : EReal)) q).symm
  rw [show lidx_main_v35 (ix4 b p h q) k = ix3 b p k from funext fun a => match a with | ⟨0, _⟩ => rfl | ⟨1, _⟩ => rfl | ⟨2, _⟩ => rfl,
    norm_apply x0 x1 t b p ht, val_main_v34_apply]
  refine congrArg (fun y : EReal => norm x0 x1 t k * y) (congrArg x2 (funext fun a => Fin.ext ?_))
  have hk := k.isLt
  have hh := h.isLt
  have hq := q.isLt
  match a with
  | ⟨0, _⟩ => rfl
  | ⟨1, _⟩ => show ((k.val * 16 + h.val) * 192 + q.val) / 3072 % 512 = k.val; omega
  | ⟨2, _⟩ => show ((k.val * 16 + h.val) * 192 + q.val) / 192 % 16 = h.val; omega
  | ⟨3, _⟩ => show ((k.val * 16 + h.val) * 192 + q.val) % 192 = q.val; omega

/-- The lanes of a head from the 129th on. -/
theorem pe_apply (h : Fin 16) (j : Fin 64) :
    val_main_v37 (F := Ideal) x0 x1 x2 (ix4 b p h j) = head x0 x1 x2 t h (128 + j.val) := by
  rw [val_main_v37_apply]
  refine Eq.trans (congrArg (val_main_v35 (F := Ideal) x0 x1 x2) (funext fun a => ?_)) (proj_apply x0 x1 x2 t b p ht h ⟨128 + j.val, by omega⟩)
  match a with | ⟨0, _⟩ => rfl | ⟨1, _⟩ => rfl | ⟨2, _⟩ => rfl | ⟨3, _⟩ => rfl

theorem fst_apply (h : Fin 16) (j : Fin 32) :
    val_main_v40 (F := Ideal) x0 x1 x2 (ix4 b p h j) = head x0 x1 x2 t h (128 + j.val) := by
  rw [val_main_v40_apply]
  refine Eq.trans (congrArg (val_main_v37 (F := Ideal) x0 x1 x2) (funext fun a => ?_)) (pe_apply x0 x1 x2 t b p ht h ⟨j.val, by omega⟩)
  match a with | ⟨0, _⟩ => rfl | ⟨1, _⟩ => rfl | ⟨2, _⟩ => rfl | ⟨3, _⟩ => rfl

theorem snd_apply (h : Fin 16) (j : Fin 32) :
    val_main_v41 (F := Ideal) x0 x1 x2 (ix4 b p h j) = head x0 x1 x2 t h (128 + (j.val + 32)) := by
  rw [val_main_v41_apply, Nat.add_comm j.val 32]
  refine Eq.trans (congrArg (val_main_v37 (F := Ideal) x0 x1 x2) (funext fun a => ?_)) (pe_apply x0 x1 x2 t b p ht h ⟨32 + j.val, by omega⟩)
  match a with | ⟨0, _⟩ => rfl | ⟨1, _⟩ => rfl | ⟨2, _⟩ => rfl | ⟨3, _⟩ => rfl

omit ht in
theorem cos_apply (h : Fin 16) (j : Fin 32) : val_main_v43 (F := Ideal) (ix4 b p h j) = cosAt p j.val := by
  rw [val_main_v43_apply, val_main_v42_apply, val_main_v38_apply]
  refine Eq.trans (congrArg (val_main_v16 (F := Ideal)) (funext fun a => ?_)) (ext_val (fun j : Fin 32 => (val_main_v16 (F := Ideal) (ix2 p j) : EReal)) j).symm
  match a with | ⟨0, _⟩ => rfl | ⟨1, _⟩ => rfl

omit ht in
theorem sin_apply (h : Fin 16) (j : Fin 32) : val_main_v46 (F := Ideal) (ix4 b p h j) = sinAt p j.val := by
  rw [val_main_v46_apply, val_main_v45_apply, val_main_v39_apply]
  refine Eq.trans (congrArg (val_main_v17 (F := Ideal)) (funext fun a => ?_)) (ext_val (fun j : Fin 32 => (val_main_v17 (F := Ideal) (ix2 p j) : EReal)) j).symm
  match a with | ⟨0, _⟩ => rfl | ⟨1, _⟩ => rfl

/-- The rotated lanes of a head. -/
theorem turned_eq (h : Fin 16) (j : Fin 64) : val_main_v56 (F := Ideal) x0 x1 x2 (ix4 b p h j)
    = turned (fun n => head x0 x1 x2 t h (128 + n)) (cosAt p) (sinAt p) j.val := by
  unfold turned val_main_v56
  rcases Nat.lt_or_ge j.val 32 with hj | hj
  · rw [if_pos hj]
    refine (concatenate_pair_apply_left (3 : Fin 4) (val_main_v48 (F := Ideal) x0 x1 x2) (val_main_v55 (F := Ideal) x0 x1 x2) _ (ix4 b p h j) rfl (ix4 b p h (⟨j.val, hj⟩ : Fin 32)) ?_).trans ?_
    · intro a; match a with | ⟨0, _⟩ => rfl | ⟨1, _⟩ => rfl | ⟨2, _⟩ => rfl | ⟨3, _⟩ => rfl
    · show (val_main_v40 (F := Ideal) x0 x1 x2 _ * val_main_v43 (F := Ideal) _ - val_main_v41 (F := Ideal) x0 x1 x2 _ * val_main_v46 (F := Ideal) _ : EReal) = _
      rw [fst_apply x0 x1 x2 t b p ht, snd_apply x0 x1 x2 t b p ht, cos_apply, sin_apply]
  · rw [if_neg (Nat.not_lt.2 hj)]
    refine (concatenate_pair_apply_right (3 : Fin 4) (val_main_v48 (F := Ideal) x0 x1 x2) (val_main_v55 (F := Ideal) x0 x1 x2) _ (ix4 b p h j) rfl rfl (ix4 b p h (⟨j.val - 32, by omega⟩ : Fin 32)) ?_ ?_).trans ?_
    · intro a ha; match a with | ⟨0, _⟩ => rfl | ⟨1, _⟩ => rfl | ⟨2, _⟩ => rfl | ⟨3, _⟩ => exact absurd rfl ha
    · show j.val - 32 + 32 = j.val; omega
    · show (val_main_v40 (F := Ideal) x0 x1 x2 _ * val_main_v46 (F := Ideal) _ + val_main_v41 (F := Ideal) x0 x1 x2 _ * val_main_v43 (F := Ideal) _ : EReal) = _
      rw [fst_apply x0 x1 x2 t b p ht, snd_apply x0 x1 x2 t b p ht, cos_apply, sin_apply]
      rw [show j.val - 32 + 32 = j.val by omega]

/-- The lanes of a head before the scale. -/
theorem joined_apply (h : Fin 16) (q : Fin 192) : val_main_v57 (F := Ideal) x0 x1 x2 (ix4 b p h q)
    = if q.val < 128 then head x0 x1 x2 t h q.val else turned (fun n => head x0 x1 x2 t h (128 + n)) (cosAt p) (sinAt p) (q.val - 128) := by
  unfold val_main_v57
  rcases Nat.lt_or_ge q.val 128 with hq | hq
  · rw [if_pos hq]
    refine (concatenate_pair_apply_left (3 : Fin 4) (val_main_v36 (F := Ideal) x0 x1 x2) (val_main_v56 (F := Ideal) x0 x1 x2) _ (ix4 b p h q) rfl (ix4 b p h (⟨q.val, hq⟩ : Fin 128)) ?_).trans ?_
    · intro a; match a with | ⟨0, _⟩ => rfl | ⟨1, _⟩ => rfl | ⟨2, _⟩ => rfl | ⟨3, _⟩ => rfl
    · rw [val_main_v36_apply]
      refine Eq.trans (congrArg (val_main_v35 (F := Ideal) x0 x1 x2) (funext fun a => ?_)) (proj_apply x0 x1 x2 t b p ht h q)
      match a with | ⟨0, _⟩ => rfl | ⟨1, _⟩ => rfl | ⟨2, _⟩ => rfl | ⟨3, _⟩ => rfl
  · rw [if_neg (Nat.not_lt.2 hq)]
    refine (concatenate_pair_apply_right (3 : Fin 4) (val_main_v36 (F := Ideal) x0 x1 x2) (val_main_v56 (F := Ideal) x0 x1 x2) _ (ix4 b p h q) rfl rfl (ix4 b p h (⟨q.val - 128, by omega⟩ : Fin 64)) ?_ ?_).trans
      (turned_eq x0 x1 x2 t b p ht h ⟨q.val - 128, by omega⟩)
    · intro a ha; match a with | ⟨0, _⟩ => rfl | ⟨1, _⟩ => rfl | ⟨2, _⟩ => rfl | ⟨3, _⟩ => exact absurd rfl ha
    · show q.val - 128 + 128 = q.val; omega

/-- The reference's result at a token and a column. -/
theorem ref_apply (n : Fin 4096) (h : Fin 16) (hn : n.val / 256 = h.val) :
    val_main_v62 (F := Ideal) x0 x1 x2 (ix2 t n) = query x0 x1 x2 t p h (n.val % 256) := by
  have hnl := n.isLt
  have hh := h.isLt
  have hp := p.isLt
  have hb := b.isLt
  show (val_main_v61 (F := Ideal) x0 x1 x2 (ix2 t n) : EReal) = _
  rw [val_main_v61_apply]
  have e : idx_main_v61 (ix2 t n) = ix4 b p h (⟨n.val % 256, by omega⟩ : Fin 256) := funext fun a => Fin.ext (by
    match a with
    | ⟨0, _⟩ => show (t.val * 4096 + n.val) / 33554432 = b.val; omega
    | ⟨1, _⟩ => show (t.val * 4096 + n.val) / 4096 % 8192 = p.val; omega
    | ⟨2, _⟩ => show (t.val * 4096 + n.val) / 256 % 16 = h.val; omega
    | ⟨3, _⟩ => show (t.val * 4096 + n.val) % 256 = n.val % 256; omega)
  rw [e]
  unfold query val_main_v60
  rcases Nat.lt_or_ge (n.val % 256) 192 with hl | hl
  · refine (pad_apply_of_inside _ _ _ _ _ _ _ _ (ix4 b p h (⟨n.val % 256, hl⟩ : Fin 192)) ?_).trans ?_
    · intro a
      match a with
      | ⟨0, _⟩ => show b.val = 0 + b.val * (0 + 1); omega
      | ⟨1, _⟩ => show p.val = 0 + p.val * (0 + 1); omega
      | ⟨2, _⟩ => show h.val = 0 + h.val * (0 + 1); omega
      | ⟨3, _⟩ => show n.val % 256 = 0 + n.val % 256 * (0 + 1); omega
    · show (val_main_v57 (F := Ideal) x0 x1 x2 (ix4 b p h (⟨n.val % 256, hl⟩ : Fin 192)) : EReal) * scale = _
      rw [joined_apply x0 x1 x2 t b p ht, if_pos (show n.val % 256 - 128 < 64 by omega)]
  · refine (pad_apply_of_not_inside _ _ _ _ _ _ _ _ (3 : Fin 4) ?_).trans ?_
    · intro hin
      have h2 : (n.val % 256 - 0) / (0 + 1) < 192 := hin.2.2
      omega
    · rw [if_neg (show ¬ n.val % 256 < 128 by omega), if_neg (show ¬ n.val % 256 - 128 < 64 by omega), zero_mul]
      exact Cert.Proj.zero_float _

end Cert.QuerRef
-- ==== Proof.Quer.lean ====
/-
  The projection of the queries: the normed latents times the weights, head by head, with the last 64 of a head's
  192 lanes rotated by position, every lane scaled, and each head padded to 256 lanes.
-/
module

public import proofs.«01_k».proof.Proof.Rope
public import proofs.«01_k».proof.Proof.Gen.Kernel13Ideal.Value
public import proofs.«01_k».proof.Proof.QuerRef

@[expose] public section

set_option maxRecDepth 16384

noncomputable section

namespace Cert.Quer

open Idealize.ShloMosaic Idealize.ShloMosaic.TcCoe Idealize.ShloMosaic.ValueIdx Idealize.SL.Sem
open Cert.Mat Cert.Rope Cert.QuerRef Cert.Kernel13Ideal Cert.Kernel13Ideal.Gen

/-! ### A block of the result -/

/-- The tile of the result at column `o`: every second one is of rotated lanes. -/
def tile (D : FVec Ideal S512x4096 .f32) (C S : FVec Ideal S512x128 .f32) (o : ℕ) (r : Fin 512) (l : ℕ) : EReal :=
  if o % 256 = 0 then ext (fun n : Fin 4096 => (D (ix2 r n) : EReal)) (o + l) * scale
  else lane (fun l => ext (fun n : Fin 4096 => (D (ix2 r n) : EReal)) (o + l)) (lanes C r) (lanes S r) l * scale

variable (D : FVec Ideal S512x4096 .f32) (C S : FVec Ideal S512x128 .f32)

theorem plain {o : ℕ} (h : o % 256 = 0) (ho : o + 128 ≤ 4096) (hs : S512x4096.Slices ![0, o] S512x128) (hb : FTy.bf16.bits < FTy.f32.bits)
    (r : Fin 512) (l : Fin 128) :
    (truncf (F := Ideal) .bf16 (mulf (extractStridedSlice S512x128 ![0, o] D hs) (broadcast S512x128 (Scalar.ofBits (F := Ideal) .f32 0x3DD53B95#32))) hb
      (ix2 r l) : EReal) = tile D C S o r l.val := by
  unfold tile
  rw [if_pos h, ← cut_apply D hs r l]
  rfl

theorem rotated {o : ℕ} (h : o % 256 = 128) (ho : o + 128 ≤ 4096) (h1 : S512x128.Iotas .tc 32 [1]) (hr : S512x128.Rotates 1 none)
    (hs : S512x4096.Slices ![0, o] S512x128) (hb : FTy.bf16.bits < FTy.f32.bits) (r : Fin 512) (l : Fin 128) :
    (truncf (F := Ideal) .bf16 (mulf (turn h1 hr (extractStridedSlice S512x128 ![0, o] D hs) C S)
      (broadcast S512x128 (Scalar.ofBits (F := Ideal) .f32 0x3DD53B95#32))) hb (ix2 r l) : EReal) = tile D C S o r l.val := by
  unfold tile
  rw [if_neg (by omega)]
  refine congrArg (fun y : EReal => y * scale) ((turn_apply h1 hr _ C S r l).trans (lane_congr _ _ _ _ _ l.isLt fun n hn => ?_))
  exact (lanes_val _ r ⟨n, hn⟩).trans (cut_apply D hs r ⟨n, hn⟩)

/-- What a grid point stores, from the arrays it reads. -/
theorem out_apply (c : Dev nD) (i : grid0.Coords) (arg1 : Memref sig .tc .vmem S512x512 .f32) (harg1 : arg1.IsWhole)
    (arg2 : Memref sig .tc .vmem S1x512 .f32) (harg2 : arg2.IsWhole) (arg3 : Memref sig .tc .vmem S512x4096 .bf16) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x4096 .bf16) (harg6 : arg6.IsWhole)
    (x0 : Vec Ideal S512x512 .f32) (x1 : Vec Ideal S1x512 .f32) (x2 : Vec Ideal S512x4096 .bf16) (x3 x4 : Vec Ideal S512x128 .f32)
    (y : S512x4096.Idx) :
    out0_A_5 c i arg1 harg1 arg2 harg2 arg3 harg3 arg4 harg4 arg5 harg5 arg6 harg6 x0 x1 x2 x3 x4 y
      = tiles (tile (k0_pay4 x0 x1 x2) x3 x4) y := by
  have cov := cover0_A_5 (F := Ideal) c i arg1 harg1 arg2 harg2 arg3 harg3 arg4 harg4 arg5 harg5 arg6 harg6 x0 x1 x2 x3 x4 y
  have e0 : kernelRun0_A.sl.r c arg1 harg1 arg2 harg2 arg3 harg3 x0 x1 x2 = k0_pay4 (F := Ideal) x0 x1 x2 := by
    unfold kernelRun0_A.sl.r
    rw [whole_read harg1 x0 zeros, whole_read harg2 x1 zeros, whole_read harg3 x2 zeros]
  have e1 : kernelRun0_A.sl.r_1 c arg4 harg4 x3 = x3 := by
    unfold kernelRun0_A.sl.r_1 k0_pay5
    rw [whole_read harg4 x3 zeros, shapeCast_self]
  have e2 : kernelRun0_A.sl.r_2 c arg5 harg5 x4 = x4 := by
    unfold kernelRun0_A.sl.r_2 k0_pay6
    rw [whole_read harg5 x4 zeros, shapeCast_self]
  have key : out0_A_5 c i arg1 harg1 arg2 harg2 arg3 harg3 arg4 harg4 arg5 harg5 arg6 harg6 x0 x1 x2 x3 x4 y
      = tiles (tile (kernelRun0_A.sl.r c arg1 harg1 arg2 harg2 arg3 harg3 x0 x1 x2) (kernelRun0_A.sl.r_1 c arg4 harg4 x3)
        (kernelRun0_A.sl.r_2 c arg5 harg5 x4)) y := by
    unfold out0_A_5
    rw [View.read_writes_junk_apply_eq_canon]
    refine View.canon_apply_of_pieces _ _ ?_ y cov
    unfold kernelRun0_A
    change Agree _ _
    iterate 16
      refine Agree.cons rfl (rotated _ _ _ rfl (by decide) iota_S512x128_d1_w32 rotates_S512x128_d1 _ bitsLt_bf16_f32)
        (Agree.cons rfl (plain _ _ _ rfl (by decide) _ bitsLt_bf16_f32) ?_)
    exact Agree.nil _
  rw [key, e0, e1, e2]

/-! ### The arrays the windows stage -/

variable (m : (ℓ : Loc nD τ sig) → Buf (Elt Ideal) ℓ) (c : Dev nD)

/-- The latents, the norm's weights and the projection's weights of device `c`. -/
abbrev ax : (⟨S16384x1152, .f32⟩ : BufTy).Contents (Elt Ideal) := m ((c.tc : Thread nD τ).loc main_arg0)
abbrev ag : (⟨S1x512, .f32⟩ : BufTy).Contents (Elt Ideal) := m ((c.tc : Thread nD τ).loc main_arg1)
abbrev aw : (⟨S1x512x16x192, .f32⟩ : BufTy).Contents (Elt Ideal) := m ((c.tc : Thread nD τ).loc main_arg2)

/-- The cosines, the sines and zeros, as arrays. -/
abbrev cosT : S8192x32.Idx → EReal := Cert.Reference13Ideal.Read.val_main_v16 (F := Ideal)
abbrev sinT : S8192x32.Idx → EReal := Cert.Reference13Ideal.Read.val_main_v17 (F := Ideal)
abbrev zeroT : S8192x64.Idx → EReal := broadcastInDim S8192x64 ![] bcast_S_S8192x64 (constant (F := Ideal) S_ .f32 0x00000000#32)

theorem host0 : V m c (Pipeline.arrRef spec0 0) = ax m c := V_main_arg0 m c

theorem host1 : V m c (Pipeline.arrRef spec0 1) = shapeCast S1x512 (shapeCast S512 (ag m c) shapeCasts_S1x512_S512) shapeCasts_S512_S1x512 := by
  show StableHlo.after (List.flatten [hostOps0, hostOps0_1, hostOps0_2]) _ _ = _
  after_results_simp <;> rfl

/-- The projection's weights, each head's columns followed by 64 of zeros. -/
abbrev padded : S512x16x256.Idx → EReal := pad S512x16x256 ![0, 0, 0] ![0, 0, 64] ![0, 0, 0]
    (shapeCast S512x16x192 (aw m c) shapeCasts_S1x512x16x192_S512x16x192)
    (sitofp (F := Ideal) .f32 (constantI S_ 32 0#32)) pads_S512x16x192_S512x16x256_000_000_0640 h_S_

theorem host2 : V m c (Pipeline.arrRef spec0 2) = truncf (F := Ideal) (φ := .f32) .bf16
    (shapeCast S512x4096 (padded m c) shapeCasts_S512x16x256_S512x4096) bitsLt_bf16_f32 := by
  show StableHlo.after (List.flatten [hostOps0, hostOps0_1, hostOps0_2]) _ _ = _
  after_results_simp <;> rfl

theorem host3 : V m c (Pipeline.arrRef spec0 3)
    = concatenate S8192x128 1 (three cosT cosT zeroT) concatenates_S8192x32_S8192x32_S8192x64_S8192x128_d1 := by
  show StableHlo.after (List.flatten [hostOps0, hostOps0_1, hostOps0_2]) _ _ = _
  after_results_simp <;> rfl

theorem host4 : V m c (Pipeline.arrRef spec0 4)
    = concatenate S8192x128 1 (three (Host.negf (F := Ideal) (φ := .f32) sinT) sinT zeroT) concatenates_S8192x32_S8192x32_S8192x64_S8192x128_d1 := by
  show StableHlo.after (List.flatten [hostOps0, hostOps0_1, hostOps0_2]) _ _ = _
  after_results_simp <;> rfl

theorem index : ∀ t : Fin grid0.N,
    (win0_0.index t 0 = (grid0.coords t 0).val ∧ win0_0.index t 1 = 0)
    ∧ (win0_1.index t 0 = 0 ∧ win0_1.index t 1 = 0)
    ∧ (win0_2.index t 0 = 0 ∧ win0_2.index t 1 = 0)
    ∧ (win0_3.index t 0 = (grid0.coords t 0).val % 16 ∧ win0_3.index t 1 = 0)
    ∧ (win0_4.index t 0 = (grid0.coords t 0).val % 16 ∧ win0_4.index t 1 = 0)
    ∧ (win0_5.index t 0 = (grid0.coords t 0).val ∧ win0_5.index t 1 = 0) := by decide +kernel

/-- A block of the latents. -/
theorem blk0 (t : Fin cfg0.N) (r k : Fin 512) (u : Fin 16384) (hu : u.val = (grid0.coords t 0).val * 512 + r.val) :
    X0_0 m c t (ix2 r k) = row (ax m c) u k := by
  obtain ⟨⟨e0, e1⟩, -⟩ := index t
  unfold X0_0 Pipeline.Window.fill
  rw [dif_pos (moved0_0 t (ix2 r k))]
  refine Eq.trans (b := V m c (Pipeline.arrRef spec0 0) (ix2 u (⟨k.val, by omega⟩ : Fin 1152))) ?_ (congrFun (host0 m c) _)
  refine congrArg (V m c (Pipeline.arrRef spec0 0)) (funext fun a => Fin.ext ?_)
  match a with
  | ⟨0, _⟩ => show win0_0.index t 0 * 512 + 1 * r.val = u.val; rw [e0, hu, Nat.one_mul]
  | ⟨1, _⟩ => show win0_0.index t 1 * 512 + 1 * k.val = k.val; rw [e1, Nat.zero_mul, Nat.zero_add, Nat.one_mul]

/-- The norm's weights. -/
theorem blk1 (t : Fin cfg0.N) (k : Fin 512) : iblk m c 1 t (ix2 (0 : Fin 1) k) = ag m c (ix2 (0 : Fin 1) k) := by
  obtain ⟨-, ⟨e0, e1⟩, -⟩ := index t
  refine Eq.trans (b := V m c (Pipeline.arrRef spec0 1) (ix2 (0 : Fin 1) k)) ?_ ((congrFun (host1 m c) _).trans ?_)
  · refine congrArg (V m c (Pipeline.arrRef spec0 1)) (funext fun a => Fin.ext ?_)
    match a with
    | ⟨0, _⟩ => show win0_1.index t 0 * 1 + 1 * 0 = 0; rw [e0]
    | ⟨1, _⟩ => show win0_1.index t 1 * 512 + 1 * k.val = k.val; rw [e1, Nat.zero_mul, Nat.zero_add, Nat.one_mul]
  · rw [shapeCast_shapeCast]

/-- The projection's weights: a head's 192 columns and 64 of zeros. -/
theorem blk2 (t : Fin cfg0.N) (k : Fin 512) (n : Fin 4096) (h : Fin 16) (hn : n.val / 256 = h.val) :
    iblk m c 2 t (ix2 k n) = ext (fun q : Fin 192 => (aw m c (ix4 (0 : Fin 1) k h q) : EReal)) (n.val % 256) := by
  obtain ⟨-, -, ⟨e0, e1⟩, -⟩ := index t
  have hk := k.isLt
  have hh := h.isLt
  have e : V m c (Pipeline.arrRef spec0 2) (ix2 k n) = shapeCast S512x4096 (padded m c) shapeCasts_S512x16x256_S512x4096 (ix2 k n) :=
    congrFun (host2 m c) _
  refine Eq.trans (b := V m c (Pipeline.arrRef spec0 2) (ix2 k n)) ?_ (e.trans ?_)
  · refine congrArg (V m c (Pipeline.arrRef spec0 2)) (funext fun a => Fin.ext ?_)
    match a with
    | ⟨0, _⟩ => show win0_2.index t 0 * 512 + 1 * k.val = k.val; rw [e0, Nat.zero_mul, Nat.zero_add, Nat.one_mul]
    | ⟨1, _⟩ => show win0_2.index t 1 * 4096 + 1 * n.val = n.val; rw [e1, Nat.zero_mul, Nat.zero_add, Nat.one_mul]
  · refine (shapeCast_apply _ shapeCasts_S512x16x256_S512x4096 (ix2 k n) (ix3 k h (⟨n.val % 256, by omega⟩ : Fin 256)) ?_).trans ?_
    · rw [Shape.rowMajor_val_two, Shape.rowMajor_val_three]
      show (k.val * 16 + h.val) * 256 + n.val % 256 = k.val * 4096 + n.val
      omega
    rcases Nat.lt_or_ge (n.val % 256) 192 with hl | hl
    · refine (pad_apply_of_inside _ _ _ _ _ _ _ _ (ix3 k h (⟨n.val % 256, hl⟩ : Fin 192)) ?_).trans ?_
      · intro a
        match a with
        | ⟨0, _⟩ => show k.val = 0 + k.val * (0 + 1); omega
        | ⟨1, _⟩ => show h.val = 0 + h.val * (0 + 1); omega
        | ⟨2, _⟩ => show n.val % 256 = 0 + n.val % 256 * (0 + 1); omega
      · refine (shapeCast_apply _ shapeCasts_S1x512x16x192_S512x16x192 _ (ix4 (0 : Fin 1) k h (⟨n.val % 256, hl⟩ : Fin 192)) ?_).trans
          (ext_val (fun q : Fin 192 => (aw m c (ix4 (0 : Fin 1) k h q) : EReal)) (⟨n.val % 256, hl⟩ : Fin 192)).symm
        rw [Shape.rowMajor_val_four, Shape.rowMajor_val_three]
        show ((0 * 512 + k.val) * 16 + h.val) * 192 + n.val % 256 = (k.val * 16 + h.val) * 192 + n.val % 256
        omega
    · refine (pad_apply_of_not_inside _ _ _ _ _ _ _ _ (2 : Fin 3) ?_).trans ?_
      · intro hin
        have h2 : (n.val % 256 - 0) / (0 + 1) < 192 := hin.2.2
        omega
      · rw [ext_of_le _ _ hl]
        exact Cert.Proj.zero_float _

theorem zero_apply (i : S8192x64.Idx) : zeroT i = 0 := Idealize.ShloMosaic.Ideal.ofBits_zero_f32

/-- The two tables at a row of a block. -/
theorem blk3 (t : Fin cfg0.N) (r : Fin 512) (l : ℕ) (hl : l < 128) (p : Fin 8192) (hp : p.val = (grid0.coords t 0).val % 16 * 512 + r.val) :
    lanes (iblk m c 3 t) r l = two (cosAt p) (cosAt p) l := by
  obtain ⟨-, -, -, ⟨e0, e1⟩, -⟩ := index t
  refine (lanes_val (iblk m c 3 t) r ⟨l, hl⟩).trans ?_
  refine Eq.trans (b := V m c (Pipeline.arrRef spec0 3) (ix2 p (⟨l, hl⟩ : Fin 128))) ?_
    ((congrFun (host3 m c) _).trans (table_apply cosT cosT zeroT zero_apply _ p ⟨l, hl⟩))
  refine congrArg (V m c (Pipeline.arrRef spec0 3)) (funext fun a => Fin.ext ?_)
  match a with
  | ⟨0, _⟩ => show win0_3.index t 0 * 512 + 1 * r.val = p.val; rw [e0, hp, Nat.one_mul]
  | ⟨1, _⟩ => show win0_3.index t 1 * 128 + 1 * l = l; rw [e1, Nat.zero_mul, Nat.zero_add, Nat.one_mul]

theorem neg_ext (p : Fin 8192) : (ext fun j : Fin 32 => (Host.negf (F := Ideal) (φ := .f32) sinT (ix2 p j) : EReal)) = fun n => -sinAt p n := by
  funext n
  unfold sinAt ext
  by_cases h : n < 32
  · rw [dif_pos h, dif_pos h]
    rfl
  · rw [dif_neg h, dif_neg h, neg_zero]

theorem blk4 (t : Fin cfg0.N) (r : Fin 512) (l : ℕ) (hl : l < 128) (p : Fin 8192) (hp : p.val = (grid0.coords t 0).val % 16 * 512 + r.val) :
    lanes (iblk m c 4 t) r l = two (fun n => -sinAt p n) (sinAt p) l := by
  obtain ⟨-, -, -, -, ⟨e0, e1⟩, -⟩ := index t
  refine (lanes_val (iblk m c 4 t) r ⟨l, hl⟩).trans ?_
  rw [← neg_ext]
  refine Eq.trans (b := V m c (Pipeline.arrRef spec0 4) (ix2 p (⟨l, hl⟩ : Fin 128))) ?_
    ((congrFun (host4 m c) _).trans (table_apply (Host.negf (F := Ideal) (φ := .f32) sinT) sinT zeroT zero_apply _ p ⟨l, hl⟩))
  refine congrArg (V m c (Pipeline.arrRef spec0 4)) (funext fun a => Fin.ext ?_)
  match a with
  | ⟨0, _⟩ => show win0_4.index t 0 * 512 + 1 * r.val = p.val; rw [e0, hp, Nat.one_mul]
  | ⟨1, _⟩ => show win0_4.index t 1 * 128 + 1 * l = l; rw [e1, Nat.zero_mul, Nat.zero_add, Nat.one_mul]

/-! ### The result -/

/-- What the norm of a block needs of its shapes. -/
theorem shapes : Ev := ⟨reduces_S512x512_S512, shapeCasts_S512_S512x1, broadcasts_S512x1_S512x512, broadcasts_S1x512_S512x512⟩

/-- The product of a block at a row and a column is the head's lane. -/
theorem head_eq (t : Fin cfg0.N) (r : Fin 512) (n : Fin 4096) (u : Fin 16384) (hu : u.val = (grid0.coords t 0).val * 512 + r.val)
    (h : Fin 16) (hn : n.val / 256 = h.val) :
    k0_pay4 (F := Ideal) (X0_0 m c t) (iblk m c 1 t) (iblk m c 2 t) (ix2 r n) = head (ax m c) (ag m c) (aw m c) u h (n.val % 256) := by
  unfold k0_pay4
  simp only [shapeCast_self]
  refine (prod_apply shapes _ rfl _ _ _ bitsLt_bf16_f32 r n _ _ _ (fun k => blk0 m c t r k u hu) (fun k => blk1 m c t k)
    (fun k => blk2 m c t k n h hn)).trans ?_
  unfold head
  rcases Nat.lt_or_ge (n.val % 256) 192 with hl | hl
  · unfold ext
    rw [dif_pos hl]
    exact Finset.sum_congr rfl fun k _ => by rw [dif_pos hl]
  · rw [ext_of_le _ _ hl]
    exact Finset.sum_eq_zero fun k _ => by rw [ext_of_le _ _ hl, mul_zero]

/-- The queries of device `c`'s arguments, as the reference computes them. -/
abbrev queries : Buf (Elt Ideal) ((c : Thread nD τ).loc main_v28) :=
  Cert.Reference13Ideal.Read.val_main_v62 (F := Ideal) (ax m c) (ag m c) (aw m c)

/-- What a grid point stores at a row and a column of its block. -/
theorem point_eq (t : Fin cfg0.N) (r : Fin 512) (n : Fin 4096) (u : Fin 16384) (hu : u.val = (grid0.coords t 0).val * 512 + r.val) :
    tiles (tile (k0_pay4 (F := Ideal) (X0_0 m c t) (iblk m c 1 t) (iblk m c 2 t)) (iblk m c 3 t) (iblk m c 4 t)) (ix2 r n)
      = queries m c (ix2 u n) := by
  have hul := u.isLt
  have hr := r.isLt
  have hn := n.isLt
  have hp : u.val % 8192 = (grid0.coords t 0).val % 16 * 512 + r.val := by omega
  refine Eq.trans ?_ (ref_apply (ax m c) (ag m c) (aw m c) u ⟨u.val / 8192, by omega⟩ ⟨u.val % 8192, by omega⟩ (by show u.val = u.val / 8192 * 8192 + u.val % 8192; omega)
    n ⟨n.val / 256, by omega⟩ rfl).symm
  show tile _ _ _ (n.val / 128 * 128) r (n.val % 128) = _
  have hD : ∀ l, l < 128 → ext (fun n : Fin 4096 => (k0_pay4 (F := Ideal) (X0_0 m c t) (iblk m c 1 t) (iblk m c 2 t) (ix2 r n) : EReal)) (n.val / 128 * 128 + l)
      = head (ax m c) (ag m c) (aw m c) u ⟨n.val / 256, by omega⟩ ((n.val / 128 * 128 + l) % 256) := fun l hl =>
    (ext_val (fun n : Fin 4096 => (k0_pay4 (F := Ideal) (X0_0 m c t) (iblk m c 1 t) (iblk m c 2 t) (ix2 r n) : EReal)) (⟨n.val / 128 * 128 + l, by omega⟩ : Fin 4096)).trans
      (head_eq m c t r ⟨n.val / 128 * 128 + l, by omega⟩ u hu _ (by show (n.val / 128 * 128 + l) / 256 = n.val / 256; omega))
  have hl : n.val % 128 < 128 := by omega
  unfold tile query
  by_cases ho : n.val / 128 * 128 % 256 = 0
  · rw [if_pos ho, if_pos (show n.val % 256 < 128 by omega), hD _ hl, show (n.val / 128 * 128 + n.val % 128) % 256 = n.val % 256 by omega]
  · rw [if_neg ho, if_neg (show ¬ n.val % 256 < 128 by omega), show n.val % 256 - 128 = n.val % 128 by omega]
    refine congrArg (fun y : EReal => y * scale) ((lane_eq _ _ _ _ _ _ (blk3 m c t r _ hl ⟨u.val % 8192, by omega⟩ hp)
      (blk4 m c t r _ hl ⟨u.val % 8192, by omega⟩ hp)).trans ?_)
    by_cases h : n.val % 128 < 64
    · rw [if_pos h, if_pos h]
      refine turned_congr _ _ _ _ _ h fun l hl => (hD l hl).trans ?_
      rw [show (n.val / 128 * 128 + l) % 256 = 128 + l by omega]
    · rw [if_neg h, if_neg h]

theorem c0 (t : Fin grid0.N) : (grid0.coords t 0).val < 32 := (grid0.coords t 0).isLt

/-- What a grid point writes back is its block of the result. -/
theorem flushed_eq (t : Fin cfg0.N) :
    (dats m 0 c).flushed 5 t = (win0_5.blk t).view.read (Elt Ideal) (queries m c) := by
  rw [Cert.Kernel13Ideal.Value.flushed5_A]
  obtain ⟨-, -, -, -, -, ⟨e0, e1⟩⟩ := index t
  have h1 := c0 t
  funext y
  have hy0 : (y 0).val < 512 := (y 0).isLt
  have hy1 : (y 1).val < 4096 := (y 1).isLt
  refine Eq.trans (b := out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (X0_0 m c t) (iblk m c 1 t) (iblk m c 2 t) (iblk m c 3 t) (iblk m c 4 t) (ix2 ⟨(y 0).val, hy0⟩ ⟨(y 1).val, hy1⟩)) ?_ ?_
  · show out0_A_5 _ _ _ _ _ _ _ _ _ _ _ _ _ _ _ _ _ _ _ _ = _
    refine congrArg _ (funext fun a => Fin.ext ?_)
    match a with
    | ⟨0, _⟩ => rfl
    | ⟨1, _⟩ => rfl
  · rw [out_apply]
    refine (point_eq m c t ⟨(y 0).val, hy0⟩ ⟨(y 1).val, hy1⟩ ⟨(grid0.coords t 0).val * 512 + (y 0).val, by omega⟩ rfl).trans ?_
    show queries m c _ = queries m c ((win0_5.rect t).emb y)
    refine congrArg (queries m c) (funext fun a => Fin.ext ?_)
    match a with
    | ⟨0, _⟩ => show (grid0.coords t 0).val * 512 + (y 0).val = win0_5.index t 0 * 512 + 1 * (y 0).val; rw [e0, Nat.one_mul]
    | ⟨1, _⟩ => show (y 1).val = win0_5.index t 1 * 4096 + 1 * (y 1).val; rw [e1, Nat.zero_mul, Nat.zero_add, Nat.one_mul]

/-- Every block of rows is some grid point's. -/
theorem onto : ∀ i : Fin 32, ∃ t : Fin grid0.N, (grid0.coords t 0).val = i.val := by decide +kernel

/-- The blocks tile the result. -/
theorem cover (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  obtain ⟨t, t1⟩ := onto ⟨(i 0).val / 512, by omega⟩
  simp only at t1
  obtain ⟨-, -, -, -, -, ⟨e0, e1⟩⟩ := index t
  refine ⟨t, flush0_5 t, ?_⟩
  show i ∈ ((View.whole main_v28).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [e0, t1]; omega
  | ⟨1, _⟩ =>
    show win0_5.index t 1 * 4096 ≤ (i 1).val ∧ (i 1).val < win0_5.index t 1 * 4096 + 4096
    rw [e1]; omega

/-- The result array after the run is the queries of the arguments. -/
theorem final : (dats m 0 c).arrAt 5 cfg0.N = queries m c :=
  (dats m 0 c).arrAt_eq_of_cover 5 (queries m c) (fun t _ => flushed_eq m c t) cover

end Cert.Quer
-- ==== Proof.KeysRef.lean ====
/-
  The projections of the keys and of the values as the reference writes them, read at a token and a column.
-/
module

public import proofs.«01_k».proof.Proof.QuerRef
public import proofs.«01_k».proof.Proof.Gen.Reference14Ideal.Read

@[expose] public section

set_option maxRecDepth 16384

noncomputable section

namespace Cert.KeysRef

open Idealize.ShloMosaic Idealize.ShloMosaic.TcCoe Idealize.ShloMosaic.ValueIdx Idealize.SL.Sem
open Cert.Mat Cert.Rope Cert.Reference14Ideal Cert.Reference14Ideal.Read
open Cert.QuerRef (cosAt sinAt)

variable (x0 : (⟨S16384x1152, .f32⟩ : BufTy).Contents (Elt Ideal)) (x1 : (⟨S1x512, .f32⟩ : BufTy).Contents (Elt Ideal))
  (w : (⟨S1x512x16x128, .f32⟩ : BufTy).Contents (Elt Ideal))

/-- A token's latents, from the 513th on. -/
abbrev row (t : Fin 16384) (k : Fin 512) : EReal := x0 (ix2 t (⟨512 + k.val, by omega⟩ : Fin 1152))

/-- A token's latents, normed. -/
abbrev norm (t : Fin 16384) (k : Fin 512) : EReal := rms (row x0 t) (x1 (ix2 (0 : Fin 1) k)) k

/-- A lane of a token's head. -/
def head (t : Fin 16384) (h : Fin 16) (q : Fin 128) : EReal :=
  ∑ k : Fin 512, norm x0 x1 t k * (w (ix4 (0 : Fin 1) k h q) : EReal)

/-- The last 128 latents of a token; the rotation reads the first 64 of them. -/
def tail (t : Fin 16384) : ℕ → EReal := ext fun j : Fin 128 => (x0 (ix2 t (⟨1024 + j.val, by omega⟩ : Fin 1152)) : EReal)

/-- A lane of a head of the keys: the head's own 128, the 64 rotated ones all heads share, then zeros. -/
def key (t : Fin 16384) (p : Fin 8192) (h : Fin 16) (l : ℕ) : EReal :=
  if l < 128 then ext (head x0 x1 w t h) l else if l - 128 < 64 then turned (tail x0 t) (cosAt p) (sinAt p) (l - 128) else 0

variable (t : Fin 16384) (b : Fin 2) (p : Fin 8192) (ht : t.val = b.val * 8192 + p.val)
include ht

/-- The latents of a token of a sequence. -/
theorem lat_apply (n : Fin 1152) : val_main_v18 (F := Ideal) x0 (ix3 b p n) = x0 (ix2 t n) := by
  rw [val_main_v18_apply]
  refine congrArg x0 (funext fun a => Fin.ext ?_)
  have hn := n.isLt
  match a with
  | ⟨0, _⟩ => show ((b.val * 8192 + p.val) * 1152 + n.val) / 1152 = t.val; omega
  | ⟨1, _⟩ => show ((b.val * 8192 + p.val) * 1152 + n.val) % 1152 = n.val; omega

theorem row_apply (k : Fin 512) : val_main_v37 (F := Ideal) x0 (ix3 b p k) = row x0 t k := by
  rw [val_main_v37_apply]
  refine Eq.trans (congrArg (val_main_v18 (F := Ideal) x0) (funext fun a => ?_)) (lat_apply x0 t b p ht ⟨512 + k.val, by omega⟩)
  match a with | ⟨0, _⟩ => rfl | ⟨1, _⟩ => rfl | ⟨2, _⟩ => rfl

theorem sums_apply : val_main_v40 (F := Ideal) x0 (ix2 b p) = ∑ k, row x0 t k * row x0 t k := by
  rw [val_main_v40_apply]
  refine (congrArg (fun y : EReal => y + _) Idealize.ShloMosaic.Ideal.ofBits_zero_f32).trans ((zero_add _).trans (Finset.sum_congr rfl fun k _ => ?_))
  rw [show idx_main_v40 (ix2 b p) k = ix3 b p k from funext fun a => match a with | ⟨0, _⟩ => rfl | ⟨1, _⟩ => rfl | ⟨2, _⟩ => rfl]
  show (val_main_v37 (F := Ideal) x0 (ix3 b p k) * val_main_v37 (F := Ideal) x0 (ix3 b p k) : EReal) = _
  rw [row_apply x0 t b p ht]

theorem norm_apply (k : Fin 512) : val_main_v51 (F := Ideal) x0 x1 (ix3 b p k) = norm x0 x1 t k := by
  show (val_main_v37 (F := Ideal) x0 (ix3 b p k) * val_main_v47 (F := Ideal) x0 (ix3 b p k) : EReal) * val_main_v50 (F := Ideal) x1 (ix3 b p k) = _
  rw [row_apply x0 t b p ht, val_main_v47_apply, val_main_v50_apply, val_main_v49_apply, val_main_v38_apply]
  have e : (val_main_v46 (F := Ideal) x0 (idx_main_v47 (ix3 b p k)) : EReal)
      = Ideal.rsqrt (Ideal.div (∑ k, row x0 t k * row x0 t k) width + eps) := by
    show Ideal.rsqrt (Ideal.div (val_main_v41 (F := Ideal) x0 (idx_main_v47 (ix3 b p k))) width + eps : EReal) = _
    rw [val_main_v41_apply, show idx_main_v41 (idx_main_v47 (ix3 b p k)) = ix2 b p from funext fun a => match a with | ⟨0, _⟩ => rfl | ⟨1, _⟩ => rfl,
      sums_apply x0 t b p ht]
  rw [e]
  refine congrArg (fun y : EReal => _ * y) (congrArg x1 (funext fun a => Fin.ext ?_))
  match a with
  | ⟨0, _⟩ => rfl
  | ⟨1, _⟩ => exact Nat.mod_eq_of_lt k.isLt

/-- A head's projection; the keys and the values differ in the weights alone. -/
theorem proj_apply (h : Fin 16) (q : Fin 128) : val_main_v53 (F := Ideal) x0 x1 w (ix4 b p h q) = head x0 x1 w t h q := by
  rw [val_main_v53_apply]
  refine Finset.sum_congr rfl fun k _ => ?_
  rw [show lidx_main_v53 (ix4 b p h q) k = ix3 b p k from funext fun a => match a with | ⟨0, _⟩ => rfl | ⟨1, _⟩ => rfl | ⟨2, _⟩ => rfl,
    norm_apply x0 x1 t b p ht, val_main_v52_apply]
  refine congrArg (fun y : EReal => norm x0 x1 t k * y) (congrArg w (funext fun a => Fin.ext ?_))
  have hk := k.isLt
  have hh := h.isLt
  have hq := q.isLt
  match a with
  | ⟨0, _⟩ => rfl
  | ⟨1, _⟩ => show ((k.val * 16 + h.val) * 128 + q.val) / 2048 % 512 = k.val; omega
  | ⟨2, _⟩ => show ((k.val * 16 + h.val) * 128 + q.val) / 128 % 16 = h.val; omega
  | ⟨3, _⟩ => show ((k.val * 16 + h.val) * 128 + q.val) % 128 = q.val; omega

/-- The latents the rotation reads. -/
theorem pe_apply (j : Fin 64) : val_main_v19 (F := Ideal) x0 (ix3 b p j) = tail x0 t j.val := by
  rw [val_main_v19_apply]
  refine Eq.trans (congrArg (val_main_v18 (F := Ideal) x0) (funext fun a => ?_)) ((lat_apply x0 t b p ht ⟨1024 + j.val, by omega⟩).trans
    (ext_val (fun j : Fin 128 => (x0 (ix2 t (⟨1024 + j.val, by omega⟩ : Fin 1152)) : EReal)) ⟨j.val, by omega⟩).symm)
  match a with | ⟨0, _⟩ => rfl | ⟨1, _⟩ => rfl | ⟨2, _⟩ => rfl

theorem fst_apply (j : Fin 32) : val_main_v20 (F := Ideal) x0 (ix3 b p j) = tail x0 t j.val := by
  rw [val_main_v20_apply]
  refine Eq.trans (congrArg (val_main_v19 (F := Ideal) x0) (funext fun a => ?_)) (pe_apply x0 t b p ht ⟨j.val, by omega⟩)
  match a with | ⟨0, _⟩ => rfl | ⟨1, _⟩ => rfl | ⟨2, _⟩ => rfl

theorem snd_apply (j : Fin 32) : val_main_v21 (F := Ideal) x0 (ix3 b p j) = tail x0 t (j.val + 32) := by
  rw [val_main_v21_apply, Nat.add_comm j.val 32]
  refine Eq.trans (congrArg (val_main_v19 (F := Ideal) x0) (funext fun a => ?_)) (pe_apply x0 t b p ht ⟨32 + j.val, by omega⟩)
  match a with | ⟨0, _⟩ => rfl | ⟨1, _⟩ => rfl | ⟨2, _⟩ => rfl

omit ht in
theorem cos_apply (j : Fin 32) : val_main_v23 (F := Ideal) (ix3 b p j) = cosAt p j.val := by
  rw [val_main_v23_apply, val_main_v22_apply]
  refine Eq.trans (congrArg (val_main_v16 (F := Ideal)) (funext fun a => ?_))
    (ext_val (fun j : Fin 32 => (Cert.Reference13Ideal.Read.val_main_v16 (F := Ideal) (ix2 p j) : EReal)) j).symm
  match a with | ⟨0, _⟩ => rfl | ⟨1, _⟩ => rfl

omit ht in
theorem sin_apply (j : Fin 32) : val_main_v26 (F := Ideal) (ix3 b p j) = sinAt p j.val := by
  rw [val_main_v26_apply, val_main_v25_apply]
  refine Eq.trans (congrArg (val_main_v17 (F := Ideal)) (funext fun a => ?_))
    (ext_val (fun j : Fin 32 => (Cert.Reference13Ideal.Read.val_main_v17 (F := Ideal) (ix2 p j) : EReal)) j).symm
  match a with | ⟨0, _⟩ => rfl | ⟨1, _⟩ => rfl

/-- The rotated lanes. -/
theorem turned_eq (j : Fin 64) : val_main_v36 (F := Ideal) x0 (ix3 b p j) = turned (tail x0 t) (cosAt p) (sinAt p) j.val := by
  unfold turned val_main_v36
  rcases Nat.lt_or_ge j.val 32 with hj | hj
  · rw [if_pos hj]
    refine (concatenate_pair_apply_left (2 : Fin 3) (val_main_v28 (F := Ideal) x0) (val_main_v35 (F := Ideal) x0) _ (ix3 b p j) rfl
      (ix3 b p (⟨j.val, hj⟩ : Fin 32)) ?_).trans ?_
    · intro a; match a with | ⟨0, _⟩ => rfl | ⟨1, _⟩ => rfl | ⟨2, _⟩ => rfl
    · show (val_main_v20 (F := Ideal) x0 _ * val_main_v23 (F := Ideal) _ - val_main_v21 (F := Ideal) x0 _ * val_main_v26 (F := Ideal) _ : EReal) = _
      rw [fst_apply x0 t b p ht, snd_apply x0 t b p ht, cos_apply, sin_apply]
  · rw [if_neg (Nat.not_lt.2 hj)]
    refine (concatenate_pair_apply_right (2 : Fin 3) (val_main_v28 (F := Ideal) x0) (val_main_v35 (F := Ideal) x0) _ (ix3 b p j) rfl rfl
      (ix3 b p (⟨j.val - 32, by omega⟩ : Fin 32)) ?_ ?_).trans ?_
    · intro a ha; match a with | ⟨0, _⟩ => rfl | ⟨1, _⟩ => rfl | ⟨2, _⟩ => exact absurd rfl ha
    · show j.val - 32 + 32 = j.val; omega
    · show (val_main_v20 (F := Ideal) x0 _ * val_main_v26 (F := Ideal) _ + val_main_v21 (F := Ideal) x0 _ * val_main_v23 (F := Ideal) _ : EReal) = _
      rw [fst_apply x0 t b p ht, snd_apply x0 t b p ht, cos_apply, sin_apply]
      rw [show j.val - 32 + 32 = j.val by omega]

/-- The rotated lanes, given to every head. -/
theorem shared_apply (h : Fin 16) (j : Fin 64) :
    val_main_v57 (F := Ideal) x0 (ix4 b p h j) = turned (tail x0 t) (cosAt p) (sinAt p) j.val := by
  rw [val_main_v57_apply, val_main_v56_apply]
  refine Eq.trans (congrArg (val_main_v36 (F := Ideal) x0) (funext fun a => ?_)) (turned_eq x0 t b p ht j)
  match a with | ⟨0, _⟩ => rfl | ⟨1, _⟩ => rfl | ⟨2, _⟩ => rfl

/-- The lanes of a head of the keys. -/
theorem joined_apply (h : Fin 16) (q : Fin 192) : val_main_v58 (F := Ideal) x0 x1 w (ix4 b p h q)
    = if q.val < 128 then ext (head x0 x1 w t h) q.val else turned (tail x0 t) (cosAt p) (sinAt p) (q.val - 128) := by
  unfold val_main_v58
  rcases Nat.lt_or_ge q.val 128 with hq | hq
  · rw [if_pos hq]
    refine (concatenate_pair_apply_left (3 : Fin 4) (val_main_v53 (F := Ideal) x0 x1 w) (val_main_v57 (F := Ideal) x0) _ (ix4 b p h q) rfl
      (ix4 b p h (⟨q.val, hq⟩ : Fin 128)) ?_).trans ((proj_apply x0 x1 w t b p ht h ⟨q.val, hq⟩).trans (ext_val (head x0 x1 w t h) ⟨q.val, hq⟩).symm)
    intro a; match a with | ⟨0, _⟩ => rfl | ⟨1, _⟩ => rfl | ⟨2, _⟩ => rfl | ⟨3, _⟩ => rfl
  · rw [if_neg (Nat.not_lt.2 hq)]
    refine (concatenate_pair_apply_right (3 : Fin 4) (val_main_v53 (F := Ideal) x0 x1 w) (val_main_v57 (F := Ideal) x0) _ (ix4 b p h q) rfl rfl
      (ix4 b p h (⟨q.val - 128, by omega⟩ : Fin 64)) ?_ ?_).trans (shared_apply x0 t b p ht h ⟨q.val - 128, by omega⟩)
    · intro a ha; match a with | ⟨0, _⟩ => rfl | ⟨1, _⟩ => rfl | ⟨2, _⟩ => rfl | ⟨3, _⟩ => exact absurd rfl ha
    · show q.val - 128 + 128 = q.val; omega

/-- The reference's keys at a token and a column. -/
theorem key_apply (n : Fin 4096) (h : Fin 16) (hn : n.val / 256 = h.val) :
    val_main_v61 (F := Ideal) x0 x1 w (ix2 t n) = key x0 x1 w t p h (n.val % 256) := by
  have hnl := n.isLt
  have hh := h.isLt
  have hp := p.isLt
  have hb := b.isLt
  show (val_main_v60 (F := Ideal) x0 x1 w (ix2 t n) : EReal) = _
  rw [val_main_v60_apply]
  have e : idx_main_v60 (ix2 t n) = ix4 b p h (⟨n.val % 256, by omega⟩ : Fin 256) := funext fun a => Fin.ext (by
    match a with
    | ⟨0, _⟩ => show (t.val * 4096 + n.val) / 33554432 = b.val; omega
    | ⟨1, _⟩ => show (t.val * 4096 + n.val) / 4096 % 8192 = p.val; omega
    | ⟨2, _⟩ => show (t.val * 4096 + n.val) / 256 % 16 = h.val; omega
    | ⟨3, _⟩ => show (t.val * 4096 + n.val) % 256 = n.val % 256; omega)
  rw [e]
  unfold key val_main_v59
  rcases Nat.lt_or_ge (n.val % 256) 192 with hl | hl
  · refine (pad_apply_of_inside _ _ _ _ _ _ _ _ (ix4 b p h (⟨n.val % 256, hl⟩ : Fin 192)) ?_).trans ?_
    · intro a
      match a with
      | ⟨0, _⟩ => show b.val = 0 + b.val * (0 + 1); omega
      | ⟨1, _⟩ => show p.val = 0 + p.val * (0 + 1); omega
      | ⟨2, _⟩ => show h.val = 0 + h.val * (0 + 1); omega
      | ⟨3, _⟩ => show n.val % 256 = 0 + n.val % 256 * (0 + 1); omega
    · rw [joined_apply x0 x1 w t b p ht, if_pos (show n.val % 256 - 128 < 64 by omega)]
  · refine (pad_apply_of_not_inside _ _ _ _ _ _ _ _ (3 : Fin 4) ?_).trans ?_
    · intro hin
      have h2 : (n.val % 256 - 0) / (0 + 1) < 192 := hin.2.2
      omega
    · rw [if_neg (show ¬ n.val % 256 < 128 by omega), if_neg (show ¬ n.val % 256 - 128 < 64 by omega)]
      exact Cert.Proj.zero_float _

/-- The reference's values at a token and a column. -/
theorem val_apply (n : Fin 2048) (h : Fin 16) (q : Fin 128) (hn : n.val = h.val * 128 + q.val) :
    val_main_v63 (F := Ideal) x0 x1 w (ix2 t n) = head x0 x1 w t h q := by
  have hp := p.isLt
  have hb := b.isLt
  have hh := h.isLt
  have hq := q.isLt
  show (val_main_v62 (F := Ideal) x0 x1 w (ix2 t n) : EReal) = _
  rw [val_main_v62_apply]
  have e : idx_main_v62 (ix2 t n) = ix4 b p h q := funext fun a => Fin.ext (by
    match a with
    | ⟨0, _⟩ => show (t.val * 2048 + n.val) / 16777216 = b.val; omega
    | ⟨1, _⟩ => show (t.val * 2048 + n.val) / 2048 % 8192 = p.val; omega
    | ⟨2, _⟩ => show (t.val * 2048 + n.val) / 128 % 16 = h.val; omega
    | ⟨3, _⟩ => show (t.val * 2048 + n.val) % 128 = q.val; omega)
  rw [e]
  exact proj_apply x0 x1 w t b p ht h q

end Cert.KeysRef
-- ==== Proof.Keys.lean ====
/-
  The projections of the keys and of the values: the normed latents times the weights, head by head. A head of the
  keys is followed by 64 lanes of the latents themselves, rotated by position and the same for every head, and by
  64 of padding.
-/
module

public import proofs.«01_k».proof.Proof.Quer
public import proofs.«01_k».proof.Proof.KeysRef
public import proofs.«01_k».proof.Proof.Gen.Kernel14Ideal.Value

@[expose] public section

set_option maxRecDepth 16384

noncomputable section

namespace Cert.Keys

open Idealize.ShloMosaic Idealize.ShloMosaic.TcCoe Idealize.ShloMosaic.ValueIdx Idealize.SL.Sem
open Cert.Mat Cert.Rope Cert.Kernel14Ideal Cert.Kernel14Ideal.Gen
open Cert.QuerRef (cosAt sinAt)
open Cert.KeysRef (row norm head tail key key_apply val_apply)
open Cert.Quer (cosT sinT zeroT)

/-! ### A block of the results -/

/-- The tile of the keys at column `o`: every second one is the rotated lanes. -/
def tile (D : FVec Ideal S512x2048 .f32) (K C S : FVec Ideal S512x128 .f32) (o : ℕ) (r : Fin 512) (l : ℕ) : EReal :=
  if o % 256 = 0 then ext (fun n : Fin 2048 => (D (ix2 r n) : EReal)) (o / 2 + l) else lane (lanes K r) (lanes C r) (lanes S r) l

variable (D : FVec Ideal S512x2048 .f32) (K C S : FVec Ideal S512x128 .f32)

theorem plain {o o' : ℕ} (h : o % 256 = 0) (ho : o / 2 = o') (hs : S512x2048.Slices ![0, o'] S512x128) (hb : FTy.bf16.bits < FTy.f32.bits)
    (r : Fin 512) (l : Fin 128) :
    (truncf (F := Ideal) .bf16 (extractStridedSlice S512x128 ![0, o'] D hs) hb (ix2 r l) : EReal) = tile D K C S o r l.val := by
  unfold tile
  rw [if_pos h, ho]
  exact cut_apply D hs r l

theorem rotated {o : ℕ} (h : o % 256 = 128) (h1 : S512x128.Iotas .tc 32 [1]) (hr : S512x128.Rotates 1 none) (hb : FTy.bf16.bits < FTy.f32.bits)
    (r : Fin 512) (l : Fin 128) : (truncf (F := Ideal) .bf16 (turn h1 hr K C S) hb (ix2 r l) : EReal) = tile D K C S o r l.val := by
  unfold tile
  rw [if_neg (by omega)]
  exact turn_apply h1 hr K C S r l

/-- What a grid point stores of the keys, from the arrays it reads. -/
theorem keys_apply (c : Dev nD) (i : grid0.Coords) (arg1 : Memref sig .tc .vmem S512x512 .f32) (harg1 : arg1.IsWhole)
    (arg2 : Memref sig .tc .vmem S512x128 .f32) (harg2 : arg2.IsWhole) (arg3 : Memref sig .tc .vmem S1x512 .f32) (harg3 : arg3.IsWhole)
    (arg4 : Memref sig .tc .vmem S512x2048 .bf16) (harg4 : arg4.IsWhole) (arg5 : Memref sig .tc .vmem S512x2048 .bf16) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x4096 .bf16) (harg8 : arg8.IsWhole) (arg9 : Memref sig .tc .vmem S512x2048 .bf16) (harg9 : arg9.IsWhole)
    (x0 : Vec Ideal S512x512 .f32) (x1 : Vec Ideal S512x128 .f32) (x2 : Vec Ideal S1x512 .f32) (x3 x4 : Vec Ideal S512x2048 .bf16)
    (x5 x6 : Vec Ideal S512x128 .f32) (y : S512x4096.Idx) :
    out0_A_7 c i arg1 harg1 arg2 harg2 arg3 harg3 arg4 harg4 arg5 harg5 arg6 harg6 arg7 harg7 arg8 harg8 arg9 harg9 x0 x1 x2 x3 x4 x5 x6 y
      = tiles (tile (k0_pay6 x0 x2 x3) x1 x5 x6) y := by
  have cov := cover0_A_7 (F := Ideal) c i arg1 harg1 arg2 harg2 arg3 harg3 arg4 harg4 arg5 harg5 arg6 harg6 arg7 harg7 arg8 harg8 arg9 harg9 x0 x1 x2 x3 x4 x5 x6 y
  have r1 : View.readAt (Elt Ideal) arg2.view (Rect.unit ![0, 0] S512x128.size inb_S512x128_S512x128_0_0).toLoadRect (harg2.unread x1) = x1 :=
    whole_read harg2 x1 zeros _
  have r5 : k0_pay8 (View.readAt (Elt Ideal) arg6.view (Rect.unit ![0, 0] S512x128.size inb_S512x128_S512x128_0_0).toLoadRect (harg6.unread x5)) = x5 := by
    unfold k0_pay8
    rw [whole_read harg6 x5 zeros, shapeCast_self]
  have r6 : k0_pay9 (View.readAt (Elt Ideal) arg7.view (Rect.unit ![0, 0] S512x128.size inb_S512x128_S512x128_0_0).toLoadRect (harg7.unread x6)) = x6 := by
    unfold k0_pay9
    rw [whole_read harg7 x6 zeros, shapeCast_self]
  have r0 : k0_pay6 (View.readAt (Elt Ideal) arg1.view (Rect.unit ![0, 0] S512x512.size inb_S512x512_S512x512_0_0).toLoadRect (harg1.unread x0))
      (View.readAt (Elt Ideal) arg3.view (Rect.unit ![0, 0] S1x512.size inb_S1x512_S1x512_0_0).toLoadRect (harg3.unread x2))
      (View.readAt (Elt Ideal) arg4.view (Rect.unit ![0, 0] S512x2048.size inb_S512x2048_S512x2048_0_0).toLoadRect (harg4.unread x3)) = k0_pay6 x0 x2 x3 := by
    rw [whole_read harg1 x0 zeros, whole_read harg3 x2 zeros, whole_read harg4 x3 zeros]
  have eq : out0_A_7 c i arg1 harg1 arg2 harg2 arg3 harg3 arg4 harg4 arg5 harg5 arg6 harg6 arg7 harg7 arg8 harg8 arg9 harg9 x0 x1 x2 x3 x4 x5 x6 y
      = tiles (tile
        (k0_pay6 (View.readAt (Elt Ideal) arg1.view (Rect.unit ![0, 0] S512x512.size inb_S512x512_S512x512_0_0).toLoadRect (harg1.unread x0))
          (View.readAt (Elt Ideal) arg3.view (Rect.unit ![0, 0] S1x512.size inb_S1x512_S1x512_0_0).toLoadRect (harg3.unread x2))
          (View.readAt (Elt Ideal) arg4.view (Rect.unit ![0, 0] S512x2048.size inb_S512x2048_S512x2048_0_0).toLoadRect (harg4.unread x3)))
        (View.readAt (Elt Ideal) arg2.view (Rect.unit ![0, 0] S512x128.size inb_S512x128_S512x128_0_0).toLoadRect (harg2.unread x1))
        (k0_pay8 (View.readAt (Elt Ideal) arg6.view (Rect.unit ![0, 0] S512x128.size inb_S512x128_S512x128_0_0).toLoadRect (harg6.unread x5)))
        (k0_pay9 (View.readAt (Elt Ideal) arg7.view (Rect.unit ![0, 0] S512x128.size inb_S512x128_S512x128_0_0).toLoadRect (harg7.unread x6)))) y := by
    unfold out0_A_7
    rw [View.read_writes_junk_apply_eq_canon]
    refine View.canon_apply_of_pieces _ _ ?_ y cov
    unfold kernelRun0_A
    change Agree _ _
    iterate 16
      refine Agree.cons rfl (rotated _ _ _ _ rfl iota_S512x128_d1_w32 rotates_S512x128_d1 bitsLt_bf16_f32)
        (Agree.cons rfl (plain _ _ _ _ (by rfl) (by rfl) _ bitsLt_bf16_f32) ?_)
    exact Agree.nil _
  rw [eq, r0, r1, r5, r6]

/-- What a grid point stores of the values, from the arrays it reads. -/
theorem vals_apply (c : Dev nD) (i : grid0.Coords) (arg1 : Memref sig .tc .vmem S512x512 .f32) (harg1 : arg1.IsWhole)
    (arg2 : Memref sig .tc .vmem S512x128 .f32) (harg2 : arg2.IsWhole) (arg3 : Memref sig .tc .vmem S1x512 .f32) (harg3 : arg3.IsWhole)
    (arg4 : Memref sig .tc .vmem S512x2048 .bf16) (harg4 : arg4.IsWhole) (arg5 : Memref sig .tc .vmem S512x2048 .bf16) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x4096 .bf16) (harg8 : arg8.IsWhole) (arg9 : Memref sig .tc .vmem S512x2048 .bf16) (harg9 : arg9.IsWhole)
    (x0 : Vec Ideal S512x512 .f32) (x1 : Vec Ideal S512x128 .f32) (x2 : Vec Ideal S1x512 .f32) (x3 x4 : Vec Ideal S512x2048 .bf16)
    (x5 x6 : Vec Ideal S512x128 .f32) (y : S512x2048.Idx) :
    out0_A_8 c i arg1 harg1 arg2 harg2 arg3 harg3 arg4 harg4 arg5 harg5 arg6 harg6 arg7 harg7 arg8 harg8 arg9 harg9 x0 x1 x2 x3 x4 x5 x6 y = k0_pay7 x0 x2 x4 y := by
  unfold out0_A_8 kernelRun0_A
  rw [View.read_writes_junk_apply_eq_canon]
  dsimp only
  rw [View.canon_unit_zero zeros, whole_read harg1 x0 zeros, whole_read harg3 x2 zeros, whole_read harg5 x4 zeros]

/-! ### The arrays the windows stage -/

variable (m : (ℓ : Loc nD τ sig) → Buf (Elt Ideal) ℓ) (c : Dev nD)

/-- The latents, the norm's weights and the weights of the keys and of the values of device `c`. -/
abbrev ax : (⟨S16384x1152, .f32⟩ : BufTy).Contents (Elt Ideal) := m ((c.tc : Thread nD τ).loc main_arg0)
abbrev ag : (⟨S1x512, .f32⟩ : BufTy).Contents (Elt Ideal) := m ((c.tc : Thread nD τ).loc main_arg1)
abbrev ak : (⟨S1x512x16x128, .f32⟩ : BufTy).Contents (Elt Ideal) := m ((c.tc : Thread nD τ).loc main_arg2)
abbrev av : (⟨S1x512x16x128, .f32⟩ : BufTy).Contents (Elt Ideal) := m ((c.tc : Thread nD τ).loc main_arg3)

/-- The weights with the heads joined. -/
abbrev joined (w : (⟨S1x512x16x128, .f32⟩ : BufTy).Contents (Elt Ideal)) : S512x2048.Idx → EReal :=
  shapeCast S512x2048 (shapeCast S512x16x128 w shapeCasts_S1x512x16x128_S512x16x128) shapeCasts_S512x16x128_S512x2048

theorem joined_apply (w : (⟨S1x512x16x128, .f32⟩ : BufTy).Contents (Elt Ideal)) (k : Fin 512) (n : Fin 2048) (h : Fin 16) (q : Fin 128)
    (hn : n.val = h.val * 128 + q.val) : joined w (ix2 k n) = w (ix4 (0 : Fin 1) k h q) := by
  refine (shapeCast_apply _ shapeCasts_S512x16x128_S512x2048 (ix2 k n) (ix3 k h q) ?_).trans
    (shapeCast_apply _ shapeCasts_S1x512x16x128_S512x16x128 (ix3 k h q) (ix4 (0 : Fin 1) k h q) ?_)
  · rw [Shape.rowMajor_val_two, Shape.rowMajor_val_three]
    show (k.val * 16 + h.val) * 128 + q.val = k.val * 2048 + n.val
    omega
  · rw [Shape.rowMajor_val_four, Shape.rowMajor_val_three]
    show ((0 * 512 + k.val) * 16 + h.val) * 128 + q.val = (k.val * 16 + h.val) * 128 + q.val
    omega

theorem host0 : V m c (Pipeline.arrRef spec0 0) = ax m c := V_main_arg0 m c
theorem host1 : V m c (Pipeline.arrRef spec0 1) = ax m c := V_main_arg0 m c

theorem host2 : V m c (Pipeline.arrRef spec0 2) = shapeCast S1x512 (shapeCast S512 (ag m c) shapeCasts_S1x512_S512) shapeCasts_S512_S1x512 := by
  show StableHlo.after hostOps0 _ _ = _
  after_results_simp <;> rfl

theorem host3 : V m c (Pipeline.arrRef spec0 3) = truncf (F := Ideal) (φ := .f32) .bf16 (joined (ak m c)) bitsLt_bf16_f32 := by
  show StableHlo.after hostOps0 _ _ = _
  after_results_simp <;> rfl

theorem host4 : V m c (Pipeline.arrRef spec0 4) = truncf (F := Ideal) (φ := .f32) .bf16 (joined (av m c)) bitsLt_bf16_f32 := by
  show StableHlo.after hostOps0 _ _ = _
  after_results_simp <;> rfl

theorem host5 : V m c (Pipeline.arrRef spec0 5)
    = concatenate S8192x128 1 (three cosT cosT zeroT) concatenates_S8192x32_S8192x32_S8192x64_S8192x128_d1 := by
  show StableHlo.after hostOps0 _ _ = _
  after_results_simp <;> rfl

theorem host6 : V m c (Pipeline.arrRef spec0 6)
    = concatenate S8192x128 1 (three (Host.negf (F := Ideal) (φ := .f32) sinT) sinT zeroT) concatenates_S8192x32_S8192x32_S8192x64_S8192x128_d1 := by
  show StableHlo.after hostOps0 _ _ = _
  after_results_simp <;> rfl

theorem index : ∀ t : Fin grid0.N,
    (win0_0.index t 0 = (grid0.coords t 0).val ∧ win0_0.index t 1 = 1)
    ∧ (win0_1.index t 0 = (grid0.coords t 0).val ∧ win0_1.index t 1 = 8)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = (grid0.coords t 0).val % 16 ∧ win0_5.index t 1 = 0)
    ∧ (win0_6.index t 0 = (grid0.coords t 0).val % 16 ∧ win0_6.index t 1 = 0)
    ∧ (win0_7.index t 0 = (grid0.coords t 0).val ∧ win0_7.index t 1 = 0)
    ∧ (win0_8.index t 0 = (grid0.coords t 0).val ∧ win0_8.index t 1 = 0) := by decide +kernel

/-- A block of the latents the norm reads. -/
theorem blk0 (t : Fin cfg0.N) (r k : Fin 512) (u : Fin 16384) (hu : u.val = (grid0.coords t 0).val * 512 + r.val) :
    X0_0 m c t (ix2 r k) = row (ax m c) u k := by
  obtain ⟨⟨e0, e1⟩, -⟩ := index t
  unfold X0_0 Pipeline.Window.fill
  rw [dif_pos (moved0_0 t (ix2 r k))]
  refine Eq.trans (b := V m c (Pipeline.arrRef spec0 0) (ix2 u (⟨512 + k.val, by omega⟩ : Fin 1152))) ?_ (congrFun (host0 m c) _)
  refine congrArg (V m c (Pipeline.arrRef spec0 0)) (funext fun a => Fin.ext ?_)
  match a with
  | ⟨0, _⟩ => show win0_0.index t 0 * 512 + 1 * r.val = u.val; rw [e0, hu, Nat.one_mul]
  | ⟨1, _⟩ => show win0_0.index t 1 * 512 + 1 * k.val = 512 + k.val; rw [e1, Nat.one_mul, Nat.one_mul]

/-- A row of the latents that are rotated. -/
theorem blk1 (t : Fin cfg0.N) (r : Fin 512) (l : ℕ) (hl : l < 128) (u : Fin 16384) (hu : u.val = (grid0.coords t 0).val * 512 + r.val) :
    lanes (iblk m c 1 t) r l = tail (ax m c) u l := by
  obtain ⟨-, ⟨e0, e1⟩, -⟩ := index t
  refine (lanes_val (iblk m c 1 t) r ⟨l, hl⟩).trans (Eq.trans ?_
    (ext_val (fun j : Fin 128 => (ax m c (ix2 u (⟨1024 + j.val, by omega⟩ : Fin 1152)) : EReal)) ⟨l, hl⟩).symm)
  refine Eq.trans (b := V m c (Pipeline.arrRef spec0 1) (ix2 u (⟨1024 + l, by omega⟩ : Fin 1152))) ?_ (congrFun (host1 m c) _)
  refine congrArg (V m c (Pipeline.arrRef spec0 1)) (funext fun a => Fin.ext ?_)
  match a with
  | ⟨0, _⟩ => show win0_1.index t 0 * 512 + 1 * r.val = u.val; rw [e0, hu, Nat.one_mul]
  | ⟨1, _⟩ => show win0_1.index t 1 * 128 + 1 * l = 1024 + l; rw [e1, Nat.one_mul]

/-- The norm's weights. -/
theorem blk2 (t : Fin cfg0.N) (k : Fin 512) : iblk m c 2 t (ix2 (0 : Fin 1) k) = ag m c (ix2 (0 : Fin 1) k) := by
  obtain ⟨-, -, ⟨e0, e1⟩, -⟩ := index t
  refine Eq.trans (b := V m c (Pipeline.arrRef spec0 2) (ix2 (0 : Fin 1) k)) ?_ ((congrFun (host2 m c) _).trans ?_)
  · refine congrArg (V m c (Pipeline.arrRef spec0 2)) (funext fun a => Fin.ext ?_)
    match a with
    | ⟨0, _⟩ => show win0_2.index t 0 * 1 + 1 * 0 = 0; rw [e0]
    | ⟨1, _⟩ => show win0_2.index t 1 * 512 + 1 * k.val = k.val; rw [e1, Nat.zero_mul, Nat.zero_add, Nat.one_mul]
  · rw [shapeCast_shapeCast]

/-- The weights of the keys and of the values. -/
theorem blk3 (t : Fin cfg0.N) (k : Fin 512) (n : Fin 2048) (h : Fin 16) (q : Fin 128) (hn : n.val = h.val * 128 + q.val) :
    iblk m c 3 t (ix2 k n) = ak m c (ix4 (0 : Fin 1) k h q) := by
  obtain ⟨-, -, -, ⟨e0, e1⟩, -⟩ := index t
  have e : V m c (Pipeline.arrRef spec0 3) (ix2 k n) = joined (ak m c) (ix2 k n) := congrFun (host3 m c) _
  refine Eq.trans (b := V m c (Pipeline.arrRef spec0 3) (ix2 k n)) ?_ (e.trans (joined_apply _ k n h q hn))
  refine congrArg (V m c (Pipeline.arrRef spec0 3)) (funext fun a => Fin.ext ?_)
  match a with
  | ⟨0, _⟩ => show win0_3.index t 0 * 512 + 1 * k.val = k.val; rw [e0, Nat.zero_mul, Nat.zero_add, Nat.one_mul]
  | ⟨1, _⟩ => show win0_3.index t 1 * 2048 + 1 * n.val = n.val; rw [e1, Nat.zero_mul, Nat.zero_add, Nat.one_mul]

theorem blk4 (t : Fin cfg0.N) (k : Fin 512) (n : Fin 2048) (h : Fin 16) (q : Fin 128) (hn : n.val = h.val * 128 + q.val) :
    iblk m c 4 t (ix2 k n) = av m c (ix4 (0 : Fin 1) k h q) := by
  obtain ⟨-, -, -, -, ⟨e0, e1⟩, -⟩ := index t
  have e : V m c (Pipeline.arrRef spec0 4) (ix2 k n) = joined (av m c) (ix2 k n) := congrFun (host4 m c) _
  refine Eq.trans (b := V m c (Pipeline.arrRef spec0 4) (ix2 k n)) ?_ (e.trans (joined_apply _ k n h q hn))
  refine congrArg (V m c (Pipeline.arrRef spec0 4)) (funext fun a => Fin.ext ?_)
  match a with
  | ⟨0, _⟩ => show win0_4.index t 0 * 512 + 1 * k.val = k.val; rw [e0, Nat.zero_mul, Nat.zero_add, Nat.one_mul]
  | ⟨1, _⟩ => show win0_4.index t 1 * 2048 + 1 * n.val = n.val; rw [e1, Nat.zero_mul, Nat.zero_add, Nat.one_mul]

/-- The two tables at a row of a block. -/
theorem blk5 (t : Fin cfg0.N) (r : Fin 512) (l : ℕ) (hl : l < 128) (p : Fin 8192) (hp : p.val = (grid0.coords t 0).val % 16 * 512 + r.val) :
    lanes (iblk m c 5 t) r l = two (cosAt p) (cosAt p) l := by
  obtain ⟨-, -, -, -, -, ⟨e0, e1⟩, -⟩ := index t
  refine (lanes_val (iblk m c 5 t) r ⟨l, hl⟩).trans ?_
  refine Eq.trans (b := V m c (Pipeline.arrRef spec0 5) (ix2 p (⟨l, hl⟩ : Fin 128))) ?_
    ((congrFun (host5 m c) _).trans (table_apply cosT cosT zeroT Cert.Quer.zero_apply _ p ⟨l, hl⟩))
  refine congrArg (V m c (Pipeline.arrRef spec0 5)) (funext fun a => Fin.ext ?_)
  match a with
  | ⟨0, _⟩ => show win0_5.index t 0 * 512 + 1 * r.val = p.val; rw [e0, hp, Nat.one_mul]
  | ⟨1, _⟩ => show win0_5.index t 1 * 128 + 1 * l = l; rw [e1, Nat.zero_mul, Nat.zero_add, Nat.one_mul]

theorem blk6 (t : Fin cfg0.N) (r : Fin 512) (l : ℕ) (hl : l < 128) (p : Fin 8192) (hp : p.val = (grid0.coords t 0).val % 16 * 512 + r.val) :
    lanes (iblk m c 6 t) r l = two (fun n => -sinAt p n) (sinAt p) l := by
  obtain ⟨-, -, -, -, -, -, ⟨e0, e1⟩, -⟩ := index t
  refine (lanes_val (iblk m c 6 t) r ⟨l, hl⟩).trans ?_
  rw [← Cert.Quer.neg_ext]
  refine Eq.trans (b := V m c (Pipeline.arrRef spec0 6) (ix2 p (⟨l, hl⟩ : Fin 128))) ?_
    ((congrFun (host6 m c) _).trans (table_apply (Host.negf (F := Ideal) (φ := .f32) sinT) sinT zeroT Cert.Quer.zero_apply _ p ⟨l, hl⟩))
  refine congrArg (V m c (Pipeline.arrRef spec0 6)) (funext fun a => Fin.ext ?_)
  match a with
  | ⟨0, _⟩ => show win0_6.index t 0 * 512 + 1 * r.val = p.val; rw [e0, hp, Nat.one_mul]
  | ⟨1, _⟩ => show win0_6.index t 1 * 128 + 1 * l = l; rw [e1, Nat.zero_mul, Nat.zero_add, Nat.one_mul]

/-! ### The results -/

/-- What the norm of a block needs of its shapes. -/
theorem shapes : Ev := ⟨reduces_S512x512_S512, shapeCasts_S512_S512x1, broadcasts_S512x1_S512x512, broadcasts_S1x512_S512x512⟩

/-- The two products of a block at a row and a column are the heads' lanes. -/
theorem key_eq (t : Fin cfg0.N) (r : Fin 512) (n : Fin 2048) (u : Fin 16384) (hu : u.val = (grid0.coords t 0).val * 512 + r.val)
    (h : Fin 16) (q : Fin 128) (hn : n.val = h.val * 128 + q.val) :
    k0_pay6 (F := Ideal) (X0_0 m c t) (iblk m c 2 t) (iblk m c 3 t) (ix2 r n) = head (ax m c) (ag m c) (ak m c) u h q := by
  unfold k0_pay6 k0_pay5
  simp only [shapeCast_self]
  exact prod_apply shapes _ rfl _ _ _ bitsLt_bf16_f32 r n _ _ _ (fun k => blk0 m c t r k u hu) (fun k => blk2 m c t k) (fun k => blk3 m c t k n h q hn)

theorem val_eq (t : Fin cfg0.N) (r : Fin 512) (n : Fin 2048) (u : Fin 16384) (hu : u.val = (grid0.coords t 0).val * 512 + r.val)
    (h : Fin 16) (q : Fin 128) (hn : n.val = h.val * 128 + q.val) :
    k0_pay7 (F := Ideal) (X0_0 m c t) (iblk m c 2 t) (iblk m c 4 t) (ix2 r n) = head (ax m c) (ag m c) (av m c) u h q := by
  unfold k0_pay7 k0_pay5
  simp only [shapeCast_self]
  exact prod_apply shapes _ rfl _ _ _ bitsLt_bf16_f32 r n _ _ _ (fun k => blk0 m c t r k u hu) (fun k => blk2 m c t k) (fun k => blk4 m c t k n h q hn)

/-- The keys and the values of device `c`'s arguments, as the reference computes them. -/
abbrev keys : Buf (Elt Ideal) ((c : Thread nD τ).loc main_v30_0) :=
  Cert.Reference14Ideal.Read.val_main_v61 (F := Ideal) (ax m c) (ag m c) (ak m c)
abbrev vals : Buf (Elt Ideal) ((c : Thread nD τ).loc main_v30_1) :=
  Cert.Reference14Ideal.Read.val_main_v63 (F := Ideal) (ax m c) (ag m c) (av m c)

/-- What a grid point stores of the keys at a row and a column of its block. -/
theorem key_point (t : Fin cfg0.N) (r : Fin 512) (n : Fin 4096) (u : Fin 16384) (hu : u.val = (grid0.coords t 0).val * 512 + r.val) :
    tiles (tile (k0_pay6 (F := Ideal) (X0_0 m c t) (iblk m c 2 t) (iblk m c 3 t)) (iblk m c 1 t) (iblk m c 5 t) (iblk m c 6 t)) (ix2 r n)
      = keys m c (ix2 u n) := by
  have hul := u.isLt
  have hr := r.isLt
  have hn := n.isLt
  have hp : u.val % 8192 = (grid0.coords t 0).val % 16 * 512 + r.val := by omega
  refine Eq.trans ?_ (key_apply (ax m c) (ag m c) (ak m c) u ⟨u.val / 8192, by omega⟩ ⟨u.val % 8192, by omega⟩
    (by show u.val = u.val / 8192 * 8192 + u.val % 8192; omega) n ⟨n.val / 256, by omega⟩ rfl).symm
  show tile _ _ _ _ (n.val / 128 * 128) r (n.val % 128) = _
  have hl : n.val % 128 < 128 := by omega
  unfold tile key
  by_cases ho : n.val / 128 * 128 % 256 = 0
  · rw [if_pos ho, if_pos (show n.val % 256 < 128 by omega)]
    have hc : n.val / 128 * 128 / 2 + n.val % 128 < 2048 := by omega
    refine (ext_val (fun n : Fin 2048 => (k0_pay6 (F := Ideal) (X0_0 m c t) (iblk m c 2 t) (iblk m c 3 t) (ix2 r n) : EReal)) ⟨_, hc⟩).trans
      ((key_eq m c t r ⟨_, hc⟩ u hu ⟨n.val / 256, by omega⟩ ⟨n.val % 256, by omega⟩ ?_).trans (ext_val (head (ax m c) (ag m c) (ak m c) u _) ⟨n.val % 256, by omega⟩).symm)
    show n.val / 128 * 128 / 2 + n.val % 128 = n.val / 256 * 128 + n.val % 256
    omega
  · rw [if_neg ho, if_neg (show ¬ n.val % 256 < 128 by omega), show n.val % 256 - 128 = n.val % 128 by omega]
    refine (lane_eq _ _ _ _ _ _ (blk5 m c t r _ hl ⟨u.val % 8192, by omega⟩ hp) (blk6 m c t r _ hl ⟨u.val % 8192, by omega⟩ hp)).trans ?_
    by_cases h : n.val % 128 < 64
    · rw [if_pos h, if_pos h]
      exact turned_congr _ _ _ _ _ h fun l hl => blk1 m c t r l hl u hu
    · rw [if_neg h, if_neg h]

/-- What a grid point stores of the values at a row and a column of its block. -/
theorem val_point (t : Fin cfg0.N) (r : Fin 512) (n : Fin 2048) (u : Fin 16384) (hu : u.val = (grid0.coords t 0).val * 512 + r.val) :
    k0_pay7 (F := Ideal) (X0_0 m c t) (iblk m c 2 t) (iblk m c 4 t) (ix2 r n) = vals m c (ix2 u n) := by
  have hul := u.isLt
  have hn := n.isLt
  have hd : n.val = n.val / 128 * 128 + n.val % 128 := by omega
  exact (val_eq m c t r n u hu ⟨n.val / 128, by omega⟩ ⟨n.val % 128, by omega⟩ hd).trans
    (val_apply (ax m c) (ag m c) (av m c) u ⟨u.val / 8192, by omega⟩ ⟨u.val % 8192, by omega⟩
      (by show u.val = u.val / 8192 * 8192 + u.val % 8192; omega) n ⟨n.val / 128, by omega⟩ ⟨n.val % 128, by omega⟩ hd).symm

theorem c0 (t : Fin grid0.N) : (grid0.coords t 0).val < 32 := (grid0.coords t 0).isLt

/-- Every block of rows is some grid point's. -/
theorem onto : ∀ i : Fin 32, ∃ t : Fin grid0.N, (grid0.coords t 0).val = i.val := by decide +kernel

/-- What a grid point writes back is its block of the keys. -/
theorem keys_flushed (t : Fin cfg0.N) :
    (dats m 0 c).flushed 7 t = (win0_7.blk t).view.read (Elt Ideal) (keys m c) := by
  rw [Cert.Kernel14Ideal.Value.flushed7_A]
  obtain ⟨-, -, -, -, -, -, -, ⟨e0, e1⟩, -⟩ := index t
  have h1 := c0 t
  funext y
  have hy0 : (y 0).val < 512 := (y 0).isLt
  have hy1 : (y 1).val < 4096 := (y 1).isLt
  refine Eq.trans (b := out0_A_7 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t)
    (iblk m c 5 t) (iblk m c 6 t) (ix2 ⟨(y 0).val, hy0⟩ ⟨(y 1).val, hy1⟩)) ?_ ?_
  · show out0_A_7 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t)
      (iblk m c 5 t) (iblk m c 6 t) _ = _
    refine congrArg _ (funext fun a => Fin.ext ?_)
    match a with
    | ⟨0, _⟩ => rfl
    | ⟨1, _⟩ => rfl
  · rw [keys_apply]
    refine (key_point m c t ⟨(y 0).val, hy0⟩ ⟨(y 1).val, hy1⟩ ⟨(grid0.coords t 0).val * 512 + (y 0).val, by omega⟩ rfl).trans ?_
    show keys m c _ = keys m c ((win0_7.rect t).emb y)
    refine congrArg (keys m c) (funext fun a => Fin.ext ?_)
    match a with
    | ⟨0, _⟩ => show (grid0.coords t 0).val * 512 + (y 0).val = win0_7.index t 0 * 512 + 1 * (y 0).val; rw [e0, Nat.one_mul]
    | ⟨1, _⟩ => show (y 1).val = win0_7.index t 1 * 4096 + 1 * (y 1).val; rw [e1, Nat.zero_mul, Nat.zero_add, Nat.one_mul]

/-- The blocks tile the keys. -/
theorem keys_cover (i : S16384x4096.Idx) :
    ∃ t : Fin cfg0.N, (cfg0.win 7).flush t = true ∧ i ∈ ((cfg0.win 7).blk t).view.set := by
  have h0 : (i 0).val < 16384 := (i 0).isLt
  have h1 : (i 1).val < 4096 := (i 1).isLt
  obtain ⟨t, t1⟩ := onto ⟨(i 0).val / 512, by omega⟩
  simp only at t1
  obtain ⟨-, -, -, -, -, -, -, ⟨e0, e1⟩, -⟩ := index t
  refine ⟨t, flush0_7 t, ?_⟩
  show i ∈ ((View.whole main_v30_0).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [e0, t1]; omega
  | ⟨1, _⟩ =>
    show win0_7.index t 1 * 4096 ≤ (i 1).val ∧ (i 1).val < win0_7.index t 1 * 4096 + 4096
    rw [e1]; omega

/-- The array of the keys after the run is the keys of the arguments. -/
theorem final7 : (dats m 0 c).arrAt 7 cfg0.N = keys m c :=
  (dats m 0 c).arrAt_eq_of_cover 7 (keys m c) (fun t _ => keys_flushed m c t) keys_cover

/-- What a grid point writes back is its block of the values. -/
theorem vals_flushed (t : Fin cfg0.N) :
    (dats m 0 c).flushed 8 t = (win0_8.blk t).view.read (Elt Ideal) (vals m c) := by
  rw [Cert.Kernel14Ideal.Value.flushed8_A]
  obtain ⟨-, -, -, -, -, -, -, -, ⟨e0, e1⟩⟩ := index t
  have h1 := c0 t
  funext y
  have hy0 : (y 0).val < 512 := (y 0).isLt
  have hy1 : (y 1).val < 2048 := (y 1).isLt
  refine Eq.trans (b := out0_A_8 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t)
    (iblk m c 5 t) (iblk m c 6 t) (ix2 ⟨(y 0).val, hy0⟩ ⟨(y 1).val, hy1⟩)) ?_ ?_
  · show out0_A_8 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (X0_0 m c t) (iblk m c 1 t) (iblk m c 2 t) (iblk m c 3 t) (iblk m c 4 t)
      (iblk m c 5 t) (iblk m c 6 t) _ = _
    refine congrArg _ (funext fun a => Fin.ext ?_)
    match a with
    | ⟨0, _⟩ => rfl
    | ⟨1, _⟩ => rfl
  · rw [vals_apply]
    refine (val_point m c t ⟨(y 0).val, hy0⟩ ⟨(y 1).val, hy1⟩ ⟨(grid0.coords t 0).val * 512 + (y 0).val, by omega⟩ rfl).trans ?_
    show vals m c _ = vals m c ((win0_8.rect t).emb y)
    refine congrArg (vals m c) (funext fun a => Fin.ext ?_)
    match a with
    | ⟨0, _⟩ => show (grid0.coords t 0).val * 512 + (y 0).val = win0_8.index t 0 * 512 + 1 * (y 0).val; rw [e0, Nat.one_mul]
    | ⟨1, _⟩ => show (y 1).val = win0_8.index t 1 * 2048 + 1 * (y 1).val; rw [e1, Nat.zero_mul, Nat.zero_add, Nat.one_mul]

/-- The blocks tile the values. -/
theorem vals_cover (i : S16384x2048.Idx) :
    ∃ t : Fin cfg0.N, (cfg0.win 8).flush t = true ∧ i ∈ ((cfg0.win 8).blk t).view.set := by
  have h0 : (i 0).val < 16384 := (i 0).isLt
  have h1 : (i 1).val < 2048 := (i 1).isLt
  obtain ⟨t, t1⟩ := onto ⟨(i 0).val / 512, by omega⟩
  simp only at t1
  obtain ⟨-, -, -, -, -, -, -, -, ⟨e0, e1⟩⟩ := index t
  refine ⟨t, flush0_8 t, ?_⟩
  show i ∈ ((View.whole main_v30_1).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [e0, t1]; omega
  | ⟨1, _⟩ =>
    show win0_8.index t 1 * 2048 ≤ (i 1).val ∧ (i 1).val < win0_8.index t 1 * 2048 + 2048
    rw [e1]; omega

/-- The array of the values after the run is the values of the arguments. -/
theorem final8 : (dats m 0 c).arrAt 8 cfg0.N = vals m c :=
  (dats m 0 c).arrAt_eq_of_cover 8 (vals m c) (fun t _ => vals_flushed m c t) vals_cover

end Cert.Keys
-- ==== Proof.lean ====
/-
  The proof of `Cert.Claim` (Defs.lean). Each kernel of the layer that is claimed here terminates and keeps its
  arguments at bit-exact and at ideal numbers, its reference does too, the attention's named mask constant keeps
  its word, and each kernel's results are its reference's — for the attention when queries and keys are finite.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Gen.Kernel2.Frame
public import proofs.«01_k».proof.Proof.Up
public import proofs.«01_k».proof.Proof.Gen.Kernel3.Frame
public import proofs.«01_k».proof.Proof.Down
public import proofs.«01_k».proof.Proof.Gen.Kernel4.Frame
public import proofs.«01_k».proof.Proof.Merge
public import proofs.«01_k».proof.Proof.Gen.Kernel5.Frame
public import proofs.«01_k».proof.Proof.Ple
public import proofs.«01_k».proof.Proof.Gen.Kernel6.Frame
public import proofs.«01_k».proof.Proof.Oproj
public import proofs.«01_k».proof.Proof.Gen.Kernel7.Frame
public import proofs.«01_k».proof.Proof.Gates
public import proofs.«01_k».proof.Proof.Gen.Kernel8.Frame
public import proofs.«01_k».proof.Proof.Qa
public import proofs.«01_k».proof.Proof.Gen.Kernel9.Frame
public import proofs.«01_k».proof.Proof.Qidx
public import proofs.«01_k».proof.Proof.Gen.Kernel10.Frame
public import proofs.«01_k».proof.Proof.Lat
public import proofs.«01_k».proof.Proof.Gen.Kernel11.Frame
public import proofs.«01_k».proof.Proof.Kv
public import proofs.«01_k».proof.Proof.Gen.Kernel12.Frame
public import proofs.«01_k».proof.Proof.Misc
public import proofs.«01_k».proof.Proof.Gen.Kernel13.Frame
public import proofs.«01_k».proof.Proof.Quer
public import proofs.«01_k».proof.Proof.Gen.Kernel14.Frame
public import proofs.«01_k».proof.Proof.Keys
public import Idealize.ShloMosaic.Lib.Quiescent
public import Idealize.ShloMosaic.Adequacy
public import Idealize.ShloMosaic.Init

@[expose] public section

noncomputable section

namespace Cert.Proof

open Idealize.ShloMosaic Idealize.SL.Sem

/-- The side conditions of the precondition's program. -/
theorem preFacts : Cert.Pre_finite.Facts := ⟨by decide, by decide⟩

/-- The kernel terminates at the bit-exact numbers, with its arguments kept and every semaphore at zero. -/
theorem frame_kernel : Cert.quiescent_Kernel (hKernel := Cert.Kernel.Gen.facts) := fun m ρ _ => Cert.Kernel.Gen.frame m ρ

/-- The same at the ideal numbers. -/
theorem frame_ideal : Cert.quiescent_KernelIdeal (hKernelIdeal := Cert.KernelIdeal.Gen.facts) :=
  fun m ρ _ => Cert.KernelIdeal.Gen.frame m ρ

/-- The same under the precondition. -/
theorem frame_ideal_pre : Cert.quiescent_KernelIdeal_pre_finite (hKernelIdeal := Cert.KernelIdeal.Gen.facts)
    (hPre_finite := preFacts) := fun m ρ _ => Cert.KernelIdeal.Gen.frame m ρ

/-- The reference terminates with its arguments kept; it has no semaphore. -/
theorem ref_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The reference's frame. -/
theorem frame_ref : Cert.quiescent_ReferenceIdeal (hReferenceIdeal := Cert.ReferenceIdeal.Gen.facts) :=
  fun m ρ _ => ref_quiet m ρ

/-- The reference's frame under the precondition. -/
theorem frame_ref_pre : Cert.quiescent_ReferenceIdeal_pre_finite (hReferenceIdeal := Cert.ReferenceIdeal.Gen.facts)
    (hPre_finite := preFacts) := fun m ρ _ => ref_quiet m ρ

/-- The named constant's word keeps its meaning. -/
theorem preserves : Cert.preserves_Kernel_KernelIdeal :=
  IdealRules.named_const.statement Cert.KernelIdeal.κ "mask" .f32 0xF149F2CA#32 ⊥ rfl

/-- For finite queries and keys the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => Cert.Final.attn m c, ?_, ?_⟩
  · refine (θ_run Cert.KernelIdeal.defs _ _).mono (fun r h c => ?_) (Cert.KernelIdeal.Value.run_blocks m g)
    have hf := @Cert.Final.real_of_pre preFacts _ _ _ (hpre c)
    exact ⟨(h c).1.trans (Cert.Final.final m c hf.1 hf.2), (h c).2⟩
  · refine (θ_run Cert.ReferenceIdeal.defs _ _).mono (fun r h c => ?_) (Cert.ReferenceIdeal.Value.run m' g')
    refine ⟨(h c).1.trans ((Cert.ReferenceIdeal.Read.val_main_v32_eq m' c).trans ?_), (h c).2⟩
    rw [(hargs c).1, (hargs c).2.1, (hargs c).2.2]

/-! ### The up projection with its causal convolution and gate -/

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) := fun m ρ _ => Cert.Kernel2Ideal.Gen.frame m ρ

theorem frame_ref2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The kernel's result is the reference's. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Up.up m c, ?_, ?_⟩
  · exact (θ_run Cert.Kernel2Ideal.defs _ _).mono (fun r h c => ⟨(h c).1.trans (Cert.Up.final m c), (h c).2⟩)
      (Cert.Kernel2Ideal.Value.run_blocks m g)
  · refine (θ_run Cert.Reference2Ideal.defs _ _).mono (fun r h c => ?_) (Cert.Reference2Ideal.Value.run m' g')
    refine ⟨(h c).1.trans ((Cert.Reference2Ideal.Read.val_main_v35_eq m' c).trans ?_), (h c).2⟩
    rw [(hargs c).1, (hargs c).2.1, (hargs c).2.2.1, (hargs c).2.2.2]

/-! ### The down projection with the residual and the second norm -/

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) := fun m ρ _ => Cert.Kernel3Ideal.Gen.frame m ρ

theorem frame_ref3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The kernel's result is the reference's. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Down.down m c, ?_, ?_⟩
  · exact (θ_run Cert.Kernel3Ideal.defs _ _).mono (fun r h c => ⟨(h c).1.trans (Cert.Down.final m c), (h c).2⟩)
      (Cert.Kernel3Ideal.Value.run_blocks m g)
  · refine (θ_run Cert.Reference3Ideal.defs _ _).mono (fun r h c => ?_) (Cert.Reference3Ideal.Value.run m' g')
    refine ⟨(h c).1.trans ((Cert.Reference3Ideal.Read.val_main_v32_eq m' c).trans ?_), (h c).2⟩
    rw [(hargs c).1, (hargs c).2.1, (hargs c).2.2.1, (hargs c).2.2.2.1, (hargs c).2.2.2.2.1, (hargs c).2.2.2.2.2]

/-! ### The gated merge of the branches -/

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_ref4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The kernel's result is the reference's. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Merge.merged m c, ?_, ?_⟩
  · exact (θ_run Cert.Kernel4Ideal.defs _ _).mono (fun r h c => ⟨(h c).1.trans (Cert.Merge.final m c), (h c).2⟩)
      (Cert.Kernel4Ideal.Value.run_blocks m g)
  · refine (θ_run Cert.Reference4Ideal.defs _ _).mono (fun r h c => ?_) (Cert.Reference4Ideal.Value.run m' g')
    refine ⟨(h c).1.trans ((Cert.Reference4Ideal.Read.val_main_v15_eq _ _ _ _ _).trans ?_), (h c).2⟩
    rw [(hargs c).1, (hargs c).2.1, (hargs c).2.2.1, (hargs c).2.2.2.1, (hargs c).2.2.2.2]

/-! ### The gated per-layer embedding -/

theorem frame_kernel5 : Cert.quiescent_Kernel5 (hKernel5 := Cert.Kernel5.Gen.facts) := fun m ρ _ => Cert.Kernel5.Gen.frame m ρ

theorem frame_ideal5 : Cert.quiescent_Kernel5Ideal (hKernel5Ideal := Cert.Kernel5Ideal.Gen.facts) := fun m ρ _ => Cert.Kernel5Ideal.Gen.frame m ρ

theorem frame_ref5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The kernel's result is the reference's. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Ple.term m c, ?_, ?_⟩
  · exact (θ_run Cert.Kernel5Ideal.defs _ _).mono (fun r h c => ⟨(h c).1.trans (Cert.Ple.final m c), (h c).2⟩)
      (Cert.Kernel5Ideal.Value.run_blocks m g)
  · refine (θ_run Cert.Reference5Ideal.defs _ _).mono (fun r h c => ?_) (Cert.Reference5Ideal.Value.run m' g')
    refine ⟨(h c).1.trans ((Cert.Reference5Ideal.Read.val_main_v18_eq _ _ _ _ _).trans ?_), (h c).2⟩
    rw [(hargs c).1, (hargs c).2.1, (hargs c).2.2.1, (hargs c).2.2.2.1, (hargs c).2.2.2.2]

/-! ### The output projection with the residual and the first norm -/

theorem frame_kernel6 : Cert.quiescent_Kernel6 (hKernel6 := Cert.Kernel6.Gen.facts) := fun m ρ _ => Cert.Kernel6.Gen.frame m ρ

theorem frame_ideal6 : Cert.quiescent_Kernel6Ideal (hKernel6Ideal := Cert.Kernel6Ideal.Gen.facts) := fun m ρ _ => Cert.Kernel6Ideal.Gen.frame m ρ

theorem frame_ref6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

/-- The kernel's two results are the reference's. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Oproj.res5 m c, fun c => Cert.Oproj.res6 m c, ?_, ?_⟩
  · exact (θ_run Cert.Kernel6Ideal.defs _ _).mono (fun r h c =>
      ⟨(h c).1.trans (Cert.Oproj.final5 m c), (h c).2.1.trans (Cert.Oproj.final6 m c), (h c).2.2⟩) (Cert.Kernel6Ideal.Value.run_blocks m g)
  · refine (θ_run Cert.Reference6Ideal.defs _ _).mono (fun r h c => ?_) (Cert.Reference6Ideal.Value.run m' g')
    refine ⟨(h c).1.trans ((Cert.Reference6Ideal.Read.val_main_v33_eq m' c).trans ?_),
      (h c).2.1.trans ((Cert.Reference6Ideal.Read.val_main_v34_eq m' c).trans ?_), (h c).2.2⟩
    · rw [(hargs c).1, (hargs c).2.1, (hargs c).2.2.1, (hargs c).2.2.2.1, (hargs c).2.2.2.2]
    · rw [(hargs c).1, (hargs c).2.1, (hargs c).2.2.1, (hargs c).2.2.2.1, (hargs c).2.2.2.2]

/-! ### The gates -/

theorem frame_kernel7 : Cert.quiescent_Kernel7 (hKernel7 := Cert.Kernel7.Gen.facts) := fun m ρ _ => Cert.Kernel7.Gen.frame m ρ

theorem frame_ideal7 : Cert.quiescent_Kernel7Ideal (hKernel7Ideal := Cert.Kernel7Ideal.Gen.facts) := fun m ρ _ => Cert.Kernel7Ideal.Gen.frame m ρ

theorem frame_ref7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

/-- The kernel's result is the reference's. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Gates.gates m c, ?_, ?_⟩
  · exact (θ_run Cert.Kernel7Ideal.defs _ _).mono (fun r h c => ⟨(h c).1.trans (Cert.Gates.final m c), (h c).2⟩)
      (Cert.Kernel7Ideal.Value.run_blocks m g)
  · refine (θ_run Cert.Reference7Ideal.defs _ _).mono (fun r h c => ?_) (Cert.Reference7Ideal.Value.run m' g')
    refine ⟨(h c).1.trans ((Cert.Reference7Ideal.Read.val_main_v9_eq _ _).trans ?_), (h c).2⟩
    rw [(hargs c).1, (hargs c).2]

/-! ### The queries of the sparse attention -/

theorem frame_kernel8 : Cert.quiescent_Kernel8 (hKernel8 := Cert.Kernel8.Gen.facts) := fun m ρ _ => Cert.Kernel8.Gen.frame m ρ

theorem frame_ideal8 : Cert.quiescent_Kernel8Ideal (hKernel8Ideal := Cert.Kernel8Ideal.Gen.facts) := fun m ρ _ => Cert.Kernel8Ideal.Gen.frame m ρ

theorem frame_ref8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- The kernel's result is the reference's. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Qa.queries m c, ?_, ?_⟩
  · exact (θ_run Cert.Kernel8Ideal.defs _ _).mono (fun r h c => ⟨(h c).1.trans (Cert.Qa.final m c), (h c).2⟩)
      (Cert.Kernel8Ideal.Value.run_blocks m g)
  · refine (θ_run Cert.Reference8Ideal.defs _ _).mono (fun r h c => ?_) (Cert.Reference8Ideal.Value.run m' g')
    refine ⟨(h c).1.trans ((Cert.Reference8Ideal.Read.val_main_v6_eq _ _).trans ?_), (h c).2⟩
    rw [(hargs c).1, (hargs c).2]

/-! ### The queries of the indexer -/

theorem frame_kernel9 : Cert.quiescent_Kernel9 (hKernel9 := Cert.Kernel9.Gen.facts) := fun m ρ _ => Cert.Kernel9.Gen.frame m ρ

theorem frame_ideal9 : Cert.quiescent_Kernel9Ideal (hKernel9Ideal := Cert.Kernel9Ideal.Gen.facts) := fun m ρ _ => Cert.Kernel9Ideal.Gen.frame m ρ

theorem frame_ref9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- The kernel's result is the reference's. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Qidx.queries m c, ?_, ?_⟩
  · exact (θ_run Cert.Kernel9Ideal.defs _ _).mono (fun r h c => ⟨(h c).1.trans (Cert.Qidx.final m c), (h c).2⟩)
      (Cert.Kernel9Ideal.Value.run_blocks m g)
  · refine (θ_run Cert.Reference9Ideal.defs _ _).mono (fun r h c => ?_) (Cert.Reference9Ideal.Value.run m' g')
    refine ⟨(h c).1.trans ((Cert.Reference9Ideal.Read.val_main_v4_eq _ _).trans ?_), (h c).2⟩
    rw [(hargs c).1, (hargs c).2]

/-! ### The latents of the attention -/

theorem frame_kernel10 : Cert.quiescent_Kernel10 (hKernel10 := Cert.Kernel10.Gen.facts) := fun m ρ _ => Cert.Kernel10.Gen.frame m ρ

theorem frame_ideal10 : Cert.quiescent_Kernel10Ideal (hKernel10Ideal := Cert.Kernel10Ideal.Gen.facts) := fun m ρ _ => Cert.Kernel10Ideal.Gen.frame m ρ

theorem frame_ref10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

/-- The kernel's result is the reference's. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Lat.latents m c, ?_, ?_⟩
  · exact (θ_run Cert.Kernel10Ideal.defs _ _).mono (fun r h c => ⟨(h c).1.trans (Cert.Lat.final m c), (h c).2⟩)
      (Cert.Kernel10Ideal.Value.run_blocks m g)
  · refine (θ_run Cert.Reference10Ideal.defs _ _).mono (fun r h c => ?_) (Cert.Reference10Ideal.Value.run m' g')
    refine ⟨(h c).1.trans ((Cert.Reference10Ideal.Read.val_main_v4_eq _ _).trans ?_), (h c).2⟩
    rw [(hargs c).1, (hargs c).2]

/-! ### The key and value of the sparse attention -/

theorem frame_kernel11 : Cert.quiescent_Kernel11 (hKernel11 := Cert.Kernel11.Gen.facts) := fun m ρ _ => Cert.Kernel11.Gen.frame m ρ

theorem frame_ideal11 : Cert.quiescent_Kernel11Ideal (hKernel11Ideal := Cert.Kernel11Ideal.Gen.facts) := fun m ρ _ => Cert.Kernel11Ideal.Gen.frame m ρ

theorem frame_ref11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run m ρ)

/-- The kernel's result is the reference's. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kv.keys m c, ?_, ?_⟩
  · exact (θ_run Cert.Kernel11Ideal.defs _ _).mono (fun r h c => ⟨(h c).1.trans (Cert.Kv.final m c), (h c).2⟩)
      (Cert.Kernel11Ideal.Value.run_blocks m g)
  · refine (θ_run Cert.Reference11Ideal.defs _ _).mono (fun r h c => ?_) (Cert.Reference11Ideal.Value.run m' g')
    refine ⟨(h c).1.trans ((Cert.Reference11Ideal.Read.val_main_v4_eq _ _).trans ?_), (h c).2⟩
    rw [(hargs c).1, (hargs c).2]

/-! ### The indexer's key and weights -/

theorem frame_kernel12 : Cert.quiescent_Kernel12 (hKernel12 := Cert.Kernel12.Gen.facts) := fun m ρ _ => Cert.Kernel12.Gen.frame m ρ

theorem frame_ideal12 : Cert.quiescent_Kernel12Ideal (hKernel12Ideal := Cert.Kernel12Ideal.Gen.facts) := fun m ρ _ => Cert.Kernel12Ideal.Gen.frame m ρ

theorem frame_ref12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run m ρ)

/-- The kernel's result is the reference's. -/
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => Cert.Misc.misc m c, ?_, ?_⟩
  · exact (θ_run Cert.Kernel12Ideal.defs _ _).mono (fun r h c => ⟨(h c).1.trans (Cert.Misc.final m c), (h c).2⟩)
      (Cert.Kernel12Ideal.Value.run_blocks m g)
  · refine (θ_run Cert.Reference12Ideal.defs _ _).mono (fun r h c => ?_) (Cert.Reference12Ideal.Value.run m' g')
    refine ⟨(h c).1.trans ((Cert.Reference12Ideal.Read.val_main_v4_eq _ _).trans ?_), (h c).2⟩
    rw [(hargs c).1, (hargs c).2]

/-! ### The queries of the attention -/

theorem frame_kernel13 : Cert.quiescent_Kernel13 (hKernel13 := Cert.Kernel13.Gen.facts) := fun m ρ _ => Cert.Kernel13.Gen.frame m ρ

theorem frame_ideal13 : Cert.quiescent_Kernel13Ideal (hKernel13Ideal := Cert.Kernel13Ideal.Gen.facts) := fun m ρ _ => Cert.Kernel13Ideal.Gen.frame m ρ

theorem frame_ref13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run m ρ)

/-- The kernel's result is the reference's. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.Quer.queries m c, ?_, ?_⟩
  · exact (θ_run Cert.Kernel13Ideal.defs _ _).mono (fun r h c => ⟨(h c).1.trans (Cert.Quer.final m c), (h c).2⟩)
      (Cert.Kernel13Ideal.Value.run_blocks m g)
  · refine (θ_run Cert.Reference13Ideal.defs _ _).mono (fun r h c => ?_) (Cert.Reference13Ideal.Value.run m' g')
    refine ⟨(h c).1.trans ((Cert.Reference13Ideal.Read.val_main_v62_eq m' c).trans ?_), (h c).2⟩
    rw [(hargs c).1, (hargs c).2.1, (hargs c).2.2]

/-! ### The keys and values of the attention -/

theorem frame_kernel14 : Cert.quiescent_Kernel14 (hKernel14 := Cert.Kernel14.Gen.facts) := fun m ρ _ => Cert.Kernel14.Gen.frame m ρ

theorem frame_ideal14 : Cert.quiescent_Kernel14Ideal (hKernel14Ideal := Cert.Kernel14Ideal.Gen.facts) := fun m ρ _ => Cert.Kernel14Ideal.Gen.frame m ρ

theorem frame_ref14 : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩)
    (Cert.Reference14Ideal.Value.run m ρ)

/-- The kernel's two results are the reference's. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => Cert.Keys.keys m c, fun c => Cert.Keys.vals m c, ?_, ?_⟩
  · exact (θ_run Cert.Kernel14Ideal.defs _ _).mono (fun r h c =>
      ⟨(h c).1.trans (Cert.Keys.final7 m c), (h c).2.1.trans (Cert.Keys.final8 m c), (h c).2.2⟩) (Cert.Kernel14Ideal.Value.run_blocks m g)
  · refine (θ_run Cert.Reference14Ideal.defs _ _).mono (fun r h c => ?_) (Cert.Reference14Ideal.Value.run m' g')
    refine ⟨(h c).1.trans ((Cert.Reference14Ideal.Read.val_main_v61_eq m' c).trans ?_),
      (h c).2.1.trans ((Cert.Reference14Ideal.Read.val_main_v63_eq _ _ _).trans ?_), (h c).2.2⟩
    · rw [(hargs c).1, (hargs c).2.1, (hargs c).2.2.1]
    · rw [(hargs c).1, (hargs c).2.1, (hargs c).2.2.2]

theorem claim : Cert.Claim :=
  ⟨Cert.Kernel.Gen.facts, Cert.KernelIdeal.Gen.facts, Cert.ReferenceIdeal.Gen.facts, Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts, preFacts,
    frame_kernel, frame_ideal, frame_ideal_pre, frame_ref, frame_ref_pre,
    frame_kernel2, frame_ideal2, frame_ref2, frame_kernel3, frame_ideal3, frame_ref3, frame_kernel4, frame_ideal4, frame_ref4, frame_kernel5, frame_ideal5, frame_ref5, frame_kernel6, frame_ideal6, frame_ref6, frame_kernel7, frame_ideal7, frame_ref7, frame_kernel8, frame_ideal8, frame_ref8, frame_kernel9, frame_ideal9, frame_ref9, frame_kernel10, frame_ideal10, frame_ref10, frame_kernel11, frame_ideal11, frame_ref11, frame_kernel12, frame_ideal12, frame_ref12, frame_kernel13, frame_ideal13, frame_ref13, frame_kernel14, frame_ideal14, frame_ref14,
    preserves, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14⟩

end Cert.Proof

end
